-- ==== Defs.lean ====
def Pre_GateUp [hPre_routed : Cert.Pre_routed.Facts] (m : (ℓ : Loc Cert.GateUp.nD Cert.GateUp.τ Cert.GateUp.sig) → Buf (Elt Bits) ℓ) : Prop :=
  ∀ c : Dev Cert.GateUp.nD,
    (Cert.Pre_routed.fn (F := Bits) (m ((c.tc : Thread Cert.GateUp.nD Cert.GateUp.τ).loc Cert.GateUp.main_arg0)) (m ((c.tc : Thread Cert.GateUp.nD Cert.GateUp.τ).loc Cert.GateUp.main_arg1)) (m ((c.tc : Thread Cert.GateUp.nD Cert.GateUp.τ).loc Cert.GateUp.main_arg2)) (m ((c.tc : Thread Cert.GateUp.nD Cert.GateUp.τ).loc Cert.GateUp.main_arg3)) (m ((c.tc : Thread Cert.GateUp.nD Cert.GateUp.τ).loc Cert.GateUp.main_arg4))).1 = (fun _ => 1#1)
    ∧ (Cert.Pre_routed.fn (F := Bits) (m ((c.tc : Thread Cert.GateUp.nD Cert.GateUp.τ).loc Cert.GateUp.main_arg0)) (m ((c.tc : Thread Cert.GateUp.nD Cert.GateUp.τ).loc Cert.GateUp.main_arg1)) (m ((c.tc : Thread Cert.GateUp.nD Cert.GateUp.τ).loc Cert.GateUp.main_arg2)) (m ((c.tc : Thread Cert.GateUp.nD Cert.GateUp.τ).loc Cert.GateUp.main_arg3)) (m ((c.tc : Thread Cert.GateUp.nD Cert.GateUp.τ).loc Cert.GateUp.main_arg4))).2.1 = (fun _ => 1#1)
    ∧ (Cert.Pre_routed.fn (F := Bits) (m ((c.tc : Thread Cert.GateUp.nD Cert.GateUp.τ).loc Cert.GateUp.main_arg0)) (m ((c.tc : Thread Cert.GateUp.nD Cert.GateUp.τ).loc Cert.GateUp.main_arg1)) (m ((c.tc : Thread Cert.GateUp.nD Cert.GateUp.τ).loc Cert.GateUp.main_arg2)) (m ((c.tc : Thread Cert.GateUp.nD Cert.GateUp.τ).loc Cert.GateUp.main_arg3)) (m ((c.tc : Thread Cert.GateUp.nD Cert.GateUp.τ).loc Cert.GateUp.main_arg4))).2.2 = (fun _ => 1#1)

def Pre_GateUpIdeal [hPre_routed : Cert.Pre_routed.Facts] (m : (ℓ : Loc Cert.GateUpIdeal.nD Cert.GateUpIdeal.τ Cert.GateUpIdeal.sig) → Buf (Elt Ideal) ℓ) : Prop :=
  ∀ c : Dev Cert.GateUpIdeal.nD,
    (Cert.Pre_routed.fn (F := Ideal) (m ((c.tc : Thread Cert.GateUpIdeal.nD Cert.GateUpIdeal.τ).loc Cert.GateUpIdeal.main_arg0)) (m ((c.tc : Thread Cert.GateUpIdeal.nD Cert.GateUpIdeal.τ).loc Cert.GateUpIdeal.main_arg1)) (m ((c.tc : Thread Cert.GateUpIdeal.nD Cert.GateUpIdeal.τ).loc Cert.GateUpIdeal.main_arg2)) (m ((c.tc : Thread Cert.GateUpIdeal.nD Cert.GateUpIdeal.τ).loc Cert.GateUpIdeal.main_arg3)) (m ((c.tc : Thread Cert.GateUpIdeal.nD Cert.GateUpIdeal.τ).loc Cert.GateUpIdeal.main_arg4))).1 = (fun _ => 1#1)
    ∧ (Cert.Pre_routed.fn (F := Ideal) (m ((c.tc : Thread Cert.GateUpIdeal.nD Cert.GateUpIdeal.τ).loc Cert.GateUpIdeal.main_arg0)) (m ((c.tc : Thread Cert.GateUpIdeal.nD Cert.GateUpIdeal.τ).loc Cert.GateUpIdeal.main_arg1)) (m ((c.tc : Thread Cert.GateUpIdeal.nD Cert.GateUpIdeal.τ).loc Cert.GateUpIdeal.main_arg2)) (m ((c.tc : Thread Cert.GateUpIdeal.nD Cert.GateUpIdeal.τ).loc Cert.GateUpIdeal.main_arg3)) (m ((c.tc : Thread Cert.GateUpIdeal.nD Cert.GateUpIdeal.τ).loc Cert.GateUpIdeal.main_arg4))).2.1 = (fun _ => 1#1)
    ∧ (Cert.Pre_routed.fn (F := Ideal) (m ((c.tc : Thread Cert.GateUpIdeal.nD Cert.GateUpIdeal.τ).loc Cert.GateUpIdeal.main_arg0)) (m ((c.tc : Thread Cert.GateUpIdeal.nD Cert.GateUpIdeal.τ).loc Cert.GateUpIdeal.main_arg1)) (m ((c.tc : Thread Cert.GateUpIdeal.nD Cert.GateUpIdeal.τ).loc Cert.GateUpIdeal.main_arg2)) (m ((c.tc : Thread Cert.GateUpIdeal.nD Cert.GateUpIdeal.τ).loc Cert.GateUpIdeal.main_arg3)) (m ((c.tc : Thread Cert.GateUpIdeal.nD Cert.GateUpIdeal.τ).loc Cert.GateUpIdeal.main_arg4))).2.2 = (fun _ => 1#1)

def Pre_GateUpRefIdeal (m : (ℓ : Loc Cert.GateUpRefIdeal.nD Cert.GateUpRefIdeal.τ Cert.GateUpRefIdeal.sig) → Buf (Elt Ideal) ℓ) : Prop :=
  True

def Pre_GateUpRefIdeal_routed [hPre_routed : Cert.Pre_routed.Facts] (m : (ℓ : Loc Cert.GateUpRefIdeal.nD Cert.GateUpRefIdeal.τ Cert.GateUpRefIdeal.sig) → Buf (Elt Ideal) ℓ) : Prop :=
  ∀ c : Dev Cert.GateUpRefIdeal.nD,
    (Cert.Pre_routed.fn (F := Ideal) (m ((c.tc : Thread Cert.GateUpRefIdeal.nD Cert.GateUpRefIdeal.τ).loc Cert.GateUpRefIdeal.main_arg0)) (m ((c.tc : Thread Cert.GateUpRefIdeal.nD Cert.GateUpRefIdeal.τ).loc Cert.GateUpRefIdeal.main_arg1)) (m ((c.tc : Thread Cert.GateUpRefIdeal.nD Cert.GateUpRefIdeal.τ).loc Cert.GateUpRefIdeal.main_arg2)) (m ((c.tc : Thread Cert.GateUpRefIdeal.nD Cert.GateUpRefIdeal.τ).loc Cert.GateUpRefIdeal.main_arg3)) (m ((c.tc : Thread Cert.GateUpRefIdeal.nD Cert.GateUpRefIdeal.τ).loc Cert.GateUpRefIdeal.main_arg4))).1 = (fun _ => 1#1)
    ∧ (Cert.Pre_routed.fn (F := Ideal) (m ((c.tc : Thread Cert.GateUpRefIdeal.nD Cert.GateUpRefIdeal.τ).loc Cert.GateUpRefIdeal.main_arg0)) (m ((c.tc : Thread Cert.GateUpRefIdeal.nD Cert.GateUpRefIdeal.τ).loc Cert.GateUpRefIdeal.main_arg1)) (m ((c.tc : Thread Cert.GateUpRefIdeal.nD Cert.GateUpRefIdeal.τ).loc Cert.GateUpRefIdeal.main_arg2)) (m ((c.tc : Thread Cert.GateUpRefIdeal.nD Cert.GateUpRefIdeal.τ).loc Cert.GateUpRefIdeal.main_arg3)) (m ((c.tc : Thread Cert.GateUpRefIdeal.nD Cert.GateUpRefIdeal.τ).loc Cert.GateUpRefIdeal.main_arg4))).2.1 = (fun _ => 1#1)
    ∧ (Cert.Pre_routed.fn (F := Ideal) (m ((c.tc : Thread Cert.GateUpRefIdeal.nD Cert.GateUpRefIdeal.τ).loc Cert.GateUpRefIdeal.main_arg0)) (m ((c.tc : Thread Cert.GateUpRefIdeal.nD Cert.GateUpRefIdeal.τ).loc Cert.GateUpRefIdeal.main_arg1)) (m ((c.tc : Thread Cert.GateUpRefIdeal.nD Cert.GateUpRefIdeal.τ).loc Cert.GateUpRefIdeal.main_arg2)) (m ((c.tc : Thread Cert.GateUpRefIdeal.nD Cert.GateUpRefIdeal.τ).loc Cert.GateUpRefIdeal.main_arg3)) (m ((c.tc : Thread Cert.GateUpRefIdeal.nD Cert.GateUpRefIdeal.τ).loc Cert.GateUpRefIdeal.main_arg4))).2.2 = (fun _ => 1#1)

def Pre_Down [hPre_routed_down : Cert.Pre_routed_down.Facts] (m : (ℓ : Loc Cert.Down.nD Cert.Down.τ Cert.Down.sig) → Buf (Elt Bits) ℓ) : Prop :=
  ∀ c : Dev Cert.Down.nD,
    (Cert.Pre_routed_down.fn (F := Bits) (m ((c.tc : Thread Cert.Down.nD Cert.Down.τ).loc Cert.Down.main_arg0)) (m ((c.tc : Thread Cert.Down.nD Cert.Down.τ).loc Cert.Down.main_arg1)) (m ((c.tc : Thread Cert.Down.nD Cert.Down.τ).loc Cert.Down.main_arg2)) (m ((c.tc : Thread Cert.Down.nD Cert.Down.τ).loc Cert.Down.main_arg3)) (m ((c.tc : Thread Cert.Down.nD Cert.Down.τ).loc Cert.Down.main_arg4)) (m ((c.tc : Thread Cert.Down.nD Cert.Down.τ).loc Cert.Down.main_arg5))).1 = (fun _ => 1#1)
    ∧ (Cert.Pre_routed_down.fn (F := Bits) (m ((c.tc : Thread Cert.Down.nD Cert.Down.τ).loc Cert.Down.main_arg0)) (m ((c.tc : Thread Cert.Down.nD Cert.Down.τ).loc Cert.Down.main_arg1)) (m ((c.tc : Thread Cert.Down.nD Cert.Down.τ).loc Cert.Down.main_arg2)) (m ((c.tc : Thread Cert.Down.nD Cert.Down.τ).loc Cert.Down.main_arg3)) (m ((c.tc : Thread Cert.Down.nD Cert.Down.τ).loc Cert.Down.main_arg4)) (m ((c.tc : Thread Cert.Down.nD Cert.Down.τ).loc Cert.Down.main_arg5))).2.1 = (fun _ => 1#1)
    ∧ (Cert.Pre_routed_down.fn (F := Bits) (m ((c.tc : Thread Cert.Down.nD Cert.Down.τ).loc Cert.Down.main_arg0)) (m ((c.tc : Thread Cert.Down.nD Cert.Down.τ).loc Cert.Down.main_arg1)) (m ((c.tc : Thread Cert.Down.nD Cert.Down.τ).loc Cert.Down.main_arg2)) (m ((c.tc : Thread Cert.Down.nD Cert.Down.τ).loc Cert.Down.main_arg3)) (m ((c.tc : Thread Cert.Down.nD Cert.Down.τ).loc Cert.Down.main_arg4)) (m ((c.tc : Thread Cert.Down.nD Cert.Down.τ).loc Cert.Down.main_arg5))).2.2 = (fun _ => 1#1)

def Pre_DownIdeal [hPre_routed_down : Cert.Pre_routed_down.Facts] (m : (ℓ : Loc Cert.DownIdeal.nD Cert.DownIdeal.τ Cert.DownIdeal.sig) → Buf (Elt Ideal) ℓ) : Prop :=
  ∀ c : Dev Cert.DownIdeal.nD,
    (Cert.Pre_routed_down.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)) (m ((c.tc : Thread Cert.DownIdeal.nD Cert.DownIdeal.τ).loc Cert.DownIdeal.main_arg5))).1 = (fun _ => 1#1)
    ∧ (Cert.Pre_routed_down.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)) (m ((c.tc : Thread Cert.DownIdeal.nD Cert.DownIdeal.τ).loc Cert.DownIdeal.main_arg5))).2.1 = (fun _ => 1#1)
    ∧ (Cert.Pre_routed_down.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)) (m ((c.tc : Thread Cert.DownIdeal.nD Cert.DownIdeal.τ).loc Cert.DownIdeal.main_arg5))).2.2 = (fun _ => 1#1)

def Pre_DownRefIdeal (m : (ℓ : Loc Cert.DownRefIdeal.nD Cert.DownRefIdeal.τ Cert.DownRefIdeal.sig) → Buf (Elt Ideal) ℓ) : Prop :=
  True

def Pre_DownRefIdeal_routed_down [hPre_routed_down : Cert.Pre_routed_down.Facts] (m : (ℓ : Loc Cert.DownRefIdeal.nD Cert.DownRefIdeal.τ Cert.DownRefIdeal.sig) → Buf (Elt Ideal) ℓ) : Prop :=
  ∀ c : Dev Cert.DownRefIdeal.nD,
    (Cert.Pre_routed_down.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3)) (m ((c.tc : Thread Cert.DownRefIdeal.nD Cert.DownRefIdeal.τ).loc Cert.DownRefIdeal.main_arg4)) (m ((c.tc : Thread Cert.DownRefIdeal.nD Cert.DownRefIdeal.τ).loc Cert.DownRefIdeal.main_arg5))).1 = (fun _ => 1#1)
    ∧ (Cert.Pre_routed_down.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3)) (m ((c.tc : Thread Cert.DownRefIdeal.nD Cert.DownRefIdeal.τ).loc Cert.DownRefIdeal.main_arg4)) (m ((c.tc : Thread Cert.DownRefIdeal.nD Cert.DownRefIdeal.τ).loc Cert.DownRefIdeal.main_arg5))).2.1 = (fun _ => 1#1)
    ∧ (Cert.Pre_routed_down.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3)) (m ((c.tc : Thread Cert.DownRefIdeal.nD Cert.DownRefIdeal.τ).loc Cert.DownRefIdeal.main_arg4)) (m ((c.tc : Thread Cert.DownRefIdeal.nD Cert.DownRefIdeal.τ).loc Cert.DownRefIdeal.main_arg5))).2.2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_Step (m : (ℓ : Loc Cert.Step.nD Cert.Step.τ Cert.Step.sig) → Buf (Elt Bits) ℓ) : Prop :=
  True

def Pre_StepIdeal (m : (ℓ : Loc Cert.StepIdeal.nD Cert.StepIdeal.τ Cert.StepIdeal.sig) → Buf (Elt Ideal) ℓ) : Prop :=
  True

def Pre_StepRefIdeal (m : (ℓ : Loc Cert.StepRefIdeal.nD Cert.StepRefIdeal.τ Cert.StepRefIdeal.sig) → Buf (Elt Ideal) ℓ) : Prop :=
  True

def Pre_InProjSample (m : (ℓ : Loc Cert.InProjSample.nD Cert.InProjSample.τ Cert.InProjSample.sig) → Buf (Elt Bits) ℓ) : Prop :=
  True

def Pre_InProjSampleIdeal (m : (ℓ : Loc Cert.InProjSampleIdeal.nD Cert.InProjSampleIdeal.τ Cert.InProjSampleIdeal.sig) → Buf (Elt Ideal) ℓ) : Prop :=
  True

def Pre_InProjSampleRefIdeal (m : (ℓ : Loc Cert.InProjSampleRefIdeal.nD Cert.InProjSampleRefIdeal.τ Cert.InProjSampleRefIdeal.sig) → Buf (Elt Ideal) ℓ) : Prop :=
  True

def Pre_PleSample (m : (ℓ : Loc Cert.PleSample.nD Cert.PleSample.τ Cert.PleSample.sig) → Buf (Elt Bits) ℓ) : Prop :=
  True

def Pre_PleSampleIdeal (m : (ℓ : Loc Cert.PleSampleIdeal.nD Cert.PleSampleIdeal.τ Cert.PleSampleIdeal.sig) → Buf (Elt Ideal) ℓ) : Prop :=
  True

def Pre_PleSampleRefIdeal (m : (ℓ : Loc Cert.PleSampleRefIdeal.nD Cert.PleSampleRefIdeal.τ Cert.PleSampleRefIdeal.sig) → Buf (Elt Ideal) ℓ) : Prop :=
  True

def quiescent_GateUp [hGateUp : Cert.GateUp.Facts] [hPre_routed : Cert.Pre_routed.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3)
      ∧ r.2.mem ((c.tc : Thread Cert.GateUp.nD Cert.GateUp.τ).loc Cert.GateUp.main_arg4) = m ((c.tc : Thread Cert.GateUp.nD Cert.GateUp.τ).loc Cert.GateUp.main_arg4))
      ∧ r.2.sem = fun _ => 0)

def quiescent_GateUpIdeal [hGateUpIdeal : Cert.GateUpIdeal.Facts] [hPre_routed : Cert.Pre_routed.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
      ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2)
      ∧ r.2.mem ((c.tc : Thread Cert.GateUpRefIdeal.nD Cert.GateUpRefIdeal.τ).loc Cert.GateUpRefIdeal.main_arg3) = m ((c.tc : Thread Cert.GateUpRefIdeal.nD Cert.GateUpRefIdeal.τ).loc Cert.GateUpRefIdeal.main_arg3)
      ∧ r.2.mem ((c.tc : Thread Cert.GateUpRefIdeal.nD Cert.GateUpRefIdeal.τ).loc Cert.GateUpRefIdeal.main_arg4) = m ((c.tc : Thread Cert.GateUpRefIdeal.nD Cert.GateUpRefIdeal.τ).loc Cert.GateUpRefIdeal.main_arg4))
      ∧ r.2.sem = fun _ => 0)

def quiescent_GateUpRefIdeal_pre_routed [hGateUpRefIdeal : Cert.GateUpRefIdeal.Facts] [hPre_routed : Cert.Pre_routed.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal_routed m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2)
      ∧ r.2.mem ((c.tc : Thread Cert.GateUpRefIdeal.nD Cert.GateUpRefIdeal.τ).loc Cert.GateUpRefIdeal.main_arg3) = m ((c.tc : Thread Cert.GateUpRefIdeal.nD Cert.GateUpRefIdeal.τ).loc Cert.GateUpRefIdeal.main_arg3)
      ∧ r.2.mem ((c.tc : Thread Cert.GateUpRefIdeal.nD Cert.GateUpRefIdeal.τ).loc Cert.GateUpRefIdeal.main_arg4) = m ((c.tc : Thread Cert.GateUpRefIdeal.nD Cert.GateUpRefIdeal.τ).loc Cert.GateUpRefIdeal.main_arg4))
      ∧ r.2.sem = fun _ => 0)

def quiescent_Down [hDown : Cert.Down.Facts] [hPre_routed_down : Cert.Pre_routed_down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5))
      ∧ r.2.sem = fun _ => 0)

def quiescent_DownIdeal [hDownIdeal : Cert.DownIdeal.Facts] [hPre_routed_down : Cert.Pre_routed_down.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5))
      ∧ r.2.sem = fun _ => 0)

def quiescent_DownRefIdeal_pre_routed_down [hDownRefIdeal : Cert.DownRefIdeal.Facts] [hPre_routed_down : Cert.Pre_routed_down.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal_routed_down m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5)
      ∧ r.2.mem ((c.tc : Thread Cert.Ple.nD Cert.Ple.τ).loc Cert.Ple.main_arg6) = m ((c.tc : Thread Cert.Ple.nD Cert.Ple.τ).loc Cert.Ple.main_arg6))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
      ∧ r.2.mem ((c.tc : Thread Cert.PleIdeal.nD Cert.PleIdeal.τ).loc Cert.PleIdeal.main_arg6) = m ((c.tc : Thread Cert.PleIdeal.nD Cert.PleIdeal.τ).loc Cert.PleIdeal.main_arg6))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5)
      ∧ r.2.mem ((c.tc : Thread Cert.PleRefIdeal.nD Cert.PleRefIdeal.τ).loc Cert.PleRefIdeal.main_arg6) = m ((c.tc : Thread Cert.PleRefIdeal.nD Cert.PleRefIdeal.τ).loc Cert.PleRefIdeal.main_arg6))
      ∧ r.2.sem = fun _ => 0)

def quiescent_Step [hStep : Cert.Step.Facts] : Prop :=
  ∀ (m : (ℓ : Loc Cert.Step.nD Cert.Step.τ Cert.Step.sig) → Buf (Elt Bits) ℓ) (g : Dev Cert.Step.nD → PrngReg), Pre_Step m →
    θ_run (Cert.Step.defs (F := Bits)) (onTc (τ := Cert.Step.τ) (Cert.Step.main (F := Bits))) ⟨m, fun _ => 0, g⟩ (fun r => (∀ c : Dev Cert.Step.nD,
      r.2.mem ((c.tc : Thread Cert.Step.nD Cert.Step.τ).loc Cert.Step.main_arg0) = m ((c.tc : Thread Cert.Step.nD Cert.Step.τ).loc Cert.Step.main_arg0)
      ∧ r.2.mem ((c.tc : Thread Cert.Step.nD Cert.Step.τ).loc Cert.Step.main_arg1) = m ((c.tc : Thread Cert.Step.nD Cert.Step.τ).loc Cert.Step.main_arg1)
      ∧ r.2.mem ((c.tc : Thread Cert.Step.nD Cert.Step.τ).loc Cert.Step.main_arg2) = m ((c.tc : Thread Cert.Step.nD Cert.Step.τ).loc Cert.Step.main_arg2)
      ∧ r.2.mem ((c.tc : Thread Cert.Step.nD Cert.Step.τ).loc Cert.Step.main_arg3) = m ((c.tc : Thread Cert.Step.nD Cert.Step.τ).loc Cert.Step.main_arg3)
      ∧ r.2.mem ((c.tc : Thread Cert.Step.nD Cert.Step.τ).loc Cert.Step.main_arg4) = m ((c.tc : Thread Cert.Step.nD Cert.Step.τ).loc Cert.Step.main_arg4)
      ∧ r.2.mem ((c.tc : Thread Cert.Step.nD Cert.Step.τ).loc Cert.Step.main_arg5) = m ((c.tc : Thread Cert.Step.nD Cert.Step.τ).loc Cert.Step.main_arg5)
      ∧ r.2.mem ((c.tc : Thread Cert.Step.nD Cert.Step.τ).loc Cert.Step.main_arg6) = m ((c.tc : Thread Cert.Step.nD Cert.Step.τ).loc Cert.Step.main_arg6)
      ∧ r.2.mem ((c.tc : Thread Cert.Step.nD Cert.Step.τ).loc Cert.Step.main_arg7) = m ((c.tc : Thread Cert.Step.nD Cert.Step.τ).loc Cert.Step.main_arg7)
      ∧ r.2.mem ((c.tc : Thread Cert.Step.nD Cert.Step.τ).loc Cert.Step.main_arg8) = m ((c.tc : Thread Cert.Step.nD Cert.Step.τ).loc Cert.Step.main_arg8)
      ∧ r.2.mem ((c.tc : Thread Cert.Step.nD Cert.Step.τ).loc Cert.Step.main_arg9) = m ((c.tc : Thread Cert.Step.nD Cert.Step.τ).loc Cert.Step.main_arg9)
      ∧ r.2.mem ((c.tc : Thread Cert.Step.nD Cert.Step.τ).loc Cert.Step.main_arg10) = m ((c.tc : Thread Cert.Step.nD Cert.Step.τ).loc Cert.Step.main_arg10))
      ∧ r.2.sem = fun _ => 0)

def quiescent_StepIdeal [hStepIdeal : Cert.StepIdeal.Facts] : Prop :=
  ∀ (m : (ℓ : Loc Cert.StepIdeal.nD Cert.StepIdeal.τ Cert.StepIdeal.sig) → Buf (Elt Ideal) ℓ) (g : Dev Cert.StepIdeal.nD → PrngReg), Pre_StepIdeal m →
    θ_run (Cert.StepIdeal.defs (F := Ideal)) (onTc (τ := Cert.StepIdeal.τ) (Cert.StepIdeal.main (F := Ideal))) ⟨m, fun _ => 0, g⟩ (fun r => (∀ c : Dev Cert.StepIdeal.nD,
      r.2.mem ((c.tc : Thread Cert.StepIdeal.nD Cert.StepIdeal.τ).loc Cert.StepIdeal.main_arg0) = m ((c.tc : Thread Cert.StepIdeal.nD Cert.StepIdeal.τ).loc Cert.StepIdeal.main_arg0)
      ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
      ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
      ∧ r.2.mem ((c.tc : Thread Cert.StepIdeal.nD Cert.StepIdeal.τ).loc Cert.StepIdeal.main_arg3) = m ((c.tc : Thread Cert.StepIdeal.nD Cert.StepIdeal.τ).loc Cert.StepIdeal.main_arg3)
      ∧ r.2.mem ((c.tc : Thread Cert.StepIdeal.nD Cert.StepIdeal.τ).loc Cert.StepIdeal.main_arg4) = m ((c.tc : Thread Cert.StepIdeal.nD Cert.StepIdeal.τ).loc Cert.StepIdeal.main_arg4)
      ∧ r.2.mem ((c.tc : Thread Cert.StepIdeal.nD Cert.StepIdeal.τ).loc Cert.StepIdeal.main_arg5) = m ((c.tc : Thread Cert.StepIdeal.nD Cert.StepIdeal.τ).loc Cert.StepIdeal.main_arg5)
      ∧ r.2.mem ((c.tc : Thread Cert.StepIdeal.nD Cert.StepIdeal.τ).loc Cert.StepIdeal.main_arg6) = m ((c.tc : Thread Cert.StepIdeal.nD Cert.StepIdeal.τ).loc Cert.StepIdeal.main_arg6)
      ∧ r.2.mem ((c.tc : Thread Cert.StepIdeal.nD Cert.StepIdeal.τ).loc Cert.StepIdeal.main_arg7) = m ((c.tc : Thread Cert.StepIdeal.nD Cert.StepIdeal.τ).loc Cert.StepIdeal.main_arg7)
      ∧ r.2.mem ((c.tc : Thread Cert.StepIdeal.nD Cert.StepIdeal.τ).loc Cert.StepIdeal.main_arg8) = m ((c.tc : Thread Cert.StepIdeal.nD Cert.StepIdeal.τ).loc Cert.StepIdeal.main_arg8)
      ∧ r.2.mem ((c.tc : Thread Cert.StepIdeal.nD Cert.StepIdeal.τ).loc Cert.StepIdeal.main_arg9) = m ((c.tc : Thread Cert.StepIdeal.nD Cert.StepIdeal.τ).loc Cert.StepIdeal.main_arg9)
      ∧ r.2.mem ((c.tc : Thread Cert.StepIdeal.nD Cert.StepIdeal.τ).loc Cert.StepIdeal.main_arg10) = m ((c.tc : Thread Cert.StepIdeal.nD Cert.StepIdeal.τ).loc Cert.StepIdeal.main_arg10))
      ∧ r.2.sem = fun _ => 0)

def quiescent_StepRefIdeal [hStepRefIdeal : Cert.StepRefIdeal.Facts] : Prop :=
  ∀ (m : (ℓ : Loc Cert.StepRefIdeal.nD Cert.StepRefIdeal.τ Cert.StepRefIdeal.sig) → Buf (Elt Ideal) ℓ) (g : Dev Cert.StepRefIdeal.nD → PrngReg), Pre_StepRefIdeal m →
    θ_run (Cert.StepRefIdeal.defs (F := Ideal)) (onTc (τ := Cert.StepRefIdeal.τ) (Cert.StepRefIdeal.main (F := Ideal))) ⟨m, fun _ => 0, g⟩ (fun r => (∀ c : Dev Cert.StepRefIdeal.nD,
      r.2.mem ((c.tc : Thread Cert.StepRefIdeal.nD Cert.StepRefIdeal.τ).loc Cert.StepRefIdeal.main_arg0) = m ((c.tc : Thread Cert.StepRefIdeal.nD Cert.StepRefIdeal.τ).loc Cert.StepRefIdeal.main_arg0)
      ∧ r.2.mem ((c.tc : Thread Cert.StepRefIdeal.nD Cert.StepRefIdeal.τ).loc Cert.StepRefIdeal.main_arg1) = m ((c.tc : Thread Cert.StepRefIdeal.nD Cert.StepRefIdeal.τ).loc Cert.StepRefIdeal.main_arg1)
      ∧ r.2.mem ((c.tc : Thread Cert.StepRefIdeal.nD Cert.StepRefIdeal.τ).loc Cert.StepRefIdeal.main_arg2) = m ((c.tc : Thread Cert.StepRefIdeal.nD Cert.StepRefIdeal.τ).loc Cert.StepRefIdeal.main_arg2)
      ∧ r.2.mem ((c.tc : Thread Cert.StepRefIdeal.nD Cert.StepRefIdeal.τ).loc Cert.StepRefIdeal.main_arg3) = m ((c.tc : Thread Cert.StepRefIdeal.nD Cert.StepRefIdeal.τ).loc Cert.StepRefIdeal.main_arg3)
      ∧ r.2.mem ((c.tc : Thread Cert.StepRefIdeal.nD Cert.StepRefIdeal.τ).loc Cert.StepRefIdeal.main_arg4) = m ((c.tc : Thread Cert.StepRefIdeal.nD Cert.StepRefIdeal.τ).loc Cert.StepRefIdeal.main_arg4)
      ∧ r.2.mem ((c.tc : Thread Cert.StepRefIdeal.nD Cert.StepRefIdeal.τ).loc Cert.StepRefIdeal.main_arg5) = m ((c.tc : Thread Cert.StepRefIdeal.nD Cert.StepRefIdeal.τ).loc Cert.StepRefIdeal.main_arg5)
      ∧ r.2.mem ((c.tc : Thread Cert.StepRefIdeal.nD Cert.StepRefIdeal.τ).loc Cert.StepRefIdeal.main_arg6) = m ((c.tc : Thread Cert.StepRefIdeal.nD Cert.StepRefIdeal.τ).loc Cert.StepRefIdeal.main_arg6)
      ∧ r.2.mem ((c.tc : Thread Cert.StepRefIdeal.nD Cert.StepRefIdeal.τ).loc Cert.StepRefIdeal.main_arg7) = m ((c.tc : Thread Cert.StepRefIdeal.nD Cert.StepRefIdeal.τ).loc Cert.StepRefIdeal.main_arg7)
      ∧ r.2.mem ((c.tc : Thread Cert.StepRefIdeal.nD Cert.StepRefIdeal.τ).loc Cert.StepRefIdeal.main_arg8) = m ((c.tc : Thread Cert.StepRefIdeal.nD Cert.StepRefIdeal.τ).loc Cert.StepRefIdeal.main_arg8)
      ∧ r.2.mem ((c.tc : Thread Cert.StepRefIdeal.nD Cert.StepRefIdeal.τ).loc Cert.StepRefIdeal.main_arg9) = m ((c.tc : Thread Cert.StepRefIdeal.nD Cert.StepRefIdeal.τ).loc Cert.StepRefIdeal.main_arg9)
      ∧ r.2.mem ((c.tc : Thread Cert.StepRefIdeal.nD Cert.StepRefIdeal.τ).loc Cert.StepRefIdeal.main_arg10) = m ((c.tc : Thread Cert.StepRefIdeal.nD Cert.StepRefIdeal.τ).loc Cert.StepRefIdeal.main_arg10))
      ∧ r.2.sem = fun _ => 0)

def quiescent_InProjSample [hInProjSample : Cert.InProjSample.Facts] : Prop :=
  ∀ (m : (ℓ : Loc Cert.InProjSample.nD Cert.InProjSample.τ Cert.InProjSample.sig) → Buf (Elt Bits) ℓ) (g : Dev Cert.InProjSample.nD → PrngReg), Pre_InProjSample m →
    θ_run (Cert.InProjSample.defs (F := Bits)) (onTc (τ := Cert.InProjSample.τ) (Cert.InProjSample.main (F := Bits))) ⟨m, fun _ => 0, g⟩ (fun r => (∀ c : Dev Cert.InProjSample.nD,
      r.2.mem ((c.tc : Thread Cert.InProjSample.nD Cert.InProjSample.τ).loc Cert.InProjSample.main_arg0) = m ((c.tc : Thread Cert.InProjSample.nD Cert.InProjSample.τ).loc Cert.InProjSample.main_arg0)
      ∧ r.2.mem ((c.tc : Thread Cert.InProjSample.nD Cert.InProjSample.τ).loc Cert.InProjSample.main_arg1) = m ((c.tc : Thread Cert.InProjSample.nD Cert.InProjSample.τ).loc Cert.InProjSample.main_arg1)
      ∧ r.2.mem ((c.tc : Thread Cert.InProjSample.nD Cert.InProjSample.τ).loc Cert.InProjSample.main_arg2) = m ((c.tc : Thread Cert.InProjSample.nD Cert.InProjSample.τ).loc Cert.InProjSample.main_arg2))
      ∧ r.2.sem = fun _ => 0)

def quiescent_InProjSampleIdeal [hInProjSampleIdeal : Cert.InProjSampleIdeal.Facts] : Prop :=
  ∀ (m : (ℓ : Loc Cert.InProjSampleIdeal.nD Cert.InProjSampleIdeal.τ Cert.InProjSampleIdeal.sig) → Buf (Elt Ideal) ℓ) (g : Dev Cert.InProjSampleIdeal.nD → PrngReg), Pre_InProjSampleIdeal m →
    θ_run (Cert.InProjSampleIdeal.defs (F := Ideal)) (onTc (τ := Cert.InProjSampleIdeal.τ) (Cert.InProjSampleIdeal.main (F := Ideal))) ⟨m, fun _ => 0, g⟩ (fun r => (∀ c : Dev Cert.InProjSampleIdeal.nD,
      r.2.mem ((c.tc : Thread Cert.InProjSampleIdeal.nD Cert.InProjSampleIdeal.τ).loc Cert.InProjSampleIdeal.main_arg0) = m ((c.tc : Thread Cert.InProjSampleIdeal.nD Cert.InProjSampleIdeal.τ).loc Cert.InProjSampleIdeal.main_arg0)
      ∧ r.2.mem ((c.tc : Thread Cert.InProjSampleIdeal.nD Cert.InProjSampleIdeal.τ).loc Cert.InProjSampleIdeal.main_arg1) = m ((c.tc : Thread Cert.InProjSampleIdeal.nD Cert.InProjSampleIdeal.τ).loc Cert.InProjSampleIdeal.main_arg1)
      ∧ r.2.mem ((c.tc : Thread Cert.InProjSampleIdeal.nD Cert.InProjSampleIdeal.τ).loc Cert.InProjSampleIdeal.main_arg2) = m ((c.tc : Thread Cert.InProjSampleIdeal.nD Cert.InProjSampleIdeal.τ).loc Cert.InProjSampleIdeal.main_arg2))
      ∧ r.2.sem = fun _ => 0)

def quiescent_InProjSampleRefIdeal [hInProjSampleRefIdeal : Cert.InProjSampleRefIdeal.Facts] : Prop :=
  ∀ (m : (ℓ : Loc Cert.InProjSampleRefIdeal.nD Cert.InProjSampleRefIdeal.τ Cert.InProjSampleRefIdeal.sig) → Buf (Elt Ideal) ℓ) (g : Dev Cert.InProjSampleRefIdeal.nD → PrngReg), Pre_InProjSampleRefIdeal m →
    θ_run (Cert.InProjSampleRefIdeal.defs (F := Ideal)) (onTc (τ := Cert.InProjSampleRefIdeal.τ) (Cert.InProjSampleRefIdeal.main (F := Ideal))) ⟨m, fun _ => 0, g⟩ (fun r => (∀ c : Dev Cert.InProjSampleRefIdeal.nD,
      r.2.mem ((c.tc : Thread Cert.InProjSampleRefIdeal.nD Cert.InProjSampleRefIdeal.τ).loc Cert.InProjSampleRefIdeal.main_arg0) = m ((c.tc : Thread Cert.InProjSampleRefIdeal.nD Cert.InProjSampleRefIdeal.τ).loc Cert.InProjSampleRefIdeal.main_arg0)
      ∧ r.2.mem ((c.tc : Thread Cert.InProjSampleRefIdeal.nD Cert.InProjSampleRefIdeal.τ).loc Cert.InProjSampleRefIdeal.main_arg1) = m ((c.tc : Thread Cert.InProjSampleRefIdeal.nD Cert.InProjSampleRefIdeal.τ).loc Cert.InProjSampleRefIdeal.main_arg1)
      ∧ r.2.mem ((c.tc : Thread Cert.InProjSampleRefIdeal.nD Cert.InProjSampleRefIdeal.τ).loc Cert.InProjSampleRefIdeal.main_arg2) = m ((c.tc : Thread Cert.InProjSampleRefIdeal.nD Cert.InProjSampleRefIdeal.τ).loc Cert.InProjSampleRefIdeal.main_arg2))
      ∧ r.2.sem = fun _ => 0)

def quiescent_PleSample [hPleSample : Cert.PleSample.Facts] : Prop :=
  ∀ (m : (ℓ : Loc Cert.PleSample.nD Cert.PleSample.τ Cert.PleSample.sig) → Buf (Elt Bits) ℓ) (g : Dev Cert.PleSample.nD → PrngReg), Pre_PleSample m →
    θ_run (Cert.PleSample.defs (F := Bits)) (onTc (τ := Cert.PleSample.τ) (Cert.PleSample.main (F := Bits))) ⟨m, fun _ => 0, g⟩ (fun r => (∀ c : Dev Cert.PleSample.nD,
      r.2.mem ((c.tc : Thread Cert.PleSample.nD Cert.PleSample.τ).loc Cert.PleSample.main_arg0) = m ((c.tc : Thread Cert.PleSample.nD Cert.PleSample.τ).loc Cert.PleSample.main_arg0)
      ∧ r.2.mem ((c.tc : Thread Cert.PleSample.nD Cert.PleSample.τ).loc Cert.PleSample.main_arg1) = m ((c.tc : Thread Cert.PleSample.nD Cert.PleSample.τ).loc Cert.PleSample.main_arg1)
      ∧ r.2.mem ((c.tc : Thread Cert.PleSample.nD Cert.PleSample.τ).loc Cert.PleSample.main_arg2) = m ((c.tc : Thread Cert.PleSample.nD Cert.PleSample.τ).loc Cert.PleSample.main_arg2)
      ∧ r.2.mem ((c.tc : Thread Cert.PleSample.nD Cert.PleSample.τ).loc Cert.PleSample.main_arg3) = m ((c.tc : Thread Cert.PleSample.nD Cert.PleSample.τ).loc Cert.PleSample.main_arg3)
      ∧ r.2.mem ((c.tc : Thread Cert.PleSample.nD Cert.PleSample.τ).loc Cert.PleSample.main_arg4) = m ((c.tc : Thread Cert.PleSample.nD Cert.PleSample.τ).loc Cert.PleSample.main_arg4)
      ∧ r.2.mem ((c.tc : Thread Cert.PleSample.nD Cert.PleSample.τ).loc Cert.PleSample.main_arg5) = m ((c.tc : Thread Cert.PleSample.nD Cert.PleSample.τ).loc Cert.PleSample.main_arg5)
      ∧ r.2.mem ((c.tc : Thread Cert.PleSample.nD Cert.PleSample.τ).loc Cert.PleSample.main_arg6) = m ((c.tc : Thread Cert.PleSample.nD Cert.PleSample.τ).loc Cert.PleSample.main_arg6))
      ∧ r.2.sem = fun _ => 0)

def quiescent_PleSampleIdeal [hPleSampleIdeal : Cert.PleSampleIdeal.Facts] : Prop :=
  ∀ (m : (ℓ : Loc Cert.PleSampleIdeal.nD Cert.PleSampleIdeal.τ Cert.PleSampleIdeal.sig) → Buf (Elt Ideal) ℓ) (g : Dev Cert.PleSampleIdeal.nD → PrngReg), Pre_PleSampleIdeal m →
    θ_run (Cert.PleSampleIdeal.defs (F := Ideal)) (onTc (τ := Cert.PleSampleIdeal.τ) (Cert.PleSampleIdeal.main (F := Ideal))) ⟨m, fun _ => 0, g⟩ (fun r => (∀ c : Dev Cert.PleSampleIdeal.nD,
      r.2.mem ((c.tc : Thread Cert.PleSampleIdeal.nD Cert.PleSampleIdeal.τ).loc Cert.PleSampleIdeal.main_arg0) = m ((c.tc : Thread Cert.PleSampleIdeal.nD Cert.PleSampleIdeal.τ).loc Cert.PleSampleIdeal.main_arg0)
      ∧ r.2.mem ((c.tc : Thread Cert.PleSampleIdeal.nD Cert.PleSampleIdeal.τ).loc Cert.PleSampleIdeal.main_arg1) = m ((c.tc : Thread Cert.PleSampleIdeal.nD Cert.PleSampleIdeal.τ).loc Cert.PleSampleIdeal.main_arg1)
      ∧ r.2.mem ((c.tc : Thread Cert.PleSampleIdeal.nD Cert.PleSampleIdeal.τ).loc Cert.PleSampleIdeal.main_arg2) = m ((c.tc : Thread Cert.PleSampleIdeal.nD Cert.PleSampleIdeal.τ).loc Cert.PleSampleIdeal.main_arg2)
      ∧ r.2.mem ((c.tc : Thread Cert.PleSampleIdeal.nD Cert.PleSampleIdeal.τ).loc Cert.PleSampleIdeal.main_arg3) = m ((c.tc : Thread Cert.PleSampleIdeal.nD Cert.PleSampleIdeal.τ).loc Cert.PleSampleIdeal.main_arg3)
      ∧ r.2.mem ((c.tc : Thread Cert.PleSampleIdeal.nD Cert.PleSampleIdeal.τ).loc Cert.PleSampleIdeal.main_arg4) = m ((c.tc : Thread Cert.PleSampleIdeal.nD Cert.PleSampleIdeal.τ).loc Cert.PleSampleIdeal.main_arg4)
      ∧ r.2.mem ((c.tc : Thread Cert.PleSampleIdeal.nD Cert.PleSampleIdeal.τ).loc Cert.PleSampleIdeal.main_arg5) = m ((c.tc : Thread Cert.PleSampleIdeal.nD Cert.PleSampleIdeal.τ).loc Cert.PleSampleIdeal.main_arg5)
      ∧ r.2.mem ((c.tc : Thread Cert.PleSampleIdeal.nD Cert.PleSampleIdeal.τ).loc Cert.PleSampleIdeal.main_arg6) = m ((c.tc : Thread Cert.PleSampleIdeal.nD Cert.PleSampleIdeal.τ).loc Cert.PleSampleIdeal.main_arg6))
      ∧ r.2.sem = fun _ => 0)

def quiescent_PleSampleRefIdeal [hPleSampleRefIdeal : Cert.PleSampleRefIdeal.Facts] : Prop :=
  ∀ (m : (ℓ : Loc Cert.PleSampleRefIdeal.nD Cert.PleSampleRefIdeal.τ Cert.PleSampleRefIdeal.sig) → Buf (Elt Ideal) ℓ) (g : Dev Cert.PleSampleRefIdeal.nD → PrngReg), Pre_PleSampleRefIdeal m →
    θ_run (Cert.PleSampleRefIdeal.defs (F := Ideal)) (onTc (τ := Cert.PleSampleRefIdeal.τ) (Cert.PleSampleRefIdeal.main (F := Ideal))) ⟨m, fun _ => 0, g⟩ (fun r => (∀ c : Dev Cert.PleSampleRefIdeal.nD,
      r.2.mem ((c.tc : Thread Cert.PleSampleRefIdeal.nD Cert.PleSampleRefIdeal.τ).loc Cert.PleSampleRefIdeal.main_arg0) = m ((c.tc : Thread Cert.PleSampleRefIdeal.nD Cert.PleSampleRefIdeal.τ).loc Cert.PleSampleRefIdeal.main_arg0)
      ∧ r.2.mem ((c.tc : Thread Cert.PleSampleRefIdeal.nD Cert.PleSampleRefIdeal.τ).loc Cert.PleSampleRefIdeal.main_arg1) = m ((c.tc : Thread Cert.PleSampleRefIdeal.nD Cert.PleSampleRefIdeal.τ).loc Cert.PleSampleRefIdeal.main_arg1)
      ∧ r.2.mem ((c.tc : Thread Cert.PleSampleRefIdeal.nD Cert.PleSampleRefIdeal.τ).loc Cert.PleSampleRefIdeal.main_arg2) = m ((c.tc : Thread Cert.PleSampleRefIdeal.nD Cert.PleSampleRefIdeal.τ).loc Cert.PleSampleRefIdeal.main_arg2)
      ∧ r.2.mem ((c.tc : Thread Cert.PleSampleRefIdeal.nD Cert.PleSampleRefIdeal.τ).loc Cert.PleSampleRefIdeal.main_arg3) = m ((c.tc : Thread Cert.PleSampleRefIdeal.nD Cert.PleSampleRefIdeal.τ).loc Cert.PleSampleRefIdeal.main_arg3)
      ∧ r.2.mem ((c.tc : Thread Cert.PleSampleRefIdeal.nD Cert.PleSampleRefIdeal.τ).loc Cert.PleSampleRefIdeal.main_arg4) = m ((c.tc : Thread Cert.PleSampleRefIdeal.nD Cert.PleSampleRefIdeal.τ).loc Cert.PleSampleRefIdeal.main_arg4)
      ∧ r.2.mem ((c.tc : Thread Cert.PleSampleRefIdeal.nD Cert.PleSampleRefIdeal.τ).loc Cert.PleSampleRefIdeal.main_arg5) = m ((c.tc : Thread Cert.PleSampleRefIdeal.nD Cert.PleSampleRefIdeal.τ).loc Cert.PleSampleRefIdeal.main_arg5)
      ∧ r.2.mem ((c.tc : Thread Cert.PleSampleRefIdeal.nD Cert.PleSampleRefIdeal.τ).loc Cert.PleSampleRefIdeal.main_arg6) = m ((c.tc : Thread Cert.PleSampleRefIdeal.nD Cert.PleSampleRefIdeal.τ).loc Cert.PleSampleRefIdeal.main_arg6))
      ∧ r.2.sem = fun _ => 0)

def preserves_GateUp_GateUpIdeal : Prop :=
  True

def algebraic_GateUpIdeal_GateUpRefIdeal [hGateUpIdeal : Cert.GateUpIdeal.Facts] [hGateUpRefIdeal : Cert.GateUpRefIdeal.Facts] [hPre_routed : Cert.Pre_routed.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)
      ∧ m' ((c.tc : Thread Cert.GateUpRefIdeal.nD Cert.GateUpRefIdeal.τ).loc Cert.GateUpRefIdeal.main_arg3) = m ((c.tc : Thread Cert.GateUpIdeal.nD Cert.GateUpIdeal.τ).loc Cert.GateUpIdeal.main_arg3)
      ∧ m' ((c.tc : Thread Cert.GateUpRefIdeal.nD Cert.GateUpRefIdeal.τ).loc Cert.GateUpRefIdeal.main_arg4) = m ((c.tc : Thread Cert.GateUpIdeal.nD Cert.GateUpIdeal.τ).loc Cert.GateUpIdeal.main_arg4)) →
    ∃ (v0 : (c : Dev Cert.GateUpIdeal.nD) → Buf (Elt Ideal) ((c.tc : Thread Cert.GateUpIdeal.nD Cert.GateUpIdeal.τ).loc Cert.GateUpIdeal.main_v16)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v16) = v0 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
          ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v43) = v0 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2)
          ∧ r.2.mem ((c.tc : Thread Cert.GateUpRefIdeal.nD Cert.GateUpRefIdeal.τ).loc Cert.GateUpRefIdeal.main_arg3) = m' ((c.tc : Thread Cert.GateUpRefIdeal.nD Cert.GateUpRefIdeal.τ).loc Cert.GateUpRefIdeal.main_arg3)
          ∧ r.2.mem ((c.tc : Thread Cert.GateUpRefIdeal.nD Cert.GateUpRefIdeal.τ).loc Cert.GateUpRefIdeal.main_arg4) = m' ((c.tc : Thread Cert.GateUpRefIdeal.nD Cert.GateUpRefIdeal.τ).loc Cert.GateUpRefIdeal.main_arg4))

def preserves_Down_DownIdeal : Prop :=
  True

def algebraic_DownIdeal_DownRefIdeal [hDownIdeal : Cert.DownIdeal.Facts] [hDownRefIdeal : Cert.DownRefIdeal.Facts] [hPre_routed_down : Cert.Pre_routed_down.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)
      ∧ m' ((c.tc : Thread Cert.DownRefIdeal.nD Cert.DownRefIdeal.τ).loc Cert.DownRefIdeal.main_arg5) = m ((c.tc : Thread Cert.DownIdeal.nD Cert.DownIdeal.τ).loc Cert.DownIdeal.main_arg5)) →
    ∃ (v0 : (c : Dev Cert.DownIdeal.nD) → Buf (Elt Ideal) ((c.tc : Thread Cert.DownIdeal.nD Cert.DownIdeal.τ).loc Cert.DownIdeal.main_v16)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v16) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v25) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4)
          ∧ r.2.mem ((c.tc : Thread Cert.DownRefIdeal.nD Cert.DownRefIdeal.τ).loc Cert.DownRefIdeal.main_arg5) = m' ((c.tc : Thread Cert.DownRefIdeal.nD Cert.DownRefIdeal.τ).loc Cert.DownRefIdeal.main_arg5))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v35_0)) (v1 : (c : Dev Cert.InProjIdeal.nD) → Buf (Elt Ideal) ((c.tc : Thread Cert.InProjIdeal.nD Cert.InProjIdeal.τ).loc Cert.InProjIdeal.main_v35_1)) (v2 : (c : Dev Cert.InProjIdeal.nD) → Buf (Elt Ideal) ((c.tc : Thread Cert.InProjIdeal.nD Cert.InProjIdeal.τ).loc Cert.InProjIdeal.main_v35_2)) (v3 : (c : Dev Cert.InProjIdeal.nD) → Buf (Elt Ideal) ((c.tc : Thread Cert.InProjIdeal.nD Cert.InProjIdeal.τ).loc Cert.InProjIdeal.main_v35_3)) (v4 : (c : Dev Cert.InProjIdeal.nD) → Buf (Elt Ideal) ((c.tc : Thread Cert.InProjIdeal.nD Cert.InProjIdeal.τ).loc Cert.InProjIdeal.main_v35_4)) (v5 : (c : Dev Cert.InProjIdeal.nD) → Buf (Elt Ideal) ((c.tc : Thread Cert.InProjIdeal.nD Cert.InProjIdeal.τ).loc Cert.InProjIdeal.main_v35_5)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v35_0) = v0 c
          ∧ r.2.mem ((c.tc : Thread Cert.InProjIdeal.nD Cert.InProjIdeal.τ).loc Cert.InProjIdeal.main_v35_1) = v1 c
          ∧ r.2.mem ((c.tc : Thread Cert.InProjIdeal.nD Cert.InProjIdeal.τ).loc Cert.InProjIdeal.main_v35_2) = v2 c
          ∧ r.2.mem ((c.tc : Thread Cert.InProjIdeal.nD Cert.InProjIdeal.τ).loc Cert.InProjIdeal.main_v35_3) = v3 c
          ∧ r.2.mem ((c.tc : Thread Cert.InProjIdeal.nD Cert.InProjIdeal.τ).loc Cert.InProjIdeal.main_v35_4) = v4 c
          ∧ r.2.mem ((c.tc : Thread Cert.InProjIdeal.nD Cert.InProjIdeal.τ).loc Cert.InProjIdeal.main_v35_5) = v5 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v106) = v0 c
          ∧ r.2.mem ((c.tc : Thread Cert.InProjRefIdeal.nD Cert.InProjRefIdeal.τ).loc Cert.InProjRefIdeal.main_v107) = v1 c
          ∧ r.2.mem ((c.tc : Thread Cert.InProjRefIdeal.nD Cert.InProjRefIdeal.τ).loc Cert.InProjRefIdeal.main_v108) = v2 c
          ∧ r.2.mem ((c.tc : Thread Cert.InProjRefIdeal.nD Cert.InProjRefIdeal.τ).loc Cert.InProjRefIdeal.main_v109) = v3 c
          ∧ r.2.mem ((c.tc : Thread Cert.InProjRefIdeal.nD Cert.InProjRefIdeal.τ).loc Cert.InProjRefIdeal.main_v111) = v4 c
          ∧ r.2.mem ((c.tc : Thread Cert.InProjRefIdeal.nD Cert.InProjRefIdeal.τ).loc Cert.InProjRefIdeal.main_v113) = v5 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)
      ∧ m' ((c.tc : Thread Cert.PleRefIdeal.nD Cert.PleRefIdeal.τ).loc Cert.PleRefIdeal.main_arg5) = m ((c.tc : Thread Cert.PleIdeal.nD Cert.PleIdeal.τ).loc Cert.PleIdeal.main_arg5)
      ∧ m' ((c.tc : Thread Cert.PleRefIdeal.nD Cert.PleRefIdeal.τ).loc Cert.PleRefIdeal.main_arg6) = m ((c.tc : Thread Cert.PleIdeal.nD Cert.PleIdeal.τ).loc Cert.PleIdeal.main_arg6)) →
    ∃ (v0 : (c : Dev Cert.PleIdeal.nD) → Buf (Elt Ideal) ((c.tc : Thread Cert.PleIdeal.nD Cert.PleIdeal.τ).loc Cert.PleIdeal.main_v11)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v11) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
          ∧ r.2.mem ((c.tc : Thread Cert.PleIdeal.nD Cert.PleIdeal.τ).loc Cert.PleIdeal.main_arg6) = m ((c.tc : Thread Cert.PleIdeal.nD Cert.PleIdeal.τ).loc Cert.PleIdeal.main_arg6))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v44) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5)
          ∧ r.2.mem ((c.tc : Thread Cert.PleRefIdeal.nD Cert.PleRefIdeal.τ).loc Cert.PleRefIdeal.main_arg6) = m' ((c.tc : Thread Cert.PleRefIdeal.nD Cert.PleRefIdeal.τ).loc Cert.PleRefIdeal.main_arg6))

def preserves_Step_StepIdeal : Prop :=
  True

def algebraic_StepIdeal_StepRefIdeal [hStepIdeal : Cert.StepIdeal.Facts] [hStepRefIdeal : Cert.StepRefIdeal.Facts] : Prop :=
  ∀ (m : (ℓ : Loc Cert.StepIdeal.nD Cert.StepIdeal.τ Cert.StepIdeal.sig) → Buf (Elt Ideal) ℓ) (g : Dev Cert.StepIdeal.nD → PrngReg)
    (m' : (ℓ : Loc Cert.StepRefIdeal.nD Cert.StepRefIdeal.τ Cert.StepRefIdeal.sig) → Buf (Elt Ideal) ℓ) (g' : Dev Cert.StepRefIdeal.nD → PrngReg), Pre_StepIdeal m →
    (∀ c : Dev Cert.StepIdeal.nD,
      m' ((c.tc : Thread Cert.StepRefIdeal.nD Cert.StepRefIdeal.τ).loc Cert.StepRefIdeal.main_arg0) = m ((c.tc : Thread Cert.StepIdeal.nD Cert.StepIdeal.τ).loc Cert.StepIdeal.main_arg0)
      ∧ m' ((c.tc : Thread Cert.StepRefIdeal.nD Cert.StepRefIdeal.τ).loc Cert.StepRefIdeal.main_arg1) = m ((c.tc : Thread Cert.StepIdeal.nD Cert.StepIdeal.τ).loc Cert.StepIdeal.main_arg1)
      ∧ m' ((c.tc : Thread Cert.StepRefIdeal.nD Cert.StepRefIdeal.τ).loc Cert.StepRefIdeal.main_arg2) = m ((c.tc : Thread Cert.StepIdeal.nD Cert.StepIdeal.τ).loc Cert.StepIdeal.main_arg2)
      ∧ m' ((c.tc : Thread Cert.StepRefIdeal.nD Cert.StepRefIdeal.τ).loc Cert.StepRefIdeal.main_arg3) = m ((c.tc : Thread Cert.StepIdeal.nD Cert.StepIdeal.τ).loc Cert.StepIdeal.main_arg3)
      ∧ m' ((c.tc : Thread Cert.StepRefIdeal.nD Cert.StepRefIdeal.τ).loc Cert.StepRefIdeal.main_arg4) = m ((c.tc : Thread Cert.StepIdeal.nD Cert.StepIdeal.τ).loc Cert.StepIdeal.main_arg4)
      ∧ m' ((c.tc : Thread Cert.StepRefIdeal.nD Cert.StepRefIdeal.τ).loc Cert.StepRefIdeal.main_arg5) = m ((c.tc : Thread Cert.StepIdeal.nD Cert.StepIdeal.τ).loc Cert.StepIdeal.main_arg5)
      ∧ m' ((c.tc : Thread Cert.StepRefIdeal.nD Cert.StepRefIdeal.τ).loc Cert.StepRefIdeal.main_arg6) = m ((c.tc : Thread Cert.StepIdeal.nD Cert.StepIdeal.τ).loc Cert.StepIdeal.main_arg6)
      ∧ m' ((c.tc : Thread Cert.StepRefIdeal.nD Cert.StepRefIdeal.τ).loc Cert.StepRefIdeal.main_arg7) = m ((c.tc : Thread Cert.StepIdeal.nD Cert.StepIdeal.τ).loc Cert.StepIdeal.main_arg7)
      ∧ m' ((c.tc : Thread Cert.StepRefIdeal.nD Cert.StepRefIdeal.τ).loc Cert.StepRefIdeal.main_arg8) = m ((c.tc : Thread Cert.StepIdeal.nD Cert.StepIdeal.τ).loc Cert.StepIdeal.main_arg8)
      ∧ m' ((c.tc : Thread Cert.StepRefIdeal.nD Cert.StepRefIdeal.τ).loc Cert.StepRefIdeal.main_arg9) = m ((c.tc : Thread Cert.StepIdeal.nD Cert.StepIdeal.τ).loc Cert.StepIdeal.main_arg9)
      ∧ m' ((c.tc : Thread Cert.StepRefIdeal.nD Cert.StepRefIdeal.τ).loc Cert.StepRefIdeal.main_arg10) = m ((c.tc : Thread Cert.StepIdeal.nD Cert.StepIdeal.τ).loc Cert.StepIdeal.main_arg10)) →
    ∃ (v0 : (c : Dev Cert.StepIdeal.nD) → Buf (Elt Ideal) ((c.tc : Thread Cert.StepIdeal.nD Cert.StepIdeal.τ).loc Cert.StepIdeal.main_v59_0)) (v1 : (c : Dev Cert.StepIdeal.nD) → Buf (Elt Ideal) ((c.tc : Thread Cert.StepIdeal.nD Cert.StepIdeal.τ).loc Cert.StepIdeal.main_v59_1)) (v2 : (c : Dev Cert.StepIdeal.nD) → Buf (Elt Ideal) ((c.tc : Thread Cert.StepIdeal.nD Cert.StepIdeal.τ).loc Cert.StepIdeal.main_v59_2)),
      θ_run (Cert.StepIdeal.defs (F := Ideal)) (onTc (τ := Cert.StepIdeal.τ) (Cert.StepIdeal.main (F := Ideal))) ⟨m, fun _ => 0, g⟩ (fun r => ∀ c : Dev Cert.StepIdeal.nD,
          r.2.mem ((c.tc : Thread Cert.StepIdeal.nD Cert.StepIdeal.τ).loc Cert.StepIdeal.main_v59_0) = v0 c
          ∧ r.2.mem ((c.tc : Thread Cert.StepIdeal.nD Cert.StepIdeal.τ).loc Cert.StepIdeal.main_v59_1) = v1 c
          ∧ r.2.mem ((c.tc : Thread Cert.StepIdeal.nD Cert.StepIdeal.τ).loc Cert.StepIdeal.main_v59_2) = v2 c
          ∧ r.2.mem ((c.tc : Thread Cert.StepIdeal.nD Cert.StepIdeal.τ).loc Cert.StepIdeal.main_arg0) = m ((c.tc : Thread Cert.StepIdeal.nD Cert.StepIdeal.τ).loc Cert.StepIdeal.main_arg0)
          ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
          ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
          ∧ r.2.mem ((c.tc : Thread Cert.StepIdeal.nD Cert.StepIdeal.τ).loc Cert.StepIdeal.main_arg3) = m ((c.tc : Thread Cert.StepIdeal.nD Cert.StepIdeal.τ).loc Cert.StepIdeal.main_arg3)
          ∧ r.2.mem ((c.tc : Thread Cert.StepIdeal.nD Cert.StepIdeal.τ).loc Cert.StepIdeal.main_arg4) = m ((c.tc : Thread Cert.StepIdeal.nD Cert.StepIdeal.τ).loc Cert.StepIdeal.main_arg4)
          ∧ r.2.mem ((c.tc : Thread Cert.StepIdeal.nD Cert.StepIdeal.τ).loc Cert.StepIdeal.main_arg5) = m ((c.tc : Thread Cert.StepIdeal.nD Cert.StepIdeal.τ).loc Cert.StepIdeal.main_arg5)
          ∧ r.2.mem ((c.tc : Thread Cert.StepIdeal.nD Cert.StepIdeal.τ).loc Cert.StepIdeal.main_arg6) = m ((c.tc : Thread Cert.StepIdeal.nD Cert.StepIdeal.τ).loc Cert.StepIdeal.main_arg6)
          ∧ r.2.mem ((c.tc : Thread Cert.StepIdeal.nD Cert.StepIdeal.τ).loc Cert.StepIdeal.main_arg7) = m ((c.tc : Thread Cert.StepIdeal.nD Cert.StepIdeal.τ).loc Cert.StepIdeal.main_arg7)
          ∧ r.2.mem ((c.tc : Thread Cert.StepIdeal.nD Cert.StepIdeal.τ).loc Cert.StepIdeal.main_arg8) = m ((c.tc : Thread Cert.StepIdeal.nD Cert.StepIdeal.τ).loc Cert.StepIdeal.main_arg8)
          ∧ r.2.mem ((c.tc : Thread Cert.StepIdeal.nD Cert.StepIdeal.τ).loc Cert.StepIdeal.main_arg9) = m ((c.tc : Thread Cert.StepIdeal.nD Cert.StepIdeal.τ).loc Cert.StepIdeal.main_arg9)
          ∧ r.2.mem ((c.tc : Thread Cert.StepIdeal.nD Cert.StepIdeal.τ).loc Cert.StepIdeal.main_arg10) = m ((c.tc : Thread Cert.StepIdeal.nD Cert.StepIdeal.τ).loc Cert.StepIdeal.main_arg10))
      ∧ θ_run (Cert.StepRefIdeal.defs (F := Ideal)) (onTc (τ := Cert.StepRefIdeal.τ) (Cert.StepRefIdeal.main (F := Ideal))) ⟨m', fun _ => 0, g'⟩ (fun r => ∀ c : Dev Cert.StepRefIdeal.nD,
          r.2.mem ((c.tc : Thread Cert.StepRefIdeal.nD Cert.StepRefIdeal.τ).loc Cert.StepRefIdeal.main_v84) = v0 c
          ∧ r.2.mem ((c.tc : Thread Cert.StepRefIdeal.nD Cert.StepRefIdeal.τ).loc Cert.StepRefIdeal.main_v82) = v1 c
          ∧ r.2.mem ((c.tc : Thread Cert.StepRefIdeal.nD Cert.StepRefIdeal.τ).loc Cert.StepRefIdeal.main_v83) = v2 c
          ∧ r.2.mem ((c.tc : Thread Cert.StepRefIdeal.nD Cert.StepRefIdeal.τ).loc Cert.StepRefIdeal.main_arg0) = m' ((c.tc : Thread Cert.StepRefIdeal.nD Cert.StepRefIdeal.τ).loc Cert.StepRefIdeal.main_arg0)
          ∧ r.2.mem ((c.tc : Thread Cert.StepRefIdeal.nD Cert.StepRefIdeal.τ).loc Cert.StepRefIdeal.main_arg1) = m' ((c.tc : Thread Cert.StepRefIdeal.nD Cert.StepRefIdeal.τ).loc Cert.StepRefIdeal.main_arg1)
          ∧ r.2.mem ((c.tc : Thread Cert.StepRefIdeal.nD Cert.StepRefIdeal.τ).loc Cert.StepRefIdeal.main_arg2) = m' ((c.tc : Thread Cert.StepRefIdeal.nD Cert.StepRefIdeal.τ).loc Cert.StepRefIdeal.main_arg2)
          ∧ r.2.mem ((c.tc : Thread Cert.StepRefIdeal.nD Cert.StepRefIdeal.τ).loc Cert.StepRefIdeal.main_arg3) = m' ((c.tc : Thread Cert.StepRefIdeal.nD Cert.StepRefIdeal.τ).loc Cert.StepRefIdeal.main_arg3)
          ∧ r.2.mem ((c.tc : Thread Cert.StepRefIdeal.nD Cert.StepRefIdeal.τ).loc Cert.StepRefIdeal.main_arg4) = m' ((c.tc : Thread Cert.StepRefIdeal.nD Cert.StepRefIdeal.τ).loc Cert.StepRefIdeal.main_arg4)
          ∧ r.2.mem ((c.tc : Thread Cert.StepRefIdeal.nD Cert.StepRefIdeal.τ).loc Cert.StepRefIdeal.main_arg5) = m' ((c.tc : Thread Cert.StepRefIdeal.nD Cert.StepRefIdeal.τ).loc Cert.StepRefIdeal.main_arg5)
          ∧ r.2.mem ((c.tc : Thread Cert.StepRefIdeal.nD Cert.StepRefIdeal.τ).loc Cert.StepRefIdeal.main_arg6) = m' ((c.tc : Thread Cert.StepRefIdeal.nD Cert.StepRefIdeal.τ).loc Cert.StepRefIdeal.main_arg6)
          ∧ r.2.mem ((c.tc : Thread Cert.StepRefIdeal.nD Cert.StepRefIdeal.τ).loc Cert.StepRefIdeal.main_arg7) = m' ((c.tc : Thread Cert.StepRefIdeal.nD Cert.StepRefIdeal.τ).loc Cert.StepRefIdeal.main_arg7)
          ∧ r.2.mem ((c.tc : Thread Cert.StepRefIdeal.nD Cert.StepRefIdeal.τ).loc Cert.StepRefIdeal.main_arg8) = m' ((c.tc : Thread Cert.StepRefIdeal.nD Cert.StepRefIdeal.τ).loc Cert.StepRefIdeal.main_arg8)
          ∧ r.2.mem ((c.tc : Thread Cert.StepRefIdeal.nD Cert.StepRefIdeal.τ).loc Cert.StepRefIdeal.main_arg9) = m' ((c.tc : Thread Cert.StepRefIdeal.nD Cert.StepRefIdeal.τ).loc Cert.StepRefIdeal.main_arg9)
          ∧ r.2.mem ((c.tc : Thread Cert.StepRefIdeal.nD Cert.StepRefIdeal.τ).loc Cert.StepRefIdeal.main_arg10) = m' ((c.tc : Thread Cert.StepRefIdeal.nD Cert.StepRefIdeal.τ).loc Cert.StepRefIdeal.main_arg10))

def preserves_InProjSample_InProjSampleIdeal : Prop :=
  True

def algebraic_InProjSampleIdeal_InProjSampleRefIdeal [hInProjSampleIdeal : Cert.InProjSampleIdeal.Facts] [hInProjSampleRefIdeal : Cert.InProjSampleRefIdeal.Facts] : Prop :=
  ∀ (m : (ℓ : Loc Cert.InProjSampleIdeal.nD Cert.InProjSampleIdeal.τ Cert.InProjSampleIdeal.sig) → Buf (Elt Ideal) ℓ) (g : Dev Cert.InProjSampleIdeal.nD → PrngReg)
    (m' : (ℓ : Loc Cert.InProjSampleRefIdeal.nD Cert.InProjSampleRefIdeal.τ Cert.InProjSampleRefIdeal.sig) → Buf (Elt Ideal) ℓ) (g' : Dev Cert.InProjSampleRefIdeal.nD → PrngReg), Pre_InProjSampleIdeal m →
    (∀ c : Dev Cert.InProjSampleIdeal.nD,
      m' ((c.tc : Thread Cert.InProjSampleRefIdeal.nD Cert.InProjSampleRefIdeal.τ).loc Cert.InProjSampleRefIdeal.main_arg0) = m ((c.tc : Thread Cert.InProjSampleIdeal.nD Cert.InProjSampleIdeal.τ).loc Cert.InProjSampleIdeal.main_arg0)
      ∧ m' ((c.tc : Thread Cert.InProjSampleRefIdeal.nD Cert.InProjSampleRefIdeal.τ).loc Cert.InProjSampleRefIdeal.main_arg1) = m ((c.tc : Thread Cert.InProjSampleIdeal.nD Cert.InProjSampleIdeal.τ).loc Cert.InProjSampleIdeal.main_arg1)
      ∧ m' ((c.tc : Thread Cert.InProjSampleRefIdeal.nD Cert.InProjSampleRefIdeal.τ).loc Cert.InProjSampleRefIdeal.main_arg2) = m ((c.tc : Thread Cert.InProjSampleIdeal.nD Cert.InProjSampleIdeal.τ).loc Cert.InProjSampleIdeal.main_arg2)) →
    ∃ (v0 : (c : Dev Cert.InProjSampleIdeal.nD) → Buf (Elt Ideal) ((c.tc : Thread Cert.InProjSampleIdeal.nD Cert.InProjSampleIdeal.τ).loc Cert.InProjSampleIdeal.main_v35_0)) (v1 : (c : Dev Cert.InProjSampleIdeal.nD) → Buf (Elt Ideal) ((c.tc : Thread Cert.InProjSampleIdeal.nD Cert.InProjSampleIdeal.τ).loc Cert.InProjSampleIdeal.main_v35_1)) (v2 : (c : Dev Cert.InProjSampleIdeal.nD) → Buf (Elt Ideal) ((c.tc : Thread Cert.InProjSampleIdeal.nD Cert.InProjSampleIdeal.τ).loc Cert.InProjSampleIdeal.main_v35_2)) (v3 : (c : Dev Cert.InProjSampleIdeal.nD) → Buf (Elt Ideal) ((c.tc : Thread Cert.InProjSampleIdeal.nD Cert.InProjSampleIdeal.τ).loc Cert.InProjSampleIdeal.main_v35_3)) (v4 : (c : Dev Cert.InProjSampleIdeal.nD) → Buf (Elt Ideal) ((c.tc : Thread Cert.InProjSampleIdeal.nD Cert.InProjSampleIdeal.τ).loc Cert.InProjSampleIdeal.main_v35_4)) (v5 : (c : Dev Cert.InProjSampleIdeal.nD) → Buf (Elt Ideal) ((c.tc : Thread Cert.InProjSampleIdeal.nD Cert.InProjSampleIdeal.τ).loc Cert.InProjSampleIdeal.main_v35_5)),
      θ_run (Cert.InProjSampleIdeal.defs (F := Ideal)) (onTc (τ := Cert.InProjSampleIdeal.τ) (Cert.InProjSampleIdeal.main (F := Ideal))) ⟨m, fun _ => 0, g⟩ (fun r => ∀ c : Dev Cert.InProjSampleIdeal.nD,
          r.2.mem ((c.tc : Thread Cert.InProjSampleIdeal.nD Cert.InProjSampleIdeal.τ).loc Cert.InProjSampleIdeal.main_v35_0) = v0 c
          ∧ r.2.mem ((c.tc : Thread Cert.InProjSampleIdeal.nD Cert.InProjSampleIdeal.τ).loc Cert.InProjSampleIdeal.main_v35_1) = v1 c
          ∧ r.2.mem ((c.tc : Thread Cert.InProjSampleIdeal.nD Cert.InProjSampleIdeal.τ).loc Cert.InProjSampleIdeal.main_v35_2) = v2 c
          ∧ r.2.mem ((c.tc : Thread Cert.InProjSampleIdeal.nD Cert.InProjSampleIdeal.τ).loc Cert.InProjSampleIdeal.main_v35_3) = v3 c
          ∧ r.2.mem ((c.tc : Thread Cert.InProjSampleIdeal.nD Cert.InProjSampleIdeal.τ).loc Cert.InProjSampleIdeal.main_v35_4) = v4 c
          ∧ r.2.mem ((c.tc : Thread Cert.InProjSampleIdeal.nD Cert.InProjSampleIdeal.τ).loc Cert.InProjSampleIdeal.main_v35_5) = v5 c
          ∧ r.2.mem ((c.tc : Thread Cert.InProjSampleIdeal.nD Cert.InProjSampleIdeal.τ).loc Cert.InProjSampleIdeal.main_arg0) = m ((c.tc : Thread Cert.InProjSampleIdeal.nD Cert.InProjSampleIdeal.τ).loc Cert.InProjSampleIdeal.main_arg0)
          ∧ r.2.mem ((c.tc : Thread Cert.InProjSampleIdeal.nD Cert.InProjSampleIdeal.τ).loc Cert.InProjSampleIdeal.main_arg1) = m ((c.tc : Thread Cert.InProjSampleIdeal.nD Cert.InProjSampleIdeal.τ).loc Cert.InProjSampleIdeal.main_arg1)
          ∧ r.2.mem ((c.tc : Thread Cert.InProjSampleIdeal.nD Cert.InProjSampleIdeal.τ).loc Cert.InProjSampleIdeal.main_arg2) = m ((c.tc : Thread Cert.InProjSampleIdeal.nD Cert.InProjSampleIdeal.τ).loc Cert.InProjSampleIdeal.main_arg2))
      ∧ θ_run (Cert.InProjSampleRefIdeal.defs (F := Ideal)) (onTc (τ := Cert.InProjSampleRefIdeal.τ) (Cert.InProjSampleRefIdeal.main (F := Ideal))) ⟨m', fun _ => 0, g'⟩ (fun r => ∀ c : Dev Cert.InProjSampleRefIdeal.nD,
          r.2.mem ((c.tc : Thread Cert.InProjSampleRefIdeal.nD Cert.InProjSampleRefIdeal.τ).loc Cert.InProjSampleRefIdeal.main_v106) = v0 c
          ∧ r.2.mem ((c.tc : Thread Cert.InProjSampleRefIdeal.nD Cert.InProjSampleRefIdeal.τ).loc Cert.InProjSampleRefIdeal.main_v107) = v1 c
          ∧ r.2.mem ((c.tc : Thread Cert.InProjSampleRefIdeal.nD Cert.InProjSampleRefIdeal.τ).loc Cert.InProjSampleRefIdeal.main_v108) = v2 c
          ∧ r.2.mem ((c.tc : Thread Cert.InProjSampleRefIdeal.nD Cert.InProjSampleRefIdeal.τ).loc Cert.InProjSampleRefIdeal.main_v109) = v3 c
          ∧ r.2.mem ((c.tc : Thread Cert.InProjSampleRefIdeal.nD Cert.InProjSampleRefIdeal.τ).loc Cert.InProjSampleRefIdeal.main_v111) = v4 c
          ∧ r.2.mem ((c.tc : Thread Cert.InProjSampleRefIdeal.nD Cert.InProjSampleRefIdeal.τ).loc Cert.InProjSampleRefIdeal.main_v113) = v5 c
          ∧ r.2.mem ((c.tc : Thread Cert.InProjSampleRefIdeal.nD Cert.InProjSampleRefIdeal.τ).loc Cert.InProjSampleRefIdeal.main_arg0) = m' ((c.tc : Thread Cert.InProjSampleRefIdeal.nD Cert.InProjSampleRefIdeal.τ).loc Cert.InProjSampleRefIdeal.main_arg0)
          ∧ r.2.mem ((c.tc : Thread Cert.InProjSampleRefIdeal.nD Cert.InProjSampleRefIdeal.τ).loc Cert.InProjSampleRefIdeal.main_arg1) = m' ((c.tc : Thread Cert.InProjSampleRefIdeal.nD Cert.InProjSampleRefIdeal.τ).loc Cert.InProjSampleRefIdeal.main_arg1)
          ∧ r.2.mem ((c.tc : Thread Cert.InProjSampleRefIdeal.nD Cert.InProjSampleRefIdeal.τ).loc Cert.InProjSampleRefIdeal.main_arg2) = m' ((c.tc : Thread Cert.InProjSampleRefIdeal.nD Cert.InProjSampleRefIdeal.τ).loc Cert.InProjSampleRefIdeal.main_arg2))

def preserves_PleSample_PleSampleIdeal : Prop :=
  True

def algebraic_PleSampleIdeal_PleSampleRefIdeal [hPleSampleIdeal : Cert.PleSampleIdeal.Facts] [hPleSampleRefIdeal : Cert.PleSampleRefIdeal.Facts] : Prop :=
  ∀ (m : (ℓ : Loc Cert.PleSampleIdeal.nD Cert.PleSampleIdeal.τ Cert.PleSampleIdeal.sig) → Buf (Elt Ideal) ℓ) (g : Dev Cert.PleSampleIdeal.nD → PrngReg)
    (m' : (ℓ : Loc Cert.PleSampleRefIdeal.nD Cert.PleSampleRefIdeal.τ Cert.PleSampleRefIdeal.sig) → Buf (Elt Ideal) ℓ) (g' : Dev Cert.PleSampleRefIdeal.nD → PrngReg), Pre_PleSampleIdeal m →
    (∀ c : Dev Cert.PleSampleIdeal.nD,
      m' ((c.tc : Thread Cert.PleSampleRefIdeal.nD Cert.PleSampleRefIdeal.τ).loc Cert.PleSampleRefIdeal.main_arg0) = m ((c.tc : Thread Cert.PleSampleIdeal.nD Cert.PleSampleIdeal.τ).loc Cert.PleSampleIdeal.main_arg0)
      ∧ m' ((c.tc : Thread Cert.PleSampleRefIdeal.nD Cert.PleSampleRefIdeal.τ).loc Cert.PleSampleRefIdeal.main_arg1) = m ((c.tc : Thread Cert.PleSampleIdeal.nD Cert.PleSampleIdeal.τ).loc Cert.PleSampleIdeal.main_arg1)
      ∧ m' ((c.tc : Thread Cert.PleSampleRefIdeal.nD Cert.PleSampleRefIdeal.τ).loc Cert.PleSampleRefIdeal.main_arg2) = m ((c.tc : Thread Cert.PleSampleIdeal.nD Cert.PleSampleIdeal.τ).loc Cert.PleSampleIdeal.main_arg2)
      ∧ m' ((c.tc : Thread Cert.PleSampleRefIdeal.nD Cert.PleSampleRefIdeal.τ).loc Cert.PleSampleRefIdeal.main_arg3) = m ((c.tc : Thread Cert.PleSampleIdeal.nD Cert.PleSampleIdeal.τ).loc Cert.PleSampleIdeal.main_arg3)
      ∧ m' ((c.tc : Thread Cert.PleSampleRefIdeal.nD Cert.PleSampleRefIdeal.τ).loc Cert.PleSampleRefIdeal.main_arg4) = m ((c.tc : Thread Cert.PleSampleIdeal.nD Cert.PleSampleIdeal.τ).loc Cert.PleSampleIdeal.main_arg4)
      ∧ m' ((c.tc : Thread Cert.PleSampleRefIdeal.nD Cert.PleSampleRefIdeal.τ).loc Cert.PleSampleRefIdeal.main_arg5) = m ((c.tc : Thread Cert.PleSampleIdeal.nD Cert.PleSampleIdeal.τ).loc Cert.PleSampleIdeal.main_arg5)
      ∧ m' ((c.tc : Thread Cert.PleSampleRefIdeal.nD Cert.PleSampleRefIdeal.τ).loc Cert.PleSampleRefIdeal.main_arg6) = m ((c.tc : Thread Cert.PleSampleIdeal.nD Cert.PleSampleIdeal.τ).loc Cert.PleSampleIdeal.main_arg6)) →
    ∃ (v0 : (c : Dev Cert.PleSampleIdeal.nD) → Buf (Elt Ideal) ((c.tc : Thread Cert.PleSampleIdeal.nD Cert.PleSampleIdeal.τ).loc Cert.PleSampleIdeal.main_v11)),
      θ_run (Cert.PleSampleIdeal.defs (F := Ideal)) (onTc (τ := Cert.PleSampleIdeal.τ) (Cert.PleSampleIdeal.main (F := Ideal))) ⟨m, fun _ => 0, g⟩ (fun r => ∀ c : Dev Cert.PleSampleIdeal.nD,
          r.2.mem ((c.tc : Thread Cert.PleSampleIdeal.nD Cert.PleSampleIdeal.τ).loc Cert.PleSampleIdeal.main_v11) = v0 c
          ∧ r.2.mem ((c.tc : Thread Cert.PleSampleIdeal.nD Cert.PleSampleIdeal.τ).loc Cert.PleSampleIdeal.main_arg0) = m ((c.tc : Thread Cert.PleSampleIdeal.nD Cert.PleSampleIdeal.τ).loc Cert.PleSampleIdeal.main_arg0)
          ∧ r.2.mem ((c.tc : Thread Cert.PleSampleIdeal.nD Cert.PleSampleIdeal.τ).loc Cert.PleSampleIdeal.main_arg1) = m ((c.tc : Thread Cert.PleSampleIdeal.nD Cert.PleSampleIdeal.τ).loc Cert.PleSampleIdeal.main_arg1)
          ∧ r.2.mem ((c.tc : Thread Cert.PleSampleIdeal.nD Cert.PleSampleIdeal.τ).loc Cert.PleSampleIdeal.main_arg2) = m ((c.tc : Thread Cert.PleSampleIdeal.nD Cert.PleSampleIdeal.τ).loc Cert.PleSampleIdeal.main_arg2)
          ∧ r.2.mem ((c.tc : Thread Cert.PleSampleIdeal.nD Cert.PleSampleIdeal.τ).loc Cert.PleSampleIdeal.main_arg3) = m ((c.tc : Thread Cert.PleSampleIdeal.nD Cert.PleSampleIdeal.τ).loc Cert.PleSampleIdeal.main_arg3)
          ∧ r.2.mem ((c.tc : Thread Cert.PleSampleIdeal.nD Cert.PleSampleIdeal.τ).loc Cert.PleSampleIdeal.main_arg4) = m ((c.tc : Thread Cert.PleSampleIdeal.nD Cert.PleSampleIdeal.τ).loc Cert.PleSampleIdeal.main_arg4)
          ∧ r.2.mem ((c.tc : Thread Cert.PleSampleIdeal.nD Cert.PleSampleIdeal.τ).loc Cert.PleSampleIdeal.main_arg5) = m ((c.tc : Thread Cert.PleSampleIdeal.nD Cert.PleSampleIdeal.τ).loc Cert.PleSampleIdeal.main_arg5)
          ∧ r.2.mem ((c.tc : Thread Cert.PleSampleIdeal.nD Cert.PleSampleIdeal.τ).loc Cert.PleSampleIdeal.main_arg6) = m ((c.tc : Thread Cert.PleSampleIdeal.nD Cert.PleSampleIdeal.τ).loc Cert.PleSampleIdeal.main_arg6))
      ∧ θ_run (Cert.PleSampleRefIdeal.defs (F := Ideal)) (onTc (τ := Cert.PleSampleRefIdeal.τ) (Cert.PleSampleRefIdeal.main (F := Ideal))) ⟨m', fun _ => 0, g'⟩ (fun r => ∀ c : Dev Cert.PleSampleRefIdeal.nD,
          r.2.mem ((c.tc : Thread Cert.PleSampleRefIdeal.nD Cert.PleSampleRefIdeal.τ).loc Cert.PleSampleRefIdeal.main_v44) = v0 c
          ∧ r.2.mem ((c.tc : Thread Cert.PleSampleRefIdeal.nD Cert.PleSampleRefIdeal.τ).loc Cert.PleSampleRefIdeal.main_arg0) = m' ((c.tc : Thread Cert.PleSampleRefIdeal.nD Cert.PleSampleRefIdeal.τ).loc Cert.PleSampleRefIdeal.main_arg0)
          ∧ r.2.mem ((c.tc : Thread Cert.PleSampleRefIdeal.nD Cert.PleSampleRefIdeal.τ).loc Cert.PleSampleRefIdeal.main_arg1) = m' ((c.tc : Thread Cert.PleSampleRefIdeal.nD Cert.PleSampleRefIdeal.τ).loc Cert.PleSampleRefIdeal.main_arg1)
          ∧ r.2.mem ((c.tc : Thread Cert.PleSampleRefIdeal.nD Cert.PleSampleRefIdeal.τ).loc Cert.PleSampleRefIdeal.main_arg2) = m' ((c.tc : Thread Cert.PleSampleRefIdeal.nD Cert.PleSampleRefIdeal.τ).loc Cert.PleSampleRefIdeal.main_arg2)
          ∧ r.2.mem ((c.tc : Thread Cert.PleSampleRefIdeal.nD Cert.PleSampleRefIdeal.τ).loc Cert.PleSampleRefIdeal.main_arg3) = m' ((c.tc : Thread Cert.PleSampleRefIdeal.nD Cert.PleSampleRefIdeal.τ).loc Cert.PleSampleRefIdeal.main_arg3)
          ∧ r.2.mem ((c.tc : Thread Cert.PleSampleRefIdeal.nD Cert.PleSampleRefIdeal.τ).loc Cert.PleSampleRefIdeal.main_arg4) = m' ((c.tc : Thread Cert.PleSampleRefIdeal.nD Cert.PleSampleRefIdeal.τ).loc Cert.PleSampleRefIdeal.main_arg4)
          ∧ r.2.mem ((c.tc : Thread Cert.PleSampleRefIdeal.nD Cert.PleSampleRefIdeal.τ).loc Cert.PleSampleRefIdeal.main_arg5) = m' ((c.tc : Thread Cert.PleSampleRefIdeal.nD Cert.PleSampleRefIdeal.τ).loc Cert.PleSampleRefIdeal.main_arg5)
          ∧ r.2.mem ((c.tc : Thread Cert.PleSampleRefIdeal.nD Cert.PleSampleRefIdeal.τ).loc Cert.PleSampleRefIdeal.main_arg6) = m' ((c.tc : Thread Cert.PleSampleRefIdeal.nD Cert.PleSampleRefIdeal.τ).loc Cert.PleSampleRefIdeal.main_arg6))

def Claim : Prop :=
  ∃ (hGateUp : Cert.GateUp.Facts) (hGateUpIdeal : Cert.GateUpIdeal.Facts) (hGateUpRefIdeal : Cert.GateUpRefIdeal.Facts) (hDown : Cert.Down.Facts) (hDownIdeal : Cert.DownIdeal.Facts) (hDownRefIdeal : Cert.DownRefIdeal.Facts) (hInProj : Cert.InProj.Facts) (hInProjIdeal : Cert.InProjIdeal.Facts) (hInProjRefIdeal : Cert.InProjRefIdeal.Facts) (hPle : Cert.Ple.Facts) (hPleIdeal : Cert.PleIdeal.Facts) (hPleRefIdeal : Cert.PleRefIdeal.Facts) (hStep : Cert.Step.Facts) (hStepIdeal : Cert.StepIdeal.Facts) (hStepRefIdeal : Cert.StepRefIdeal.Facts) (hInProjSample : Cert.InProjSample.Facts) (hInProjSampleIdeal : Cert.InProjSampleIdeal.Facts) (hInProjSampleRefIdeal : Cert.InProjSampleRefIdeal.Facts) (hPleSample : Cert.PleSample.Facts) (hPleSampleIdeal : Cert.PleSampleIdeal.Facts) (hPleSampleRefIdeal : Cert.PleSampleRefIdeal.Facts) (hPre_routed : Cert.Pre_routed.Facts) (hPre_routed_down : Cert.Pre_routed_down.Facts),
    quiescent_GateUp (hGateUp := hGateUp) (hPre_routed := hPre_routed)
    ∧ quiescent_GateUpIdeal (hGateUpIdeal := hGateUpIdeal) (hPre_routed := hPre_routed)
    ∧ quiescent_GateUpRefIdeal (hGateUpRefIdeal := hGateUpRefIdeal)
    ∧ quiescent_GateUpRefIdeal_pre_routed (hGateUpRefIdeal := hGateUpRefIdeal) (hPre_routed := hPre_routed)
    ∧ quiescent_Down (hDown := hDown) (hPre_routed_down := hPre_routed_down)
    ∧ quiescent_DownIdeal (hDownIdeal := hDownIdeal) (hPre_routed_down := hPre_routed_down)
    ∧ quiescent_DownRefIdeal (hDownRefIdeal := hDownRefIdeal)
    ∧ quiescent_DownRefIdeal_pre_routed_down (hDownRefIdeal := hDownRefIdeal) (hPre_routed_down := hPre_routed_down)
    ∧ quiescent_InProj (hInProj := hInProj)
    ∧ quiescent_InProjIdeal (hInProjIdeal := hInProjIdeal)
    ∧ quiescent_InProjRefIdeal (hInProjRefIdeal := hInProjRefIdeal)
    ∧ quiescent_Ple (hPle := hPle)
    ∧ quiescent_PleIdeal (hPleIdeal := hPleIdeal)
    ∧ quiescent_PleRefIdeal (hPleRefIdeal := hPleRefIdeal)
    ∧ quiescent_Step (hStep := hStep)
    ∧ quiescent_StepIdeal (hStepIdeal := hStepIdeal)
    ∧ quiescent_StepRefIdeal (hStepRefIdeal := hStepRefIdeal)
    ∧ quiescent_InProjSample (hInProjSample := hInProjSample)
    ∧ quiescent_InProjSampleIdeal (hInProjSampleIdeal := hInProjSampleIdeal)
    ∧ quiescent_InProjSampleRefIdeal (hInProjSampleRefIdeal := hInProjSampleRefIdeal)
    ∧ quiescent_PleSample (hPleSample := hPleSample)
    ∧ quiescent_PleSampleIdeal (hPleSampleIdeal := hPleSampleIdeal)
    ∧ quiescent_PleSampleRefIdeal (hPleSampleRefIdeal := hPleSampleRefIdeal)
    ∧ preserves_GateUp_GateUpIdeal
    ∧ algebraic_GateUpIdeal_GateUpRefIdeal (hGateUpIdeal := hGateUpIdeal) (hGateUpRefIdeal := hGateUpRefIdeal) (hPre_routed := hPre_routed)
    ∧ preserves_Down_DownIdeal
    ∧ algebraic_DownIdeal_DownRefIdeal (hDownIdeal := hDownIdeal) (hDownRefIdeal := hDownRefIdeal) (hPre_routed_down := hPre_routed_down)
    ∧ preserves_InProj_InProjIdeal
    ∧ algebraic_InProjIdeal_InProjRefIdeal (hInProjIdeal := hInProjIdeal) (hInProjRefIdeal := hInProjRefIdeal)
    ∧ preserves_Ple_PleIdeal
    ∧ algebraic_PleIdeal_PleRefIdeal (hPleIdeal := hPleIdeal) (hPleRefIdeal := hPleRefIdeal)
    ∧ preserves_Step_StepIdeal
    ∧ algebraic_StepIdeal_StepRefIdeal (hStepIdeal := hStepIdeal) (hStepRefIdeal := hStepRefIdeal)
    ∧ preserves_InProjSample_InProjSampleIdeal
    ∧ algebraic_InProjSampleIdeal_InProjSampleRefIdeal (hInProjSampleIdeal := hInProjSampleIdeal) (hInProjSampleRefIdeal := hInProjSampleRefIdeal)
    ∧ preserves_PleSample_PleSampleIdeal
    ∧ algebraic_PleSampleIdeal_PleSampleRefIdeal (hPleSampleIdeal := hPleSampleIdeal) (hPleSampleRefIdeal := hPleSampleRefIdeal)
-- ==== Pre_routed.lean ====
abbrev S288 : Shape := ⟨1, ![288]⟩
abbrev S1 : Shape := ⟨1, ![1]⟩
abbrev S147456x2048 : Shape := ⟨2, ![147456, 2048]⟩
abbrev S1x32x2048x4096 : Shape := ⟨4, ![1, 32, 2048, 4096]⟩
abbrev S1x32x4096 : Shape := ⟨3, ![1, 32, 4096]⟩
abbrev S_ : Shape := ⟨0, ![]⟩

class Facts : Prop where
  shapeCasts_S1_S_ : S1.ShapeCasts S_
  bcast_S_S288 : S_.BroadcastsInDim S288 (![] : Fin 0 → Fin S288.rank)
  bcast_S_S1 : S_.BroadcastsInDim S1 (![] : Fin 0 → Fin S1.rank)

variable [Facts]

def fn_where {F : FTy → Type} [FloatOps F] (arg0 : IVec S288 1) (arg1 : IVec S288 32) (arg2 : IVec S_ 32) : IVec S288 32 :=
  let v0 : IVec S_ 32 := id arg2
  let v1 : IVec S288 32 := broadcastInDim S288 ![] bcast_S_S288 v0
  let v2 : IVec S288 32 := select arg0 arg1 v1
  v2

def fn {F : FTy → Type} [FloatOps F] (main_arg0 : IVec S288 32) (main_arg1 : IVec S1 32) (main_arg2 : FVec F S147456x2048 .f32) (main_arg3 : FVec F S1x32x2048x4096 .f32) (main_arg4 : FVec F S1x32x4096 .f32) : IVec S288 1 × IVec S288 1 × IVec S1 1 :=
  let main_v0 : IVec S288 32 := iotaInDim S288 32 0
  let main_v1 : IVec S_ 32 := shapeCast S_ main_arg1 shapeCasts_S1_S_
  let main_v2 : IVec S288 32 := broadcastInDim S288 ![] bcast_S_S288 main_v1
  let main_v3 : IVec S288 1 := cmpi .slt main_v0 main_v2
  let main_c : IVec S_ 32 := constantI S_ 32 0#32
  let main_v4 : IVec S288 32 := fn_where (F := F) main_v3 main_arg0 main_c
  let main_c_0 : IVec S_ 32 := constantI S_ 32 0#32
  let main_v5 : IVec S288 32 := broadcastInDim S288 ![] bcast_S_S288 main_c_0
  let main_v6 : IVec S288 1 := cmpi .sge main_v4 main_v5
  let main_c_1 : IVec S_ 32 := constantI S_ 32 32#32
  let main_v7 : IVec S288 32 := broadcastInDim S288 ![] bcast_S_S288 main_c_1
  let main_v8 : IVec S288 1 := cmpi .slt main_v4 main_v7
  let main_c_2 : IVec S_ 32 := constantI S_ 32 1#32
  let main_v9 : IVec S1 32 := broadcastInDim S1 ![] bcast_S_S1 main_c_2
  let main_v10 : IVec S1 1 := cmpi .sge main_arg1 main_v9
  (main_v6, main_v8, main_v10)
-- ==== Pre_routed_down.lean ====
abbrev S288 : Shape := ⟨1, ![288]⟩
abbrev S1 : Shape := ⟨1, ![1]⟩
abbrev S147456x2048 : Shape := ⟨2, ![147456, 2048]⟩
abbrev S1x32x2048x2048 : Shape := ⟨4, ![1, 32, 2048, 2048]⟩
abbrev S1x32x2048 : Shape := ⟨3, ![1, 32, 2048]⟩
abbrev S147456x1 : Shape := ⟨2, ![147456, 1]⟩
abbrev S_ : Shape := ⟨0, ![]⟩

class Facts : Prop where
  shapeCasts_S1_S_ : S1.ShapeCasts S_
  bcast_S_S288 : S_.BroadcastsInDim S288 (![] : Fin 0 → Fin S288.rank)
  bcast_S_S1 : S_.BroadcastsInDim S1 (![] : Fin 0 → Fin S1.rank)

variable [Facts]

def fn_where {F : FTy → Type} [FloatOps F] (arg0 : IVec S288 1) (arg1 : IVec S288 32) (arg2 : IVec S_ 32) : IVec S288 32 :=
  let v0 : IVec S_ 32 := id arg2
  let v1 : IVec S288 32 := broadcastInDim S288 ![] bcast_S_S288 v0
  let v2 : IVec S288 32 := select arg0 arg1 v1
  v2

def fn {F : FTy → Type} [FloatOps F] (main_arg0 : IVec S288 32) (main_arg1 : IVec S1 32) (main_arg2 : FVec F S147456x2048 .bf16) (main_arg3 : FVec F S1x32x2048x2048 .f32) (main_arg4 : FVec F S1x32x2048 .f32) (main_arg5 : FVec F S147456x1 .f32) : IVec S288 1 × IVec S288 1 × IVec S1 1 :=
  let main_v0 : IVec S288 32 := iotaInDim S288 32 0
  let main_v1 : IVec S_ 32 := shapeCast S_ main_arg1 shapeCasts_S1_S_
  let main_v2 : IVec S288 32 := broadcastInDim S288 ![] bcast_S_S288 main_v1
  let main_v3 : IVec S288 1 := cmpi .slt main_v0 main_v2
  let main_c : IVec S_ 32 := constantI S_ 32 0#32
  let main_v4 : IVec S288 32 := fn_where (F := F) main_v3 main_arg0 main_c
  let main_c_0 : IVec S_ 32 := constantI S_ 32 0#32
  let main_v5 : IVec S288 32 := broadcastInDim S288 ![] bcast_S_S288 main_c_0
  let main_v6 : IVec S288 1 := cmpi .sge main_v4 main_v5
  let main_c_1 : IVec S_ 32 := constantI S_ 32 32#32
  let main_v7 : IVec S288 32 := broadcastInDim S288 ![] bcast_S_S288 main_c_1
  let main_v8 : IVec S288 1 := cmpi .slt main_v4 main_v7
  let main_c_2 : IVec S_ 32 := constantI S_ 32 1#32
  let main_v9 : IVec S1 32 := broadcastInDim S1 ![] bcast_S_S1 main_c_2
  let main_v10 : IVec S1 1 := cmpi .sge main_arg1 main_v9
  (main_v6, main_v8, main_v10)
-- ==== GateUp.lean ====
abbrev S288 : Shape := ⟨1, ![288]⟩
abbrev S1 : Shape := ⟨1, ![1]⟩
abbrev S147456x2048 : Shape := ⟨2, ![147456, 2048]⟩
abbrev S1x32x2048x4096 : Shape := ⟨4, ![1, 32, 2048, 4096]⟩
abbrev S1x32x4096 : Shape := ⟨3, ![1, 32, 4096]⟩
abbrev S32x2048x4096 : Shape := ⟨3, ![32, 2048, 4096]⟩
abbrev S32x4096 : Shape := ⟨2, ![32, 4096]⟩
abbrev S_ : Shape := ⟨0, ![]⟩
abbrev S288x1 : Shape := ⟨2, ![288, 1]⟩
abbrev S32x1x4096 : Shape := ⟨3, ![32, 1, 4096]⟩
abbrev S512x2048 : Shape := ⟨2, ![512, 2048]⟩
abbrev S1x2048x512 : Shape := ⟨3, ![1, 2048, 512]⟩
abbrev S1x1x512 : Shape := ⟨3, ![1, 1, 512]⟩
abbrev S512x512 : Shape := ⟨2, ![512, 512]⟩
abbrev S2048x512 : Shape := ⟨2, ![2048, 512]⟩
abbrev S1x512 : Shape := ⟨2, ![1, 512]⟩

abbrev nBuf : Space → Nat
  | .hbm => 23
  | .vmem => 13
  | .smem => 2
  | _ => 0

abbrev bufTy : (tb : Table) → Fin (tcTables nBuf tb) → BufTy
  | .hbm, ⟨0, _⟩ => ⟨S288, .i32⟩
  | .hbm, ⟨1, _⟩ => ⟨S147456x2048, .f32⟩
  | .hbm, ⟨2, _⟩ => ⟨S1x32x2048x4096, .f32⟩
  | .hbm, ⟨3, _⟩ => ⟨S1x32x4096, .f32⟩
  | .hbm, ⟨4, _⟩ => ⟨S32x2048x4096, .f32⟩
  | .hbm, ⟨5, _⟩ => ⟨S32x2048x4096, .bf16⟩
  | .hbm, ⟨6, _⟩ => ⟨S32x4096, .f32⟩
  | .hbm, ⟨7, _⟩ => ⟨S288, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S288, .i32⟩
  | .hbm, ⟨12, _⟩ => ⟨S288, .i32⟩
  | .hbm, ⟨13, _⟩ => ⟨S_, .i32⟩
  | .hbm, ⟨14, _⟩ => ⟨S288, .i32⟩
  | .hbm, ⟨15, _⟩ => ⟨S288, .i1⟩
  | .hbm, ⟨16, _⟩ => ⟨S_, .i32⟩
  | .hbm, ⟨17, _⟩ => ⟨S288, .i32⟩
  | .hbm, ⟨18, _⟩ => ⟨S288, .i32⟩
  | .hbm, ⟨19, _⟩ => ⟨S288, .i32⟩
  | .hbm, ⟨20, _⟩ => ⟨S288x1, .i32⟩
  | .hbm, ⟨21, _⟩ => ⟨S32x1x4096, .f32⟩
  | .hbm, ⟨22, _⟩ => ⟨S147456x2048, .bf16⟩
  | .local _ .vmem, ⟨0, _⟩ => ⟨S512x2048, .f32⟩
  | .local _ .vmem, ⟨1, _⟩ => ⟨S512x2048, .f32⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x1x512, .f32⟩
  | .local _ .vmem, ⟨7, _⟩ => ⟨S1x1x512, .f32⟩
  | .local _ .vmem, ⟨8, _⟩ => ⟨S1x1x512, .f32⟩
  | .local _ .vmem, ⟨9, _⟩ => ⟨S1x1x512, .f32⟩
  | .local _ .vmem, ⟨10, _⟩ => ⟨S512x512, .bf16⟩
  | .local _ .vmem, ⟨11, _⟩ => ⟨S512x512, .bf16⟩
  | .local _ .vmem, ⟨12, _⟩ => ⟨S512x2048, .bf16⟩
  | .local _ .smem, ⟨0, _⟩ => ⟨S288, .i32⟩
  | .local _ .smem, ⟨1, _⟩ => ⟨S1, .i32⟩
  | _, _ => ⟨S288, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v15 : Ref sig .tc := ⟨.hbm, 21, rfl⟩
abbrev main_v16 : Ref sig .tc := ⟨.hbm, 22, rfl⟩
abbrev main_v14 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![288, 4], ![false, false]⟩

abbrev pre0 : Pipeline.Prefetch sig := ⟨2, ![main_v14.idx, main_arg1.idx], fun | 0 => main_v14.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond3 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  ![v1.toNat, c0_i32.toNat, arg1.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S288) ![v0.toNat] S1.size (k0_off1_inb i)) numel1_S1
  let c4_i32 : BitVec 32 := 4#32
  let v2 : BitVec 32 := Scalar.addi c4_i32 arg1
  let c0_i32 : BitVec 32 := 0#32
  let c0_i32_0 : BitVec 32 := 0#32
  ![v1.toNat, c0_i32.toNat, v2.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  ![v1.toNat, c0_i32.toNat, arg1.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S288) ![v0.toNat] S1.size (k0_off1_inb i)) numel1_S1
  let c4_i32 : BitVec 32 := 4#32
  let v2 : BitVec 32 := Scalar.addi c4_i32 arg1
  let c0_i32 : BitVec 32 := 0#32
  let c0_i32_0 : BitVec 32 := 0#32
  ![v1.toNat, c0_i32.toNat, v2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GateUpRefIdeal.lean ====
abbrev S288 : Shape := ⟨1, ![288]⟩
abbrev S1 : Shape := ⟨1, ![1]⟩
abbrev S147456x2048 : Shape := ⟨2, ![147456, 2048]⟩
abbrev S1x32x2048x4096 : Shape := ⟨4, ![1, 32, 2048, 4096]⟩
abbrev S1x32x4096 : Shape := ⟨3, ![1, 32, 4096]⟩
abbrev S32x2048x4096 : Shape := ⟨3, ![32, 2048, 4096]⟩
abbrev S147456x32x4096 : Shape := ⟨3, ![147456, 32, 4096]⟩
abbrev S32x4096 : Shape := ⟨2, ![32, 4096]⟩
abbrev S147456x32x2048 : Shape := ⟨3, ![147456, 32, 2048]⟩
abbrev S_ : Shape := ⟨0, ![]⟩
abbrev S288x1 : Shape := ⟨2, ![288, 1]⟩
abbrev S288x512 : Shape := ⟨2, ![288, 512]⟩
abbrev S147456 : Shape := ⟨1, ![147456]⟩
abbrev S147456x1 : Shape := ⟨2, ![147456, 1]⟩
abbrev S32 : Shape := ⟨1, ![32]⟩
abbrev S1x32 : Shape := ⟨2, ![1, 32]⟩
abbrev S147456x32 : Shape := ⟨2, ![147456, 32]⟩
abbrev S147456x32x1 : Shape := ⟨3, ![147456, 32, 1]⟩

abbrev nBuf : Space → Nat
  | .hbm => 69
  | .vmem => 0
  | .smem => 0
  | _ => 0

abbrev bufTy : (tb : Table) → Fin (tcTables nBuf tb) → BufTy
  | .hbm, ⟨0, _⟩ => ⟨S288, .i32⟩
  | .hbm, ⟨1, _⟩ => ⟨S1, .i32⟩
  | .hbm, ⟨2, _⟩ => ⟨S147456x2048, .f32⟩
  | .hbm, ⟨3, _⟩ => ⟨S1x32x2048x4096, .f32⟩
  | .hbm, ⟨4, _⟩ => ⟨S1x32x4096, .f32⟩
  | .hbm, ⟨5, _⟩ => ⟨S32x2048x4096, .f32⟩
  | .hbm, ⟨6, _⟩ => ⟨S147456x32x4096, .f32⟩
  | .hbm, ⟨7, _⟩ => ⟨S32x4096, .f32⟩
  | .hbm, ⟨8, _⟩ => ⟨S1x32x4096, .f32⟩
  | .hbm, ⟨9, _⟩ => ⟨S147456x32x4096, .f32⟩
  | .hbm, ⟨10, _⟩ => ⟨S147456x32x4096, .f32⟩
  | .hbm, ⟨11, _⟩ => ⟨S147456x32x2048, .f32⟩
  | .hbm, ⟨12, _⟩ => ⟨S_, .f32⟩
  | .hbm, ⟨13, _⟩ => ⟨S147456x32x2048, .f32⟩
  | .hbm, ⟨14, _⟩ => ⟨S147456x32x2048, .f32⟩
  | .hbm, ⟨15, _⟩ => ⟨S147456x32x2048, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S147456x32x2048, .f32⟩
  | .hbm, ⟨20, _⟩ => ⟨S147456x32x2048, .f32⟩
  | .hbm, ⟨21, _⟩ => ⟨S_, .f32⟩
  | .hbm, ⟨22, _⟩ => ⟨S147456x32x2048, .f32⟩
  | .hbm, ⟨23, _⟩ => ⟨S147456x32x2048, .f32⟩
  | .hbm, ⟨24, _⟩ => ⟨S_, .f32⟩
  | .hbm, ⟨25, _⟩ => ⟨S147456x32x2048, .f32⟩
  | .hbm, ⟨26, _⟩ => ⟨S147456x32x2048, .f32⟩
  | .hbm, ⟨27, _⟩ => ⟨S147456x32x2048, .f32⟩
  | .hbm, ⟨28, _⟩ => ⟨S_, .f32⟩
  | .hbm, ⟨29, _⟩ => ⟨S147456x32x2048, .f32⟩
  | .hbm, ⟨30, _⟩ => ⟨S147456x32x2048, .f32⟩
  | .hbm, ⟨31, _⟩ => ⟨S147456x32x2048, .f32⟩
  | .hbm, ⟨32, _⟩ => ⟨S147456x32x2048, .f32⟩
  | .hbm, ⟨33, _⟩ => ⟨S_, .f32⟩
  | .hbm, ⟨34, _⟩ => ⟨S147456x32x2048, .f32⟩
  | .hbm, ⟨35, _⟩ => ⟨S147456x32x2048, .f32⟩
  | .hbm, ⟨36, _⟩ => ⟨S_, .f32⟩
  | .hbm, ⟨37, _⟩ => ⟨S147456x32x2048, .f32⟩
  | .hbm, ⟨38, _⟩ => ⟨S147456x32x2048, .f32⟩
  | .hbm, ⟨39, _⟩ => ⟨S147456x32x2048, .f32⟩
  | .hbm, ⟨40, _⟩ => ⟨S288, .i32⟩
  | .hbm, ⟨41, _⟩ => ⟨S_, .i32⟩
  | .hbm, ⟨42, _⟩ => ⟨S288, .i32⟩
  | .hbm, ⟨43, _⟩ => ⟨S288, .i1⟩
  | .hbm, ⟨44, _⟩ => ⟨S_, .i32⟩
  | .hbm, ⟨45, _⟩ => ⟨S_, .i32⟩
  | .hbm, ⟨46, _⟩ => ⟨S288, .i32⟩
  | .hbm, ⟨47, _⟩ => ⟨S288, .i32⟩
  | .hbm, ⟨48, _⟩ => ⟨S288x1, .i32⟩
  | .hbm, ⟨49, _⟩ => ⟨S288x512, .i32⟩
  | .hbm, ⟨50, _⟩ => ⟨S147456, .i32⟩
  | .hbm, ⟨51, _⟩ => ⟨S147456x1, .i32⟩
  | .hbm, ⟨52, _⟩ => ⟨S32, .i32⟩
  | .hbm, ⟨53, _⟩ => ⟨S1x32, .i32⟩
  | .hbm, ⟨54, _⟩ => ⟨S147456x32, .i32⟩
  | .hbm, ⟨55, _⟩ => ⟨S147456x32, .i32⟩
  | .hbm, ⟨56, _⟩ => ⟨S147456x32, .i1⟩
  | .hbm, ⟨57, _⟩ => ⟨S_, .f32⟩
  | .hbm, ⟨58, _⟩ => ⟨S_, .f32⟩
  | .hbm, ⟨59, _⟩ => ⟨S147456x32, .f32⟩
  | .hbm, ⟨60, _⟩ => ⟨S147456x32, .f32⟩
  | .hbm, ⟨61, _⟩ => ⟨S147456x32, .f32⟩
  | .hbm, ⟨62, _⟩ => ⟨S147456x32x1, .f32⟩
  | .hbm, ⟨63, _⟩ => ⟨S147456x32x1, .f32⟩
  | .hbm, ⟨64, _⟩ => ⟨S147456x32x2048, .f32⟩
  | .hbm, ⟨65, _⟩ => ⟨S147456x32x2048, .f32⟩
  | .hbm, ⟨66, _⟩ => ⟨S_, .f32⟩
  | .hbm, ⟨67, _⟩ => ⟨S147456x2048, .f32⟩
  | .hbm, ⟨68, _⟩ => ⟨S147456x2048, .bf16⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_cst_5 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c : Ref sig .tc := ⟨.hbm, 44, rfl⟩
abbrev main_call1_v0 : Ref sig .tc := ⟨.hbm, 45, rfl⟩
abbrev main_call1_v1 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_cst_7 : Ref sig .tc := ⟨.hbm, 58, rfl⟩
abbrev main_call2_v0 : Ref sig .tc := ⟨.hbm, 59, rfl⟩
abbrev main_call2_v1 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_8 : Ref sig .tc := ⟨.hbm, 66, rfl⟩
abbrev main_v42 : Ref sig .tc := ⟨.hbm, 67, rfl⟩
abbrev main_v43 : Ref sig .tc := ⟨.hbm, 68, rfl⟩

abbrev nD : Nat := 1
abbrev τ : Topo := Topo.v7x

variable {F : FTy → Type} [FloatOps F]
-- ==== Down.lean ====
abbrev S288 : Shape := ⟨1, ![288]⟩
abbrev S1 : Shape := ⟨1, ![1]⟩
abbrev S147456x2048 : Shape := ⟨2, ![147456, 2048]⟩
abbrev S1x32x2048x2048 : Shape := ⟨4, ![1, 32, 2048, 2048]⟩
abbrev S1x32x2048 : Shape := ⟨3, ![1, 32, 2048]⟩
abbrev S147456x1 : Shape := ⟨2, ![147456, 1]⟩
abbrev S32x2048x2048 : Shape := ⟨3, ![32, 2048, 2048]⟩
abbrev S32x2048 : Shape := ⟨2, ![32, 2048]⟩
abbrev S_ : Shape := ⟨0, ![]⟩
abbrev S288x1 : Shape := ⟨2, ![288, 1]⟩
abbrev S32x1x2048 : Shape := ⟨3, ![32, 1, 2048]⟩
abbrev S512x2048 : Shape := ⟨2, ![512, 2048]⟩
abbrev S1x2048x1024 : Shape := ⟨3, ![1, 2048, 1024]⟩
abbrev S1x1x1024 : Shape := ⟨3, ![1, 1, 1024]⟩
abbrev S512x1 : Shape := ⟨2, ![512, 1]⟩
abbrev S512x1024 : Shape := ⟨2, ![512, 1024]⟩
abbrev S2048x1024 : Shape := ⟨2, ![2048, 1024]⟩
abbrev S1x1024 : Shape := ⟨2, ![1, 1024]⟩

abbrev nBuf : Space → Nat
  | .hbm => 24
  | .vmem => 10
  | .smem => 2
  | _ => 0

abbrev bufTy : (tb : Table) → Fin (tcTables nBuf tb) → BufTy
  | .hbm, ⟨0, _⟩ => ⟨S288, .i32⟩
  | .hbm, ⟨1, _⟩ => ⟨S147456x2048, .bf16⟩
  | .hbm, ⟨2, _⟩ => ⟨S1x32x2048x2048, .f32⟩
  | .hbm, ⟨3, _⟩ => ⟨S1x32x2048, .f32⟩
  | .hbm, ⟨4, _⟩ => ⟨S147456x1, .f32⟩
  | .hbm, ⟨5, _⟩ => ⟨S32x2048x2048, .f32⟩
  | .hbm, ⟨6, _⟩ => ⟨S32x2048x2048, .bf16⟩
  | .hbm, ⟨7, _⟩ => ⟨S32x2048, .f32⟩
  | .hbm, ⟨8, _⟩ => ⟨S288, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S288, .i32⟩
  | .hbm, ⟨13, _⟩ => ⟨S288, .i32⟩
  | .hbm, ⟨14, _⟩ => ⟨S_, .i32⟩
  | .hbm, ⟨15, _⟩ => ⟨S288, .i32⟩
  | .hbm, ⟨16, _⟩ => ⟨S288, .i1⟩
  | .hbm, ⟨17, _⟩ => ⟨S_, .i32⟩
  | .hbm, ⟨18, _⟩ => ⟨S288, .i32⟩
  | .hbm, ⟨19, _⟩ => ⟨S288, .i32⟩
  | .hbm, ⟨20, _⟩ => ⟨S288, .i32⟩
  | .hbm, ⟨21, _⟩ => ⟨S288x1, .i32⟩
  | .hbm, ⟨22, _⟩ => ⟨S32x1x2048, .f32⟩
  | .hbm, ⟨23, _⟩ => ⟨S147456x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1x1024, .f32⟩
  | .local _ .vmem, ⟨5, _⟩ => ⟨S1x1x1024, .f32⟩
  | .local _ .vmem, ⟨6, _⟩ => ⟨S512x1, .f32⟩
  | .local _ .vmem, ⟨7, _⟩ => ⟨S512x1, .f32⟩
  | .local _ .vmem, ⟨8, _⟩ => ⟨S512x1024, .f32⟩
  | .local _ .vmem, ⟨9, _⟩ => ⟨S512x1024, .f32⟩
  | .local _ .smem, ⟨0, _⟩ => ⟨S288, .i32⟩
  | .local _ .smem, ⟨1, _⟩ => ⟨S1, .i32⟩
  | _, _ => ⟨S288, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v15 : Ref sig .tc := ⟨.hbm, 22, rfl⟩
abbrev main_v16 : Ref sig .tc := ⟨.hbm, 23, rfl⟩
abbrev main_v14 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![288, 2], ![false, false]⟩

abbrev pre0 : Pipeline.Prefetch sig := ⟨2, ![main_v14.idx, main_arg1.idx], fun | 0 => main_v14.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  ![v1.toNat, c0_i32.toNat, arg1.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  ![v1.toNat, c0_i32.toNat, arg1.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DownRefIdeal.lean ====
abbrev S288 : Shape := ⟨1, ![288]⟩
abbrev S1 : Shape := ⟨1, ![1]⟩
abbrev S147456x2048 : Shape := ⟨2, ![147456, 2048]⟩
abbrev S1x32x2048x2048 : Shape := ⟨4, ![1, 32, 2048, 2048]⟩
abbrev S1x32x2048 : Shape := ⟨3, ![1, 32, 2048]⟩
abbrev S147456x1 : Shape := ⟨2, ![147456, 1]⟩
abbrev S32x2048x2048 : Shape := ⟨3, ![32, 2048, 2048]⟩
abbrev S147456x32x2048 : Shape := ⟨3, ![147456, 32, 2048]⟩
abbrev S32x2048 : Shape := ⟨2, ![32, 2048]⟩
abbrev S_ : Shape := ⟨0, ![]⟩
abbrev S288x1 : Shape := ⟨2, ![288, 1]⟩
abbrev S288x512 : Shape := ⟨2, ![288, 512]⟩
abbrev S147456 : Shape := ⟨1, ![147456]⟩
abbrev S32 : Shape := ⟨1, ![32]⟩
abbrev S1x32 : Shape := ⟨2, ![1, 32]⟩
abbrev S147456x32 : Shape := ⟨2, ![147456, 32]⟩
abbrev S147456x32x1 : Shape := ⟨3, ![147456, 32, 1]⟩

abbrev nBuf : Space → Nat
  | .hbm => 40
  | .vmem => 0
  | .smem => 0
  | _ => 0

abbrev bufTy : (tb : Table) → Fin (tcTables nBuf tb) → BufTy
  | .hbm, ⟨0, _⟩ => ⟨S288, .i32⟩
  | .hbm, ⟨1, _⟩ => ⟨S1, .i32⟩
  | .hbm, ⟨2, _⟩ => ⟨S147456x2048, .bf16⟩
  | .hbm, ⟨3, _⟩ => ⟨S1x32x2048x2048, .f32⟩
  | .hbm, ⟨4, _⟩ => ⟨S1x32x2048, .f32⟩
  | .hbm, ⟨5, _⟩ => ⟨S147456x1, .f32⟩
  | .hbm, ⟨6, _⟩ => ⟨S147456x2048, .f32⟩
  | .hbm, ⟨7, _⟩ => ⟨S32x2048x2048, .f32⟩
  | .hbm, ⟨8, _⟩ => ⟨S147456x32x2048, .f32⟩
  | .hbm, ⟨9, _⟩ => ⟨S32x2048, .f32⟩
  | .hbm, ⟨10, _⟩ => ⟨S1x32x2048, .f32⟩
  | .hbm, ⟨11, _⟩ => ⟨S147456x32x2048, .f32⟩
  | .hbm, ⟨12, _⟩ => ⟨S147456x32x2048, .f32⟩
  | .hbm, ⟨13, _⟩ => ⟨S288, .i32⟩
  | .hbm, ⟨14, _⟩ => ⟨S_, .i32⟩
  | .hbm, ⟨15, _⟩ => ⟨S288, .i32⟩
  | .hbm, ⟨16, _⟩ => ⟨S288, .i1⟩
  | .hbm, ⟨17, _⟩ => ⟨S_, .i32⟩
  | .hbm, ⟨18, _⟩ => ⟨S_, .i32⟩
  | .hbm, ⟨19, _⟩ => ⟨S288, .i32⟩
  | .hbm, ⟨20, _⟩ => ⟨S288, .i32⟩
  | .hbm, ⟨21, _⟩ => ⟨S288x1, .i32⟩
  | .hbm, ⟨22, _⟩ => ⟨S288x512, .i32⟩
  | .hbm, ⟨23, _⟩ => ⟨S147456, .i32⟩
  | .hbm, ⟨24, _⟩ => ⟨S147456x1, .i32⟩
  | .hbm, ⟨25, _⟩ => ⟨S32, .i32⟩
  | .hbm, ⟨26, _⟩ => ⟨S1x32, .i32⟩
  | .hbm, ⟨27, _⟩ => ⟨S147456x32, .i32⟩
  | .hbm, ⟨28, _⟩ => ⟨S147456x32, .i32⟩
  | .hbm, ⟨29, _⟩ => ⟨S147456x32, .i1⟩
  | .hbm, ⟨30, _⟩ => ⟨S_, .f32⟩
  | .hbm, ⟨31, _⟩ => ⟨S_, .f32⟩
  | .hbm, ⟨32, _⟩ => ⟨S147456x32, .f32⟩
  | .hbm, ⟨33, _⟩ => ⟨S147456x32, .f32⟩
  | .hbm, ⟨34, _⟩ => ⟨S147456x32, .f32⟩
  | .hbm, ⟨35, _⟩ => ⟨S147456x32x1, .f32⟩
  | .hbm, ⟨36, _⟩ => ⟨S147456x32x2048, .f32⟩
  | .hbm, ⟨37, _⟩ => ⟨S147456x32x2048, .f32⟩
  | .hbm, ⟨38, _⟩ => ⟨S_, .f32⟩
  | .hbm, ⟨39, _⟩ => ⟨S147456x2048, .f32⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_call0_v0 : Ref sig .tc := ⟨.hbm, 18, rfl⟩
abbrev main_call0_v1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_0 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== InProj.lean ====
abbrev S16x2048x2048 : Shape := ⟨3, ![16, 2048, 2048]⟩
abbrev S1x2048 : Shape := ⟨2, ![1, 2048]⟩
abbrev S1x2048x4096 : Shape := ⟨3, ![1, 2048, 4096]⟩
abbrev S32768x2048 : Shape := ⟨2, ![32768, 2048]⟩
abbrev S2048 : Shape := ⟨1, ![2048]⟩
abbrev S2048x4096 : Shape := ⟨2, ![2048, 4096]⟩
abbrev S8 : Shape := ⟨1, ![8]⟩
abbrev S_ : Shape := ⟨0, ![]⟩
abbrev S2048x1 : Shape := ⟨2, ![2048, 1]⟩
abbrev S1x8 : Shape := ⟨2, ![1, 8]⟩
abbrev S2048x8 : Shape := ⟨2, ![2048, 8]⟩
abbrev S2048x48 : Shape := ⟨2, ![2048, 48]⟩
abbrev S2048x64 : Shape := ⟨2, ![2048, 64]⟩
abbrev S2048x56 : Shape := ⟨2, ![2048, 56]⟩
abbrev S2048x128 : Shape := ⟨2, ![2048, 128]⟩
abbrev S32768x1024 : Shape := ⟨2, ![32768, 1024]⟩
abbrev S512x2048 : Shape := ⟨2, ![512, 2048]⟩
abbrev S2048x1024 : Shape := ⟨2, ![2048, 1024]⟩
abbrev S512x128 : Shape := ⟨2, ![512, 128]⟩
abbrev S512x1024 : Shape := ⟨2, ![512, 1024]⟩
abbrev S512 : Shape := ⟨1, ![512]⟩
abbrev S512x1 : Shape := ⟨2, ![512, 1]⟩

abbrev nBuf : Space → Nat
  | .hbm => 52
  | .vmem => 24
  | .smem => 0
  | _ => 0

abbrev bufTy : (tb : Table) → Fin (tcTables nBuf tb) → BufTy
  | .hbm, ⟨0, _⟩ => ⟨S16x2048x2048, .f32⟩
  | .hbm, ⟨1, _⟩ => ⟨S1x2048, .f32⟩
  | .hbm, ⟨2, _⟩ => ⟨S1x2048x4096, .f32⟩
  | .hbm, ⟨3, _⟩ => ⟨S32768x2048, .f32⟩
  | .hbm, ⟨4, _⟩ => ⟨S2048, .f32⟩
  | .hbm, ⟨5, _⟩ => ⟨S1x2048, .f32⟩
  | .hbm, ⟨6, _⟩ => ⟨S2048x4096, .f32⟩
  | .hbm, ⟨7, _⟩ => ⟨S2048x4096, .bf16⟩
  | .hbm, ⟨8, _⟩ => ⟨S2048, .i32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S8, .f32⟩
  | .hbm, ⟨20, _⟩ => ⟨S_, .f32⟩
  | .hbm, ⟨21, _⟩ => ⟨S8, .f32⟩
  | .hbm, ⟨22, _⟩ => ⟨S8, .f32⟩
  | .hbm, ⟨23, _⟩ => ⟨S2048, .f32⟩
  | .hbm, ⟨24, _⟩ => ⟨S2048x1, .f32⟩
  | .hbm, ⟨25, _⟩ => ⟨S1x8, .f32⟩
  | .hbm, ⟨26, _⟩ => ⟨S2048x8, .f32⟩
  | .hbm, ⟨27, _⟩ => ⟨S2048x8, .f32⟩
  | .hbm, ⟨28, _⟩ => ⟨S2048x8, .f32⟩
  | .hbm, ⟨29, _⟩ => ⟨S2048x8, .f32⟩
  | .hbm, ⟨30, _⟩ => ⟨S2048x8, .f32⟩
  | .hbm, ⟨31, _⟩ => ⟨S_, .f32⟩
  | .hbm, ⟨32, _⟩ => ⟨S2048x48, .f32⟩
  | .hbm, ⟨33, _⟩ => ⟨S2048x64, .f32⟩
  | .hbm, ⟨34, _⟩ => ⟨S2048x8, .f32⟩
  | .hbm, ⟨35, _⟩ => ⟨S_, .f32⟩
  | .hbm, ⟨36, _⟩ => ⟨S2048x56, .f32⟩
  | .hbm, ⟨37, _⟩ => ⟨S2048x64, .f32⟩
  | .hbm, ⟨38, _⟩ => ⟨S_, .f32⟩
  | .hbm, ⟨39, _⟩ => ⟨S2048x8, .f32⟩
  | .hbm, ⟨40, _⟩ => ⟨S_, .f32⟩
  | .hbm, ⟨41, _⟩ => ⟨S2048x48, .f32⟩
  | .hbm, ⟨42, _⟩ => ⟨S2048x64, .f32⟩
  | .hbm, ⟨43, _⟩ => ⟨S2048x128, .f32⟩
  | .hbm, ⟨44, _⟩ => ⟨S2048x128, .f32⟩
  | .hbm, ⟨45, _⟩ => ⟨S2048x128, .f32⟩
  | .hbm, ⟨46, _⟩ => ⟨S32768x1024, .bf16⟩
  | .hbm, ⟨47, _⟩ => ⟨S32768x1024, .f32⟩
  | .hbm, ⟨48, _⟩ => ⟨S32768x1024, .f32⟩
  | .hbm, ⟨49, _⟩ => ⟨S32768x1024, .f32⟩
  | .hbm, ⟨50, _⟩ => ⟨S32768x1024, .bf16⟩
  | .hbm, ⟨51, _⟩ => ⟨S32768x1024, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x1024, .bf16⟩
  | .local _ .vmem, ⟨12, _⟩ => ⟨S512x1024, .bf16⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x2048, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_cst_5 : Ref sig .tc := ⟨.hbm, 38, rfl⟩
abbrev main_v29 : Ref sig .tc := ⟨.hbm, 39, rfl⟩
abbrev main_cst_6 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35_0 : Ref sig .tc := ⟨.hbm, 46, rfl⟩
abbrev main_v35_1 : Ref sig .tc := ⟨.hbm, 47, rfl⟩
abbrev main_v35_2 : Ref sig .tc := ⟨.hbm, 48, rfl⟩
abbrev main_v35_3 : Ref sig .tc := ⟨.hbm, 49, rfl⟩
abbrev main_v35_4 : Ref sig .tc := ⟨.hbm, 50, rfl⟩
abbrev main_v35_5 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![64, 4], ![false, false]⟩

def k0_cond2 (i : grid0.Coords) : BitVec 1 :=
  let arg1 : BitVec 32 := BitVec.ofNat 32 (i 1).val
  let c0_i32_4 : BitVec 32 := 0#32
  let v7 : BitVec 1 := Scalar.cmpi .eq arg1 c0_i32_4
  let v8 : BitVec 32 := Scalar.extui v7
  let c0_i32_5 : BitVec 32 := 0#32
  let v9 : BitVec 1 := Scalar.cmpi .ne v8 c0_i32_5
  v9

def k0_cond3 (i : grid0.Coords) : BitVec 1 :=
  let arg1 : BitVec 32 := BitVec.ofNat 32 (i 1).val
  let c1_i32 : BitVec 32 := 1#32
  let v10 : BitVec 1 := Scalar.cmpi .eq arg1 c1_i32
  let v11 : BitVec 32 := Scalar.extui v10
  let c0_i32_6 : BitVec 32 := 0#32
  let v12 : BitVec 1 := Scalar.cmpi .ne v11 c0_i32_6
  v12

def k0_cond4 (i : grid0.Coords) : BitVec 1 :=
  let arg1 : BitVec 32 := BitVec.ofNat 32 (i 1).val
  let c2_i32 : BitVec 32 := 2#32
  let v13 : BitVec 1 := Scalar.cmpi .eq arg1 c2_i32
  let v14 : BitVec 32 := Scalar.extui v13
  let c0_i32_7 : BitVec 32 := 0#32
  let v15 : BitVec 1 := Scalar.cmpi .ne v14 c0_i32_7
  v15

def k0_cond5 (i : grid0.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_8 : BitVec 32 := 0#32
  let v18 : BitVec 1 := Scalar.cmpi .ne v17 c0_i32_8
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== InProjRefIdeal.lean ====
abbrev S16x2048x2048 : Shape := ⟨3, ![16, 2048, 2048]⟩
abbrev S1x2048 : Shape := ⟨2, ![1, 2048]⟩
abbrev S1x2048x4096 : Shape := ⟨3, ![1, 2048, 4096]⟩
abbrev S2048 : Shape := ⟨1, ![2048]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩
abbrev S2048x4096 : Shape := ⟨2, ![2048, 4096]⟩
abbrev S16x2048x4096 : Shape := ⟨3, ![16, 2048, 4096]⟩
abbrev S16x2048x1024 : Shape := ⟨3, ![16, 2048, 1024]⟩
abbrev S16x2048x16x64 : Shape := ⟨4, ![16, 2048, 16, 64]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S2048x1x8 : Shape := ⟨3, ![2048, 1, 8]⟩
abbrev S16x2048x16x16 : Shape := ⟨4, ![16, 2048, 16, 16]⟩
abbrev S16x2048x16x8 : Shape := ⟨4, ![16, 2048, 16, 8]⟩
abbrev S1x2048x1x8 : Shape := ⟨4, ![1, 2048, 1, 8]⟩
abbrev S16x2048x16x48 : Shape := ⟨4, ![16, 2048, 16, 48]⟩
abbrev S32768x1024 : Shape := ⟨2, ![32768, 1024]⟩

abbrev nBuf : Space → Nat
  | .hbm => 129
  | .vmem => 0
  | .smem => 0
  | _ => 0

abbrev hbmTy0_0 (i : Nat) : BufTy := match i % 128 with
  | 0 => ⟨S16x2048x2048, .f32⟩
  | 1 => ⟨S1x2048, .f32⟩
  | 2 => ⟨S1x2048x4096, .f32⟩
  | 3 => ⟨S2048, .i32⟩
  | 4 => ⟨S2048, .f32⟩
  | 5 => ⟨S16x2048x2048, .f32⟩
  | 6 => ⟨S_, .f32⟩
  | 7 => ⟨S16x2048, .f32⟩
  | 8 => ⟨S16x2048x1, .f32⟩
  | 9 => ⟨S_, .f32⟩
  | 10 => ⟨S16x2048x1, .f32⟩
  | 11 => ⟨S16x2048x1, .f32⟩
  | 12 => ⟨S_, .f32⟩
  | 13 => ⟨S16x2048x1, .f32⟩
  | 14 => ⟨S16x2048x1, .f32⟩
  | 15 => ⟨S16x2048x1, .f32⟩
  | 16 => ⟨S16x2048x2048, .f32⟩
  | 17 => ⟨S16x2048x2048, .f32⟩
  | 18 => ⟨S1x1x2048, .f32⟩
  | 19 => ⟨S16x2048x2048, .f32⟩
  | 20 => ⟨S16x2048x2048, .f32⟩
  | 21 => ⟨S2048x4096, .f32⟩
  | 22 => ⟨S16x2048x4096, .f32⟩
  | 23 => ⟨S16x2048x1024, .f32⟩
  | 24 => ⟨S16x2048x16x64, .f32⟩
  | 25 => ⟨S16x2048x1024, .f32⟩
  | 26 => ⟨S16x2048x16x64, .f32⟩
  | 27 => ⟨S16x2048x1024, .f32⟩
  | 28 => ⟨S16x2048x1024, .f32⟩
  | 29 => ⟨S8, .f32⟩
  | 30 => ⟨S_, .f32⟩
  | 31 => ⟨S8, .f32⟩
  | 32 => ⟨S8, .f32⟩
  | 33 => ⟨S_, .f32⟩
  | 34 => ⟨S8, .f32⟩
  | 35 => ⟨S8, .f32⟩
  | 36 => ⟨S_, .f32⟩
  | 37 => ⟨S8, .f32⟩
  | 38 => ⟨S8, .f32⟩
  | 39 => ⟨S8, .f32⟩
  | 40 => ⟨S_, .f32⟩
  | 41 => ⟨S8, .f32⟩
  | 42 => ⟨S8, .f32⟩
  | 43 => ⟨S2048, .f32⟩
  | 44 => ⟨S2048x1, .f32⟩
  | 45 => ⟨S1x8, .f32⟩
  | 46 => ⟨S2048x8, .f32⟩
  | 47 => ⟨S2048x8, .f32⟩
  | 48 => ⟨S2048x8, .f32⟩
  | 49 => ⟨S2048x8, .f32⟩
  | 50 => ⟨S2048x1x8, .f32⟩
  | 51 => ⟨S2048x8, .f32⟩
  | 52 => ⟨S2048x1x8, .f32⟩
  | 53 => ⟨S16x2048x16x16, .f32⟩
  | 54 => ⟨S16x2048x16x8, .f32⟩
  | 55 => ⟨S16x2048x16x8, .f32⟩
  | 56 => ⟨S1x2048x1x8, .f32⟩
  | 57 => ⟨S16x2048x16x8, .f32⟩
  | 58 => ⟨S16x2048x16x8, .f32⟩
  | 59 => ⟨S1x2048x1x8, .f32⟩
  | 60 => ⟨S16x2048x16x8, .f32⟩
  | 61 => ⟨S16x2048x16x8, .f32⟩
  | 62 => ⟨S16x2048x16x8, .f32⟩
  | 63 => ⟨S1x2048x1x8, .f32⟩
  | 64 => ⟨S16x2048x16x8, .f32⟩
  | 65 => ⟨S16x2048x16x8, .f32⟩
  | 66 => ⟨S1x2048x1x8, .f32⟩
  | 67 => ⟨S16x2048x16x8, .f32⟩
  | 68 => ⟨S16x2048x16x8, .f32⟩
  | 69 => ⟨S16x2048x16x8, .f32⟩
  | 70 => ⟨S16x2048x16x16, .f32⟩
  | 71 => ⟨S16x2048x16x48, .f32⟩
  | 72 => ⟨S16x2048x16x64, .f32⟩
  | 73 => ⟨S_, .f32⟩
  | 74 => ⟨S16x2048x16x64, .f32⟩
  | 75 => ⟨S16x2048x16x64, .f32⟩
  | 76 => ⟨S8, .f32⟩
  | 77 => ⟨S_, .f32⟩
  | 78 => ⟨S8, .f32⟩
  | 79 => ⟨S8, .f32⟩
  | 80 => ⟨S_, .f32⟩
  | 81 => ⟨S8, .f32⟩
  | 82 => ⟨S8, .f32⟩
  | 83 => ⟨S_, .f32⟩
  | 84 => ⟨S8, .f32⟩
  | 85 => ⟨S8, .f32⟩
  | 86 => ⟨S8, .f32⟩
  | 87 => ⟨S_, .f32⟩
  | 88 => ⟨S8, .f32⟩
  | 89 => ⟨S8, .f32⟩
  | 90 => ⟨S2048, .f32⟩
  | 91 => ⟨S2048x1, .f32⟩
  | 92 => ⟨S1x8, .f32⟩
  | 93 => ⟨S2048x8, .f32⟩
  | 94 => ⟨S2048x8, .f32⟩
  | 95 => ⟨S2048x8, .f32⟩
  | 96 => ⟨S2048x8, .f32⟩
  | 97 => ⟨S2048x1x8, .f32⟩
  | 98 => ⟨S2048x8, .f32⟩
  | 99 => ⟨S2048x1x8, .f32⟩
  | 100 => ⟨S16x2048x16x16, .f32⟩
  | 101 => ⟨S16x2048x16x8, .f32⟩
  | 102 => ⟨S16x2048x16x8, .f32⟩
  | 103 => ⟨S1x2048x1x8, .f32⟩
  | 104 => ⟨S16x2048x16x8, .f32⟩
  | 105 => ⟨S16x2048x16x8, .f32⟩
  | 106 => ⟨S1x2048x1x8, .f32⟩
  | 107 => ⟨S16x2048x16x8, .f32⟩
  | 108 => ⟨S16x2048x16x8, .f32⟩
  | 109 => ⟨S16x2048x16x8, .f32⟩
  | 110 => ⟨S1x2048x1x8, .f32⟩
  | 111 => ⟨S16x2048x16x8, .f32⟩
  | 112 => ⟨S16x2048x16x8, .f32⟩
  | 113 => ⟨S1x2048x1x8, .f32⟩
  | 114 => ⟨S16x2048x16x8, .f32⟩
  | 115 => ⟨S16x2048x16x8, .f32⟩
  | 116 => ⟨S16x2048x16x8, .f32⟩
  | 117 => ⟨S16x2048x16x16, .f32⟩
  | 118 => ⟨S16x2048x16x48, .f32⟩
  | 119 => ⟨S16x2048x16x64, .f32⟩
  | 120 => ⟨S32768x1024, .f32⟩
  | 121 => ⟨S32768x1024, .bf16⟩
  | 122 => ⟨S32768x1024, .f32⟩
  | 123 => ⟨S32768x1024, .f32⟩
  | 124 => ⟨S32768x1024, .f32⟩
  | 125 => ⟨S32768x1024, .f32⟩
  | 126 => ⟨S32768x1024, .bf16⟩
  | 127 => ⟨S32768x1024, .f32⟩
  | _ => ⟨S16x2048x2048, .f32⟩

abbrev hbmTy0_1 (i : Nat) : BufTy := match i % 128 with
  | 0 => ⟨S32768x1024, .bf16⟩
  | _ => ⟨S16x2048x2048, .f32⟩

abbrev hbmTy (i : Nat) : BufTy := match i / 128 with
  | 0 => hbmTy0_0 i
  | 1 => hbmTy0_1 i
  | _ => ⟨S16x2048x2048, .f32⟩

abbrev bufTy : (tb : Table) → Fin (tcTables nBuf tb) → BufTy
  | .hbm, ⟨i, _⟩ => hbmTy i
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_5 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_cst_6 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_cst_7 : Ref sig .tc := ⟨.hbm, 77, rfl⟩
abbrev main_v66 : Ref sig .tc := ⟨.hbm, 78, rfl⟩
abbrev main_v67 : Ref sig .tc := ⟨.hbm, 79, rfl⟩
abbrev main_cst_8 : Ref sig .tc := ⟨.hbm, 80, rfl⟩
abbrev main_v68 : Ref sig .tc := ⟨.hbm, 81, rfl⟩
abbrev main_v69 : Ref sig .tc := ⟨.hbm, 82, rfl⟩
abbrev main_cst_9 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_cst_10 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩

abbrev nD : Nat := 1
abbrev τ : Topo := Topo.v7x

variable {F : FTy → Type} [FloatOps F]
-- ==== Ple.lean ====
abbrev S32768x2048 : Shape := ⟨2, ![32768, 2048]⟩
abbrev S1x16x2048x256 : Shape := ⟨4, ![1, 16, 2048, 256]⟩
abbrev S1x2048 : Shape := ⟨2, ![1, 2048]⟩
abbrev S1x2048x2048 : Shape := ⟨3, ![1, 2048, 2048]⟩
abbrev S1x256x2048 : Shape := ⟨3, ![1, 256, 2048]⟩
abbrev S2048 : Shape := ⟨1, ![2048]⟩
abbrev S16x2048x256 : Shape := ⟨3, ![16, 2048, 256]⟩
abbrev S32768x256 : Shape := ⟨2, ![32768, 256]⟩
abbrev S2048x2048 : Shape := ⟨2, ![2048, 2048]⟩
abbrev S256x2048 : Shape := ⟨2, ![256, 2048]⟩
abbrev S512x2048 : Shape := ⟨2, ![512, 2048]⟩
abbrev S512x256 : Shape := ⟨2, ![512, 256]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩
abbrev S1x512 : Shape := ⟨2, ![1, 512]⟩
abbrev S256x512 : Shape := ⟨2, ![256, 512]⟩

abbrev nBuf : Space → Nat
  | .hbm => 19
  | .vmem => 11
  | .smem => 0
  | _ => 0

abbrev bufTy : (tb : Table) → Fin (tcTables nBuf tb) → BufTy
  | .hbm, ⟨0, _⟩ => ⟨S32768x2048, .f32⟩
  | .hbm, ⟨1, _⟩ => ⟨S1x16x2048x256, .f32⟩
  | .hbm, ⟨2, _⟩ => ⟨S1x2048, .f32⟩
  | .hbm, ⟨3, _⟩ => ⟨S1x2048x2048, .f32⟩
  | .hbm, ⟨4, _⟩ => ⟨S1x2048, .f32⟩
  | .hbm, ⟨5, _⟩ => ⟨S1x256x2048, .f32⟩
  | .hbm, ⟨6, _⟩ => ⟨S2048, .f32⟩
  | .hbm, ⟨7, _⟩ => ⟨S16x2048x256, .f32⟩
  | .hbm, ⟨8, _⟩ => ⟨S32768x256, .f32⟩
  | .hbm, ⟨9, _⟩ => ⟨S2048, .f32⟩
  | .hbm, ⟨10, _⟩ => ⟨S1x2048, .f32⟩
  | .hbm, ⟨11, _⟩ => ⟨S2048x2048, .f32⟩
  | .hbm, ⟨12, _⟩ => ⟨S2048x2048, .bf16⟩
  | .hbm, ⟨13, _⟩ => ⟨S2048, .f32⟩
  | .hbm, ⟨14, _⟩ => ⟨S1x2048, .f32⟩
  | .hbm, ⟨15, _⟩ => ⟨S256x2048, .f32⟩
  | .hbm, ⟨16, _⟩ => ⟨S256x2048, .bf16⟩
  | .hbm, ⟨17, _⟩ => ⟨S1x2048, .f32⟩
  | .hbm, ⟨18, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x256, .f32⟩
  | .local _ .vmem, ⟨3, _⟩ => ⟨S512x256, .f32⟩
  | .local _ .vmem, ⟨4, _⟩ => ⟨S1x2048, .f32⟩
  | .local _ .vmem, ⟨5, _⟩ => ⟨S2048x2048, .bf16⟩
  | .local _ .vmem, ⟨6, _⟩ => ⟨S1x2048, .f32⟩
  | .local _ .vmem, ⟨7, _⟩ => ⟨S256x2048, .bf16⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== PleRefIdeal.lean ====
abbrev S32768x2048 : Shape := ⟨2, ![32768, 2048]⟩
abbrev S1x16x2048x256 : Shape := ⟨4, ![1, 16, 2048, 256]⟩
abbrev S1x2048 : Shape := ⟨2, ![1, 2048]⟩
abbrev S1x2048x2048 : Shape := ⟨3, ![1, 2048, 2048]⟩
abbrev S1x256x2048 : Shape := ⟨3, ![1, 256, 2048]⟩
abbrev S2048 : Shape := ⟨1, ![2048]⟩
abbrev S16x2048x256 : Shape := ⟨3, ![16, 2048, 256]⟩
abbrev S32768x256 : Shape := ⟨2, ![32768, 256]⟩
abbrev S_ : Shape := ⟨0, ![]⟩
abbrev S32768 : Shape := ⟨1, ![32768]⟩
abbrev S32768x1 : Shape := ⟨2, ![32768, 1]⟩
abbrev S2048x2048 : Shape := ⟨2, ![2048, 2048]⟩
abbrev S256x2048 : Shape := ⟨2, ![256, 2048]⟩

abbrev nBuf : Space → Nat
  | .hbm => 60
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S1x16x2048x256, .f32⟩
  | .hbm, ⟨2, _⟩ => ⟨S1x2048, .f32⟩
  | .hbm, ⟨3, _⟩ => ⟨S1x2048x2048, .f32⟩
  | .hbm, ⟨4, _⟩ => ⟨S1x2048, .f32⟩
  | .hbm, ⟨5, _⟩ => ⟨S1x256x2048, .f32⟩
  | .hbm, ⟨6, _⟩ => ⟨S2048, .f32⟩
  | .hbm, ⟨7, _⟩ => ⟨S16x2048x256, .f32⟩
  | .hbm, ⟨8, _⟩ => ⟨S32768x256, .f32⟩
  | .hbm, ⟨9, _⟩ => ⟨S2048, .f32⟩
  | .hbm, ⟨10, _⟩ => ⟨S32768x2048, .f32⟩
  | .hbm, ⟨11, _⟩ => ⟨S_, .f32⟩
  | .hbm, ⟨12, _⟩ => ⟨S32768, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S32768x1, .f32⟩
  | .hbm, ⟨21, _⟩ => ⟨S32768x2048, .f32⟩
  | .hbm, ⟨22, _⟩ => ⟨S32768x2048, .f32⟩
  | .hbm, ⟨23, _⟩ => ⟨S1x2048, .f32⟩
  | .hbm, ⟨24, _⟩ => ⟨S32768x2048, .f32⟩
  | .hbm, ⟨25, _⟩ => ⟨S32768x2048, .f32⟩
  | .hbm, ⟨26, _⟩ => ⟨S2048x2048, .f32⟩
  | .hbm, ⟨27, _⟩ => ⟨S32768x2048, .f32⟩
  | .hbm, ⟨28, _⟩ => ⟨S2048, .f32⟩
  | .hbm, ⟨29, _⟩ => ⟨S1x2048, .f32⟩
  | .hbm, ⟨30, _⟩ => ⟨S32768x2048, .f32⟩
  | .hbm, ⟨31, _⟩ => ⟨S32768x2048, .f32⟩
  | .hbm, ⟨32, _⟩ => ⟨S32768x2048, .f32⟩
  | .hbm, ⟨33, _⟩ => ⟨S32768x2048, .f32⟩
  | .hbm, ⟨34, _⟩ => ⟨S_, .f32⟩
  | .hbm, ⟨35, _⟩ => ⟨S32768x2048, .f32⟩
  | .hbm, ⟨36, _⟩ => ⟨S32768x2048, .f32⟩
  | .hbm, ⟨37, _⟩ => ⟨S_, .f32⟩
  | .hbm, ⟨38, _⟩ => ⟨S32768x2048, .f32⟩
  | .hbm, ⟨39, _⟩ => ⟨S32768x2048, .f32⟩
  | .hbm, ⟨40, _⟩ => ⟨S256x2048, .f32⟩
  | .hbm, ⟨41, _⟩ => ⟨S32768x2048, .f32⟩
  | .hbm, ⟨42, _⟩ => ⟨S32768x2048, .f32⟩
  | .hbm, ⟨43, _⟩ => ⟨S32768x2048, .f32⟩
  | .hbm, ⟨44, _⟩ => ⟨S32768x2048, .f32⟩
  | .hbm, ⟨45, _⟩ => ⟨S_, .f32⟩
  | .hbm, ⟨46, _⟩ => ⟨S32768, .f32⟩
  | .hbm, ⟨47, _⟩ => ⟨S32768x1, .f32⟩
  | .hbm, ⟨48, _⟩ => ⟨S_, .f32⟩
  | .hbm, ⟨49, _⟩ => ⟨S32768x1, .f32⟩
  | .hbm, ⟨50, _⟩ => ⟨S32768x1, .f32⟩
  | .hbm, ⟨51, _⟩ => ⟨S_, .f32⟩
  | .hbm, ⟨52, _⟩ => ⟨S32768x1, .f32⟩
  | .hbm, ⟨53, _⟩ => ⟨S32768x1, .f32⟩
  | .hbm, ⟨54, _⟩ => ⟨S32768x1, .f32⟩
  | .hbm, ⟨55, _⟩ => ⟨S32768x2048, .f32⟩
  | .hbm, ⟨56, _⟩ => ⟨S32768x2048, .f32⟩
  | .hbm, ⟨57, _⟩ => ⟨S1x2048, .f32⟩
  | .hbm, ⟨58, _⟩ => ⟨S32768x2048, .f32⟩
  | .hbm, ⟨59, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== Step.lean ====
abbrev S32x1024 : Shape := ⟨2, ![32, 1024]⟩
abbrev S1x32x64x64 : Shape := ⟨4, ![1, 32, 64, 64]⟩
abbrev S1x64x64 : Shape := ⟨3, ![1, 64, 64]⟩
abbrev S1x64 : Shape := ⟨2, ![1, 64]⟩
abbrev S1x64x64x16 : Shape := ⟨4, ![1, 64, 64, 16]⟩
abbrev S1x64x16x64 : Shape := ⟨4, ![1, 64, 16, 64]⟩
abbrev S1x64x16 : Shape := ⟨3, ![1, 64, 16]⟩
abbrev S32x64x64 : Shape := ⟨3, ![32, 64, 64]⟩
abbrev S64x64 : Shape := ⟨2, ![64, 64]⟩
abbrev S64 : Shape := ⟨1, ![64]⟩
abbrev S64x64x16 : Shape := ⟨3, ![64, 64, 16]⟩
abbrev S64x16x64 : Shape := ⟨3, ![64, 16, 64]⟩
abbrev S64x16 : Shape := ⟨2, ![64, 16]⟩
abbrev S64x1 : Shape := ⟨2, ![64, 1]⟩
abbrev S_ : Shape := ⟨0, ![]⟩
abbrev S64x64x1 : Shape := ⟨3, ![64, 64, 1]⟩
abbrev S32x64x16 : Shape := ⟨3, ![32, 64, 16]⟩
abbrev S64x32x16 : Shape := ⟨3, ![64, 32, 16]⟩
abbrev S64x32x64 : Shape := ⟨3, ![64, 32, 64]⟩
abbrev S64x1x64 : Shape := ⟨3, ![64, 1, 64]⟩
abbrev S64x1x16 : Shape := ⟨3, ![64, 1, 16]⟩

abbrev nBuf : Space → Nat
  | .hbm => 74
  | .vmem => 13
  | .smem => 0
  | _ => 0

abbrev bufTy : (tb : Table) → Fin (tcTables nBuf tb) → BufTy
  | .hbm, ⟨0, _⟩ => ⟨S32x1024, .f32⟩
  | .hbm, ⟨1, _⟩ => ⟨S1x32x64x64, .f32⟩
  | .hbm, ⟨2, _⟩ => ⟨S1x32x64x64, .f32⟩
  | .hbm, ⟨3, _⟩ => ⟨S1x64x64, .f32⟩
  | .hbm, ⟨4, _⟩ => ⟨S1x64x64, .f32⟩
  | .hbm, ⟨5, _⟩ => ⟨S1x64, .f32⟩
  | .hbm, ⟨6, _⟩ => ⟨S1x64x64x16, .f32⟩
  | .hbm, ⟨7, _⟩ => ⟨S1x64x64x16, .f32⟩
  | .hbm, ⟨8, _⟩ => ⟨S1x64x16x64, .f32⟩
  | .hbm, ⟨9, _⟩ => ⟨S1x64x16x64, .f32⟩
  | .hbm, ⟨10, _⟩ => ⟨S1x64x16, .f32⟩
  | .hbm, ⟨11, _⟩ => ⟨S32x64x64, .f32⟩
  | .hbm, ⟨12, _⟩ => ⟨S32x64x64, .f32⟩
  | .hbm, ⟨13, _⟩ => ⟨S64x64, .f32⟩
  | .hbm, ⟨14, _⟩ => ⟨S64x64, .f32⟩
  | .hbm, ⟨15, _⟩ => ⟨S64, .f32⟩
  | .hbm, ⟨16, _⟩ => ⟨S64x64x16, .f32⟩
  | .hbm, ⟨17, _⟩ => ⟨S64x64x16, .f32⟩
  | .hbm, ⟨18, _⟩ => ⟨S64x16x64, .f32⟩
  | .hbm, ⟨19, _⟩ => ⟨S64x16x64, .f32⟩
  | .hbm, ⟨20, _⟩ => ⟨S64x16, .f32⟩
  | .hbm, ⟨21, _⟩ => ⟨S64, .f32⟩
  | .hbm, ⟨22, _⟩ => ⟨S64x1, .f32⟩
  | .hbm, ⟨23, _⟩ => ⟨S64x64, .f32⟩
  | .hbm, ⟨24, _⟩ => ⟨S64x64, .f32⟩
  | .hbm, ⟨25, _⟩ => ⟨S64x64, .f32⟩
  | .hbm, ⟨26, _⟩ => ⟨S64x64, .f32⟩
  | .hbm, ⟨27, _⟩ => ⟨S64x64, .f32⟩
  | .hbm, ⟨28, _⟩ => ⟨S64x64, .f32⟩
  | .hbm, ⟨29, _⟩ => ⟨S64x64, .f32⟩
  | .hbm, ⟨30, _⟩ => ⟨S64x64, .f32⟩
  | .hbm, ⟨31, _⟩ => ⟨S64x64, .f32⟩
  | .hbm, ⟨32, _⟩ => ⟨S_, .f32⟩
  | .hbm, ⟨33, _⟩ => ⟨S64x64, .f32⟩
  | .hbm, ⟨34, _⟩ => ⟨S64x64, .f32⟩
  | .hbm, ⟨35, _⟩ => ⟨S64x64, .f32⟩
  | .hbm, ⟨36, _⟩ => ⟨S64x64, .f32⟩
  | .hbm, ⟨37, _⟩ => ⟨S64x64, .f32⟩
  | .hbm, ⟨38, _⟩ => ⟨S64x64, .f32⟩
  | .hbm, ⟨39, _⟩ => ⟨S64x64, .f32⟩
  | .hbm, ⟨40, _⟩ => ⟨S64x64, .f32⟩
  | .hbm, ⟨41, _⟩ => ⟨S64x64, .f32⟩
  | .hbm, ⟨42, _⟩ => ⟨S64x64, .f32⟩
  | .hbm, ⟨43, _⟩ => ⟨S64x64, .f32⟩
  | .hbm, ⟨44, _⟩ => ⟨S64x64, .f32⟩
  | .hbm, ⟨45, _⟩ => ⟨S64x64, .f32⟩
  | .hbm, ⟨46, _⟩ => ⟨S64x64x1, .f32⟩
  | .hbm, ⟨47, _⟩ => ⟨S64x64x16, .f32⟩
  | .hbm, ⟨48, _⟩ => ⟨S64x64x16, .f32⟩
  | .hbm, ⟨49, _⟩ => ⟨S64x64x1, .f32⟩
  | .hbm, ⟨50, _⟩ => ⟨S64x64x16, .f32⟩
  | .hbm, ⟨51, _⟩ => ⟨S64x64x16, .f32⟩
  | .hbm, ⟨52, _⟩ => ⟨S64x64x16, .f32⟩
  | .hbm, ⟨53, _⟩ => ⟨S64x64x1, .f32⟩
  | .hbm, ⟨54, _⟩ => ⟨S64x64x16, .f32⟩
  | .hbm, ⟨55, _⟩ => ⟨S64x64x16, .f32⟩
  | .hbm, ⟨56, _⟩ => ⟨S64x64x1, .f32⟩
  | .hbm, ⟨57, _⟩ => ⟨S64x64x16, .f32⟩
  | .hbm, ⟨58, _⟩ => ⟨S64x64x16, .f32⟩
  | .hbm, ⟨59, _⟩ => ⟨S64x64x16, .f32⟩
  | .hbm, ⟨60, _⟩ => ⟨S32x64x16, .f32⟩
  | .hbm, ⟨61, _⟩ => ⟨S64x32x16, .f32⟩
  | .hbm, ⟨62, _⟩ => ⟨S64x32x64, .f32⟩
  | .hbm, ⟨63, _⟩ => ⟨S64x32x64, .f32⟩
  | .hbm, ⟨64, _⟩ => ⟨S64x1x64, .f32⟩
  | .hbm, ⟨65, _⟩ => ⟨S64x1x64, .f32⟩
  | .hbm, ⟨66, _⟩ => ⟨S64x16x64, .f32⟩
  | .hbm, ⟨67, _⟩ => ⟨S64x16x64, .f32⟩
  | .hbm, ⟨68, _⟩ => ⟨S64x64x16, .f32⟩
  | .hbm, ⟨69, _⟩ => ⟨S64x64x16, .f32⟩
  | .hbm, ⟨70, _⟩ => ⟨S64x1x16, .f32⟩
  | .hbm, ⟨71, _⟩ => ⟨S32x64x16, .f32⟩
  | .hbm, ⟨72, _⟩ => ⟨S32x64x64, .f32⟩
  | .hbm, ⟨73, _⟩ => ⟨S32x64x64, .f32⟩
  | .local _ .vmem, ⟨0, _⟩ => ⟨S64x32x16, .f32⟩
  | .local _ .vmem, ⟨1, _⟩ => ⟨S64x32x64, .f32⟩
  | .local _ .vmem, ⟨2, _⟩ => ⟨S64x32x64, .f32⟩
  | .local _ .vmem, ⟨3, _⟩ => ⟨S64x1x64, .f32⟩
  | .local _ .vmem, ⟨4, _⟩ => ⟨S64x1x64, .f32⟩
  | .local _ .vmem, ⟨5, _⟩ => ⟨S64x16x64, .f32⟩
  | .local _ .vmem, ⟨6, _⟩ => ⟨S64x16x64, .f32⟩
  | .local _ .vmem, ⟨7, _⟩ => ⟨S64x64x16, .f32⟩
  | .local _ .vmem, ⟨8, _⟩ => ⟨S64x64x16, .f32⟩
  | .local _ .vmem, ⟨9, _⟩ => ⟨S64x1x16, .f32⟩
  | .local _ .vmem, ⟨10, _⟩ => ⟨S32x64x16, .f32⟩
  | .local _ .vmem, ⟨11, _⟩ => ⟨S32x64x64, .f32⟩
  | .local _ .vmem, ⟨12, _⟩ => ⟨S32x64x64, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59_0 : Ref sig .tc := ⟨.hbm, 71, rfl⟩
abbrev main_v59_1 : Ref sig .tc := ⟨.hbm, 72, rfl⟩
abbrev main_v59_2 : Ref sig .tc := ⟨.hbm, 73, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S64x32x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x16x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x16x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x64x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x64x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x1x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x64x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S32x64x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S32x64x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== StepRefIdeal.lean ====
abbrev S32x1024 : Shape := ⟨2, ![32, 1024]⟩
abbrev S1x32x64x64 : Shape := ⟨4, ![1, 32, 64, 64]⟩
abbrev S1x64x64 : Shape := ⟨3, ![1, 64, 64]⟩
abbrev S1x64 : Shape := ⟨2, ![1, 64]⟩
abbrev S1x64x64x16 : Shape := ⟨4, ![1, 64, 64, 16]⟩
abbrev S1x64x16x64 : Shape := ⟨4, ![1, 64, 16, 64]⟩
abbrev S1x64x16 : Shape := ⟨3, ![1, 64, 16]⟩
abbrev S64x64 : Shape := ⟨2, ![64, 64]⟩
abbrev S64 : Shape := ⟨1, ![64]⟩
abbrev S64x64x16 : Shape := ⟨3, ![64, 64, 16]⟩
abbrev S64x1 : Shape := ⟨2, ![64, 1]⟩
abbrev S_ : Shape := ⟨0, ![]⟩
abbrev S64x64x1 : Shape := ⟨3, ![64, 64, 1]⟩
abbrev S32x1x1024 : Shape := ⟨3, ![32, 1, 1024]⟩
abbrev S64x16x64 : Shape := ⟨3, ![64, 16, 64]⟩
abbrev S64x16 : Shape := ⟨2, ![64, 16]⟩
abbrev S32x64x64 : Shape := ⟨3, ![32, 64, 64]⟩
abbrev S32x1x64x16 : Shape := ⟨4, ![32, 1, 64, 16]⟩
abbrev S64x64x32x1 : Shape := ⟨4, ![64, 64, 32, 1]⟩
abbrev S32x1x64x64 : Shape := ⟨4, ![32, 1, 64, 64]⟩
abbrev S1x1x64x64 : Shape := ⟨4, ![1, 1, 64, 64]⟩
abbrev S64x16x32x1 : Shape := ⟨4, ![64, 16, 32, 1]⟩
abbrev S1x1x64x16 : Shape := ⟨4, ![1, 1, 64, 16]⟩
abbrev S32x64x16 : Shape := ⟨3, ![32, 64, 16]⟩

abbrev nBuf : Space → Nat
  | .hbm => 97
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1x32x64x64, .f32⟩
  | .hbm, ⟨2, _⟩ => ⟨S1x32x64x64, .f32⟩
  | .hbm, ⟨3, _⟩ => ⟨S1x64x64, .f32⟩
  | .hbm, ⟨4, _⟩ => ⟨S1x64x64, .f32⟩
  | .hbm, ⟨5, _⟩ => ⟨S1x64, .f32⟩
  | .hbm, ⟨6, _⟩ => ⟨S1x64x64x16, .f32⟩
  | .hbm, ⟨7, _⟩ => ⟨S1x64x64x16, .f32⟩
  | .hbm, ⟨8, _⟩ => ⟨S1x64x16x64, .f32⟩
  | .hbm, ⟨9, _⟩ => ⟨S1x64x16x64, .f32⟩
  | .hbm, ⟨10, _⟩ => ⟨S1x64x16, .f32⟩
  | .hbm, ⟨11, _⟩ => ⟨S64x64, .f32⟩
  | .hbm, ⟨12, _⟩ => ⟨S64x64, .f32⟩
  | .hbm, ⟨13, _⟩ => ⟨S64, .f32⟩
  | .hbm, ⟨14, _⟩ => ⟨S64x64x16, .f32⟩
  | .hbm, ⟨15, _⟩ => ⟨S64x64x16, .f32⟩
  | .hbm, ⟨16, _⟩ => ⟨S64, .f32⟩
  | .hbm, ⟨17, _⟩ => ⟨S64x1, .f32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S64x64, .f32⟩
  | .hbm, ⟨22, _⟩ => ⟨S64x64, .f32⟩
  | .hbm, ⟨23, _⟩ => ⟨S64x64, .f32⟩
  | .hbm, ⟨24, _⟩ => ⟨S64x64, .f32⟩
  | .hbm, ⟨25, _⟩ => ⟨S64x64, .f32⟩
  | .hbm, ⟨26, _⟩ => ⟨S64x64, .f32⟩
  | .hbm, ⟨27, _⟩ => ⟨S64x64, .f32⟩
  | .hbm, ⟨28, _⟩ => ⟨S64x64, .f32⟩
  | .hbm, ⟨29, _⟩ => ⟨S_, .f32⟩
  | .hbm, ⟨30, _⟩ => ⟨S64x64, .f32⟩
  | .hbm, ⟨31, _⟩ => ⟨S64x64, .f32⟩
  | .hbm, ⟨32, _⟩ => ⟨S64x64, .f32⟩
  | .hbm, ⟨33, _⟩ => ⟨S64x64, .f32⟩
  | .hbm, ⟨34, _⟩ => ⟨S64x64, .f32⟩
  | .hbm, ⟨35, _⟩ => ⟨S64x64, .f32⟩
  | .hbm, ⟨36, _⟩ => ⟨S64x64, .f32⟩
  | .hbm, ⟨37, _⟩ => ⟨S64x64, .f32⟩
  | .hbm, ⟨38, _⟩ => ⟨S64x64, .f32⟩
  | .hbm, ⟨39, _⟩ => ⟨S64x64, .f32⟩
  | .hbm, ⟨40, _⟩ => ⟨S64x64, .f32⟩
  | .hbm, ⟨41, _⟩ => ⟨S64x64, .f32⟩
  | .hbm, ⟨42, _⟩ => ⟨S64x64, .f32⟩
  | .hbm, ⟨43, _⟩ => ⟨S64x64x1, .f32⟩
  | .hbm, ⟨44, _⟩ => ⟨S64x64x16, .f32⟩
  | .hbm, ⟨45, _⟩ => ⟨S64x64x16, .f32⟩
  | .hbm, ⟨46, _⟩ => ⟨S64x64x1, .f32⟩
  | .hbm, ⟨47, _⟩ => ⟨S64x64x16, .f32⟩
  | .hbm, ⟨48, _⟩ => ⟨S64x64x16, .f32⟩
  | .hbm, ⟨49, _⟩ => ⟨S64x64x16, .f32⟩
  | .hbm, ⟨50, _⟩ => ⟨S64x64x1, .f32⟩
  | .hbm, ⟨51, _⟩ => ⟨S64x64x16, .f32⟩
  | .hbm, ⟨52, _⟩ => ⟨S64x64x16, .f32⟩
  | .hbm, ⟨53, _⟩ => ⟨S64x64x1, .f32⟩
  | .hbm, ⟨54, _⟩ => ⟨S64x64x16, .f32⟩
  | .hbm, ⟨55, _⟩ => ⟨S64x64x16, .f32⟩
  | .hbm, ⟨56, _⟩ => ⟨S64x64x16, .f32⟩
  | .hbm, ⟨57, _⟩ => ⟨S32x1x1024, .f32⟩
  | .hbm, ⟨58, _⟩ => ⟨S64x16x64, .f32⟩
  | .hbm, ⟨59, _⟩ => ⟨S64x16x64, .f32⟩
  | .hbm, ⟨60, _⟩ => ⟨S64x16, .f32⟩
  | .hbm, ⟨61, _⟩ => ⟨S32x64x64, .f32⟩
  | .hbm, ⟨62, _⟩ => ⟨S32x64x64, .f32⟩
  | .hbm, ⟨63, _⟩ => ⟨S32x1x64x16, .f32⟩
  | .hbm, ⟨64, _⟩ => ⟨S64x64x32x1, .f32⟩
  | .hbm, ⟨65, _⟩ => ⟨S32x1x64x64, .f32⟩
  | .hbm, ⟨66, _⟩ => ⟨S64x64x32x1, .f32⟩
  | .hbm, ⟨67, _⟩ => ⟨S32x1x64x64, .f32⟩
  | .hbm, ⟨68, _⟩ => ⟨S1x1x64x64, .f32⟩
  | .hbm, ⟨69, _⟩ => ⟨S1x1x64x64, .f32⟩
  | .hbm, ⟨70, _⟩ => ⟨S32x1x64x64, .f32⟩
  | .hbm, ⟨71, _⟩ => ⟨S32x1x64x64, .f32⟩
  | .hbm, ⟨72, _⟩ => ⟨S32x1x64x64, .f32⟩
  | .hbm, ⟨73, _⟩ => ⟨S32x1x64x64, .f32⟩
  | .hbm, ⟨74, _⟩ => ⟨S32x1x64x64, .f32⟩
  | .hbm, ⟨75, _⟩ => ⟨S32x1x64x64, .f32⟩
  | .hbm, ⟨76, _⟩ => ⟨S32x1x64x64, .f32⟩
  | .hbm, ⟨77, _⟩ => ⟨S32x1x64x64, .f32⟩
  | .hbm, ⟨78, _⟩ => ⟨S32x1x64x64, .f32⟩
  | .hbm, ⟨79, _⟩ => ⟨S32x1x64x64, .f32⟩
  | .hbm, ⟨80, _⟩ => ⟨S32x1x64x64, .f32⟩
  | .hbm, ⟨81, _⟩ => ⟨S32x1x64x64, .f32⟩
  | .hbm, ⟨82, _⟩ => ⟨S32x1x64x64, .f32⟩
  | .hbm, ⟨83, _⟩ => ⟨S32x1x64x64, .f32⟩
  | .hbm, ⟨84, _⟩ => ⟨S64x16x32x1, .f32⟩
  | .hbm, ⟨85, _⟩ => ⟨S32x1x64x16, .f32⟩
  | .hbm, ⟨86, _⟩ => ⟨S64x16x32x1, .f32⟩
  | .hbm, ⟨87, _⟩ => ⟨S32x1x64x16, .f32⟩
  | .hbm, ⟨88, _⟩ => ⟨S32x1x64x16, .f32⟩
  | .hbm, ⟨89, _⟩ => ⟨S1x1x64x16, .f32⟩
  | .hbm, ⟨90, _⟩ => ⟨S32x1x64x16, .f32⟩
  | .hbm, ⟨91, _⟩ => ⟨S32x1x64x16, .f32⟩
  | .hbm, ⟨92, _⟩ => ⟨S32x1x64x16, .f32⟩
  | .hbm, ⟨93, _⟩ => ⟨S32x1x1024, .f32⟩
  | .hbm, ⟨94, _⟩ => ⟨S32x64x64, .f32⟩
  | .hbm, ⟨95, _⟩ => ⟨S32x64x64, .f32⟩
  | .hbm, ⟨96, _⟩ => ⟨S32x64x16, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩

abbrev nD : Nat := 1
abbrev τ : Topo := Topo.v7x

variable {F : FTy → Type} [FloatOps F]
-- ==== InProjSample.lean ====
abbrev S32x1x2048 : Shape := ⟨3, ![32, 1, 2048]⟩
abbrev S1x2048 : Shape := ⟨2, ![1, 2048]⟩
abbrev S1x2048x4096 : Shape := ⟨3, ![1, 2048, 4096]⟩
abbrev S_ : Shape := ⟨0, ![]⟩
abbrev S32 : Shape := ⟨1, ![32]⟩
abbrev S32x2048 : Shape := ⟨2, ![32, 2048]⟩
abbrev S2048 : Shape := ⟨1, ![2048]⟩
abbrev S2048x4096 : Shape := ⟨2, ![2048, 4096]⟩
abbrev S8 : Shape := ⟨1, ![8]⟩
abbrev S32x1 : Shape := ⟨2, ![32, 1]⟩
abbrev S1x8 : Shape := ⟨2, ![1, 8]⟩
abbrev S32x8 : Shape := ⟨2, ![32, 8]⟩
abbrev S32x48 : Shape := ⟨2, ![32, 48]⟩
abbrev S32x64 : Shape := ⟨2, ![32, 64]⟩
abbrev S32x56 : Shape := ⟨2, ![32, 56]⟩
abbrev S32x128 : Shape := ⟨2, ![32, 128]⟩
abbrev S32x1024 : Shape := ⟨2, ![32, 1024]⟩
abbrev S2048x1024 : Shape := ⟨2, ![2048, 1024]⟩

abbrev nBuf : Space → Nat
  | .hbm => 53
  | .vmem => 14
  | .smem => 0
  | _ => 0

abbrev bufTy : (tb : Table) → Fin (tcTables nBuf tb) → BufTy
  | .hbm, ⟨0, _⟩ => ⟨S32x1x2048, .f32⟩
  | .hbm, ⟨1, _⟩ => ⟨S1x2048, .f32⟩
  | .hbm, ⟨2, _⟩ => ⟨S1x2048x4096, .f32⟩
  | .hbm, ⟨3, _⟩ => ⟨S_, .i32⟩
  | .hbm, ⟨4, _⟩ => ⟨S32, .i32⟩
  | .hbm, ⟨5, _⟩ => ⟨S32x2048, .f32⟩
  | .hbm, ⟨6, _⟩ => ⟨S2048, .f32⟩
  | .hbm, ⟨7, _⟩ => ⟨S1x2048, .f32⟩
  | .hbm, ⟨8, _⟩ => ⟨S2048x4096, .f32⟩
  | .hbm, ⟨9, _⟩ => ⟨S2048x4096, .bf16⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S8, .f32⟩
  | .hbm, ⟨21, _⟩ => ⟨S_, .f32⟩
  | .hbm, ⟨22, _⟩ => ⟨S8, .f32⟩
  | .hbm, ⟨23, _⟩ => ⟨S8, .f32⟩
  | .hbm, ⟨24, _⟩ => ⟨S32, .f32⟩
  | .hbm, ⟨25, _⟩ => ⟨S32x1, .f32⟩
  | .hbm, ⟨26, _⟩ => ⟨S1x8, .f32⟩
  | .hbm, ⟨27, _⟩ => ⟨S32x8, .f32⟩
  | .hbm, ⟨28, _⟩ => ⟨S32x8, .f32⟩
  | .hbm, ⟨29, _⟩ => ⟨S32x8, .f32⟩
  | .hbm, ⟨30, _⟩ => ⟨S32x8, .f32⟩
  | .hbm, ⟨31, _⟩ => ⟨S32x8, .f32⟩
  | .hbm, ⟨32, _⟩ => ⟨S_, .f32⟩
  | .hbm, ⟨33, _⟩ => ⟨S32x48, .f32⟩
  | .hbm, ⟨34, _⟩ => ⟨S32x64, .f32⟩
  | .hbm, ⟨35, _⟩ => ⟨S32x8, .f32⟩
  | .hbm, ⟨36, _⟩ => ⟨S_, .f32⟩
  | .hbm, ⟨37, _⟩ => ⟨S32x56, .f32⟩
  | .hbm, ⟨38, _⟩ => ⟨S32x64, .f32⟩
  | .hbm, ⟨39, _⟩ => ⟨S_, .f32⟩
  | .hbm, ⟨40, _⟩ => ⟨S32x8, .f32⟩
  | .hbm, ⟨41, _⟩ => ⟨S_, .f32⟩
  | .hbm, ⟨42, _⟩ => ⟨S32x48, .f32⟩
  | .hbm, ⟨43, _⟩ => ⟨S32x64, .f32⟩
  | .hbm, ⟨44, _⟩ => ⟨S32x128, .f32⟩
  | .hbm, ⟨45, _⟩ => ⟨S32x128, .f32⟩
  | .hbm, ⟨46, _⟩ => ⟨S32x128, .f32⟩
  | .hbm, ⟨47, _⟩ => ⟨S32x1024, .bf16⟩
  | .hbm, ⟨48, _⟩ => ⟨S32x1024, .f32⟩
  | .hbm, ⟨49, _⟩ => ⟨S32x1024, .f32⟩
  | .hbm, ⟨50, _⟩ => ⟨S32x1024, .f32⟩
  | .hbm, ⟨51, _⟩ => ⟨S32x1024, .bf16⟩
  | .hbm, ⟨52, _⟩ => ⟨S32x1024, .bf16⟩
  | .local _ .vmem, ⟨0, _⟩ => ⟨S32x2048, .f32⟩
  | .local _ .vmem, ⟨1, _⟩ => ⟨S1x2048, .f32⟩
  | .local _ .vmem, ⟨2, _⟩ => ⟨S2048x1024, .bf16⟩
  | .local _ .vmem, ⟨3, _⟩ => ⟨S2048x1024, .bf16⟩
  | .local _ .vmem, ⟨4, _⟩ => ⟨S32x128, .f32⟩
  | .local _ .vmem, ⟨5, _⟩ => ⟨S32x128, .f32⟩
  | .local _ .vmem, ⟨6, _⟩ => ⟨S32x128, .f32⟩
  | .local _ .vmem, ⟨7, _⟩ => ⟨S32x1024, .bf16⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S32x1024, .bf16⟩
  | .local _ .vmem, ⟨12, _⟩ => ⟨S32x1024, .bf16⟩
  | .local _ .vmem, ⟨13, _⟩ => ⟨S32x2048, .bf16⟩
  | _, _ => ⟨S32x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35_0 : Ref sig .tc := ⟨.hbm, 47, rfl⟩
abbrev main_v35_1 : Ref sig .tc := ⟨.hbm, 48, rfl⟩
abbrev main_v35_2 : Ref sig .tc := ⟨.hbm, 49, rfl⟩
abbrev main_v35_3 : Ref sig .tc := ⟨.hbm, 50, rfl⟩
abbrev main_v35_4 : Ref sig .tc := ⟨.hbm, 51, rfl⟩
abbrev main_v35_5 : Ref sig .tc := ⟨.hbm, 52, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_scratch0 : Ref sig .tc := ⟨.vmem, 13, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c0_i32_4 : BitVec 32 := 0#32
  let v7 : BitVec 1 := Scalar.cmpi .eq arg1 c0_i32_4
  let v8 : BitVec 32 := Scalar.extui v7
  let c0_i32_5 : BitVec 32 := 0#32
  let v9 : BitVec 1 := Scalar.cmpi .ne v8 c0_i32_5
  v9

def k0_cond3 (i : grid0.Coords) : BitVec 1 :=
  let arg1 : BitVec 32 := BitVec.ofNat 32 (i 1).val
  let c1_i32 : BitVec 32 := 1#32
  let v10 : BitVec 1 := Scalar.cmpi .eq arg1 c1_i32
  let v11 : BitVec 32 := Scalar.extui v10
  let c0_i32_6 : BitVec 32 := 0#32
  let v12 : BitVec 1 := Scalar.cmpi .ne v11 c0_i32_6
  v12

def k0_cond4 (i : grid0.Coords) : BitVec 1 :=
  let arg1 : BitVec 32 := BitVec.ofNat 32 (i 1).val
  let c2_i32 : BitVec 32 := 2#32
  let v13 : BitVec 1 := Scalar.cmpi .eq arg1 c2_i32
  let v14 : BitVec 32 := Scalar.extui v13
  let c0_i32_7 : BitVec 32 := 0#32
  let v15 : BitVec 1 := Scalar.cmpi .ne v14 c0_i32_7
  v15

def k0_cond5 (i : grid0.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_8 : BitVec 32 := 0#32
  let v18 : BitVec 1 := Scalar.cmpi .ne v17 c0_i32_8
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S32x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S32x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S32x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S32x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]

abbrev stage0_10 : Fin 1 → Memref sig .tc .vmem S32x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]

abbrev stage0_11 : Fin 1 → Memref sig .tc .vmem S32x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false]
-- ==== InProjSampleRefIdeal.lean ====
abbrev S32x1x2048 : Shape := ⟨3, ![32, 1, 2048]⟩
abbrev S1x2048 : Shape := ⟨2, ![1, 2048]⟩
abbrev S1x2048x4096 : Shape := ⟨3, ![1, 2048, 4096]⟩
abbrev S1 : Shape := ⟨1, ![1]⟩
abbrev S_ : Shape := ⟨0, ![]⟩
abbrev S2048 : Shape := ⟨1, ![2048]⟩
abbrev S32x1 : Shape := ⟨2, ![32, 1]⟩
abbrev S32x1x1 : Shape := ⟨3, ![32, 1, 1]⟩
abbrev S1x1x2048 : Shape := ⟨3, ![1, 1, 2048]⟩
abbrev S2048x4096 : Shape := ⟨2, ![2048, 4096]⟩
abbrev S32x1x4096 : Shape := ⟨3, ![32, 1, 4096]⟩
abbrev S32x1x1024 : Shape := ⟨3, ![32, 1, 1024]⟩
abbrev S32x1x16x64 : Shape := ⟨4, ![32, 1, 16, 64]⟩
abbrev S8 : Shape := ⟨1, ![8]⟩
abbrev S1x1 : Shape := ⟨2, ![1, 1]⟩
abbrev S1x8 : Shape := ⟨2, ![1, 8]⟩
abbrev S1x1x8 : Shape := ⟨3, ![1, 1, 8]⟩
abbrev S32x1x16x16 : Shape := ⟨4, ![32, 1, 16, 16]⟩
abbrev S32x1x16x8 : Shape := ⟨4, ![32, 1, 16, 8]⟩
abbrev S1x1x1x8 : Shape := ⟨4, ![1, 1, 1, 8]⟩
abbrev S32x1x16x48 : Shape := ⟨4, ![32, 1, 16, 48]⟩
abbrev S32x1024 : Shape := ⟨2, ![32, 1024]⟩

abbrev nBuf : Space → Nat
  | .hbm => 130
  | .vmem => 0
  | .smem => 0
  | _ => 0

abbrev hbmTy0_0 (i : Nat) : BufTy := match i % 128 with
  | 0 => ⟨S32x1x2048, .f32⟩
  | 1 => ⟨S1x2048, .f32⟩
  | 2 => ⟨S1x2048x4096, .f32⟩
  | 3 => ⟨S1, .i32⟩
  | 4 => ⟨S_, .i32⟩
  | 5 => ⟨S1, .i32⟩
  | 6 => ⟨S1, .i32⟩
  | 7 => ⟨S2048, .f32⟩
  | 8 => ⟨S32x1x2048, .f32⟩
  | 9 => ⟨S_, .f32⟩
  | 10 => ⟨S32x1, .f32⟩
  | 11 => ⟨S32x1x1, .f32⟩
  | 12 => ⟨S_, .f32⟩
  | 13 => ⟨S32x1x1, .f32⟩
  | 14 => ⟨S32x1x1, .f32⟩
  | 15 => ⟨S_, .f32⟩
  | 16 => ⟨S32x1x1, .f32⟩
  | 17 => ⟨S32x1x1, .f32⟩
  | 18 => ⟨S32x1x1, .f32⟩
  | 19 => ⟨S32x1x2048, .f32⟩
  | 20 => ⟨S32x1x2048, .f32⟩
  | 21 => ⟨S1x1x2048, .f32⟩
  | 22 => ⟨S32x1x2048, .f32⟩
  | 23 => ⟨S32x1x2048, .f32⟩
  | 24 => ⟨S2048x4096, .f32⟩
  | 25 => ⟨S32x1x4096, .f32⟩
  | 26 => ⟨S32x1x1024, .f32⟩
  | 27 => ⟨S32x1x16x64, .f32⟩
  | 28 => ⟨S32x1x1024, .f32⟩
  | 29 => ⟨S32x1x16x64, .f32⟩
  | 30 => ⟨S32x1x1024, .f32⟩
  | 31 => ⟨S32x1x1024, .f32⟩
  | 32 => ⟨S8, .f32⟩
  | 33 => ⟨S_, .f32⟩
  | 34 => ⟨S8, .f32⟩
  | 35 => ⟨S8, .f32⟩
  | 36 => ⟨S_, .f32⟩
  | 37 => ⟨S8, .f32⟩
  | 38 => ⟨S8, .f32⟩
  | 39 => ⟨S_, .f32⟩
  | 40 => ⟨S8, .f32⟩
  | 41 => ⟨S8, .f32⟩
  | 42 => ⟨S8, .f32⟩
  | 43 => ⟨S_, .f32⟩
  | 44 => ⟨S8, .f32⟩
  | 45 => ⟨S8, .f32⟩
  | 46 => ⟨S1, .f32⟩
  | 47 => ⟨S1x1, .f32⟩
  | 48 => ⟨S1x8, .f32⟩
  | 49 => ⟨S1x8, .f32⟩
  | 50 => ⟨S1x8, .f32⟩
  | 51 => ⟨S1x8, .f32⟩
  | 52 => ⟨S1x1x8, .f32⟩
  | 53 => ⟨S1x8, .f32⟩
  | 54 => ⟨S1x1x8, .f32⟩
  | 55 => ⟨S32x1x16x16, .f32⟩
  | 56 => ⟨S32x1x16x8, .f32⟩
  | 57 => ⟨S32x1x16x8, .f32⟩
  | 58 => ⟨S1x1x1x8, .f32⟩
  | 59 => ⟨S32x1x16x8, .f32⟩
  | 60 => ⟨S32x1x16x8, .f32⟩
  | 61 => ⟨S1x1x1x8, .f32⟩
  | 62 => ⟨S32x1x16x8, .f32⟩
  | 63 => ⟨S32x1x16x8, .f32⟩
  | 64 => ⟨S32x1x16x8, .f32⟩
  | 65 => ⟨S1x1x1x8, .f32⟩
  | 66 => ⟨S32x1x16x8, .f32⟩
  | 67 => ⟨S32x1x16x8, .f32⟩
  | 68 => ⟨S1x1x1x8, .f32⟩
  | 69 => ⟨S32x1x16x8, .f32⟩
  | 70 => ⟨S32x1x16x8, .f32⟩
  | 71 => ⟨S32x1x16x8, .f32⟩
  | 72 => ⟨S32x1x16x16, .f32⟩
  | 73 => ⟨S32x1x16x48, .f32⟩
  | 74 => ⟨S32x1x16x64, .f32⟩
  | 75 => ⟨S_, .f32⟩
  | 76 => ⟨S32x1x16x64, .f32⟩
  | 77 => ⟨S32x1x16x64, .f32⟩
  | 78 => ⟨S8, .f32⟩
  | 79 => ⟨S_, .f32⟩
  | 80 => ⟨S8, .f32⟩
  | 81 => ⟨S8, .f32⟩
  | 82 => ⟨S_, .f32⟩
  | 83 => ⟨S8, .f32⟩
  | 84 => ⟨S8, .f32⟩
  | 85 => ⟨S_, .f32⟩
  | 86 => ⟨S8, .f32⟩
  | 87 => ⟨S8, .f32⟩
  | 88 => ⟨S8, .f32⟩
  | 89 => ⟨S_, .f32⟩
  | 90 => ⟨S8, .f32⟩
  | 91 => ⟨S8, .f32⟩
  | 92 => ⟨S1, .f32⟩
  | 93 => ⟨S1x1, .f32⟩
  | 94 => ⟨S1x8, .f32⟩
  | 95 => ⟨S1x8, .f32⟩
  | 96 => ⟨S1x8, .f32⟩
  | 97 => ⟨S1x8, .f32⟩
  | 98 => ⟨S1x1x8, .f32⟩
  | 99 => ⟨S1x8, .f32⟩
  | 100 => ⟨S1x1x8, .f32⟩
  | 101 => ⟨S32x1x16x16, .f32⟩
  | 102 => ⟨S32x1x16x8, .f32⟩
  | 103 => ⟨S32x1x16x8, .f32⟩
  | 104 => ⟨S1x1x1x8, .f32⟩
  | 105 => ⟨S32x1x16x8, .f32⟩
  | 106 => ⟨S32x1x16x8, .f32⟩
  | 107 => ⟨S1x1x1x8, .f32⟩
  | 108 => ⟨S32x1x16x8, .f32⟩
  | 109 => ⟨S32x1x16x8, .f32⟩
  | 110 => ⟨S32x1x16x8, .f32⟩
  | 111 => ⟨S1x1x1x8, .f32⟩
  | 112 => ⟨S32x1x16x8, .f32⟩
  | 113 => ⟨S32x1x16x8, .f32⟩
  | 114 => ⟨S1x1x1x8, .f32⟩
  | 115 => ⟨S32x1x16x8, .f32⟩
  | 116 => ⟨S32x1x16x8, .f32⟩
  | 117 => ⟨S32x1x16x8, .f32⟩
  | 118 => ⟨S32x1x16x16, .f32⟩
  | 119 => ⟨S32x1x16x48, .f32⟩
  | 120 => ⟨S32x1x16x64, .f32⟩
  | 121 => ⟨S32x1024, .f32⟩
  | 122 => ⟨S32x1024, .bf16⟩
  | 123 => ⟨S32x1024, .f32⟩
  | 124 => ⟨S32x1024, .f32⟩
  | 125 => ⟨S32x1024, .f32⟩
  | 126 => ⟨S32x1024, .f32⟩
  | 127 => ⟨S32x1024, .bf16⟩
  | _ => ⟨S32x1x2048, .f32⟩

abbrev hbmTy0_1 (i : Nat) : BufTy := match i % 128 with
  | 0 => ⟨S32x1024, .f32⟩
  | 1 => ⟨S32x1024, .bf16⟩
  | _ => ⟨S32x1x2048, .f32⟩

abbrev hbmTy (i : Nat) : BufTy := match i / 128 with
  | 0 => hbmTy0_0 i
  | 1 => hbmTy0_1 i
  | _ => ⟨S32x1x2048, .f32⟩

abbrev bufTy : (tb : Table) → Fin (tcTables nBuf tb) → BufTy
  | .hbm, ⟨i, _⟩ => hbmTy i
  | _, _ => ⟨S32x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_cst_4 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_cst_6 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_cst_7 : Ref sig .tc := ⟨.hbm, 79, rfl⟩
abbrev main_v67 : Ref sig .tc := ⟨.hbm, 80, rfl⟩
abbrev main_v68 : Ref sig .tc := ⟨.hbm, 81, rfl⟩
abbrev main_cst_8 : Ref sig .tc := ⟨.hbm, 82, rfl⟩
abbrev main_v69 : Ref sig .tc := ⟨.hbm, 83, rfl⟩
abbrev main_v70 : Ref sig .tc := ⟨.hbm, 84, rfl⟩
abbrev main_cst_9 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_cst_10 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩

abbrev nD : Nat := 1
abbrev τ : Topo := Topo.v7x

variable {F : FTy → Type} [FloatOps F]
-- ==== PleSample.lean ====
abbrev S32x2048 : Shape := ⟨2, ![32, 2048]⟩
abbrev S1x32x1x256 : Shape := ⟨4, ![1, 32, 1, 256]⟩
abbrev S1x2048 : Shape := ⟨2, ![1, 2048]⟩
abbrev S1x2048x2048 : Shape := ⟨3, ![1, 2048, 2048]⟩
abbrev S1x256x2048 : Shape := ⟨3, ![1, 256, 2048]⟩
abbrev S2048 : Shape := ⟨1, ![2048]⟩
abbrev S32x1x256 : Shape := ⟨3, ![32, 1, 256]⟩
abbrev S32x256 : Shape := ⟨2, ![32, 256]⟩
abbrev S2048x2048 : Shape := ⟨2, ![2048, 2048]⟩
abbrev S256x2048 : Shape := ⟨2, ![256, 2048]⟩
abbrev S32 : Shape := ⟨1, ![32]⟩
abbrev S32x1 : Shape := ⟨2, ![32, 1]⟩
abbrev S2048x512 : Shape := ⟨2, ![2048, 512]⟩
abbrev S32x512 : Shape := ⟨2, ![32, 512]⟩
abbrev S1x512 : Shape := ⟨2, ![1, 512]⟩
abbrev S256x512 : Shape := ⟨2, ![256, 512]⟩

abbrev nBuf : Space → Nat
  | .hbm => 19
  | .vmem => 8
  | .smem => 0
  | _ => 0

abbrev bufTy : (tb : Table) → Fin (tcTables nBuf tb) → BufTy
  | .hbm, ⟨0, _⟩ => ⟨S32x2048, .f32⟩
  | .hbm, ⟨1, _⟩ => ⟨S1x32x1x256, .f32⟩
  | .hbm, ⟨2, _⟩ => ⟨S1x2048, .f32⟩
  | .hbm, ⟨3, _⟩ => ⟨S1x2048x2048, .f32⟩
  | .hbm, ⟨4, _⟩ => ⟨S1x2048, .f32⟩
  | .hbm, ⟨5, _⟩ => ⟨S1x256x2048, .f32⟩
  | .hbm, ⟨6, _⟩ => ⟨S2048, .f32⟩
  | .hbm, ⟨7, _⟩ => ⟨S32x1x256, .f32⟩
  | .hbm, ⟨8, _⟩ => ⟨S32x256, .f32⟩
  | .hbm, ⟨9, _⟩ => ⟨S2048, .f32⟩
  | .hbm, ⟨10, _⟩ => ⟨S1x2048, .f32⟩
  | .hbm, ⟨11, _⟩ => ⟨S2048x2048, .f32⟩
  | .hbm, ⟨12, _⟩ => ⟨S2048x2048, .bf16⟩
  | .hbm, ⟨13, _⟩ => ⟨S2048, .f32⟩
  | .hbm, ⟨14, _⟩ => ⟨S1x2048, .f32⟩
  | .hbm, ⟨15, _⟩ => ⟨S256x2048, .f32⟩
  | .hbm, ⟨16, _⟩ => ⟨S256x2048, .bf16⟩
  | .hbm, ⟨17, _⟩ => ⟨S1x2048, .f32⟩
  | .hbm, ⟨18, _⟩ => ⟨S32x2048, .f32⟩
  | .local _ .vmem, ⟨0, _⟩ => ⟨S32x2048, .f32⟩
  | .local _ .vmem, ⟨1, _⟩ => ⟨S32x256, .f32⟩
  | .local _ .vmem, ⟨2, _⟩ => ⟨S1x2048, .f32⟩
  | .local _ .vmem, ⟨3, _⟩ => ⟨S2048x2048, .bf16⟩
  | .local _ .vmem, ⟨4, _⟩ => ⟨S1x2048, .f32⟩
  | .local _ .vmem, ⟨5, _⟩ => ⟨S256x2048, .bf16⟩
  | .local _ .vmem, ⟨6, _⟩ => ⟨S1x2048, .f32⟩
  | .local _ .vmem, ⟨7, _⟩ => ⟨S32x2048, .f32⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== PleSampleRefIdeal.lean ====
abbrev S32x2048 : Shape := ⟨2, ![32, 2048]⟩
abbrev S1x32x1x256 : Shape := ⟨4, ![1, 32, 1, 256]⟩
abbrev S1x2048 : Shape := ⟨2, ![1, 2048]⟩
abbrev S1x2048x2048 : Shape := ⟨3, ![1, 2048, 2048]⟩
abbrev S1x256x2048 : Shape := ⟨3, ![1, 256, 2048]⟩
abbrev S2048 : Shape := ⟨1, ![2048]⟩
abbrev S32x1x256 : Shape := ⟨3, ![32, 1, 256]⟩
abbrev S32x256 : Shape := ⟨2, ![32, 256]⟩
abbrev S_ : Shape := ⟨0, ![]⟩
abbrev S32 : Shape := ⟨1, ![32]⟩
abbrev S32x1 : Shape := ⟨2, ![32, 1]⟩
abbrev S2048x2048 : Shape := ⟨2, ![2048, 2048]⟩
abbrev S256x2048 : Shape := ⟨2, ![256, 2048]⟩

abbrev nBuf : Space → Nat
  | .hbm => 60
  | .vmem => 0
  | .smem => 0
  | _ => 0

abbrev bufTy : (tb : Table) → Fin (tcTables nBuf tb) → BufTy
  | .hbm, ⟨0, _⟩ => ⟨S32x2048, .f32⟩
  | .hbm, ⟨1, _⟩ => ⟨S1x32x1x256, .f32⟩
  | .hbm, ⟨2, _⟩ => ⟨S1x2048, .f32⟩
  | .hbm, ⟨3, _⟩ => ⟨S1x2048x2048, .f32⟩
  | .hbm, ⟨4, _⟩ => ⟨S1x2048, .f32⟩
  | .hbm, ⟨5, _⟩ => ⟨S1x256x2048, .f32⟩
  | .hbm, ⟨6, _⟩ => ⟨S2048, .f32⟩
  | .hbm, ⟨7, _⟩ => ⟨S32x1x256, .f32⟩
  | .hbm, ⟨8, _⟩ => ⟨S32x256, .f32⟩
  | .hbm, ⟨9, _⟩ => ⟨S2048, .f32⟩
  | .hbm, ⟨10, _⟩ => ⟨S32x2048, .f32⟩
  | .hbm, ⟨11, _⟩ => ⟨S_, .f32⟩
  | .hbm, ⟨12, _⟩ => ⟨S32, .f32⟩
  | .hbm, ⟨13, _⟩ => ⟨S32x1, .f32⟩
  | .hbm, ⟨14, _⟩ => ⟨S_, .f32⟩
  | .hbm, ⟨15, _⟩ => ⟨S32x1, .f32⟩
  | .hbm, ⟨16, _⟩ => ⟨S32x1, .f32⟩
  | .hbm, ⟨17, _⟩ => ⟨S_, .f32⟩
  | .hbm, ⟨18, _⟩ => ⟨S32x1, .f32⟩
  | .hbm, ⟨19, _⟩ => ⟨S32x1, .f32⟩
  | .hbm, ⟨20, _⟩ => ⟨S32x1, .f32⟩
  | .hbm, ⟨21, _⟩ => ⟨S32x2048, .f32⟩
  | .hbm, ⟨22, _⟩ => ⟨S32x2048, .f32⟩
  | .hbm, ⟨23, _⟩ => ⟨S1x2048, .f32⟩
  | .hbm, ⟨24, _⟩ => ⟨S32x2048, .f32⟩
  | .hbm, ⟨25, _⟩ => ⟨S32x2048, .f32⟩
  | .hbm, ⟨26, _⟩ => ⟨S2048x2048, .f32⟩
  | .hbm, ⟨27, _⟩ => ⟨S32x2048, .f32⟩
  | .hbm, ⟨28, _⟩ => ⟨S2048, .f32⟩
  | .hbm, ⟨29, _⟩ => ⟨S1x2048, .f32⟩
  | .hbm, ⟨30, _⟩ => ⟨S32x2048, .f32⟩
  | .hbm, ⟨31, _⟩ => ⟨S32x2048, .f32⟩
  | .hbm, ⟨32, _⟩ => ⟨S32x2048, .f32⟩
  | .hbm, ⟨33, _⟩ => ⟨S32x2048, .f32⟩
  | .hbm, ⟨34, _⟩ => ⟨S_, .f32⟩
  | .hbm, ⟨35, _⟩ => ⟨S32x2048, .f32⟩
  | .hbm, ⟨36, _⟩ => ⟨S32x2048, .f32⟩
  | .hbm, ⟨37, _⟩ => ⟨S_, .f32⟩
  | .hbm, ⟨38, _⟩ => ⟨S32x2048, .f32⟩
  | .hbm, ⟨39, _⟩ => ⟨S32x2048, .f32⟩
  | .hbm, ⟨40, _⟩ => ⟨S256x2048, .f32⟩
  | .hbm, ⟨41, _⟩ => ⟨S32x2048, .f32⟩
  | .hbm, ⟨42, _⟩ => ⟨S32x2048, .f32⟩
  | .hbm, ⟨43, _⟩ => ⟨S32x2048, .f32⟩
  | .hbm, ⟨44, _⟩ => ⟨S32x2048, .f32⟩
  | .hbm, ⟨45, _⟩ => ⟨S_, .f32⟩
  | .hbm, ⟨46, _⟩ => ⟨S32, .f32⟩
  | .hbm, ⟨47, _⟩ => ⟨S32x1, .f32⟩
  | .hbm, ⟨48, _⟩ => ⟨S_, .f32⟩
  | .hbm, ⟨49, _⟩ => ⟨S32x1, .f32⟩
  | .hbm, ⟨50, _⟩ => ⟨S32x1, .f32⟩
  | .hbm, ⟨51, _⟩ => ⟨S_, .f32⟩
  | .hbm, ⟨52, _⟩ => ⟨S32x1, .f32⟩
  | .hbm, ⟨53, _⟩ => ⟨S32x1, .f32⟩
  | .hbm, ⟨54, _⟩ => ⟨S32x1, .f32⟩
  | .hbm, ⟨55, _⟩ => ⟨S32x2048, .f32⟩
  | .hbm, ⟨56, _⟩ => ⟨S32x2048, .f32⟩
  | .hbm, ⟨57, _⟩ => ⟨S1x2048, .f32⟩
  | .hbm, ⟨58, _⟩ => ⟨S32x2048, .f32⟩
  | .hbm, ⟨59, _⟩ => ⟨S32x2048, .f32⟩
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== Proof.Words.lean ====
/- The word arithmetic of the grid's tiles: which tile's expert a tile is given, and what the
   32-bit operations that compute it leave. -/
module

public import Idealize.ShloMosaic.Lib.WordArith
public import Idealize.ShloMosaic.Lib.WordCmp

@[expose] public section

namespace Cert.Tiles

open Idealize.ShloMosaic Idealize.ShloMosaic.WordArith

/-- The tile whose expert is looked up for tile `i` when `w` tiles are used: the tile itself, or the last used one. -/
def lastTile (w : BitVec 32) (i : Fin 288) : Fin 288 := ⟨min i.val (w.toInt - 1).toNat, by omega⟩

theorem lastTile_used {w : BitVec 32} {i : Fin 288} (h : ((i.val : Nat) : Int) < w.toInt) : lastTile w i = i :=
  Fin.ext (by unfold lastTile; show min _ _ = _; omega)

theorem lastTile_lt {w : BitVec 32} (h : 1 ≤ w.toInt) (i : Fin 288) : ((lastTile w i).val : Int) < w.toInt := by
  unfold lastTile; show ((min _ _ : Nat) : Int) < _; omega

theorem toNat_of_pos {w : BitVec 32} (h : 1 ≤ w.toInt) : w.toInt = (w.toNat : Int) ∧ w.toNat < 2 ^ 31 := by
  rw [BitVec.toInt_eq_toNat_cond] at h ⊢
  have := w.isLt
  split at h <;> split <;> omega

/-- The signed minimum of a tile's number and the number of used tiles less one. -/
theorem minsi_last {w : BitVec 32} (h : 1 ≤ w.toInt) (i : Fin 288) :
    IntOp.minsi (BitVec.ofNat 32 i.val) (IntOp.subi w 1#32) = BitVec.ofNat 32 (lastTile w i).val := by
  obtain ⟨hw, hlt⟩ := toNat_of_pos h
  have hi := i.isLt
  have hs : (IntOp.subi w 1#32).toNat = w.toNat - 1 := by
    simp only [IntOp.subi, BitVec.toNat_sub, BitVec.toNat_ofNat]
    omega
  apply BitVec.eq_of_toNat_eq
  rw [toNat_minsi_of_lt _ _ (by rw [BitVec.toNat_ofNat]; omega) (by omega), hs, BitVec.toNat_ofNat, BitVec.toNat_ofNat]
  unfold lastTile
  show min _ _ = (min _ _) % _
  omega

theorem minsi_last_toNat {w : BitVec 32} (h : 1 ≤ w.toInt) (i : Fin 288) :
    (Scalar.minsi (BitVec.ofNat 32 i.val) (Scalar.subi w 1#32)).toNat = (lastTile w i).val := by
  rw [show Scalar.minsi (BitVec.ofNat 32 i.val) (Scalar.subi w 1#32) = _ from minsi_last h i, BitVec.toNat_ofNat]
  exact Nat.mod_eq_of_lt (lt_trans (lastTile w i).isLt (by decide))

/-- The looked-up tile, as the host computes it: the minimum, wrapped around where negative (which it never is). -/
def lookup (w : BitVec 32) (i : BitVec 32) : BitVec 32 :=
  Scalar.select (IntOp.cmpi .slt (IntOp.minsi i (IntOp.subi w 1#32)) 0#32)
    (IntOp.addi (IntOp.minsi i (IntOp.subi w 1#32)) 288#32) (IntOp.minsi i (IntOp.subi w 1#32))

theorem lookup_eq {w : BitVec 32} (h : 1 ≤ w.toInt) (i : Fin 288) :
    lookup w (BitVec.ofNat 32 i.val) = BitVec.ofNat 32 (lastTile w i).val := by
  unfold lookup
  rw [minsi_last h]
  have hl := (lastTile w i).isLt
  have h0 : (BitVec.ofNat 32 (lastTile w i).val).toInt = ((lastTile w i).val : Int) :=
    WordCmp.toInt_ofNat_of_lt (by omega)
  rw [WordCmp.cmpi_slt_eq, h0, decide_eq_false (by simp)]
  rfl

/-- An expert's number between 0 and 31, as a natural number. -/
theorem toNat_lt_of_range {e : BitVec 32} (h0 : 0 ≤ e.toInt) (h1 : e.toInt < 32) : e.toNat < 32 := by
  rw [BitVec.toInt_eq_toNat_cond] at h0 h1
  have := e.isLt
  split at h0 <;> omega

/-- What the precondition says of the tables: a tile is used, and every used tile's expert is a number below 32. -/
structure Routed (te : Fin 288 → BitVec 32) (w : BitVec 32) : Prop where
  one : 1 ≤ w.toInt
  low : ∀ j : Fin 288, (j.val : Int) < w.toInt → 0 ≤ (te j).toInt
  high : ∀ j : Fin 288, (j.val : Int) < w.toInt → (te j).toInt < 32

theorem Routed.expert_lt {te : Fin 288 → BitVec 32} {w : BitVec 32} (h : Routed te w) (j : Fin 288) :
    (te (lastTile w j)).toNat < 32 :=
  toNat_lt_of_range (h.low _ (lastTile_lt h.one j)) (h.high _ (lastTile_lt h.one j))

theorem Routed.used_lt {te : Fin 288 → BitVec 32} {w : BitVec 32} (h : Routed te w) {j : Fin 288} (hj : (j.val : Int) < w.toInt) :
    (te j).toNat < 32 := toNat_lt_of_range (h.low j hj) (h.high j hj)

/-- The choice between a used tile's expert and another word. -/
theorem select_used {w x y : BitVec 32} {j : Fin 288} (hj : (j.val : Int) < w.toInt) :
    Scalar.select (IntOp.cmpi .slt (BitVec.ofNat 32 j.val) w) x y = x := by
  have hi := j.isLt
  have h0 : (BitVec.ofNat 32 j.val).toInt = (j.val : Int) := WordCmp.toInt_ofNat_of_lt (by omega)
  rw [WordCmp.cmpi_slt_eq, h0, decide_eq_true hj]
  rfl

theorem select_unused {w x y : BitVec 32} {j : Fin 288} (hj : ¬(j.val : Int) < w.toInt) :
    Scalar.select (IntOp.cmpi .slt (BitVec.ofNat 32 j.val) w) x y = y := by
  have hi := j.isLt
  have h0 : (BitVec.ofNat 32 j.val).toInt = (j.val : Int) := WordCmp.toInt_ofNat_of_lt (by omega)
  rw [WordCmp.cmpi_slt_eq, h0, decide_eq_false hj]
  rfl

end Cert.Tiles

end
-- ==== Proof.DownIdeal.Run.lean ====
/- What the body of the down projection does at one grid point: in a used tile it stores the
   product with the expert's weights, the bias added, scaled by the rows' gates; in an unused
   tile it stores zeros. -/
module

public import proofs.«01_k».proof.Proof.Gen.DownIdeal.Launch
public import proofs.«01_k».proof.Proof.Gen.DownIdeal.Skeleton
public import Idealize.ShloMosaic.Lib.Pipeline.FrameBody
public import Idealize.ShloMosaic.Lib.Pipeline.Kit
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.DownIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.DownIdeal Cert.DownIdeal.Gen

variable {F : FTy → Type} [FloatOps F]

local notation "𝕄" => MT nD τ sig Unit (Elt F) ℕ (UR sig nD τ) ℕ

/-- The table of the tiles' experts and the number of used tiles, as the body is handed them. -/
abbrev experts : Memref sig .tc .smem S288 .i32 := Memref.whole main_v14
abbrev nUsed : Memref sig .tc .smem S1 .i32 := Memref.whole main_arg1
abbrev Held (c : Dev nD) {S : Shape} {e : EltTy} (M : Memref sig .tc .smem S e) : Type := Buf (Elt F) (M.view.loc (c : Thread nD τ))
abbrev half (c : Dev nD) {S : Shape} {e : EltTy} (M : Memref sig .tc .smem S e) (f : Held (F := F) c M) : sProp 𝕄 :=
  M.view.loc (c : Thread nD τ) ↦{fullShare.right} f

/-- The one index of a one-element array. -/
abbrev only1 : S1.Idx := fun a => ⟨0, (by decide : ∀ a : Fin 1, 0 < S1.size a) a⟩

/-- A tile is used if it comes before the number of used tiles. -/
def used (i : grid0.Coords) (nu : S1.Idx → BitVec 32) : Prop := ((i 0).val : Int) < (nu only1).toInt

instance (i : grid0.Coords) (nu : S1.Idx → BitVec 32) : Decidable (used i nu) := inferInstanceAs (Decidable (_ < _))

theorem toInt_coord (i : grid0.Coords) : (BitVec.ofNat 32 (i 0).val).toInt = ((i 0).val : Int) := by
  have h : (i 0).val < 288 := (i 0).isLt
  exact WordCmp.toInt_ofNat_of_lt (lt_of_lt_of_le h (by decide))

theorem cond1_iff (i : grid0.Coords) (nu : S1.Idx → BitVec 32) : Iff (k0_cond1 i (nu only1) = 1#1) (used i nu) := by
  unfold k0_cond1 used
  rw [← toInt_coord i]
  simp only [Scalar.cmpi, Scalar.extui, WordCmp.cmpi_slt_eq]
  by_cases h : (BitVec.ofNat 32 (i 0).val).toInt < (nu only1).toInt
  · rw [decide_eq_true h]; simp [h]; decide
  · rw [decide_eq_false h]; simp [h]; decide

theorem cond2_iff (i : grid0.Coords) (nu : S1.Idx → BitVec 32) : Iff (k0_cond2 i (nu only1) = 1#1) (¬ used i nu) := by
  unfold k0_cond2 used
  rw [← toInt_coord i]
  simp only [Scalar.cmpi, Scalar.extui, WordCmp.cmpi_sge_eq, not_lt]
  by_cases h : (nu only1).toInt ≤ (BitVec.ofNat 32 (i 0).val).toInt
  · rw [decide_eq_true h]; simp [h]; decide
  · rw [decide_eq_false h]; simp [h]; decide

/-- What the body leaves in the output's block. -/
def outBlock (i : grid0.Coords) (nu : S1.Idx → BitVec 32) (x0 : Vec F S512x2048 .bf16) (x1 : Vec F S1x2048x1024 .bf16)
    (x2 : Vec F S1x1x1024 .f32) (x3 : Vec F S512x1 .f32) : Vec F S512x1024 .f32 :=
  if used i nu then k0_pay1 x0 x1 x2 x3 else k0_pay2

theorem word_eq (c : Dev nD) (nu : Held (F := F) c nUsed) (h) :
    View.readAt (Elt F) nUsed.view (Rect.unit ![0] S1.size inb_S1_S1_0).toLoadRect nu (Shape.Idx.first h) = nu only1 := by
  show nu _ = nu _
  exact congrArg nu (funext fun a => Fin.ext (by have := a.isLt; match a with | ⟨0, _⟩ => rfl))

set_option maxHeartbeats 1000000 in
/-- The body at any point, in a used tile or not. -/
theorem run_body (c : Dev nD) (i : grid0.Coords) (a4 : Memref sig .tc .vmem S512x2048 .bf16) (h4 : a4.IsWhole) (a5 : Memref sig .tc .vmem S1x2048x1024 .bf16) (h5 : a5.IsWhole) (a6 : Memref sig .tc .vmem S1x1x1024 .f32) (h6 : a6.IsWhole) (a7 : Memref sig .tc .vmem S512x1 .f32) (h7 : a7.IsWhole) (a8 : Memref sig .tc .vmem S512x1024 .f32) (h8 : a8.IsWhole)
    (x0 : Vec F S512x2048 .bf16) (x1 : Vec F S1x2048x1024 .bf16) (x2 : Vec F S1x1x1024 .f32) (x3 : Vec F S512x1 .f32) (te : Held (F := F) c experts) (nu : Held (F := F) c nUsed)
    (E : Set ℕ) (K : PUnit → sProp 𝕄) :
    iprop(owns (c : Thread nD τ) a4 fullShare x0 ∗ owns (c : Thread nD τ) a5 fullShare x1 ∗ owns (c : Thread nD τ) a6 fullShare x2 ∗ owns (c : Thread nD τ) a7 fullShare x3 ∗ (∃ d, owns (c : Thread nD τ) a8 fullShare d) ∗ half c experts te ∗ half c nUsed nu
        ∗ (iprop(owns (c : Thread nD τ) a4 fullShare x0 ∗ owns (c : Thread nD τ) a5 fullShare x1 ∗ owns (c : Thread nD τ) a6 fullShare x2 ∗ owns (c : Thread nD τ) a7 fullShare x3 ∗ owns (c : Thread nD τ) a8 fullShare (outBlock i nu x0 x1 x2 x3) ∗ half c experts te ∗ half c nUsed nu) -∗ K ⟨⟩))
      ⊢ wp frame (wpE (defs₀ (F := F)) Variants.none c none) E (cc0_moe_down i experts (Memref.isWhole_whole _) nUsed (Memref.isWhole_whole _) a4 h4 a5 h5 a6 h6 a7 h7 a8 h8) K := by
  simp only [cc0_moe_down_eq_skeleton]; unfold cc0_moe_down_skel
  unfold owns
  iintro ⟨⟨%f0, %hf0, H0⟩, ⟨%f1, %hf1, H1⟩, ⟨%f2, %hf2, H2⟩, ⟨%f3, %hf3, H3⟩, ⟨%d4, %f4, -, H4⟩, HT0, HT1, Hk⟩
  obtain rfl := h4.eq_unread hf0; obtain rfl := h5.eq_unread hf1; obtain rfl := h6.eq_unread hf2; obtain rfl := h7.eq_unread hf3
  sl_exec
  sl_step
  iapply Hk
  isplitl [H0]
  · iexists _; isplitr
    · ipureintro; exact hf0
    iexact H0
  isplitl [H1]
  · iexists _; isplitr
    · ipureintro; exact hf1
    iexact H1
  isplitl [H2]
  · iexists _; isplitr
    · ipureintro; exact hf2
    iexact H2
  isplitl [H3]
  · iexists _; isplitr
    · ipureintro; exact hf3
    iexact H3
  isplitl [H4]
  · iexists _; isplitr
    swap
    · iexact H4
    ipureintro
    have hw : run_body.sl.r c nu = nu only1 := word_eq c nu _
    rw [hw]
    unfold outBlock
    by_cases hu : used i nu
    · have h1 := (cond1_iff i nu).mpr hu
      have h2 : ¬ k0_cond2 i (nu only1) = 1#1 := fun h => (cond2_iff i nu).mp h hu
      rw [dif_neg h2, dif_pos h1, if_pos hu, View.read_writes_full, View.readAt_full, View.readAt_full, View.readAt_full,
        View.readAt_full, hf0, hf1, hf2, hf3]
    · rw [dif_pos ((cond2_iff i nu).mpr hu), if_neg hu, View.read_writes_full]
  isplitl [HT0]
  · iexact HT0
  iexact HT1

end Cert.DownIdeal.Hand

end
-- ==== Proof.DownIdeal.Frame.lean ====
/- The down projection's frame: at every grid point the body leaves its output block at
   `outBlock`, so the whole call runs and leaves its arguments unchanged. -/
module

public import proofs.«01_k».proof.Proof.DownIdeal.Run

@[expose] public section

set_option maxRecDepth 16384

noncomputable section

namespace Cert.DownIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.DownIdeal Cert.DownIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a buffer of core `c` holds when the call begins, after the host's operations. -/
abbrev V (c : Dev nD) (b : Ref sig .tc) : Buf (Elt F) ((c : Thread nD τ).loc b) :=
  StableHlo.after hostOps0 (fun b => m (c, b)) b

theorem host_fresh : (hostOps0 : List (HloOp τ sig (Elt F))).Forall fun op => op.fresh = ∅ := by
  simp only [List.Forall]; repeat' constructor

set_option maxHeartbeats 800000 in
/-- The program is the host's operations and then the call. -/
theorem host_then_call (𝒱₀ : Variants) :
    Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub host_fresh main_chain

/-- The host's operations write none of the arguments. -/
theorem V_arg (c : Dev nD) (b : Ref sig .tc) (hb : b ∈ [main_arg0, main_arg1, main_arg2, main_arg3, main_arg4, main_arg5]) :
    V m c b = m ((c : Thread nD τ).loc b) :=
  StableHlo.after_of_forall_not_mem (b := Proc.devRef .tc b) _ _ (List.forall_iff_forall_mem.mp (by
    simp only [List.mem_cons, List.not_mem_nil, or_false] at hb
    rcases hb with rfl | rfl | rfl | rfl | rfl | rfl
    all_goals
      simp only [hostOps0, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))

/-- The two tables when the call begins. -/
def tbl : pre0.Contents (Elt F) := fun j => V m (0 : Dev nD) (pre0.ref j)

theorem tbl_eq (c : Dev nD) (j : Fin 2) : V m c (pre0.ref j) = tbl m j := by
  obtain rfl : c = 0 := Subsingleton.elim _ _; rfl

/-- Every block the tables choose lies inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The number of used tiles. -/
abbrev nu : S1.Idx → BitVec 32 := tbl m 1

theorem tables_eq (c : Dev nD) :
    (Pipeline.ΦT pre0 (tbl m) c : sProp 𝕄) = iprop(half c experts (tbl m 0) ∗ half c nUsed (tbl m 1)) := by
  unfold Pipeline.ΦT Pipeline.prefHeld
  rw [show (Finset.univ : Finset (Fin 2)) = insert (0 : Fin 2) {(1 : Fin 2)} from by decide,
    bigSep_insert (by decide), bigSep_singleton]
  rfl

/-- The output is written at every point, whatever the tables hold. -/
theorem live_of (pf : pre0.Contents (Elt F)) (i : grid0.Coords) : idle0 pf 4 i = false := by
  have hw : pf.atD 1 ![0] = (pf 1 : S1.Idx → BitVec 32) only1 := by
    refine (dif_pos (by decide)).trans ?_
    exact congrArg (pf 1 : S1.Idx → BitVec 32) (funext fun a => Fin.ext (by match a with | ⟨0, _⟩ => rfl))
  show (!(k0_cond1 i (pf.atD 1 ![0]) == 1#1) && !(k0_cond2 i (pf.atD 1 ![0]) == 1#1)) = false
  rw [hw]
  by_cases hu : used i (pf 1)
  · rw [(cond1_iff i (pf 1)).mpr hu]; rfl
  · rw [(cond2_iff i (pf 1)).mpr hu]; simp

/-- Window `w`'s block at point `t`. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- What the body leaves in the output's block at point `t`. -/
def outAt (hO : Ok m) (c : Dev nD) (t : Fin (cfgM m hO).N) : Vec F S512x1024 .f32 :=
  outBlock (grid0.coords t) (nu m) (iblk m hO c 0 t) (iblk m hO c 1 t) (iblk m hO c 2 t) (iblk m hO c 3 t)

/-- The arrays at the start, the blocks after each point, and what is held in between. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outAt m hO c t
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = outAt m hO c t := by dsimp only [dats]; try rfl

/-- Each input's staging buffer holds its block at every point. -/
theorem before_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

/-- The body as the pipeline calls it at point `t`. -/
abbrev bodyAt (a : (pcfg0 (F := F)).Adm) (t : Fin (cfg0 a).N) : Prog (TpuEff nD τ sig (Elt F) Λ₀ .tc) PUnit :=
  cc0_moe_down (grid0.coords t) experts (Memref.isWhole_whole _) nUsed (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))
    (spec0_3.stage ((cfg0 a).slots t 3)) (hstage0_3 (((cfg0 a).slots t 3).cast nbuf0_3))
    (spec0_4.stage ((cfg0 a).slots t 4)) (hstage0_4 (((cfg0 a).slots t 4).cast nbuf0_4))

/-- What the body is called with at point `t`, and what it returns. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (spec0_0.stage ((cfgM m hO).slots t 0)) fullShare ((dats m hO 0 c).before 0 t d))
    ∗ (∃ d, owns (c : Thread nD τ) (spec0_1.stage ((cfgM m hO).slots t 1)) fullShare ((dats m hO 0 c).before 1 t d))
    ∗ (∃ d, owns (c : Thread nD τ) (spec0_2.stage ((cfgM m hO).slots t 2)) fullShare ((dats m hO 0 c).before 2 t d))
    ∗ (∃ d, owns (c : Thread nD τ) (spec0_3.stage ((cfgM m hO).slots t 3)) fullShare ((dats m hO 0 c).before 3 t d))
    ∗ (∃ d, owns (c : Thread nD τ) (spec0_4.stage ((cfgM m hO).slots t 4)) fullShare ((dats m hO 0 c).before 4 t d)))
def bodyPost (hO : Ok m) (c : Dev nD) (t : Fin (cfgM m hO).N) : sProp 𝕄 :=
  iprop((dats m hO 0 c).Φ t.succ ∗ (dats m hO 0 c).owesAt () t.succ
    ∗ owns (c : Thread nD τ) (spec0_0.stage ((cfgM m hO).slots t 0)) fullShare ((dats m hO 0 c).after 0 t)
    ∗ owns (c : Thread nD τ) (spec0_1.stage ((cfgM m hO).slots t 1)) fullShare ((dats m hO 0 c).after 1 t)
    ∗ owns (c : Thread nD τ) (spec0_2.stage ((cfgM m hO).slots t 2)) fullShare ((dats m hO 0 c).after 2 t)
    ∗ owns (c : Thread nD τ) (spec0_3.stage ((cfgM m hO).slots t 3)) fullShare ((dats m hO 0 c).after 3 t)
    ∗ owns (c : Thread nD τ) (spec0_4.stage ((cfgM m hO).slots t 4)) fullShare ((dats m hO 0 c).after 4 t))

/-- The body at any point. -/
theorem sound_body (hO : Ok m) (c : Dev nD) (t : Fin (cfgM m hO).N) :
    bodyPre m hO c t ⊢ wp frame (wpE (defs₀ (F := F)) Variants.none c none) Set.univ (bodyAt (adm m hO) t) (fun _ => bodyPost m hO c t) := by
  unfold bodyPre bodyPost bodyAt
  simp only [before_0, before_1, before_2, before_3]
  rw [show (dats m hO 0 c).Φ t.succ = (dats m hO 0 c).Φ t.castSucc from rfl,
    show (dats m hO 0 c).owesAt () t.succ = (dats m hO 0 c).owesAt () t.castSucc from rfl,
    after_0, after_1, after_2, after_3, after_4]
  rw [show (dats m hO 0 c).Φ t.castSucc = iprop(Pipeline.ΦA spec0 c ∗ Pipeline.ΦT pre0 (tbl m) c) from rfl, tables_eq]
  iintro ⟨⟨HΦ, ⟨HT0, HT1⟩⟩, Ho, ⟨%d0, H0⟩, ⟨%d1, H1⟩, ⟨%d2, H2⟩, ⟨%d3, H3⟩, ⟨%d4, H4⟩⟩
  iapply (run_body c (grid0.coords t) _ _ _ _ _ _ _ _ _ _ (iblk m hO c 0 t) (iblk m hO c 1 t) (iblk m hO c 2 t) (iblk m hO c 3 t) (tbl m 0) (tbl m 1) Set.univ _)
  isplitl [H0]; · iexact H0
  isplitl [H1]; · iexact H1
  isplitl [H2]; · iexact H2
  isplitl [H3]; · iexact H3
  isplitl [H4]; · iexists _; iexact H4
  isplitl [HT0]; · iexact HT0
  isplitl [HT1]; · iexact HT1
  iintro ⟨H0, H1, H2, H3, H4, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  iexact H4

theorem row_eq (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

/-- The library's obligation for the body. -/
theorem body_obligation (hO : Ok m) (c : Dev nD) : BodyObligation (dats (F := F) m hO 0 c) (defs₀ (F := F)) Variants.none () Set.univ := fun t => by
  rw [bigSep_W0, bigSep_W0, row_eq m hO]
  refine triple_restated (sound_body m hO c t) rfl .rfl fun _ => ?_
  dsimp only
  rw [live_of (tbl m)]
  exact .rfl

set_option backward.isDefEq.respectTransparency.types false in
/-- The program runs, and ends with the call's arrays as the blocks say and every semaphore at zero. -/
theorem run_main (hO : Ok m) : θ_run defs (onTc (τ := τ) (main (F := F))) (s₀ m ρ) (fun r =>
    Pipeline.FramePost (Pipeline.pin pcfgs fun _ => adm m hO) (dats m hO) 0 (V m) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := host_then_call m Variants.none) (hA := A_eq m hO) (hpf := tbl_eq m)
    (hΦ := fun _ _ => rfl)

/-- The program runs, leaves its arguments unchanged, and its result is what the blocks say. -/
theorem run_result (hO : Ok m) : θ_run defs (onTc (τ := τ) (main (F := F))) ⟨m, fun _ => 0, ρ⟩ (fun r => (∀ c : Dev nD,
      r.2.mem ((c.tc : Thread nD τ).loc main_v16) = (dats m hO 0 c).arrAt 4 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ ⟨h, hz⟩ => ⟨fun c => ⟨(h c).1 4,
      ((h c).2 main_arg0 (by decide : main_arg0 ∈ Pipeline.restRefs sig spec0)).trans (V_arg m c main_arg0 (by simp)),
      ((h c).2 main_arg1 (by decide : main_arg1 ∈ Pipeline.restRefs sig spec0)).trans (V_arg m c main_arg1 (by simp)),
      ((h c).1 0).trans (((dats m hO 0 c).arrAt_in 0 rfl _).trans ((A_eq m hO c 0).trans (V_arg m c main_arg2 (by simp)))),
      ((h c).2 main_arg3 (by decide : main_arg3 ∈ Pipeline.restRefs sig spec0)).trans (V_arg m c main_arg3 (by simp)),
      ((h c).2 main_arg4 (by decide : main_arg4 ∈ Pipeline.restRefs sig spec0)).trans (V_arg m c main_arg4 (by simp)),
      ((h c).1 3).trans (((dats m hO 0 c).arrAt_in 3 rfl _).trans ((A_eq m hO c 3).trans (V_arg m c main_arg5 (by simp))))⟩, hz⟩)
    (run_main m ρ hO)

end Cert.DownIdeal.Hand

end
-- ==== Proof.DownIdeal.Tables.lean ====
/- The tables and arrays the down projection's call begins with, of the program's arguments. -/
module

public import proofs.«01_k».proof.Proof.DownIdeal.Frame
public import proofs.«01_k».proof.Proof.Words
public import Idealize.ShloMosaic.Lib.Pointwise
public import Idealize.ShloMosaic.Lib.StableHlo.ReadAt
public import Idealize.ShloMosaic.Lib.Routing.OpsSet

@[expose] public section

set_option maxRecDepth 16384

noncomputable section

namespace Cert.DownIdeal.Hand

open Idealize.ShloMosaic Idealize.ShloMosaic.TcCoe Idealize.SL.Sem
open Cert.Tiles
open Cert.DownIdeal Cert.DownIdeal.Gen

variable {F : FTy → Type} [FloatOps F]
variable (m : (ℓ : Loc nD τ sig) → Buf (Elt F) ℓ) (c : Dev nD)

/-- The first table: each tile's expert, of a used tile its own, of the others the last used one's. -/
theorem entry_expert (te : IVec S288 32) (n : IVec S1 32) (ht : m (c, main_arg0) = te) (hn : m (c, main_arg1) = n)
    (hn1 : 1 ≤ (n only1).toInt) (i : Fin 288) :
    (V m c main_v14 : IVec S288 32) (ix1 i) = te (ix1 (lastTile (n only1) i)) := by
  subst ht hn
  unfold V
  after_reads_simp
  refine Routing.gather_take1 _ rfl rfl rfl rfl _ _ i (lastTile _ i) ?_ (by decide)
  refine Eq.trans (?_ : _ = lookup (m (c, main_arg1) only1) (BitVec.ofNat 32 i.val)) (lookup_eq hn1 i)
  pointwise [lookup]
  rw [show (ix1 (0 : Fin 1) : S1.Idx) = only1 from funext fun a => Fin.ext (by match a with | ⟨0, _⟩ => rfl)]

section Blocks

variable (pf : pre0.Contents (Elt F)) (i : grid0.Coords)

/-- The number of used tiles, as an index map reads it. -/
theorem read_used (hb : ∀ a, (![0] : Fin 1 → Nat) a + S1.size a ≤ S1.size a) (hn : S1.numel = 1) :
    pf.at 1 (Rect.unit (s := S1) ![0] S1.size hb) hn = (pf 1 : S1.Idx → BitVec 32) only1 :=
  congrArg (pf 1 : S1.Idx → BitVec 32) (funext fun a => Fin.ext (by match a with | ⟨0, _⟩ => rfl))

/-- A tile's expert, as an index map reads it. -/
theorem read_expert (hb : ∀ a, (k0_off1 i) a + S1.size a ≤ S288.size a) (hn : S1.numel = 1) :
    pf.at 0 (Rect.unit (s := S288) (k0_off1 i) S1.size hb) hn = (pf 0 : S288.Idx → BitVec 32) (ix1 (i 0)) := by
  refine congrArg (pf 0 : S288.Idx → BitVec 32) (funext fun a => Fin.ext ?_)
  match a with
  | ⟨0, _⟩ =>
    have hi : (i 0).val < 288 := (i 0).isLt
    show (BitVec.ofNat 32 (i 0).val).toNat + 1 * _ = (i 0).val
    rw [BitVec.toNat_ofNat, Nat.mod_eq_of_lt (by omega)]
    rfl

theorem t0_eq (h1 : 1 ≤ ((pf 1 : S1.Idx → BitVec 32) only1).toInt) :
    cc0_transform_0 inb_S1_S1_0 numel1_S1 pf i = ![(lastTile ((pf 1 : S1.Idx → BitVec 32) only1) (i 0)).val, 0] := by
  unfold cc0_transform_0
  simp only [read_used pf]
  exact congrArg (fun x => ![x, 0]) (minsi_last_toNat h1 (i 0))

theorem t1_eq : cc0_transform_1 k0_off1_inb numel1_S1 pf i = ![((pf 0 : S288.Idx → BitVec 32) (ix1 (i 0))).toNat, 0, (i 1).val] := by
  unfold cc0_transform_1
  dsimp only
  rw [show pf.at 0 (Rect.unit (s := S288) ![(Scalar.indexCast (BitVec.ofNat 32 (i 0).val)).toNat] S1.size (k0_off1_inb i)) numel1_S1 = _ from read_expert pf i (k0_off1_inb i) numel1_S1,
    show (BitVec.ofNat 32 (i 1).val).toNat = (i 1).val from by
      rw [BitVec.toNat_ofNat, Nat.mod_eq_of_lt (lt_trans (i 1).isLt (by decide))]]
  rfl

theorem t2_eq : cc0_transform_2 k0_off1_inb numel1_S1 pf i = ![((pf 0 : S288.Idx → BitVec 32) (ix1 (i 0))).toNat, 0, (i 1).val] := t1_eq pf i
theorem t3_eq (h1 : 1 ≤ ((pf 1 : S1.Idx → BitVec 32) only1).toInt) :
    cc0_transform_3 inb_S1_S1_0 numel1_S1 pf i = ![(lastTile ((pf 1 : S1.Idx → BitVec 32) only1) (i 0)).val, 0] := t0_eq pf i h1

/-- Every block lies inside its array when the experts are numbers below 32 and a tile is used. -/
theorem ok_of_tables (h1 : 1 ≤ ((pf 1 : S1.Idx → BitVec 32) only1).toInt)
    (hE : ∀ j : Fin 288, ((pf 0 : S288.Idx → BitVec 32) (ix1 j)).toNat < 32) : ok0 pf := by
  refine ⟨fun i => ⟨?_, .inr ?_⟩, fun i => ⟨?_, .inr ?_⟩, fun i => ⟨?_, .inl rfl⟩, fun i => ⟨?_, .inl rfl⟩⟩
  · rw [t0_eq pf i h1]
    have := (lastTile ((pf 1 : S1.Idx → BitVec 32) only1) (i 0)).isLt
    intro a
    match a with
    | ⟨0, _⟩ => show (_ + 1) * 512 ≤ 147456; simp; omega
    | ⟨1, _⟩ => show (0 + 1) * 2048 ≤ 2048; omega
  · refine .inl (.inr ⟨by decide, rfl, .inl ⟨?_, ?_⟩⟩)
    · show 2 ∣ cc0_transform_0 inb_S1_S1_0 numel1_S1 pf i 0 * 512
      omega
    · show 2 ∣ 512
      omega
  · rw [t1_eq pf i]
    have := hE (i 0)
    have h2 : (i 1).val < 2 := (i 1).isLt
    intro a
    match a with
    | ⟨0, _⟩ => show (_ + 1) * 1 ≤ 32; simp; omega
    | ⟨1, _⟩ => show (0 + 1) * 2048 ≤ 2048; omega
    | ⟨2, _⟩ => show ((i 1).val + 1) * 1024 ≤ 2048; omega
  · refine .inl (.inr ⟨by decide, rfl, .inl ⟨?_, ?_⟩⟩)
    · show 2 ∣ cc0_transform_1 k0_off1_inb numel1_S1 pf i 1 * 2048
      omega
    · show 2 ∣ 2048
      omega
  · rw [t2_eq pf i]
    have := hE (i 0)
    have h2 : (i 1).val < 2 := (i 1).isLt
    intro a
    match a with
    | ⟨0, _⟩ => show (_ + 1) * 1 ≤ 32; simp; omega
    | ⟨1, _⟩ => show (0 + 1) * 1 ≤ 1; omega
    | ⟨2, _⟩ => show ((i 1).val + 1) * 1024 ≤ 2048; omega
  · rw [t3_eq pf i h1]
    have := (lastTile ((pf 1 : S1.Idx → BitVec 32) only1) (i 0)).isLt
    intro a
    match a with
    | ⟨0, _⟩ => show (_ + 1) * 512 ≤ 147456; simp; omega
    | ⟨1, _⟩ => show (0 + 1) * 1 ≤ 1; omega

end Blocks

theorem tbl_expert (te : IVec S288 32) (n : IVec S1 32) (ht : m (0, main_arg0) = te) (hn : m (0, main_arg1) = n)
    (hR : Routed (fun j => te (ix1 j)) (n only1)) (j : Fin 288) : (tbl m 0 : S288.Idx → BitVec 32) (ix1 j) = te (ix1 (lastTile (n only1) j)) :=
  entry_expert m 0 te n ht hn hR.one j

theorem tbl_used (n : IVec S1 32) (hn : m (0, main_arg1) = n) : (tbl m 1 : S1.Idx → BitVec 32) = n :=
  (V_arg m 0 main_arg1 (by simp)).trans hn

/-- Under the precondition the call's blocks lie inside their arrays. -/
theorem ok_of_routed (te : IVec S288 32) (n : IVec S1 32) (ht : m (0, main_arg0) = te) (hn : m (0, main_arg1) = n)
    (hR : Routed (fun j => te (ix1 j)) (n only1)) : Ok m :=
  ok_of_tables (tbl m) (by rw [tbl_used m n hn]; exact hR.one)
    fun j => by rw [tbl_expert m te n ht hn hR j]; exact hR.expert_lt j

end Cert.DownIdeal.Hand

end
-- ==== Proof.DownIdeal.Blocks.lean ====
/- The down projection's blocks: which part of each array a grid point is given. -/
module

public import proofs.«01_k».proof.Proof.DownIdeal.Tables
public import Idealize.ShloMosaic.Lib.Pipeline.ValueKit

@[expose] public section

set_option maxRecDepth 16384

noncomputable section

namespace Cert.DownIdeal.Hand

open Idealize.ShloMosaic Idealize.ShloMosaic.TcCoe Idealize.SL.Sem
open Idealize.ShloMosaic.Pipeline (Dat)
open Cert.Tiles
open Cert.DownIdeal Cert.DownIdeal.Gen

/-- The output's window, which no table moves. -/
@[reducible] def outWin : Pipeline.Window sig grid0 :=
  spec0_4.pin nbuf0_4 cc0_transform_4 hreads0_4 (fun h => absurd h (Nat.ne_of_gt hrank0)) (fun _ _ => none)
    (fun i a => hinb0_4 i a)
    (fun i => (hwx0_4 i).elim View.wordExact_bits ((harr0 4).wordExact_slice rfl _))
    (fun i s => spec0_4.wordExact_stage_whole s _)

theorem outWin_covers : outWin.Covers := by decide +kernel

variable {F : FTy → Type} [FloatOps F]

section Index

variable (a : (pcfg0 (F := F)).Adm)

theorem out_covers : ((cfg0 a).win 4).Covers := outWin_covers

/-- The block each window is at, at a grid point. -/
theorem at0 (h1 : 1 ≤ ((a.1 1 : S1.Idx → BitVec 32) only1).toInt) (t : Fin (cfg0 a).N) :
    ((cfg0 a).win 0).index t = ![(lastTile ((a.1 1 : S1.Idx → BitVec 32) only1) (grid0.coords t 0)).val, 0] := t0_eq a.1 (grid0.coords t) h1
theorem at1 (t : Fin (cfg0 a).N) : ((cfg0 a).win 1).index t
    = ![((a.1 0 : S288.Idx → BitVec 32) (ix1 (grid0.coords t 0))).toNat, 0, (grid0.coords t 1).val] := t1_eq a.1 (grid0.coords t)
theorem at2 (t : Fin (cfg0 a).N) : ((cfg0 a).win 2).index t
    = ![((a.1 0 : S288.Idx → BitVec 32) (ix1 (grid0.coords t 0))).toNat, 0, (grid0.coords t 1).val] := t2_eq a.1 (grid0.coords t)
theorem at3 (h1 : 1 ≤ ((a.1 1 : S1.Idx → BitVec 32) only1).toInt) (t : Fin (cfg0 a).N) :
    ((cfg0 a).win 3).index t = ![(lastTile ((a.1 1 : S1.Idx → BitVec 32) only1) (grid0.coords t 0)).val, 0] := t3_eq a.1 (grid0.coords t) h1
theorem at4 (t : Fin (cfg0 a).N) : ((cfg0 a).win 4).index t = ![(grid0.coords t 0).val, (grid0.coords t 1).val] :=
  (by decide +kernel : ∀ t : Fin grid0.N, cc0_transform_4 (grid0.coords t) = ![(grid0.coords t 0).val, (grid0.coords t 1).val]) t

end Index

variable (m : (ℓ : Loc nD τ sig) → Buf (Elt F) ℓ) (hO : Ok m) (c : Dev nD) (t : Fin (cfgM m hO).N)

/-- Grid point `t`'s tile and half of the columns. -/
def tileAt : Fin 288 := grid0.coords t 0
def halfAt : Fin 2 := grid0.coords t 1

theorem blk0 (h1 : 1 ≤ (nu m only1).toInt) (r : Fin 512) (k : Fin 2048) :
    (iblk m hO c 0 t : Vec F S512x2048 .bf16) (ix2 r k)
      = (V m c main_arg2 : Vec F S147456x2048 .bf16) (ix2 ⟨(lastTile (nu m only1) (tileAt m hO t)).val * 512 + r.val, by omega⟩ k) := by
  blk_simp [iblk]
  exact congrArg (V m c main_arg2 : Vec F S147456x2048 .bf16) (by blk_ext [at0 (adm m hO) h1, tileAt])

theorem blk1 (e : Fin 32) (he : ((tbl m 0 : S288.Idx → BitVec 32) (ix1 (tileAt m hO t))).toNat = e.val) (k : Fin 2048) (q : Fin 1024) :
    (iblk m hO c 1 t : Vec F S1x2048x1024 .bf16) (ix3 0 k q)
      = (V m c main_v1 : Vec F S32x2048x2048 .bf16) (ix3 e k ⟨(halfAt m hO t).val * 1024 + q.val, by omega⟩) := by
  unfold tileAt at he
  blk_simp [iblk]
  exact congrArg (V m c main_v1 : Vec F S32x2048x2048 .bf16) (by blk_ext [at1 (adm m hO), halfAt, he])

theorem blk2 (e : Fin 32) (he : ((tbl m 0 : S288.Idx → BitVec 32) (ix1 (tileAt m hO t))).toNat = e.val) (q : Fin 1024) :
    (iblk m hO c 2 t : Vec F S1x1x1024 .f32) (ix3 0 0 q)
      = (V m c main_v15 : Vec F S32x1x2048 .f32) (ix3 e 0 ⟨(halfAt m hO t).val * 1024 + q.val, by omega⟩) := by
  unfold tileAt at he
  blk_simp [iblk]
  exact congrArg (V m c main_v15 : Vec F S32x1x2048 .f32) (by blk_ext [at2 (adm m hO), halfAt, he])

theorem blk3 (h1 : 1 ≤ (nu m only1).toInt) (r : Fin 512) :
    (iblk m hO c 3 t : Vec F S512x1 .f32) (ix2 r 0)
      = (V m c main_arg5 : Vec F S147456x1 .f32) (ix2 ⟨(lastTile (nu m only1) (tileAt m hO t)).val * 512 + r.val, by omega⟩ 0) := by
  blk_simp [iblk]
  exact congrArg (V m c main_arg5 : Vec F S147456x1 .f32) (by blk_ext [at3 (adm m hO) h1, tileAt])

end Cert.DownIdeal.Hand

end
-- ==== Proof.Down.Ref.lean ====
/- The down projection's reference, entry by entry. -/
module

public import proofs.«01_k».proof.Proof.Gen.DownRefIdeal.Run
public import proofs.«01_k».proof.Proof.Words
public import Idealize.ShloMosaic.Lib.Pointwise
public import Idealize.ShloMosaic.Lib.Tactic.CleanTypes

@[expose] public section

noncomputable section

namespace Cert.DownRefIdeal.Hand

open Cert.DownRefIdeal Cert.DownRefIdeal.Gen Idealize.ShloMosaic Idealize.ShloMosaic.TcCoe Idealize.SL.Sem Cert.Tiles

/-- Each row's expert, −1 where its tile is not used. -/
def rowExpert (te : IVec S288 32) (n : IVec S1 32) : IVec S147456 32 :=
  shapeCast _ (broadcastInDim S288x512 ![0, 1] bcast_S288x1_S288x512_0_1 (broadcastInDim S288x1 ![0] bcast_S288_S288x1_0 (select (cmpi .slt (iotaInDim S288 32 0) (broadcastInDim S288 ![] bcast_S_S288 (shapeCast _ n shapeCasts_S1_S_))) te (broadcastInDim S288 ![] bcast_S_S288 (id (constantI S_ 32 4294967295#32)))))) shapeCasts_S288x512_S147456

/-- Each row's weight at its expert, 0 at the others. -/
def gates (E : IVec S147456 32) (A5 : FVec Ideal S147456x1 .f32) : FVec Ideal S147456x32 .f32 :=
  select (cmpi .eq (broadcastInDim S147456x32 ![0, 1] bcast_S147456x1_S147456x32_0_1 (broadcastInDim S147456x1 ![0] bcast_S147456_S147456x1_0 E)) (broadcastInDim S147456x32 ![0, 1] bcast_S1x32_S147456x32_0_1 (broadcastInDim S1x32 ![1] bcast_S32_S1x32_1 (iotaInDim S32 32 0)))) (broadcastInDim S147456x32 ![0, 1] bcast_S147456x1_S147456x32_0_1 A5) (broadcastInDim S147456x32 ![] bcast_S_S147456x32 (id (constant S_ .f32 0x00000000#32)))

/-- Each row's product with each expert's matrix, plus that expert's bias. -/
def outs (A2 : FVec Ideal S147456x2048 .bf16) (A3 : FVec Ideal S1x32x2048x2048 .f32) (A4 : FVec Ideal S1x32x2048 .f32) :
    FVec Ideal S147456x32x2048 .f32 :=
  addf (Host.dotGeneral dot_S147456x2048_S32x2048x2048_S147456x32x2048_1_1_0_02_n_n none (extf .f32 A2 bitsLt_bf16_f32) (shapeCast _ A3 shapeCasts_S1x32x2048x2048_S32x2048x2048)) (broadcastInDim S147456x32x2048 ![0, 1, 2] bcast_S1x32x2048_S147456x32x2048_0_1_2 (broadcastInDim S1x32x2048 ![1, 2] bcast_S32x2048_S1x32x2048_1_2 (shapeCast _ A4 shapeCasts_S1x32x2048_S32x2048)))

/-- The sum over the experts. -/
def mixed (G : FVec Ideal S147456x32 .f32) (Y : FVec Ideal S147456x32x2048 .f32) : FVec Ideal S147456x2048 .f32 :=
  Host.reduceAdd (mulf (broadcastInDim S147456x32x2048 ![0, 1, 2] bcast_S147456x32x1_S147456x32x2048_0_1_2 (broadcastInDim S147456x32x1 ![0, 1] bcast_S147456x32_S147456x32x1_0_1 G)) Y) (constant S_ .f32 0x00000000#32) reducesTo_S147456x32x2048_S147456x2048_d1 h_S_

/-- Row `r`'s tile. -/
def tileOf (r : Fin 147456) : Fin 288 := ⟨r.val / 512, by omega⟩

theorem rowExpert_apply (te : IVec S288 32) (n : IVec S1 32) (r : Fin 147456) :
    rowExpert te n (ix1 r) = Scalar.select (IntOp.cmpi .slt (BitVec.ofNat 32 (tileOf r).val) (n (ix1 0))) (te (ix1 (tileOf r))) 4294967295#32 := by
  unfold rowExpert
  pointwise
  rfl

theorem zero_bits : Ideal.ofBits .f32 0x00000000#32 = 0 := by
  simp [Ideal.ofBits, Ideal.ieee, -EReal.coe_mul]

theorem gates_apply (E : IVec S147456 32) (A5 : FVec Ideal S147456x1 .f32) (r : Fin 147456) (e : Fin 32) :
    gates E A5 (ix2 r e) = if E (ix1 r) = BitVec.ofNat 32 e.val then A5 (ix2 r 0) else 0 := by
  unfold gates
  pointwise
  rw [WordCmp.cmpi_eq_eq]
  by_cases h : E (ix1 r) = BitVec.ofNat 32 e.val
  · rw [if_pos h, decide_eq_true h]; rfl
  · rw [if_neg h, decide_eq_false h]; exact zero_bits

theorem outs_apply (A2 : FVec Ideal S147456x2048 .bf16) (A3 : FVec Ideal S1x32x2048x2048 .f32) (A4 : FVec Ideal S1x32x2048 .f32)
    (r : Fin 147456) (e : Fin 32) (q : Fin 2048) :
    outs A2 A3 A4 (ix3 r e q) = (∑ k : Fin 2048, A2 (ix2 r k) * A3 (ix4 0 e k q)) + A4 (ix3 0 e q) := by
  unfold outs
  pointwise

theorem mixed_apply (G : FVec Ideal S147456x32 .f32) (Y : FVec Ideal S147456x32x2048 .f32) (r : Fin 147456) (q : Fin 2048) :
    mixed G Y (ix2 r q) = ∑ e : Fin 32, G (ix2 r e) * Y (ix3 r e q) := by
  unfold mixed
  pointwise

/-- The reference's result. -/
def res (te : IVec S288 32) (n : IVec S1 32) (A2 : FVec Ideal S147456x2048 .bf16) (A3 : FVec Ideal S1x32x2048x2048 .f32)
    (A4 : FVec Ideal S1x32x2048 .f32) (A5 : FVec Ideal S147456x1 .f32) : FVec Ideal S147456x2048 .f32 :=
  mixed (gates (rowExpert te n) A5) (outs A2 A3 A4)

/-- Of a row whose tile is used the sum has one term, its expert's; of any other none. -/
theorem res_apply (te : IVec S288 32) (n : IVec S1 32) (A2 : FVec Ideal S147456x2048 .bf16) (A3 : FVec Ideal S1x32x2048x2048 .f32)
    (A4 : FVec Ideal S1x32x2048 .f32) (A5 : FVec Ideal S147456x1 .f32) (hR : Routed (fun j => te (ix1 j)) (n (ix1 0)))
    (r : Fin 147456) (q : Fin 2048) :
    res te n A2 A3 A4 A5 (ix2 r q) = if h : ((tileOf r).val : Int) < (n (ix1 0)).toInt then
      A5 (ix2 r 0) * ((∑ k : Fin 2048, A2 (ix2 r k) * A3 (ix4 0 ⟨(te (ix1 (tileOf r))).toNat, hR.used_lt h⟩ k q))
        + A4 (ix3 0 ⟨(te (ix1 (tileOf r))).toNat, hR.used_lt h⟩ q)) else 0 := by
  unfold res
  rw [mixed_apply]
  simp only [gates_apply, outs_apply, rowExpert_apply]
  split
  · rename_i h
    rw [select_used h, Finset.sum_eq_single (⟨(te (ix1 (tileOf r))).toNat, hR.used_lt h⟩ : Fin 32)]
    · rw [if_pos (BitVec.eq_of_toNat_eq (by rw [BitVec.toNat_ofNat]; exact (Nat.mod_eq_of_lt (te (ix1 (tileOf r))).isLt).symm))]
    · intro e _ hne
      rw [if_neg, zero_mul]
      intro he
      apply hne
      apply Fin.ext
      have hb := e.isLt
      show e.val = (te (ix1 (tileOf r))).toNat
      rw [he, BitVec.toNat_ofNat, Nat.mod_eq_of_lt (by omega)]
    · intro h; exact absurd (Finset.mem_univ _) h
  · rename_i h
    rw [select_unused h]
    refine Finset.sum_eq_zero fun e _ => ?_
    rw [if_neg, zero_mul]
    intro he
    have hb := e.isLt
    have := congrArg BitVec.toNat he
    rw [BitVec.toNat_ofNat, BitVec.toNat_ofNat] at this
    omega

end Cert.DownRefIdeal.Hand

end
-- ==== Proof.DownIdeal.Value.lean ====
/- The down projection's result: the reference's, entry by entry. -/
module

public import proofs.«01_k».proof.Proof.DownIdeal.Blocks
public import proofs.«01_k».proof.Proof.Down.Ref

@[expose] public section

set_option maxRecDepth 16384

noncomputable section

namespace Cert.DownIdeal.Hand

open Idealize.ShloMosaic Idealize.ShloMosaic.TcCoe Idealize.SL.Sem
open Idealize.ShloMosaic.Pipeline (Dat)
open Cert.Tiles
open Cert.DownIdeal Cert.DownIdeal.Gen

/-- A used tile's block, entry by entry. -/
theorem pay1_apply (x0 : Vec Ideal S512x2048 .bf16) (x1 : Vec Ideal S1x2048x1024 .bf16) (x2 : Vec Ideal S1x1x1024 .f32)
    (x3 : Vec Ideal S512x1 .f32) (r : Fin 512) (q : Fin 1024) :
    k0_pay1 x0 x1 x2 x3 (ix2 r q) = ((∑ k : Fin 2048, x0 (ix2 r k) * x1 (ix3 0 k q)) + x2 (ix3 0 0 q)) * x3 (ix2 r 0) := by
  unfold k0_pay1
  pointwise

theorem pay2_apply (r : Fin 512) (q : Fin 1024) : k0_pay2 (F := Ideal) (ix2 r q) = 0 := by
  show Ideal.ofBits .f32 0x00000000#32 = 0
  simp [Ideal.ofBits, Ideal.ieee, -EReal.coe_mul]

variable (m : (ℓ : Loc nD τ sig) → Buf (Elt Ideal) ℓ) (c : Dev nD)

theorem entry_weight (A : FVec Ideal S1x32x2048x2048 .f32) (hA : m (c, main_arg3) = A) (e : Fin 32) (k q : Fin 2048) :
    (V m c main_v1 : Vec Ideal S32x2048x2048 .bf16) (ix3 e k q) = A (ix4 0 e k q) := by
  subst hA
  unfold V
  after_reads_at

theorem entry_bias (A : FVec Ideal S1x32x2048 .f32) (hA : m (c, main_arg4) = A) (e : Fin 32) (q : Fin 2048) :
    (V m c main_v15 : Vec Ideal S32x1x2048 .f32) (ix3 e 0 q) = A (ix3 0 e q) := by
  subst hA
  unfold V
  after_reads_at

theorem tileOf_at (i : Fin 288) (r : Fin 512) : Cert.DownRefIdeal.Hand.tileOf ⟨i.val * 512 + r.val, by omega⟩ = i :=
  Fin.ext (by show (i.val * 512 + r.val) / 512 = i.val; omega)

theorem out_used (hO : Ok m) (t : Fin (cfgM m hO).N) (hu : used (grid0.coords t) (nu m)) (x0 : Vec Ideal S512x2048 .bf16)
    (x1 : Vec Ideal S1x2048x1024 .bf16) (x2 : Vec Ideal S1x1x1024 .f32) (x3 : Vec Ideal S512x1 .f32) (h0 : iblk m hO c 0 t = x0)
    (h1 : iblk m hO c 1 t = x1) (h2 : iblk m hO c 2 t = x2) (h3 : iblk m hO c 3 t = x3) (r : Fin 512) (q : Fin 1024) :
    outAt m hO c t (ix2 r q) = ((∑ k : Fin 2048, x0 (ix2 r k) * x1 (ix3 0 k q)) + x2 (ix3 0 0 q)) * x3 (ix2 r 0) := by
  subst h0 h1 h2 h3
  unfold outAt outBlock
  rw [if_pos hu]
  exact pay1_apply _ _ _ _ r q

theorem out_unused (hO : Ok m) (t : Fin (cfgM m hO).N) (hu : ¬ used (grid0.coords t) (nu m)) (r : Fin 512) (q : Fin 1024) :
    outAt m hO c t (ix2 r q) = 0 := by
  unfold outAt outBlock
  rw [if_neg hu]
  exact pay2_apply r q

/-- The kernel's result array is the reference's. -/
theorem arr_eq (te : IVec S288 32) (n : IVec S1 32) (A2 : FVec Ideal S147456x2048 .bf16) (A3 : FVec Ideal S1x32x2048x2048 .f32)
    (A4 : FVec Ideal S1x32x2048 .f32) (A5 : FVec Ideal S147456x1 .f32)
    (ht : m (c, main_arg0) = te) (hn : m (c, main_arg1) = n) (h2 : m (c, main_arg2) = A2) (h3 : m (c, main_arg3) = A3)
    (h4 : m (c, main_arg4) = A4) (h5 : m (c, main_arg5) = A5)
    (hR : Routed (fun j => te (ix1 j)) (n (ix1 0))) (hO : Ok m) :
    (dats m hO 0 c).arrAt 4 (cfgM m hO).N = Cert.DownRefIdeal.Hand.res te n A2 A3 A4 A5 := by
  obtain rfl : c = 0 := Subsingleton.elim _ _
  have hnu : nu m = n := tbl_used m n hn
  have e1 : (ix1 (0 : Fin 1) : S1.Idx) = only1 := funext fun a => Fin.ext (by match a with | ⟨0, _⟩ => rfl)
  have hR' : Routed (fun j => te (ix1 j)) (n only1) := by rw [← e1]; exact hR
  have hone : 1 ≤ (nu m only1).toInt := by rw [hnu]; exact hR'.one
  refine (dats m hO 0 0).arrAt_eq_of_covers 4 _ (out_covers (adm m hO)) fun t hf y => ?_
  blk_simp
  rw [after_4]
  revert y
  show ∀ y : S512x1024.Idx, _
  intro y
  idx_vars y
  have e : (((cfgM m hO).win 4).blk t).view.emb (ix2 y0 y1)
      = ix2 ⟨(tileAt m hO t).val * 512 + y0.val, by omega⟩ ⟨(halfAt m hO t).val * 1024 + y1.val, by omega⟩ := by
    blk_ext [at4 (adm m hO), tileAt, halfAt]
  rw [e, Cert.DownRefIdeal.Hand.res_apply te n A2 A3 A4 A5 hR, tileOf_at]
  by_cases hu : used (grid0.coords t) (nu m)
  · have hu' : ((tileAt m hO t).val : Int) < (n (ix1 0)).toInt := by rw [e1, ← hnu]; exact hu
    have hl : lastTile (nu m only1) (tileAt m hO t) = tileAt m hO t := lastTile_used (by rw [hnu, ← e1]; exact hu')
    have he : ((tbl m 0 : S288.Idx → BitVec 32) (ix1 (tileAt m hO t))).toNat
        = (⟨(te (ix1 (tileAt m hO t))).toNat, hR.used_lt hu'⟩ : Fin 32).val := by
      rw [tbl_expert m te n ht hn hR', show lastTile (n only1) (tileAt m hO t) = tileAt m hO t by rw [← hnu]; exact hl]
    refine (out_used m 0 hO t hu _ _ _ _ rfl rfl rfl rfl y0 y1).trans ?_
    rw [dif_pos hu', mul_comm (A5 _)]
    simp only [blk0 m hO 0 t hone, blk1 m hO 0 t _ he, blk2 m hO 0 t _ he, blk3 m hO 0 t hone, hl]
    simp only [entry_weight m 0 A3 h3, entry_bias m 0 A4 h4, V_arg m 0 main_arg2 (by simp), V_arg m 0 main_arg5 (by simp)]
    subst h2 h5
    rfl
  · have hu' : ¬ ((tileAt m hO t).val : Int) < (n (ix1 0)).toInt := by rw [e1, ← hnu]; exact hu
    rw [dif_neg hu']
    exact out_unused m 0 hO t hu y0 y1

end Cert.DownIdeal.Hand

end
-- ==== Proof.Routed.lean ====
/- What a precondition on the tables says, as numbers. -/
module

public import proofs.«01_k».proof.Proof.Words
public import Idealize.ShloMosaic.Lib.Pointwise

@[expose] public section

noncomputable section

namespace Cert.Tiles

open Idealize.ShloMosaic

/-- The comparisons of the precondition, each at its index, as one fact about the tables. -/
theorem routed_of_words (te : Fin 288 → BitVec 32) (w : BitVec 32)
    (h0 : ∀ j : Fin 288, IntOp.cmpi .sge (Scalar.select (IntOp.cmpi .slt (BitVec.ofNat 32 j.val) w) (te j) 0#32) 0#32 = 1#1)
    (h1 : ∀ j : Fin 288, IntOp.cmpi .slt (Scalar.select (IntOp.cmpi .slt (BitVec.ofNat 32 j.val) w) (te j) 0#32) 32#32 = 1#1)
    (h2 : IntOp.cmpi .sge w 1#32 = 1#1) : Routed te w := by
  refine ⟨?_, fun j hj => ?_, fun j hj => ?_⟩
  · rw [WordCmp.cmpi_sge_eq, WordCmp.ofBool_decide_eq_one_iff] at h2; exact h2
  · have := h0 j; rw [select_used hj, WordCmp.cmpi_sge_eq, WordCmp.ofBool_decide_eq_one_iff] at this; exact this
  · have := h1 j; rw [select_used hj, WordCmp.cmpi_slt_eq, WordCmp.ofBool_decide_eq_one_iff] at this; exact this

end Cert.Tiles

end
-- ==== Proof.Down.Routed.lean ====
/- What the down projection's precondition says of the tables, as numbers. -/
module

public import proofs.«01_k».proof.Pre_routed_down
public import proofs.«01_k».proof.Proof.Routed

@[expose] public section

noncomputable section

namespace Cert.Tiles

open Idealize.ShloMosaic

variable {F : FTy → Type} [FloatOps F]

open Cert.Pre_routed_down
variable [Cert.Pre_routed_down.Facts]

theorem routed_of_down (te : IVec S288 32) (n : IVec S1 32) (x2 : FVec F S147456x2048 .bf16) (x3 : FVec F S1x32x2048x2048 .f32)
    (x4 : FVec F S1x32x2048 .f32) (x5 : FVec F S147456x1 .f32)
    (h : (fn (F := F) te n x2 x3 x4 x5).1 = (fun _ => 1#1) ∧ (fn (F := F) te n x2 x3 x4 x5).2.1 = (fun _ => 1#1)
      ∧ (fn (F := F) te n x2 x3 x4 x5).2.2 = (fun _ => 1#1)) : Routed (fun j => te (ix1 j)) (n (ix1 0)) := by
  obtain ⟨h0, h1, h2⟩ := h
  refine routed_of_words _ _ (fun j => ?_) (fun j => ?_) ?_
  · rw [← congrFun h0 (ix1 j)]; (pointwise [fn, fn_where]; try rfl)
  · rw [← congrFun h1 (ix1 j)]; (pointwise [fn, fn_where]; try rfl)
  · rw [← congrFun h2 (ix1 0)]; (pointwise [fn, fn_where]; try rfl)

end Cert.Tiles

end
-- ==== Proof.Down.Claims.lean ====
/- The claims about the down projection. -/
module

public import proofs.«01_k».proof.Defs
public import proofs.«01_k».proof.Proof.Down.Tables
public import proofs.«01_k».proof.Proof.DownIdeal.Value
public import proofs.«01_k».proof.Proof.Down.Routed
public import proofs.«01_k».proof.Proof.Gen.Pre_routed_down
public import Idealize.ShloMosaic.Adequacy
public import Idealize.ShloMosaic.Init

@[expose] public section

noncomputable section

namespace Cert.Down.Claims

open Idealize.ShloMosaic Idealize.SL.Sem Cert.Tiles

theorem only1_eq : (ix1 (0 : Fin 1) : Cert.Down.S1.Idx) = Cert.Down.Hand.only1 :=
  funext fun a => Fin.ext (by match a with | ⟨0, _⟩ => rfl)

theorem only1_eq_ideal : (ix1 (0 : Fin 1) : Cert.DownIdeal.S1.Idx) = Cert.DownIdeal.Hand.only1 :=
  funext fun a => Fin.ext (by match a with | ⟨0, _⟩ => rfl)

/-- The kernel runs, its arguments end as they were and its semaphores at zero. -/
theorem frame : Cert.quiescent_Down := by
  intro m ρ hpre
  have hR := routed_of_down _ _ _ _ _ _ (hpre 0)
  have hO := Cert.Down.Hand.ok_of_routed m _ _ rfl rfl (by rw [← only1_eq]; exact hR)
  exact (θ_run Cert.Down.defs _ _).mono (fun r h => ⟨fun c => (h.1 c).2, h.2⟩) (Cert.Down.Hand.run_result m ρ hO)

theorem frameIdeal : Cert.quiescent_DownIdeal := by
  intro m ρ hpre
  have hR := routed_of_down _ _ _ _ _ _ (hpre 0)
  have hO := Cert.DownIdeal.Hand.ok_of_routed m _ _ rfl rfl (by rw [← only1_eq_ideal]; exact hR)
  exact (θ_run Cert.DownIdeal.defs _ _).mono (fun r h => ⟨fun c => (h.1 c).2, h.2⟩) (Cert.DownIdeal.Hand.run_result m ρ hO)

/-- The reference runs, and its arguments end as they were. -/
theorem frameRef : Cert.quiescent_DownRefIdeal := fun m ρ _ =>
  (θ_run Cert.DownRefIdeal.defs _ _).mono (fun r h => ⟨fun c => (h c).2, sem_eq_zero_of_no_sems (by decide) r.2⟩)
    (Cert.DownRefIdeal.Value.run (F := Ideal) m ρ)

/-- The kernel and the reference agree. -/
theorem algebraic : Cert.algebraic_DownIdeal_DownRefIdeal := by
  intro m ρ m' ρ' hpre hagree
  have hR := routed_of_down _ _ _ _ _ _ (hpre 0)
  have hO := Cert.DownIdeal.Hand.ok_of_routed m _ _ rfl rfl (by rw [← only1_eq_ideal]; exact hR)
  refine ⟨fun c => (Cert.DownIdeal.Hand.dats m hO 0 c).arrAt 4 (Cert.DownIdeal.Hand.cfgM m hO).N,
    (θ_run Cert.DownIdeal.defs _ _).mono (fun r h => h.1) (Cert.DownIdeal.Hand.run_result m ρ hO), ?_⟩
  refine (θ_run Cert.DownRefIdeal.defs _ _).mono (fun _ h c => ⟨(h c).1.trans ?_, (h c).2⟩)
    (Cert.DownRefIdeal.Value.run (F := Ideal) m' ρ')
  obtain rfl : c = 0 := Subsingleton.elim _ _
  obtain ⟨g0, g1, g2, g3, g4, g5⟩ := hagree 0
  have hR' : Routed (fun j => (m' ((0 : Dev Cert.DownRefIdeal.nD).tc.loc Cert.DownRefIdeal.main_arg0) : IVec Cert.DownRefIdeal.S288 32) (ix1 j))
      ((m' ((0 : Dev Cert.DownRefIdeal.nD).tc.loc Cert.DownRefIdeal.main_arg1) : IVec Cert.DownRefIdeal.S1 32) (ix1 0)) := by rw [g0, g1]; exact hR
  exact (show _ = Cert.DownRefIdeal.Hand.res _ _ _ _ _ _ from rfl).trans
    (Cert.DownIdeal.Hand.arr_eq m 0 _ _ _ _ _ _ g0.symm g1.symm g2.symm g3.symm g4.symm g5.symm hR' hO).symm

end Cert.Down.Claims

end
-- ==== Proof.GateUpIdeal.Run.lean ====
/- What the body of the gate and up projection does at one grid point. In a used tile it rounds the
   tile's rows into the scratch buffer at the tile's first point, multiplies what the scratch holds
   by the expert's gate and up weights, and stores the product of the two activations; in an unused
   tile it stores zeros and leaves the scratch as it was. -/
module

public import proofs.«01_k».proof.Proof.Gen.GateUpIdeal.Launch
public import proofs.«01_k».proof.Proof.Gen.GateUpIdeal.Skeleton
public import Idealize.ShloMosaic.Lib.Pipeline.FrameBody
public import Idealize.ShloMosaic.Lib.Pipeline.Kit
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.GateUpIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.GateUpIdeal Cert.GateUpIdeal.Gen

variable {F : FTy → Type} [FloatOps F]

local notation "𝕄" => MT nD τ sig Unit (Elt F) ℕ (UR sig nD τ) ℕ

/-- The table of the tiles' experts and the number of used tiles, as the body is handed them. -/
abbrev experts : Memref sig .tc .smem S288 .i32 := Memref.whole main_v14
abbrev nUsed : Memref sig .tc .smem S1 .i32 := Memref.whole main_arg1
abbrev Held (c : Dev nD) {S : Shape} {e : EltTy} (M : Memref sig .tc .smem S e) : Type := Buf (Elt F) (M.view.loc (c : Thread nD τ))
abbrev half (c : Dev nD) {S : Shape} {e : EltTy} (M : Memref sig .tc .smem S e) (f : Held (F := F) c M) : sProp 𝕄 :=
  M.view.loc (c : Thread nD τ) ↦{fullShare.right} f

/-- The one index of a one-element array. -/
abbrev only1 : S1.Idx := fun a => ⟨0, (by decide : ∀ a : Fin 1, 0 < S1.size a) a⟩

/-- A tile is used if it comes before the number of used tiles. -/
def used (i : grid0.Coords) (nu : S1.Idx → BitVec 32) : Prop := ((i 0).val : Int) < (nu only1).toInt

instance (i : grid0.Coords) (nu : S1.Idx → BitVec 32) : Decidable (used i nu) := inferInstanceAs (Decidable (_ < _))

theorem toInt_coord (i : grid0.Coords) : (BitVec.ofNat 32 (i 0).val).toInt = ((i 0).val : Int) := by
  have h : (i 0).val < 288 := (i 0).isLt
  exact WordCmp.toInt_ofNat_of_lt (lt_of_lt_of_le h (by decide))

theorem cond1_iff (i : grid0.Coords) (nu : S1.Idx → BitVec 32) : Iff (k0_cond1 i (nu only1) = 1#1) (used i nu) := by
  unfold k0_cond1 used
  rw [← toInt_coord i]
  simp only [Scalar.cmpi, Scalar.extui, WordCmp.cmpi_slt_eq]
  by_cases h : (BitVec.ofNat 32 (i 0).val).toInt < (nu only1).toInt
  · rw [decide_eq_true h]; simp [h]; decide
  · rw [decide_eq_false h]; simp [h]; decide

theorem cond3_iff (i : grid0.Coords) (nu : S1.Idx → BitVec 32) : Iff (k0_cond3 i (nu only1) = 1#1) (¬ used i nu) := by
  unfold k0_cond3 used
  rw [← toInt_coord i]
  simp only [Scalar.cmpi, Scalar.extui, WordCmp.cmpi_sge_eq, not_lt]
  by_cases h : (nu only1).toInt ≤ (BitVec.ofNat 32 (i 0).val).toInt
  · rw [decide_eq_true h]; simp [h]; decide
  · rw [decide_eq_false h]; simp [h]; decide

/-- The point is the first of its tile's four. -/
def first (i : grid0.Coords) : Prop := (i 1).val = 0

instance (i : grid0.Coords) : Decidable (first i) := inferInstanceAs (Decidable (_ = _))

theorem first_iff (i : grid0.Coords) :
    Iff (Scalar.cmpi .ne (Scalar.extui (Scalar.cmpi .eq (BitVec.ofNat 32 (i 1).val) 0#32)) 0#32 = 1#1) (first i) := by
  have h : (i 1).val < 4 := (i 1).isLt
  unfold first
  generalize (i 1).val = n at h ⊢
  revert h
  revert n
  decide

/-- What the body leaves in the scratch buffer, which held `s`. -/
def scratchNext (i : grid0.Coords) (nu : S1.Idx → BitVec 32) (x0 : Vec F S512x2048 .f32) (s : Vec F S512x2048 .bf16) : Vec F S512x2048 .bf16 :=
  if used i nu ∧ first i then k0_pay2 x0 else s

/-- What the body leaves in the output's block when the scratch buffer holds `s` at its matrix products. -/
def outBlock (i : grid0.Coords) (nu : S1.Idx → BitVec 32) (s : Vec F S512x2048 .bf16) (x1 x2 : Vec F S1x2048x512 .bf16)
    (x3 x4 : Vec F S1x1x512 .f32) : Vec F S512x512 .bf16 :=
  if used i nu then k0_pay3 s x1 x3 x2 x4 else k0_pay1

theorem word_eq (c : Dev nD) (nu : Held (F := F) c nUsed) (h) :
    View.readAt (Elt F) nUsed.view (Rect.unit ![0] S1.size inb_S1_S1_0).toLoadRect nu (Shape.Idx.first h) = nu only1 := by
  show nu _ = nu _
  exact congrArg nu (funext fun a => Fin.ext (by have := a.isLt; match a with | ⟨0, _⟩ => rfl))

set_option maxHeartbeats 2000000 in
/-- The body at any point, in a used tile or not. -/
theorem run_body (c : Dev nD) (i : grid0.Coords) (a4 : Memref sig .tc .vmem S512x2048 .f32) (h4 : a4.IsWhole) (a5 : Memref sig .tc .vmem S1x2048x512 .bf16) (h5 : a5.IsWhole) (a6 : Memref sig .tc .vmem S1x2048x512 .bf16) (h6 : a6.IsWhole) (a7 : Memref sig .tc .vmem S1x1x512 .f32) (h7 : a7.IsWhole) (a8 : Memref sig .tc .vmem S1x1x512 .f32) (h8 : a8.IsWhole) (a9 : Memref sig .tc .vmem S512x512 .bf16) (h9 : a9.IsWhole) (a10 : Memref sig .tc .vmem S512x2048 .bf16) (h10 : a10.IsWhole)
    (x0 : Vec F S512x2048 .f32) (x1 x2 : Vec F S1x2048x512 .bf16) (x3 x4 : Vec F S1x1x512 .f32) (s : Vec F S512x2048 .bf16) (te : Held (F := F) c experts) (nu : Held (F := F) c nUsed)
    (E : Set ℕ) (K : PUnit → sProp 𝕄) :
    iprop(owns (c : Thread nD τ) a4 fullShare x0 ∗ owns (c : Thread nD τ) a5 fullShare x1 ∗ owns (c : Thread nD τ) a6 fullShare x2 ∗ owns (c : Thread nD τ) a7 fullShare x3 ∗ owns (c : Thread nD τ) a8 fullShare x4 ∗ (∃ d, owns (c : Thread nD τ) a9 fullShare d) ∗ owns (c : Thread nD τ) a10 fullShare s ∗ half c experts te ∗ half c nUsed nu
        ∗ (iprop(owns (c : Thread nD τ) a4 fullShare x0 ∗ owns (c : Thread nD τ) a5 fullShare x1 ∗ owns (c : Thread nD τ) a6 fullShare x2 ∗ owns (c : Thread nD τ) a7 fullShare x3 ∗ owns (c : Thread nD τ) a8 fullShare x4 ∗ owns (c : Thread nD τ) a9 fullShare (outBlock i nu (scratchNext i nu x0 s) x1 x2 x3 x4) ∗ owns (c : Thread nD τ) a10 fullShare (scratchNext i nu x0 s) ∗ half c experts te ∗ half c nUsed nu) -∗ K ⟨⟩))
      ⊢ wp frame (wpE (defs₀ (F := F)) Variants.none c none) E (cc0_moe_gateup i experts (Memref.isWhole_whole _) nUsed (Memref.isWhole_whole _) a4 h4 a5 h5 a6 h6 a7 h7 a8 h8 a9 h9 a10 h10) K := by
  simp only [cc0_moe_gateup_eq_skeleton]; unfold cc0_moe_gateup_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, HT0, HT1, Hk⟩
  obtain rfl := h4.eq_unread hf0; obtain rfl := h5.eq_unread hf1; obtain rfl := h6.eq_unread hf2; obtain rfl := h7.eq_unread hf3; obtain rfl := h8.eq_unread hf4; obtain rfl := h10.eq_unread hf6
  sl_exec
  sl_step
  iapply Hk
  isplitl [H0]
  · iexists _; isplitr
    · ipureintro; exact hf0
    iexact H0
  isplitl [H1]
  · iexists _; isplitr
    · ipureintro; exact hf1
    iexact H1
  isplitl [H2]
  · iexists _; isplitr
    · ipureintro; exact hf2
    iexact H2
  isplitl [H3]
  · iexists _; isplitr
    · ipureintro; exact hf3
    iexact H3
  isplitl [H4]
  · iexists _; isplitr
    · ipureintro; exact hf4
    iexact H4
  isplitl [H5]
  · iexists _; isplitr
    swap
    · iexact H5
    ipureintro
    have hw : run_body.sl.r c nu = nu only1 := word_eq c nu _
    have h10i : Iff (run_body.sl.v10 i = 1#1) (first i) := first_iff i
    rw [hw]
    unfold outBlock
    by_cases hu : used i nu
    · have h1 := (cond1_iff i nu).mpr hu
      have h3 : ¬ k0_cond3 i (nu only1) = 1#1 := fun h => (cond3_iff i nu).mp h hu
      have hv : run_body.sl.v11 c i a4 h4 a10 h10 x0 s = scratchNext i nu x0 s := by
        unfold run_body.sl.v11 scratchNext
        by_cases hj : first i
        · rw [dif_pos (h10i.mpr hj), if_pos ⟨hu, hj⟩, View.readAt_full, View.read_writes_full, View.readAt_full, hf0]
        · rw [dif_neg (fun h => hj (h10i.mp h)), if_neg (fun h => hj h.2), View.readAt_full, hf6]
      rw [dif_neg h3, dif_pos h1, if_pos hu, View.read_writes_full, hv, View.readAt_full, View.readAt_full, View.readAt_full,
        View.readAt_full, hf1, hf2, hf3, hf4]
    · rw [dif_pos ((cond3_iff i nu).mpr hu), if_neg hu, View.read_writes_full]
  isplitl [H6]
  · iexists _; isplitr
    swap
    · iexact H6
    ipureintro
    have hw : run_body.sl.r c nu = nu only1 := word_eq c nu _
    have h10i : Iff (run_body.sl.v10 i = 1#1) (first i) := first_iff i
    rw [hw]
    unfold scratchNext
    by_cases hu : used i nu
    · rw [dif_pos ((cond1_iff i nu).mpr hu)]
      by_cases hj : first i
      · rw [dif_pos (h10i.mpr hj), if_pos ⟨hu, hj⟩, View.read_writes_full, View.readAt_full, hf0]
      · rw [dif_neg (fun h => hj (h10i.mp h)), if_neg (fun h => hj h.2), hf6]
    · rw [dif_neg (fun h => hu ((cond1_iff i nu).mp h)), if_neg (fun h => hu h.1), hf6]
  isplitl [HT0]
  · iexact HT0
  iexact HT1

end Cert.GateUpIdeal.Hand

end
-- ==== Proof.GateUpIdeal.Frame.lean ====
/- The gate and up projection's frame. A tile's four points follow one another and are given the same
   rows, so from a used tile's first point on the scratch buffer holds those rows rounded; at every
   grid point the body leaves its output block at `outBlock` of them, and the whole call runs and
   leaves its arguments unchanged. -/
module

public import proofs.«01_k».proof.Proof.GateUpIdeal.Run
public import Idealize.ShloMosaic.Lib.Pipeline.ValueKit

@[expose] public section

set_option maxRecDepth 16384

noncomputable section

namespace Cert.GateUpIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.GateUpIdeal Cert.GateUpIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a buffer of core `c` holds when the call begins, after the host's operations. -/
abbrev V (c : Dev nD) (b : Ref sig .tc) : Buf (Elt F) ((c : Thread nD τ).loc b) :=
  StableHlo.after hostOps0 (fun b => m (c, b)) b

theorem host_fresh : (hostOps0 : List (HloOp τ sig (Elt F))).Forall fun op => op.fresh = ∅ := by
  simp only [List.Forall]; repeat' constructor

set_option maxHeartbeats 800000 in
/-- The program is the host's operations and then the call. -/
theorem host_then_call (𝒱₀ : Variants) :
    Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub host_fresh main_chain

/-- The host's operations write none of the arguments. -/
theorem V_arg (c : Dev nD) (b : Ref sig .tc) (hb : b ∈ [main_arg0, main_arg1, main_arg2, main_arg3, main_arg4]) :
    V m c b = m ((c : Thread nD τ).loc b) :=
  StableHlo.after_of_forall_not_mem (b := Proc.devRef .tc b) _ _ (List.forall_iff_forall_mem.mp (by
    simp only [List.mem_cons, List.not_mem_nil, or_false] at hb
    rcases hb with rfl | rfl | rfl | rfl | rfl
    all_goals
      simp only [hostOps0, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))

/-- The two tables when the call begins. -/
def tbl : pre0.Contents (Elt F) := fun j => V m (0 : Dev nD) (pre0.ref j)

theorem tbl_eq (c : Dev nD) (j : Fin 2) : V m c (pre0.ref j) = tbl m j := by
  obtain rfl : c = 0 := Subsingleton.elim _ _; rfl

/-- Every block the tables choose lies inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The number of used tiles. -/
abbrev nu : S1.Idx → BitVec 32 := tbl m 1

theorem tables_eq (c : Dev nD) :
    (Pipeline.ΦT pre0 (tbl m) c : sProp 𝕄) = iprop(half c experts (tbl m 0) ∗ half c nUsed (tbl m 1)) := by
  unfold Pipeline.ΦT Pipeline.prefHeld
  rw [show (Finset.univ : Finset (Fin 2)) = insert (0 : Fin 2) {(1 : Fin 2)} from by decide,
    bigSep_insert (by decide), bigSep_singleton]
  rfl

/-- The output is written at every point, whatever the tables hold. -/
theorem live_of (pf : pre0.Contents (Elt F)) (i : grid0.Coords) : idle0 pf 5 i = false := by
  have hw : pf.atD 1 ![0] = (pf 1 : S1.Idx → BitVec 32) only1 := by
    refine (dif_pos (by decide)).trans ?_
    exact congrArg (pf 1 : S1.Idx → BitVec 32) (funext fun a => Fin.ext (by match a with | ⟨0, _⟩ => rfl))
  show (!(k0_cond1 i (pf.atD 1 ![0]) == 1#1) && !(k0_cond3 i (pf.atD 1 ![0]) == 1#1)) = false
  rw [hw]
  by_cases hu : used i (pf 1)
  · rw [(cond1_iff i (pf 1)).mpr hu]; rfl
  · rw [(cond3_iff i (pf 1)).mpr hu]; simp

/-- Window `w`'s block at point `t`. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- The rows a point is given. -/
def rows (hO : Ok m) (c : Dev nD) (t : Fin (cfgM m hO).N) : Vec F S512x2048 .f32 := iblk m hO c 0 t

/-- What the body leaves in the output's block at point `t`. -/
def outAt (hO : Ok m) (c : Dev nD) (t : Fin (cfgM m hO).N) : Vec F S512x512 .bf16 :=
  outBlock (grid0.coords t) (nu m) (k0_pay2 (rows m hO c t)) (iblk m hO c 1 t) (iblk m hO c 2 t) (iblk m hO c 3 t) (iblk m hO c 4 t)

theorem rows_index (pf : pre0.Contents (Elt F)) (i i' : grid0.Coords) (h : i 0 = i' 0) :
    cc0_transform_0 inb_S1_S1_0 numel1_S1 pf i = cc0_transform_0 inb_S1_S1_0 numel1_S1 pf i' := by
  unfold cc0_transform_0
  simp only [h]

/-- The points of one tile are given the same rows. -/
theorem rows_same (hO : Ok m) (c : Dev nD) (t t' : Fin (cfgM m hO).N) (h : grid0.coords t 0 = grid0.coords t' 0) :
    rows m hO c t = rows m hO c t' := by
  have e : ((cfg0 (adm m hO)).win 0).index t = ((cfg0 (adm m hO)).win 0).index t' :=
    rows_index (tbl m) (grid0.coords t) (grid0.coords t') h
  funext y
  revert y
  show ∀ y : S512x2048.Idx, _
  intro y
  idx_vars y
  blk_simp [rows, iblk]
  exact congrArg (V m c main_arg2 : Vec F S147456x2048 .f32) (by blk_ext [e])

/-- What is known of the scratch buffer before point `n`, inside a used tile: it holds the tile's rows rounded. -/
def Ready (hO : Ok m) (c : Dev nD) (n : ℕ) (s : Vec F S512x2048 .bf16) : Prop :=
  n % 4 ≠ 0 → ∀ h : n < (cfgM m hO).N, used (grid0.coords ⟨n, h⟩) (nu m) → s = k0_pay2 (rows m hO c ⟨n, h⟩)

theorem coord0 (t : Fin grid0.N) : (grid0.coords t 0).val = t.val / 4 % 288 := Pipeline.Grid.coords_val t 0 (by decide) rfl
theorem coord1 (t : Fin grid0.N) : (grid0.coords t 1).val = t.val / 1 % 4 := Pipeline.Grid.coords_val t 1 (by decide) rfl

theorem used_congr {i i' : grid0.Coords} (h : i 0 = i' 0) (n : S1.Idx → BitVec 32) : used i n → used i' n := by
  unfold used; rw [h]; exact id

/-- Inside a used tile the body's products read the tile's rows rounded. -/
theorem scratchNext_used (hO : Ok m) (c : Dev nD) (t : Fin (cfgM m hO).N) (s : Vec F S512x2048 .bf16) (hs : Ready m hO c t.val s)
    (hu : used (grid0.coords t) (nu m)) : scratchNext (grid0.coords t) (nu m) (rows m hO c t) s = k0_pay2 (rows m hO c t) := by
  unfold scratchNext
  by_cases hj : first (grid0.coords t)
  · rw [if_pos ⟨hu, hj⟩]
  · rw [if_neg fun h => hj h.2]
    have e := coord1 t
    exact hs (fun h => hj (by unfold first; omega)) t.isLt hu

theorem outBlock_next (hO : Ok m) (c : Dev nD) (t : Fin (cfgM m hO).N) (s : Vec F S512x2048 .bf16) (hs : Ready m hO c t.val s)
    (x1 x2 : Vec F S1x2048x512 .bf16) (x3 x4 : Vec F S1x1x512 .f32) :
    outBlock (grid0.coords t) (nu m) (scratchNext (grid0.coords t) (nu m) (rows m hO c t) s) x1 x2 x3 x4
      = outBlock (grid0.coords t) (nu m) (k0_pay2 (rows m hO c t)) x1 x2 x3 x4 := by
  by_cases hu : used (grid0.coords t) (nu m)
  · rw [scratchNext_used m hO c t s hs hu]
  · unfold outBlock
    rw [if_neg hu, if_neg hu]

theorem ready_next (hO : Ok m) (c : Dev nD) (t : Fin (cfgM m hO).N) (s : Vec F S512x2048 .bf16) (hs : Ready m hO c t.val s) :
    Ready m hO c (t.val + 1) (scratchNext (grid0.coords t) (nu m) (rows m hO c t) s) := by
  intro hn h hu
  have hc : grid0.coords (⟨t.val + 1, h⟩ : Fin grid0.N) 0 = grid0.coords t 0 := Fin.ext (by
    rw [coord0, coord0]
    show (t.val + 1) / 4 % 288 = t.val / 4 % 288
    omega)
  rw [scratchNext_used m hO c t s hs (used_congr hc _ hu), rows_same m hO c t ⟨t.val + 1, h⟩ hc.symm]

/-- The scratch buffer as a memref. -/
abbrev scratch : Memref sig .tc .vmem S512x2048 .bf16 := Memref.whole cc0_scratch0

theorem held_eq (c : Dev nD) :
    (Pipeline.ΦA spec0 c : sProp 𝕄) = iprop(iprop(∃ d, owns (c : Thread nD τ) scratch fullShare d) ∗ (∃ r, prngReg c r)) := by
  unfold Pipeline.ΦA; rw [scopedRest0_eq]; simp only [scratch, owns_whole]; try rfl

/-- What is held before point `n`, beside the windows. -/
def inv (hO : Ok m) (c : Dev nD) (n : ℕ) : sProp 𝕄 :=
  iprop(iprop(iprop(∃ s, ⌜Ready m hO c n s⌝ ∗ owns (c : Thread nD τ) scratch fullShare s) ∗ (∃ r, prngReg c r)) ∗ Pipeline.ΦT pre0 (tbl m) c)

/-- The arrays at the start, the blocks after each point, and what is held in between. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outAt m hO c t
  Φ t := inv m hO c t.val
  q w := Pipeline.shareOf spec0 w
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = iblk m hO c 4 t := by dsimp only [dats]; try rfl
theorem after_5 (hO : Ok m) (c : Dev nD) (t : Fin (cfgM m hO).N) : (dats m hO 0 c).after 5 t = outAt m hO c t := by dsimp only [dats]; try rfl

/-- Each input's staging buffer holds its block at every point. -/
theorem before_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (hO : Ok m) (c : Dev nD) (t : Fin (cfgM m hO).N) (d) : (dats m hO 0 c).before 4 t d = iblk m hO c 4 t :=
  ((dats m hO 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)

/-- The body as the pipeline calls it at point `t`. -/
abbrev bodyAt (a : (pcfg0 (F := F)).Adm) (t : Fin (cfg0 a).N) : Prog (TpuEff nD τ sig (Elt F) Λ₀ .tc) PUnit :=
  cc0_moe_gateup (grid0.coords t) experts (Memref.isWhole_whole _) nUsed (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))
    (spec0_3.stage ((cfg0 a).slots t 3)) (hstage0_3 (((cfg0 a).slots t 3).cast nbuf0_3))
    (spec0_4.stage ((cfg0 a).slots t 4)) (hstage0_4 (((cfg0 a).slots t 4).cast nbuf0_4))
    (spec0_5.stage ((cfg0 a).slots t 5)) (hstage0_5 (((cfg0 a).slots t 5).cast nbuf0_5))
    scratch (Memref.isWhole_whole _)

/-- What the body is called with at point `t`, and what it returns. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (spec0_0.stage ((cfgM m hO).slots t 0)) fullShare ((dats m hO 0 c).before 0 t d))
    ∗ (∃ d, owns (c : Thread nD τ) (spec0_1.stage ((cfgM m hO).slots t 1)) fullShare ((dats m hO 0 c).before 1 t d))
    ∗ (∃ d, owns (c : Thread nD τ) (spec0_2.stage ((cfgM m hO).slots t 2)) fullShare ((dats m hO 0 c).before 2 t d))
    ∗ (∃ d, owns (c : Thread nD τ) (spec0_3.stage ((cfgM m hO).slots t 3)) fullShare ((dats m hO 0 c).before 3 t d))
    ∗ (∃ d, owns (c : Thread nD τ) (spec0_4.stage ((cfgM m hO).slots t 4)) fullShare ((dats m hO 0 c).before 4 t d))
    ∗ (∃ d, owns (c : Thread nD τ) (spec0_5.stage ((cfgM m hO).slots t 5)) fullShare ((dats m hO 0 c).before 5 t d)))
def bodyPost (hO : Ok m) (c : Dev nD) (t : Fin (cfgM m hO).N) : sProp 𝕄 :=
  iprop((dats m hO 0 c).Φ t.succ ∗ (dats m hO 0 c).owesAt () t.succ
    ∗ owns (c : Thread nD τ) (spec0_0.stage ((cfgM m hO).slots t 0)) fullShare ((dats m hO 0 c).after 0 t)
    ∗ owns (c : Thread nD τ) (spec0_1.stage ((cfgM m hO).slots t 1)) fullShare ((dats m hO 0 c).after 1 t)
    ∗ owns (c : Thread nD τ) (spec0_2.stage ((cfgM m hO).slots t 2)) fullShare ((dats m hO 0 c).after 2 t)
    ∗ owns (c : Thread nD τ) (spec0_3.stage ((cfgM m hO).slots t 3)) fullShare ((dats m hO 0 c).after 3 t)
    ∗ owns (c : Thread nD τ) (spec0_4.stage ((cfgM m hO).slots t 4)) fullShare ((dats m hO 0 c).after 4 t)
    ∗ owns (c : Thread nD τ) (spec0_5.stage ((cfgM m hO).slots t 5)) fullShare ((dats m hO 0 c).after 5 t))

theorem inv_before (hO : Ok m) (c : Dev nD) (t : Fin (cfgM m hO).N) : (dats m hO 0 c).Φ t.castSucc = inv m hO c t.val := by
  dsimp only [dats]; rw [Fin.val_castSucc]
theorem inv_after (hO : Ok m) (c : Dev nD) (t : Fin (cfgM m hO).N) : (dats m hO 0 c).Φ t.succ = inv m hO c (t.val + 1) := by
  dsimp only [dats]; rw [Fin.val_succ]

/-- The body at any point. -/
theorem sound_body (hO : Ok m) (c : Dev nD) (t : Fin (cfgM m hO).N) :
    bodyPre m hO c t ⊢ wp frame (wpE (defs₀ (F := F)) Variants.none c none) Set.univ (bodyAt (adm m hO) t) (fun _ => bodyPost m hO c t) := by
  unfold bodyPre bodyPost bodyAt
  simp only [before_0, before_1, before_2, before_3, before_4]
  rw [show (dats m hO 0 c).owesAt () t.succ = (dats m hO 0 c).owesAt () t.castSucc from rfl,
    after_0, after_1, after_2, after_3, after_4, after_5, inv_before, inv_after]
  unfold inv
  rw [tables_eq]
  iintro ⟨⟨⟨⟨%s, %hs, HS⟩, Hg⟩, ⟨HT0, HT1⟩⟩, Ho, ⟨%d0, H0⟩, ⟨%d1, H1⟩, ⟨%d2, H2⟩, ⟨%d3, H3⟩, ⟨%d4, H4⟩, ⟨%d5, H5⟩⟩
  iapply (run_body c (grid0.coords t) _ _ _ _ _ _ _ _ _ _ _ _ scratch (Memref.isWhole_whole _) (rows m hO c t) (iblk m hO c 1 t) (iblk m hO c 2 t) (iblk m hO c 3 t) (iblk m hO c 4 t) s (tbl m 0) (tbl m 1) Set.univ _)
  isplitl [H0]; · iexact H0
  isplitl [H1]; · iexact H1
  isplitl [H2]; · iexact H2
  isplitl [H3]; · iexact H3
  isplitl [H4]; · iexact H4
  isplitl [H5]; · iexists _; iexact H5
  isplitl [HS]; · iexact HS
  isplitl [HT0]; · iexact HT0
  isplitl [HT1]; · iexact HT1
  iintro ⟨H0, H1, H2, H3, H4, H5, HS, HT0, HT1⟩
  isplitl [HS Hg HT0 HT1]
  · isplitl [HS Hg]
    · isplitl [HS]
      · iexists _; isplitr
        swap; · iexact HS
        ipureintro; exact ready_next m hO c t s hs
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  rw [show outAt m hO c t = _ from (outBlock_next m hO c t s hs _ _ _ _).symm]
  iexact H5

theorem row_eq (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

/-- The library's obligation for the body. -/
theorem body_obligation (hO : Ok m) (c : Dev nD) : BodyObligation (dats (F := F) m hO 0 c) (defs₀ (F := F)) Variants.none () Set.univ := fun t => by
  rw [bigSep_W0, bigSep_W0, row_eq m hO]
  refine triple_restated (sound_body m hO c t) rfl .rfl fun _ => ?_
  dsimp only
  rw [live_of (tbl m)]
  exact .rfl

/-- The call begins with the scratch buffer at anything, and gives it back at anything. -/
theorem inv_first (hO : Ok m) (c : Dev nD) : iprop(Pipeline.ΦA spec0 c ∗ Pipeline.ΦT pre0 (tbl m) c) ⊢ (dats m hO 0 c).Φ 0 := by
  rw [show (dats m hO 0 c).Φ 0 = inv m hO c 0 from rfl, held_eq]
  unfold inv
  iintro ⟨⟨⟨%d, HS⟩, Hg⟩, HT⟩
  isplitl [HS Hg]
  · isplitl [HS]
    · iexists d; isplitr
      · ipureintro; exact fun h => absurd rfl h
      iexact HS
    iexact Hg
  iexact HT

theorem inv_last (hO : Ok m) (c : Dev nD) : (dats m hO 0 c).Φ (Fin.last (cfgM m hO).N) ⊢ Pipeline.ΦA spec0 c := by
  rw [show (dats m hO 0 c).Φ (Fin.last (cfgM m hO).N) = inv m hO c (Fin.last (cfgM m hO).N).val from rfl, held_eq]
  unfold inv
  iintro ⟨⟨⟨%s, %hs, HS⟩, Hg⟩, -⟩
  isplitl [HS]
  · iexists _; iexact HS
  iexact Hg

set_option backward.isDefEq.respectTransparency.types false in
/-- The program runs, and ends with the call's arrays as the blocks say and every semaphore at zero. -/
theorem run_main (hO : Ok m) : θ_run defs (onTc (τ := τ) (main (F := F))) (s₀ m ρ) (fun r =>
    Pipeline.FramePost (Pipeline.pin pcfgs fun _ => adm m hO) (dats m hO) 0 (V m) r ∧ r.2.sem = fun _ => 0) :=
  Pipeline.θ_run_frameP_track_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := host_then_call m Variants.none) (hA := A_eq m hO) (hpf := tbl_eq m)
    (hin := inv_first m hO) (hout := inv_last m hO)

/-- The program runs, leaves its arguments unchanged, and its result is what the blocks say. -/
theorem run_result (hO : Ok m) : θ_run defs (onTc (τ := τ) (main (F := F))) ⟨m, fun _ => 0, ρ⟩ (fun r => (∀ c : Dev nD,
      r.2.mem ((c.tc : Thread nD τ).loc main_v16) = (dats m hO 0 c).arrAt 5 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ ⟨h, hz⟩ => ⟨fun c => ⟨(h c).1 5,
      ((h c).2 main_arg0 (by decide : main_arg0 ∈ Pipeline.restRefs sig spec0)).trans (V_arg m c main_arg0 (by simp)),
      ((h c).2 main_arg1 (by decide : main_arg1 ∈ Pipeline.restRefs sig spec0)).trans (V_arg m c main_arg1 (by simp)),
      ((h c).1 0).trans (((dats m hO 0 c).arrAt_in 0 rfl _).trans ((A_eq m hO c 0).trans (V_arg m c main_arg2 (by simp)))),
      ((h c).2 main_arg3 (by decide : main_arg3 ∈ Pipeline.restRefs sig spec0)).trans (V_arg m c main_arg3 (by simp)),
      ((h c).2 main_arg4 (by decide : main_arg4 ∈ Pipeline.restRefs sig spec0)).trans (V_arg m c main_arg4 (by simp))⟩, hz⟩)
    (run_main m ρ hO)

end Cert.GateUpIdeal.Hand

end
-- ==== Proof.GateUpIdeal.Tables.lean ====
/- The tables and arrays the gate and up projection's call begins with, of the program's arguments. -/
module

public import proofs.«01_k».proof.Proof.GateUpIdeal.Frame
public import proofs.«01_k».proof.Proof.Words
public import Idealize.ShloMosaic.Lib.Pointwise
public import Idealize.ShloMosaic.Lib.StableHlo.ReadAt
public import Idealize.ShloMosaic.Lib.Routing.OpsSet

@[expose] public section

set_option maxRecDepth 16384

noncomputable section

namespace Cert.GateUpIdeal.Hand

open Idealize.ShloMosaic Idealize.ShloMosaic.TcCoe Idealize.SL.Sem
open Cert.Tiles
open Cert.GateUpIdeal Cert.GateUpIdeal.Gen

variable {F : FTy → Type} [FloatOps F]
variable (m : (ℓ : Loc nD τ sig) → Buf (Elt F) ℓ) (c : Dev nD)

/-- The first table: each tile's expert, of a used tile its own, of the others the last used one's. -/
theorem entry_expert (te : IVec S288 32) (n : IVec S1 32) (ht : m (c, main_arg0) = te) (hn : m (c, main_arg1) = n)
    (hn1 : 1 ≤ (n only1).toInt) (i : Fin 288) :
    (V m c main_v14 : IVec S288 32) (ix1 i) = te (ix1 (lastTile (n only1) i)) := by
  subst ht hn
  unfold V
  after_reads_simp
  refine Routing.gather_take1 _ rfl rfl rfl rfl _ _ i (lastTile _ i) ?_ (by decide)
  refine Eq.trans (?_ : _ = lookup (m (c, main_arg1) only1) (BitVec.ofNat 32 i.val)) (lookup_eq hn1 i)
  pointwise [lookup]
  rw [show (ix1 (0 : Fin 1) : S1.Idx) = only1 from funext fun a => Fin.ext (by match a with | ⟨0, _⟩ => rfl)]

section Blocks

variable (pf : pre0.Contents (Elt F)) (i : grid0.Coords)

/-- The number of used tiles, as an index map reads it. -/
theorem read_used (hb : ∀ a, (![0] : Fin 1 → Nat) a + S1.size a ≤ S1.size a) (hn : S1.numel = 1) :
    pf.at 1 (Rect.unit (s := S1) ![0] S1.size hb) hn = (pf 1 : S1.Idx → BitVec 32) only1 :=
  congrArg (pf 1 : S1.Idx → BitVec 32) (funext fun a => Fin.ext (by match a with | ⟨0, _⟩ => rfl))

/-- A tile's expert, as an index map reads it. -/
theorem read_expert (hb : ∀ a, (k0_off1 i) a + S1.size a ≤ S288.size a) (hn : S1.numel = 1) :
    pf.at 0 (Rect.unit (s := S288) (k0_off1 i) S1.size hb) hn = (pf 0 : S288.Idx → BitVec 32) (ix1 (i 0)) := by
  refine congrArg (pf 0 : S288.Idx → BitVec 32) (funext fun a => Fin.ext ?_)
  match a with
  | ⟨0, _⟩ =>
    have hi : (i 0).val < 288 := (i 0).isLt
    show (BitVec.ofNat 32 (i 0).val).toNat + 1 * _ = (i 0).val
    rw [BitVec.toNat_ofNat, Nat.mod_eq_of_lt (by omega)]
    rfl

theorem t0_eq (h1 : 1 ≤ ((pf 1 : S1.Idx → BitVec 32) only1).toInt) :
    cc0_transform_0 inb_S1_S1_0 numel1_S1 pf i = ![(lastTile ((pf 1 : S1.Idx → BitVec 32) only1) (i 0)).val, 0] := by
  unfold cc0_transform_0
  simp only [read_used pf]
  exact congrArg (fun x => ![x, 0]) (minsi_last_toNat h1 (i 0))

theorem t1_eq : cc0_transform_1 k0_off1_inb numel1_S1 pf i = ![((pf 0 : S288.Idx → BitVec 32) (ix1 (i 0))).toNat, 0, (i 1).val] := by
  unfold cc0_transform_1
  dsimp only
  rw [show pf.at 0 (Rect.unit (s := S288) ![(Scalar.indexCast (BitVec.ofNat 32 (i 0).val)).toNat] S1.size (k0_off1_inb i)) numel1_S1 = _ from read_expert pf i (k0_off1_inb i) numel1_S1,
    show (BitVec.ofNat 32 (i 1).val).toNat = (i 1).val from by
      rw [BitVec.toNat_ofNat, Nat.mod_eq_of_lt (lt_trans (i 1).isLt (by decide))]]
  rfl

theorem t2_eq : cc0_transform_2 k0_off1_inb numel1_S1 pf i = ![((pf 0 : S288.Idx → BitVec 32) (ix1 (i 0))).toNat, 0, 4 + (i 1).val] := by
  unfold cc0_transform_2
  dsimp only
  rw [show pf.at 0 (Rect.unit (s := S288) ![(Scalar.indexCast (BitVec.ofNat 32 (i 0).val)).toNat] S1.size (k0_off1_inb i)) numel1_S1 = _ from read_expert pf i (k0_off1_inb i) numel1_S1,
    show (Scalar.addi 4#32 (BitVec.ofNat 32 (i 1).val)).toNat = 4 + (i 1).val from by
      have h : (i 1).val < 4 := (i 1).isLt
      generalize (i 1).val = n at h ⊢
      revert h
      revert n
      decide]
  rfl

theorem t3_eq : cc0_transform_3 k0_off1_inb numel1_S1 pf i = ![((pf 0 : S288.Idx → BitVec 32) (ix1 (i 0))).toNat, 0, (i 1).val] := t1_eq pf i
theorem t4_eq : cc0_transform_4 k0_off1_inb numel1_S1 pf i = ![((pf 0 : S288.Idx → BitVec 32) (ix1 (i 0))).toNat, 0, 4 + (i 1).val] := t2_eq pf i

/-- Every block lies inside its array when the experts are numbers below 32 and a tile is used. -/
theorem ok_of_tables (h1 : 1 ≤ ((pf 1 : S1.Idx → BitVec 32) only1).toInt)
    (hE : ∀ j : Fin 288, ((pf 0 : S288.Idx → BitVec 32) (ix1 j)).toNat < 32) : ok0 pf := by
  refine ⟨fun i => ⟨?_, .inl rfl⟩, fun i => ⟨?_, .inr ?_⟩, fun i => ⟨?_, .inr ?_⟩, fun i => ⟨?_, .inl rfl⟩, fun i => ⟨?_, .inl rfl⟩⟩
  · rw [t0_eq pf i h1]
    have := (lastTile ((pf 1 : S1.Idx → BitVec 32) only1) (i 0)).isLt
    intro a
    match a with
    | ⟨0, _⟩ => show (_ + 1) * 512 ≤ 147456; simp; omega
    | ⟨1, _⟩ => show (0 + 1) * 2048 ≤ 2048; omega
  · rw [t1_eq pf i]
    have := hE (i 0)
    have h2 : (i 1).val < 4 := (i 1).isLt
    intro a
    match a with
    | ⟨0, _⟩ => show (_ + 1) * 1 ≤ 32; simp; omega
    | ⟨1, _⟩ => show (0 + 1) * 2048 ≤ 2048; omega
    | ⟨2, _⟩ => show ((i 1).val + 1) * 512 ≤ 4096; omega
  · refine .inl (.inr ⟨by decide, rfl, .inl ⟨?_, ?_⟩⟩)
    · show 2 ∣ cc0_transform_1 k0_off1_inb numel1_S1 pf i 1 * 2048
      omega
    · show 2 ∣ 2048
      omega
  · rw [t2_eq pf i]
    have := hE (i 0)
    have h2 : (i 1).val < 4 := (i 1).isLt
    intro a
    match a with
    | ⟨0, _⟩ => show (_ + 1) * 1 ≤ 32; simp; omega
    | ⟨1, _⟩ => show (0 + 1) * 2048 ≤ 2048; omega
    | ⟨2, _⟩ => show ((4 + (i 1).val) + 1) * 512 ≤ 4096; omega
  · refine .inl (.inr ⟨by decide, rfl, .inl ⟨?_, ?_⟩⟩)
    · show 2 ∣ cc0_transform_2 k0_off1_inb numel1_S1 pf i 1 * 2048
      omega
    · show 2 ∣ 2048
      omega
  · rw [t3_eq pf i]
    have := hE (i 0)
    have h2 : (i 1).val < 4 := (i 1).isLt
    intro a
    match a with
    | ⟨0, _⟩ => show (_ + 1) * 1 ≤ 32; simp; omega
    | ⟨1, _⟩ => show (0 + 1) * 1 ≤ 1; omega
    | ⟨2, _⟩ => show ((i 1).val + 1) * 512 ≤ 4096; omega
  · rw [t4_eq pf i]
    have := hE (i 0)
    have h2 : (i 1).val < 4 := (i 1).isLt
    intro a
    match a with
    | ⟨0, _⟩ => show (_ + 1) * 1 ≤ 32; simp; omega
    | ⟨1, _⟩ => show (0 + 1) * 1 ≤ 1; omega
    | ⟨2, _⟩ => show ((4 + (i 1).val) + 1) * 512 ≤ 4096; omega

end Blocks

theorem tbl_expert (te : IVec S288 32) (n : IVec S1 32) (ht : m (0, main_arg0) = te) (hn : m (0, main_arg1) = n)
    (hR : Routed (fun j => te (ix1 j)) (n only1)) (j : Fin 288) : (tbl m 0 : S288.Idx → BitVec 32) (ix1 j) = te (ix1 (lastTile (n only1) j)) :=
  entry_expert m 0 te n ht hn hR.one j

theorem tbl_used (n : IVec S1 32) (hn : m (0, main_arg1) = n) : (tbl m 1 : S1.Idx → BitVec 32) = n :=
  (V_arg m 0 main_arg1 (by simp)).trans hn

/-- Under the precondition the call's blocks lie inside their arrays. -/
theorem ok_of_routed (te : IVec S288 32) (n : IVec S1 32) (ht : m (0, main_arg0) = te) (hn : m (0, main_arg1) = n)
    (hR : Routed (fun j => te (ix1 j)) (n only1)) : Ok m :=
  ok_of_tables (tbl m) (by rw [tbl_used m n hn]; exact hR.one)
    fun j => by rw [tbl_expert m te n ht hn hR j]; exact hR.expert_lt j

end Cert.GateUpIdeal.Hand

end
-- ==== Proof.GateUpIdeal.Blocks.lean ====
/- The gate and up projection's blocks: which part of each array a grid point is given. -/
module

public import proofs.«01_k».proof.Proof.GateUpIdeal.Tables
public import Idealize.ShloMosaic.Lib.Pipeline.ValueKit

@[expose] public section

set_option maxRecDepth 16384

noncomputable section

namespace Cert.GateUpIdeal.Hand

open Idealize.ShloMosaic Idealize.ShloMosaic.TcCoe Idealize.SL.Sem
open Idealize.ShloMosaic.Pipeline (Dat)
open Cert.Tiles
open Cert.GateUpIdeal Cert.GateUpIdeal.Gen

/-- The output's window, which no table moves. -/
@[reducible] def outWin : Pipeline.Window sig grid0 :=
  spec0_5.pin nbuf0_5 cc0_transform_5 hreads0_5 (fun h => absurd h (Nat.ne_of_gt hrank0)) (fun _ _ => none)
    (fun i a => hinb0_5 i a)
    (fun i => (hwx0_5 i).elim View.wordExact_bits ((harr0 5).wordExact_slice rfl _))
    (fun i s => spec0_5.wordExact_stage_whole s _)

theorem outWin_covers : outWin.Covers := by decide +kernel

variable {F : FTy → Type} [FloatOps F]

section Index

variable (a : (pcfg0 (F := F)).Adm)

theorem out_covers : ((cfg0 a).win 5).Covers := outWin_covers

/-- The block each window is at, at a grid point. -/
theorem at0 (h1 : 1 ≤ ((a.1 1 : S1.Idx → BitVec 32) only1).toInt) (t : Fin (cfg0 a).N) :
    ((cfg0 a).win 0).index t = ![(lastTile ((a.1 1 : S1.Idx → BitVec 32) only1) (grid0.coords t 0)).val, 0] := t0_eq a.1 (grid0.coords t) h1
theorem at1 (t : Fin (cfg0 a).N) : ((cfg0 a).win 1).index t
    = ![((a.1 0 : S288.Idx → BitVec 32) (ix1 (grid0.coords t 0))).toNat, 0, (grid0.coords t 1).val] := t1_eq a.1 (grid0.coords t)
theorem at2 (t : Fin (cfg0 a).N) : ((cfg0 a).win 2).index t
    = ![((a.1 0 : S288.Idx → BitVec 32) (ix1 (grid0.coords t 0))).toNat, 0, 4 + (grid0.coords t 1).val] := t2_eq a.1 (grid0.coords t)
theorem at3 (t : Fin (cfg0 a).N) : ((cfg0 a).win 3).index t
    = ![((a.1 0 : S288.Idx → BitVec 32) (ix1 (grid0.coords t 0))).toNat, 0, (grid0.coords t 1).val] := t3_eq a.1 (grid0.coords t)
theorem at4 (t : Fin (cfg0 a).N) : ((cfg0 a).win 4).index t
    = ![((a.1 0 : S288.Idx → BitVec 32) (ix1 (grid0.coords t 0))).toNat, 0, 4 + (grid0.coords t 1).val] := t4_eq a.1 (grid0.coords t)
theorem at5 (t : Fin (cfg0 a).N) : ((cfg0 a).win 5).index t = ![(grid0.coords t 0).val, (grid0.coords t 1).val] :=
  (by decide +kernel : ∀ t : Fin grid0.N, cc0_transform_5 (grid0.coords t) = ![(grid0.coords t 0).val, (grid0.coords t 1).val]) t

end Index

variable (m : (ℓ : Loc nD τ sig) → Buf (Elt F) ℓ) (hO : Ok m) (c : Dev nD) (t : Fin (cfgM m hO).N)

/-- Grid point `t`'s tile and quarter of the columns. -/
def tileAt : Fin 288 := grid0.coords t 0
def quarterAt : Fin 4 := grid0.coords t 1

theorem blk0 (h1 : 1 ≤ (nu m only1).toInt) (r : Fin 512) (k : Fin 2048) :
    (rows m hO c t) (ix2 r k)
      = (V m c main_arg2 : Vec F S147456x2048 .f32) (ix2 ⟨(lastTile (nu m only1) (tileAt m hO t)).val * 512 + r.val, by omega⟩ k) := by
  blk_simp [rows, iblk]
  exact congrArg (V m c main_arg2 : Vec F S147456x2048 .f32) (by blk_ext [at0 (adm m hO) h1, tileAt])

theorem blk1 (e : Fin 32) (he : ((tbl m 0 : S288.Idx → BitVec 32) (ix1 (tileAt m hO t))).toNat = e.val) (k : Fin 2048) (q : Fin 512) :
    (iblk m hO c 1 t : Vec F S1x2048x512 .bf16) (ix3 0 k q)
      = (V m c main_v1 : Vec F S32x2048x4096 .bf16) (ix3 e k ⟨(quarterAt m hO t).val * 512 + q.val, by omega⟩) := by
  unfold tileAt at he
  blk_simp [iblk]
  exact congrArg (V m c main_v1 : Vec F S32x2048x4096 .bf16) (by blk_ext [at1 (adm m hO), quarterAt, he])

theorem blk2 (e : Fin 32) (he : ((tbl m 0 : S288.Idx → BitVec 32) (ix1 (tileAt m hO t))).toNat = e.val) (k : Fin 2048) (q : Fin 512) :
    (iblk m hO c 2 t : Vec F S1x2048x512 .bf16) (ix3 0 k q)
      = (V m c main_v1 : Vec F S32x2048x4096 .bf16) (ix3 e k ⟨2048 + ((quarterAt m hO t).val * 512 + q.val), by omega⟩) := by
  unfold tileAt at he
  blk_simp [iblk]
  exact congrArg (V m c main_v1 : Vec F S32x2048x4096 .bf16) (by blk_ext [at2 (adm m hO), quarterAt, he])

theorem blk3 (e : Fin 32) (he : ((tbl m 0 : S288.Idx → BitVec 32) (ix1 (tileAt m hO t))).toNat = e.val) (q : Fin 512) :
    (iblk m hO c 3 t : Vec F S1x1x512 .f32) (ix3 0 0 q)
      = (V m c main_v15 : Vec F S32x1x4096 .f32) (ix3 e 0 ⟨(quarterAt m hO t).val * 512 + q.val, by omega⟩) := by
  unfold tileAt at he
  blk_simp [iblk]
  exact congrArg (V m c main_v15 : Vec F S32x1x4096 .f32) (by blk_ext [at3 (adm m hO), quarterAt, he])

theorem blk4 (e : Fin 32) (he : ((tbl m 0 : S288.Idx → BitVec 32) (ix1 (tileAt m hO t))).toNat = e.val) (q : Fin 512) :
    (iblk m hO c 4 t : Vec F S1x1x512 .f32) (ix3 0 0 q)
      = (V m c main_v15 : Vec F S32x1x4096 .f32) (ix3 e 0 ⟨2048 + ((quarterAt m hO t).val * 512 + q.val), by omega⟩) := by
  unfold tileAt at he
  blk_simp [iblk]
  exact congrArg (V m c main_v15 : Vec F S32x1x4096 .f32) (by blk_ext [at4 (adm m hO), quarterAt, he])

end Cert.GateUpIdeal.Hand

end
-- ==== Proof.GateUp.Ref.lean ====
/- The gate and up projection's reference, entry by entry. -/
module

public import proofs.«01_k».proof.Proof.Gen.GateUpRefIdeal.Run
public import proofs.«01_k».proof.Proof.Words
public import Idealize.ShloMosaic.Lib.Pointwise
public import Idealize.ShloMosaic.Lib.Tactic.CleanTypes

@[expose] public section

noncomputable section

namespace Cert.GateUpRefIdeal.Hand

open Cert.GateUpRefIdeal Cert.GateUpRefIdeal.Gen Idealize.ShloMosaic Idealize.ShloMosaic.TcCoe Idealize.SL.Sem Cert.Tiles

/-- Each row's expert, −1 where its tile is not used. -/
def rowExpert (te : IVec S288 32) (n : IVec S1 32) : IVec S147456 32 :=
  shapeCast _ (broadcastInDim S288x512 ![0, 1] bcast_S288x1_S288x512_0_1 (broadcastInDim S288x1 ![0] bcast_S288_S288x1_0 (select (cmpi .slt (iotaInDim S288 32 0) (broadcastInDim S288 ![] bcast_S_S288 (shapeCast _ n shapeCasts_S1_S_))) te (broadcastInDim S288 ![] bcast_S_S288 (id (constantI S_ 32 4294967295#32)))))) shapeCasts_S288x512_S147456

/-- One at each row's expert, 0 at the others. -/
def gates (E : IVec S147456 32) : FVec Ideal S147456x32 .f32 :=
  select (cmpi .eq (broadcastInDim S147456x32 ![0, 1] bcast_S147456x1_S147456x32_0_1 (broadcastInDim S147456x1 ![0] bcast_S147456_S147456x1_0 E)) (broadcastInDim S147456x32 ![0, 1] bcast_S1x32_S147456x32_0_1 (broadcastInDim S1x32 ![1] bcast_S32_S1x32_1 (iotaInDim S32 32 0)))) (broadcastInDim S147456x32 ![] bcast_S_S147456x32 (constant S_ .f32 0x3F800000#32)) (broadcastInDim S147456x32 ![] bcast_S_S147456x32 (constant S_ .f32 0x00000000#32))

/-- Each row's product with each expert's matrix, plus that expert's bias: the gate's columns and then the up columns. -/
def gu (A2 : FVec Ideal S147456x2048 .f32) (A3 : FVec Ideal S1x32x2048x4096 .f32) (A4 : FVec Ideal S1x32x4096 .f32) :
    FVec Ideal S147456x32x4096 .f32 :=
  addf (Host.dotGeneral dot_S147456x2048_S32x2048x4096_S147456x32x4096_1_1_0_02_n_n none A2 (shapeCast _ A3 shapeCasts_S1x32x2048x4096_S32x2048x4096)) (broadcastInDim S147456x32x4096 ![0, 1, 2] bcast_S1x32x4096_S147456x32x4096_0_1_2 (broadcastInDim S1x32x4096 ![1, 2] bcast_S32x4096_S1x32x4096_1_2 (shapeCast _ A4 shapeCasts_S1x32x4096_S32x4096)))

theorem first_half (Y : FVec Ideal S147456x32x4096 .f32) (r : Fin 147456) (e : Fin 32) (q : Fin 2048) :
    extractStridedSlice S147456x32x2048 ![0, 0, 0] Y slices_S147456x32x4096_S147456x32x2048_0_0_0 (ix3 r e q) = Y (ix3 r e ⟨q.val, by omega⟩) := by
  refine congrArg Y (funext fun a => Fin.ext ?_)
  match a with
  | ⟨0, _⟩ => show 0 + r.val = r.val; omega
  | ⟨1, _⟩ => show 0 + e.val = e.val; omega
  | ⟨2, _⟩ => show 0 + q.val = q.val; omega

theorem second_half (Y : FVec Ideal S147456x32x4096 .f32) (r : Fin 147456) (e : Fin 32) (q : Fin 2048) :
    extractStridedSlice S147456x32x2048 ![0, 0, 2048] Y slices_S147456x32x4096_S147456x32x2048_0_0_2048 (ix3 r e q) = Y (ix3 r e ⟨2048 + q.val, by omega⟩) := by
  refine congrArg Y (funext fun a => Fin.ext ?_)
  match a with
  | ⟨0, _⟩ => show 0 + r.val = r.val; omega
  | ⟨1, _⟩ => show 0 + e.val = e.val; omega
  | ⟨2, _⟩ => rfl

/-- The two halves of the columns. -/
def gateHalf (Y : FVec Ideal S147456x32x4096 .f32) : FVec Ideal S147456x32x2048 .f32 :=
  extractStridedSlice S147456x32x2048 ![0, 0, 0] Y slices_S147456x32x4096_S147456x32x2048_0_0_0
def upHalf (Y : FVec Ideal S147456x32x4096 .f32) : FVec Ideal S147456x32x2048 .f32 :=
  extractStridedSlice S147456x32x2048 ![0, 0, 2048] Y slices_S147456x32x4096_S147456x32x2048_0_0_2048

/-- The activation of each row under each expert. -/
def acts (G U : FVec Ideal S147456x32x2048 .f32) : FVec Ideal S147456x32x2048 .f32 :=
  mulf (mulf (addf (minimumf (broadcastInDim S147456x32x2048 ![] bcast_S_S147456x32x2048 (id (constant S_ .f32 0x40E00000#32))) (maximumf (broadcastInDim S147456x32x2048 ![] bcast_S_S147456x32x2048 (id (constant S_ .f32 0xC0E00000#32))) U)) (broadcastInDim S147456x32x2048 ![] bcast_S_S147456x32x2048 (constant S_ .f32 0x3F800000#32))) (minimumf G (broadcastInDim S147456x32x2048 ![] bcast_S_S147456x32x2048 (constant S_ .f32 0x40E00000#32)))) (Host.divf (broadcastInDim S147456x32x2048 ![] bcast_S_S147456x32x2048 (constant S_ .f32 0x3F800000#32)) (addf (broadcastInDim S147456x32x2048 ![] bcast_S_S147456x32x2048 (constant S_ .f32 0x3F800000#32)) (Host.exp (Host.negf (mulf (broadcastInDim S147456x32x2048 ![] bcast_S_S147456x32x2048 (constant S_ .f32 0x3FD9DB23#32)) (minimumf G (broadcastInDim S147456x32x2048 ![] bcast_S_S147456x32x2048 (constant S_ .f32 0x40E00000#32))))))))

/-- The same, of the products. -/
def outs (Y : FVec Ideal S147456x32x4096 .f32) : FVec Ideal S147456x32x2048 .f32 := acts (gateHalf Y) (upHalf Y)

/-- The sum over the experts. -/
def mixed (G : FVec Ideal S147456x32 .f32) (Y : FVec Ideal S147456x32x2048 .f32) : FVec Ideal S147456x2048 .f32 :=
  Host.reduceAdd (mulf (broadcastInDim S147456x32x2048 ![0, 1, 2] bcast_S147456x32x1_S147456x32x2048_0_1_2 (broadcastInDim S147456x32x1 ![0, 1] bcast_S147456x32_S147456x32x1_0_1 G)) Y) (constant S_ .f32 0x00000000#32) reducesTo_S147456x32x2048_S147456x2048_d1 h_S_

/-- Row `r`'s tile. -/
def tileOf (r : Fin 147456) : Fin 288 := ⟨r.val / 512, by omega⟩

theorem rowExpert_apply (te : IVec S288 32) (n : IVec S1 32) (r : Fin 147456) :
    rowExpert te n (ix1 r) = Scalar.select (IntOp.cmpi .slt (BitVec.ofNat 32 (tileOf r).val) (n (ix1 0))) (te (ix1 (tileOf r))) 4294967295#32 := by
  unfold rowExpert
  pointwise
  rfl

/-- The activation of one gate and one up entry: the up entry kept between −7 and 7, plus one, times the gate kept below 7,
    times the sigmoid of 1.702 times it. -/
def act (g u : EReal) : EReal :=
  (min (Ideal.ofBits .f32 0x40E00000#32) (max (Ideal.ofBits .f32 0xC0E00000#32) u) + Ideal.ofBits .f32 0x3F800000#32)
    * min g (Ideal.ofBits .f32 0x40E00000#32)
    * Ideal.logistic (Ideal.ofBits .f32 0x3FD9DB23#32 * min g (Ideal.ofBits .f32 0x40E00000#32))

theorem gates_apply (E : IVec S147456 32) (r : Fin 147456) (e : Fin 32) :
    gates E (ix2 r e) = if E (ix1 r) = BitVec.ofNat 32 e.val then 1 else 0 := by
  unfold gates
  pointwise
  rw [WordCmp.cmpi_eq_eq]
  by_cases h : E (ix1 r) = BitVec.ofNat 32 e.val
  · rw [if_pos h, decide_eq_true h]; rfl
  · rw [if_neg h, decide_eq_false h]; rfl

theorem gu_apply (A2 : FVec Ideal S147456x2048 .f32) (A3 : FVec Ideal S1x32x2048x4096 .f32) (A4 : FVec Ideal S1x32x4096 .f32)
    (r : Fin 147456) (e : Fin 32) (q : Fin 4096) :
    gu A2 A3 A4 (ix3 r e q) = (∑ k : Fin 2048, A2 (ix2 r k) * A3 (ix4 0 e k q)) + A4 (ix3 0 e q) := by
  unfold gu
  pointwise

theorem acts_apply (G U : FVec Ideal S147456x32x2048 .f32) (r : Fin 147456) (e : Fin 32) (q : Fin 2048) :
    acts G U (ix3 r e q) = act (G (ix3 r e q)) (U (ix3 r e q)) := by
  unfold acts act Ideal.logistic
  pointwise
  rfl

theorem outs_apply (Y : FVec Ideal S147456x32x4096 .f32) (r : Fin 147456) (e : Fin 32) (q : Fin 2048) :
    outs Y (ix3 r e q) = act (Y (ix3 r e ⟨q.val, by omega⟩)) (Y (ix3 r e ⟨2048 + q.val, by omega⟩)) := by
  unfold outs
  rw [acts_apply, show gateHalf Y (ix3 r e q) = _ from first_half Y r e q, show upHalf Y (ix3 r e q) = _ from second_half Y r e q]

theorem mixed_apply (G : FVec Ideal S147456x32 .f32) (Y : FVec Ideal S147456x32x2048 .f32) (r : Fin 147456) (q : Fin 2048) :
    mixed G Y (ix2 r q) = ∑ e : Fin 32, G (ix2 r e) * Y (ix3 r e q) := by
  unfold mixed
  pointwise

/-- The reference's result. -/
def res (te : IVec S288 32) (n : IVec S1 32) (A2 : FVec Ideal S147456x2048 .f32) (A3 : FVec Ideal S1x32x2048x4096 .f32)
    (A4 : FVec Ideal S1x32x4096 .f32) : FVec Ideal S147456x2048 .bf16 :=
  truncf .bf16 (mixed (gates (rowExpert te n)) (outs (gu A2 A3 A4))) bitsLt_bf16_f32

/-- Of a row whose tile is used the sum has one term, its expert's; of any other none. -/
theorem res_apply (te : IVec S288 32) (n : IVec S1 32) (A2 : FVec Ideal S147456x2048 .f32) (A3 : FVec Ideal S1x32x2048x4096 .f32)
    (A4 : FVec Ideal S1x32x4096 .f32) (hR : Routed (fun j => te (ix1 j)) (n (ix1 0))) (r : Fin 147456) (q : Fin 2048) :
    res te n A2 A3 A4 (ix2 r q) = if h : ((tileOf r).val : Int) < (n (ix1 0)).toInt then
      act ((∑ k : Fin 2048, A2 (ix2 r k) * A3 (ix4 0 ⟨(te (ix1 (tileOf r))).toNat, hR.used_lt h⟩ k ⟨q.val, by omega⟩))
          + A4 (ix3 0 ⟨(te (ix1 (tileOf r))).toNat, hR.used_lt h⟩ ⟨q.val, by omega⟩))
        ((∑ k : Fin 2048, A2 (ix2 r k) * A3 (ix4 0 ⟨(te (ix1 (tileOf r))).toNat, hR.used_lt h⟩ k ⟨2048 + q.val, by omega⟩))
          + A4 (ix3 0 ⟨(te (ix1 (tileOf r))).toNat, hR.used_lt h⟩ ⟨2048 + q.val, by omega⟩)) else 0 := by
  unfold res
  rw [show truncf .bf16 (mixed (gates (rowExpert te n)) (outs (gu A2 A3 A4))) bitsLt_bf16_f32 (ix2 r q)
    = mixed (gates (rowExpert te n)) (outs (gu A2 A3 A4)) (ix2 r q) from rfl, mixed_apply]
  simp only [gates_apply, outs_apply, gu_apply, rowExpert_apply]
  by_cases h : ((tileOf r).val : Int) < (n (ix1 0)).toInt
  · rw [dif_pos h, select_used h, Finset.sum_eq_single (⟨(te (ix1 (tileOf r))).toNat, hR.used_lt h⟩ : Fin 32)]
    · rw [if_pos (BitVec.eq_of_toNat_eq (by rw [BitVec.toNat_ofNat]; exact (Nat.mod_eq_of_lt (te (ix1 (tileOf r))).isLt).symm)), one_mul]
    · intro e _ hne
      rw [if_neg, zero_mul]
      intro he
      apply hne
      apply Fin.ext
      have hb := e.isLt
      show e.val = (te (ix1 (tileOf r))).toNat
      rw [he, BitVec.toNat_ofNat, Nat.mod_eq_of_lt (by omega)]
    · intro h; exact absurd (Finset.mem_univ _) h
  · rw [dif_neg h, select_unused h]
    refine Finset.sum_eq_zero fun e _ => ?_
    rw [if_neg, zero_mul]
    intro he
    have hb := e.isLt
    have := congrArg BitVec.toNat he
    rw [BitVec.toNat_ofNat, BitVec.toNat_ofNat] at this
    omega

end Cert.GateUpRefIdeal.Hand

end
-- ==== Proof.GateUpIdeal.Value.lean ====
/- The gate and up projection's result: the reference's, entry by entry. -/
module

public import proofs.«01_k».proof.Proof.GateUpIdeal.Blocks
public import proofs.«01_k».proof.Proof.GateUp.Ref

@[expose] public section

set_option maxRecDepth 16384

noncomputable section

namespace Cert.GateUpIdeal.Hand

open Idealize.ShloMosaic Idealize.ShloMosaic.TcCoe Idealize.SL.Sem
open Idealize.ShloMosaic.Pipeline (Dat)
open Cert.Tiles
open Cert.GateUpIdeal Cert.GateUpIdeal.Gen

open Cert.GateUpRefIdeal.Hand (act)

/-- A used tile's block, entry by entry. -/
theorem pay3_apply (x0 : Vec Ideal S512x2048 .f32) (x1 x2 : Vec Ideal S1x2048x512 .bf16) (x3 x4 : Vec Ideal S1x1x512 .f32)
    (r q : Fin 512) :
    k0_pay3 (k0_pay2 x0) x1 x3 x2 x4 (ix2 r q) = act ((∑ k : Fin 2048, x0 (ix2 r k) * x1 (ix3 0 k q)) + x3 (ix3 0 0 q))
      ((∑ k : Fin 2048, x0 (ix2 r k) * x2 (ix3 0 k q)) + x4 (ix3 0 0 q)) := by
  unfold k0_pay3 k0_pay2 act
  pointwise
  try rfl

theorem pay1_apply (r q : Fin 512) : k0_pay1 (F := Ideal) (ix2 r q) = 0 := by
  show Ideal.ofBits .bf16 0x0000#16 = 0
  simp [Ideal.ofBits, Ideal.ieee, -EReal.coe_mul]

variable (m : (ℓ : Loc nD τ sig) → Buf (Elt Ideal) ℓ) (c : Dev nD)

theorem entry_weight (A : FVec Ideal S1x32x2048x4096 .f32) (hA : m (c, main_arg3) = A) (e : Fin 32) (k : Fin 2048) (q : Fin 4096) :
    (V m c main_v1 : Vec Ideal S32x2048x4096 .bf16) (ix3 e k q) = A (ix4 0 e k q) := by
  subst hA
  unfold V
  after_reads_at

theorem entry_bias (A : FVec Ideal S1x32x4096 .f32) (hA : m (c, main_arg4) = A) (e : Fin 32) (q : Fin 4096) :
    (V m c main_v15 : Vec Ideal S32x1x4096 .f32) (ix3 e 0 q) = A (ix3 0 e q) := by
  subst hA
  unfold V
  after_reads_at

theorem tileOf_at (i : Fin 288) (r : Fin 512) : Cert.GateUpRefIdeal.Hand.tileOf ⟨i.val * 512 + r.val, by omega⟩ = i :=
  Fin.ext (by show (i.val * 512 + r.val) / 512 = i.val; omega)

theorem out_used (hO : Ok m) (t : Fin (cfgM m hO).N) (hu : used (grid0.coords t) (nu m)) (x1 x2 : Vec Ideal S1x2048x512 .bf16)
    (x3 x4 : Vec Ideal S1x1x512 .f32) (h1 : iblk m hO c 1 t = x1) (h2 : iblk m hO c 2 t = x2) (h3 : iblk m hO c 3 t = x3)
    (h4 : iblk m hO c 4 t = x4) (r q : Fin 512) :
    outAt m hO c t (ix2 r q) = act ((∑ k : Fin 2048, rows m hO c t (ix2 r k) * x1 (ix3 0 k q)) + x3 (ix3 0 0 q))
      ((∑ k : Fin 2048, rows m hO c t (ix2 r k) * x2 (ix3 0 k q)) + x4 (ix3 0 0 q)) := by
  subst h1 h2 h3 h4
  unfold outAt outBlock
  rw [if_pos hu]
  exact pay3_apply _ _ _ _ _ r q

theorem out_unused (hO : Ok m) (t : Fin (cfgM m hO).N) (hu : ¬ used (grid0.coords t) (nu m)) (r q : Fin 512) :
    outAt m hO c t (ix2 r q) = 0 := by
  unfold outAt outBlock
  rw [if_neg hu]
  exact pay1_apply r q

/-- The kernel's result array is the reference's. -/
theorem arr_eq (te : IVec S288 32) (n : IVec S1 32) (A2 : FVec Ideal S147456x2048 .f32) (A3 : FVec Ideal S1x32x2048x4096 .f32)
    (A4 : FVec Ideal S1x32x4096 .f32)
    (ht : m (c, main_arg0) = te) (hn : m (c, main_arg1) = n) (h2 : m (c, main_arg2) = A2) (h3 : m (c, main_arg3) = A3)
    (h4 : m (c, main_arg4) = A4)
    (hR : Routed (fun j => te (ix1 j)) (n (ix1 0))) (hO : Ok m) :
    (dats m hO 0 c).arrAt 5 (cfgM m hO).N = Cert.GateUpRefIdeal.Hand.res te n A2 A3 A4 := by
  obtain rfl : c = 0 := Subsingleton.elim _ _
  have hnu : nu m = n := tbl_used m n hn
  have e1 : (ix1 (0 : Fin 1) : S1.Idx) = only1 := funext fun a => Fin.ext (by match a with | ⟨0, _⟩ => rfl)
  have hR' : Routed (fun j => te (ix1 j)) (n only1) := by rw [← e1]; exact hR
  have hone : 1 ≤ (nu m only1).toInt := by rw [hnu]; exact hR'.one
  refine (dats m hO 0 0).arrAt_eq_of_covers 5 _ (out_covers (adm m hO)) fun t hf y => ?_
  blk_simp
  rw [after_5]
  revert y
  show ∀ y : S512x512.Idx, _
  intro y
  idx_vars y
  have e : (((cfgM m hO).win 5).blk t).view.emb (ix2 y0 y1)
      = ix2 ⟨(tileAt m hO t).val * 512 + y0.val, by omega⟩ ⟨(quarterAt m hO t).val * 512 + y1.val, by omega⟩ := by
    blk_ext [at5 (adm m hO), tileAt, quarterAt]
  rw [e, Cert.GateUpRefIdeal.Hand.res_apply te n A2 A3 A4 hR, tileOf_at]
  by_cases hu : used (grid0.coords t) (nu m)
  · have hu' : ((tileAt m hO t).val : Int) < (n (ix1 0)).toInt := by rw [e1, ← hnu]; exact hu
    have hl : lastTile (nu m only1) (tileAt m hO t) = tileAt m hO t := lastTile_used (by rw [hnu, ← e1]; exact hu')
    have he : ((tbl m 0 : S288.Idx → BitVec 32) (ix1 (tileAt m hO t))).toNat
        = (⟨(te (ix1 (tileAt m hO t))).toNat, hR.used_lt hu'⟩ : Fin 32).val := by
      rw [tbl_expert m te n ht hn hR', show lastTile (n only1) (tileAt m hO t) = tileAt m hO t by rw [← hnu]; exact hl]
    refine (out_used m 0 hO t hu _ _ _ _ rfl rfl rfl rfl y0 y1).trans ?_
    rw [dif_pos hu']
    simp only [blk0 m hO 0 t hone, blk1 m hO 0 t _ he, blk2 m hO 0 t _ he, blk3 m hO 0 t _ he, blk4 m hO 0 t _ he, hl]
    simp only [entry_weight m 0 A3 h3, entry_bias m 0 A4 h4, V_arg m 0 main_arg2 (by simp)]
    subst h2
    rfl
  · have hu' : ¬ ((tileAt m hO t).val : Int) < (n (ix1 0)).toInt := by rw [e1, ← hnu]; exact hu
    rw [dif_neg hu']
    exact out_unused m 0 hO t hu y0 y1

end Cert.GateUpIdeal.Hand

end
-- ==== Proof.GateUp.Routed.lean ====
/- What the gate and up projection's precondition says of the tables, as numbers. -/
module

public import proofs.«01_k».proof.Pre_routed
public import proofs.«01_k».proof.Proof.Routed

@[expose] public section

noncomputable section

namespace Cert.Tiles

open Idealize.ShloMosaic

variable {F : FTy → Type} [FloatOps F]

open Cert.Pre_routed
variable [Cert.Pre_routed.Facts]

theorem routed_of_gateup (te : IVec S288 32) (n : IVec S1 32) (x2 : FVec F S147456x2048 .f32) (x3 : FVec F S1x32x2048x4096 .f32)
    (x4 : FVec F S1x32x4096 .f32)
    (h : (fn (F := F) te n x2 x3 x4).1 = (fun _ => 1#1) ∧ (fn (F := F) te n x2 x3 x4).2.1 = (fun _ => 1#1)
      ∧ (fn (F := F) te n x2 x3 x4).2.2 = (fun _ => 1#1)) : Routed (fun j => te (ix1 j)) (n (ix1 0)) := by
  obtain ⟨h0, h1, h2⟩ := h
  refine routed_of_words _ _ (fun j => ?_) (fun j => ?_) ?_
  · rw [← congrFun h0 (ix1 j)]; (pointwise [fn, fn_where]; try rfl)
  · rw [← congrFun h1 (ix1 j)]; (pointwise [fn, fn_where]; try rfl)
  · rw [← congrFun h2 (ix1 0)]; (pointwise [fn, fn_where]; try rfl)

end Cert.Tiles

end
-- ==== Proof.GateUp.Claims.lean ====
/- The claims about the gate and up projection. -/
module

public import proofs.«01_k».proof.Defs
public import proofs.«01_k».proof.Proof.GateUp.Tables
public import proofs.«01_k».proof.Proof.GateUpIdeal.Value
public import proofs.«01_k».proof.Proof.GateUp.Routed
public import proofs.«01_k».proof.Proof.Gen.Pre_routed
public import Idealize.ShloMosaic.Adequacy
public import Idealize.ShloMosaic.Init

@[expose] public section

noncomputable section

namespace Cert.GateUp.Claims

open Idealize.ShloMosaic Idealize.SL.Sem Cert.Tiles

theorem only1_eq : (ix1 (0 : Fin 1) : Cert.GateUp.S1.Idx) = Cert.GateUp.Hand.only1 :=
  funext fun a => Fin.ext (by match a with | ⟨0, _⟩ => rfl)

theorem only1_eq_ideal : (ix1 (0 : Fin 1) : Cert.GateUpIdeal.S1.Idx) = Cert.GateUpIdeal.Hand.only1 :=
  funext fun a => Fin.ext (by match a with | ⟨0, _⟩ => rfl)

/-- The kernel runs, its arguments end as they were and its semaphores at zero. -/
theorem frame : Cert.quiescent_GateUp := by
  intro m ρ hpre
  have hR := routed_of_gateup _ _ _ _ _ (hpre 0)
  have hO := Cert.GateUp.Hand.ok_of_routed m _ _ rfl rfl (by rw [← only1_eq]; exact hR)
  exact (θ_run Cert.GateUp.defs _ _).mono (fun r h => ⟨fun c => (h.1 c).2, h.2⟩) (Cert.GateUp.Hand.run_result m ρ hO)

theorem frameIdeal : Cert.quiescent_GateUpIdeal := by
  intro m ρ hpre
  have hR := routed_of_gateup _ _ _ _ _ (hpre 0)
  have hO := Cert.GateUpIdeal.Hand.ok_of_routed m _ _ rfl rfl (by rw [← only1_eq_ideal]; exact hR)
  exact (θ_run Cert.GateUpIdeal.defs _ _).mono (fun r h => ⟨fun c => (h.1 c).2, h.2⟩) (Cert.GateUpIdeal.Hand.run_result m ρ hO)

/-- The reference runs, and its arguments end as they were. -/
theorem frameRef : Cert.quiescent_GateUpRefIdeal := fun m ρ _ =>
  (θ_run Cert.GateUpRefIdeal.defs _ _).mono (fun r h => ⟨fun c => (h c).2, sem_eq_zero_of_no_sems (by decide) r.2⟩)
    (Cert.GateUpRefIdeal.Value.run (F := Ideal) m ρ)

/-- The kernel and the reference agree. -/
theorem algebraic : Cert.algebraic_GateUpIdeal_GateUpRefIdeal := by
  intro m ρ m' ρ' hpre hagree
  have hR := routed_of_gateup _ _ _ _ _ (hpre 0)
  have hO := Cert.GateUpIdeal.Hand.ok_of_routed m _ _ rfl rfl (by rw [← only1_eq_ideal]; exact hR)
  refine ⟨fun c => (Cert.GateUpIdeal.Hand.dats m hO 0 c).arrAt 5 (Cert.GateUpIdeal.Hand.cfgM m hO).N,
    (θ_run Cert.GateUpIdeal.defs _ _).mono (fun r h => h.1) (Cert.GateUpIdeal.Hand.run_result m ρ hO), ?_⟩
  refine (θ_run Cert.GateUpRefIdeal.defs _ _).mono (fun _ h c => ⟨(h c).1.trans ?_, (h c).2⟩)
    (Cert.GateUpRefIdeal.Value.run (F := Ideal) m' ρ')
  obtain rfl : c = 0 := Subsingleton.elim _ _
  obtain ⟨g0, g1, g2, g3, g4⟩ := hagree 0
  have hR' : Routed (fun j => (m' ((0 : Dev Cert.GateUpRefIdeal.nD).tc.loc Cert.GateUpRefIdeal.main_arg0) : IVec Cert.GateUpRefIdeal.S288 32) (ix1 j))
      ((m' ((0 : Dev Cert.GateUpRefIdeal.nD).tc.loc Cert.GateUpRefIdeal.main_arg1) : IVec Cert.GateUpRefIdeal.S1 32) (ix1 0)) := by rw [g0, g1]; exact hR
  exact (show _ = Cert.GateUpRefIdeal.Hand.res _ _ _ _ _ from rfl).trans
    (Cert.GateUpIdeal.Hand.arr_eq m 0 _ _ _ _ _ g0.symm g1.symm g2.symm g3.symm g4.symm hR' hO).symm

end Cert.GateUp.Claims

end
-- ==== Proof.InProjIdeal.Run.lean ====
/- What the body of the in-projection does at one grid point. At the first of a block of rows' four points it
   normalizes the rows, rounds them and keeps them in the scratch buffer; at each point it multiplies what the
   scratch holds by a quarter of the weights and stores the product, turned by the rotary tables or as it is,
   in the outputs of that quarter; the other outputs' blocks stay as they were. -/
module

public import proofs.«01_k».proof.Proof.Gen.InProjIdeal.Launch
public import proofs.«01_k».proof.Proof.Gen.InProjIdeal.Skeleton
public import Idealize.ShloMosaic.Lib.Pipeline.FrameBody
public import Idealize.ShloMosaic.Lib.Pipeline.Kit
public import Idealize.ShloMosaic.Lib.Ring
public import Idealize.ShloMosaic.Lib.Tactic
public import Idealize.ShloMosaic.Lib.VecWindow

@[expose] public section

set_option maxRecDepth 16384

noncomputable section

namespace Cert.InProjIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.InProjIdeal Cert.InProjIdeal.Gen

variable {F : FTy → Type} [FloatOps F]

local notation "𝕄" => MT nD τ sig Unit (Elt F) ℕ (UR sig nD τ) ℕ

/-- `new` at a block of rows' point `n`, `old` at its other points. -/
def onlyAt {α : Type} (n : ℕ) (i : grid0.Coords) (new old : α) : α := if (i 1).val = n then new else old

theorem word_iff (i : grid0.Coords) (n : Fin 4) :
    Iff (Scalar.cmpi .ne (Scalar.extui (Scalar.cmpi .eq (BitVec.ofNat 32 (i 1).val) (BitVec.ofNat 32 n.val))) 0#32 = 1#1) ((i 1).val = n.val) := by
  have h : (i 1).val < 4 := (i 1).isLt
  generalize (i 1).val = k at h ⊢
  revert h
  revert k
  revert n
  decide

theorem first_iff (i : grid0.Coords) :
    Iff (Scalar.cmpi .ne (Scalar.extui (Scalar.cmpi .eq (BitVec.ofNat 32 (i 1).val) 0#32)) 0#32 = 1#1) ((i 1).val = 0) := word_iff i 0
theorem cond2_iff (i : grid0.Coords) : Iff (k0_cond2 i = 1#1) ((i 1).val = 0) := word_iff i 0
theorem cond3_iff (i : grid0.Coords) : Iff (k0_cond3 i = 1#1) ((i 1).val = 1) := word_iff i 1
theorem cond4_iff (i : grid0.Coords) : Iff (k0_cond4 i = 1#1) ((i 1).val = 2) := word_iff i 2
theorem cond5_iff (i : grid0.Coords) : Iff (k0_cond5 i = 1#1) ((i 1).val = 3) := word_iff i 3

/-- What the body leaves in the scratch buffer, which held `s`. -/
def scratchNext (i : grid0.Coords) (x : Vec F S512x2048 .f32) (g : Vec F S1x2048 .f32) (s : Vec F S512x2048 .bf16) : Vec F S512x2048 .bf16 :=
  onlyAt 0 i (k0_pay1 x g) s

set_option maxHeartbeats 4000000 in
/-- The body at any point. -/
theorem run_body (c : Dev nD) (i : grid0.Coords) (a2 : Memref sig .tc .vmem S512x2048 .f32) (h2 : a2.IsWhole) (a3 : Memref sig .tc .vmem S1x2048 .f32) (h3 : a3.IsWhole) (a4 : Memref sig .tc .vmem S2048x1024 .bf16) (h4 : a4.IsWhole) (a5 : Memref sig .tc .vmem S512x128 .f32) (h5 : a5.IsWhole) (a6 : Memref sig .tc .vmem S512x128 .f32) (h6 : a6.IsWhole) (a7 : Memref sig .tc .vmem S512x128 .f32) (h7 : a7.IsWhole) (a8 : Memref sig .tc .vmem S512x1024 .bf16) (h8 : a8.IsWhole) (a9 : Memref sig .tc .vmem S512x1024 .f32) (h9 : a9.IsWhole) (a10 : Memref sig .tc .vmem S512x1024 .f32) (h10 : a10.IsWhole) (a11 : Memref sig .tc .vmem S512x1024 .f32) (h11 : a11.IsWhole) (a12 : Memref sig .tc .vmem S512x1024 .bf16) (h12 : a12.IsWhole) (a13 : Memref sig .tc .vmem S512x1024 .bf16) (h13 : a13.IsWhole) (a14 : Memref sig .tc .vmem S512x2048 .bf16) (h14 : a14.IsWhole)
    (x : Vec F S512x2048 .f32) (g : Vec F S1x2048 .f32) (w : Vec F S2048x1024 .bf16) (ca : Vec F S512x128 .f32) (aa : Vec F S512x128 .f32) (ba : Vec F S512x128 .f32) (q : Vec F S512x1024 .bf16) (k : Vec F S512x1024 .f32) (v : Vec F S512x1024 .f32) (u : Vec F S512x1024 .f32) (kb : Vec F S512x1024 .bf16) (vb : Vec F S512x1024 .bf16) (s : Vec F S512x2048 .bf16)
    (E : Set ℕ) (K : PUnit → sProp 𝕄) :
    iprop(owns (c : Thread nD τ) a2 fullShare x ∗ owns (c : Thread nD τ) a3 fullShare g ∗ owns (c : Thread nD τ) a4 fullShare w ∗ owns (c : Thread nD τ) a5 fullShare ca ∗ owns (c : Thread nD τ) a6 fullShare aa ∗ owns (c : Thread nD τ) a7 fullShare ba ∗ owns (c : Thread nD τ) a8 fullShare q ∗ owns (c : Thread nD τ) a9 fullShare k ∗ owns (c : Thread nD τ) a10 fullShare v ∗ owns (c : Thread nD τ) a11 fullShare u ∗ owns (c : Thread nD τ) a12 fullShare kb ∗ owns (c : Thread nD τ) a13 fullShare vb ∗ owns (c : Thread nD τ) a14 fullShare s
        ∗ (iprop(owns (c : Thread nD τ) a2 fullShare x ∗ owns (c : Thread nD τ) a3 fullShare g ∗ owns (c : Thread nD τ) a4 fullShare w ∗ owns (c : Thread nD τ) a5 fullShare ca ∗ owns (c : Thread nD τ) a6 fullShare aa ∗ owns (c : Thread nD τ) a7 fullShare ba ∗ owns (c : Thread nD τ) a8 fullShare (onlyAt 0 i (k0_pay3 (scratchNext i x g s) w ca aa ba) q) ∗ owns (c : Thread nD τ) a9 fullShare (onlyAt 1 i (k0_pay4 (scratchNext i x g s) w ca aa ba) k) ∗ owns (c : Thread nD τ) a10 fullShare (onlyAt 2 i (k0_pay2 (scratchNext i x g s) w) v) ∗ owns (c : Thread nD τ) a11 fullShare (onlyAt 3 i (k0_pay2 (scratchNext i x g s) w) u) ∗ owns (c : Thread nD τ) a12 fullShare (onlyAt 1 i (k0_pay5 (scratchNext i x g s) w ca aa ba) kb) ∗ owns (c : Thread nD τ) a13 fullShare (onlyAt 2 i (k0_pay6 (scratchNext i x g s) w) vb) ∗ owns (c : Thread nD τ) a14 fullShare (scratchNext i x g s)) -∗ K ⟨⟩))
      ⊢ wp frame (wpE (defs₀ (F := F)) Variants.none c none) E (cc0_inproj i a2 h2 a3 h3 a4 h4 a5 h5 a6 h6 a7 h7 a8 h8 a9 h9 a10 h10 a11 h11 a12 h12 a13 h13 a14 h14) K := by
  simp only [cc0_inproj_eq_skeleton]; unfold cc0_inproj_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12; obtain rfl := h13.eq_unread hf13; obtain rfl := h14.eq_unread hf14
  sl_exec
  sl_step
  have h2i : Iff (run_body.sl.v2 i = 1#1) ((i 1).val = 0) := first_iff i
  have hs : run_body.sl.v3 c i a2 h2 a3 h3 a14 h14 x g s = scratchNext i x g s := by
    unfold run_body.sl.v3 scratchNext onlyAt
    by_cases hj : (i 1).val = 0
    · rw [dif_pos (h2i.mpr hj), if_pos hj, View.readAt_full, View.read_writes_full, View.readAt_full, View.readAt_full, hf2, hf3]
    · rw [dif_neg (fun h => hj (h2i.mp h)), if_neg hj, View.readAt_full, hf14]
  iapply Hk
  isplitl [H2]
  · iexists _; isplitr
    · ipureintro; exact hf2
    iexact H2
  isplitl [H3]
  · iexists _; isplitr
    · ipureintro; exact hf3
    iexact H3
  isplitl [H4]
  · iexists _; isplitr
    · ipureintro; exact hf4
    iexact H4
  isplitl [H5]
  · iexists _; isplitr
    · ipureintro; exact hf5
    iexact H5
  isplitl [H6]
  · iexists _; isplitr
    · ipureintro; exact hf6
    iexact H6
  isplitl [H7]
  · iexists _; isplitr
    · ipureintro; exact hf7
    iexact H7
  isplitl [H8]
  · iexists _; isplitr
    swap
    · iexact H8
    ipureintro
    unfold onlyAt
    by_cases hj : (i 1).val = 0
    · rw [dif_pos ((cond2_iff i).mpr hj), if_pos hj, View.read_writes_full, hs, View.readAt_full, hf4, View.readAt_full, View.readAt_full, View.readAt_full, hf5, hf6, hf7]
    · rw [dif_neg (fun h => hj ((cond2_iff i).mp h)), if_neg hj, hf8]
  isplitl [H9]
  · iexists _; isplitr
    swap
    · iexact H9
    ipureintro
    unfold onlyAt
    by_cases hj : (i 1).val = 1
    · rw [dif_pos ((cond3_iff i).mpr hj), if_pos hj, View.read_writes_full, hs, View.readAt_full, hf4, View.readAt_full, View.readAt_full, View.readAt_full, hf5, hf6, hf7]
    · rw [dif_neg (fun h => hj ((cond3_iff i).mp h)), if_neg hj, hf9]
  isplitl [H10]
  · iexists _; isplitr
    swap
    · iexact H10
    ipureintro
    unfold onlyAt
    by_cases hj : (i 1).val = 2
    · rw [dif_pos ((cond4_iff i).mpr hj), if_pos hj, View.read_writes_full, hs, View.readAt_full, hf4]
    · rw [dif_neg (fun h => hj ((cond4_iff i).mp h)), if_neg hj, hf10]
  isplitl [H11]
  · iexists _; isplitr
    swap
    · iexact H11
    ipureintro
    unfold onlyAt
    by_cases hj : (i 1).val = 3
    · rw [dif_pos ((cond5_iff i).mpr hj), if_pos hj, View.read_writes_full, hs, View.readAt_full, hf4]
    · rw [dif_neg (fun h => hj ((cond5_iff i).mp h)), if_neg hj, hf11]
  isplitl [H12]
  · iexists _; isplitr
    swap
    · iexact H12
    ipureintro
    unfold onlyAt
    by_cases hj : (i 1).val = 1
    · rw [dif_pos ((cond3_iff i).mpr hj), if_pos hj, View.read_writes_full, hs, View.readAt_full, hf4, View.readAt_full, View.readAt_full, View.readAt_full, hf5, hf6, hf7]
    · rw [dif_neg (fun h => hj ((cond3_iff i).mp h)), if_neg hj, hf12]
  isplitl [H13]
  · iexists _; isplitr
    swap
    · iexact H13
    ipureintro
    unfold onlyAt
    by_cases hj : (i 1).val = 2
    · rw [dif_pos ((cond4_iff i).mpr hj), if_pos hj, View.read_writes_full, hs, View.readAt_full, hf4]
    · rw [dif_neg (fun h => hj ((cond4_iff i).mp h)), if_neg hj, hf13]
  iexists _; isplitr
  swap
  · iexact H14
  ipureintro
  unfold scratchNext onlyAt
  by_cases hj : (i 1).val = 0
  · rw [dif_pos ((cond2_iff i).mpr hj), if_pos hj, View.read_writes_full, View.readAt_full, View.readAt_full, hf2, hf3]
  · rw [dif_neg (fun h => hj ((cond2_iff i).mp h)), if_neg hj, hf14]

end Cert.InProjIdeal.Hand

end
-- ==== Proof.InProjIdeal.Frame.lean ====
/- The in-projection's frame. A block of rows' four points follow one another, so from the first on the scratch
   buffer holds those rows normalized and rounded. Each output's block is written at one of the four points and
   handed on untouched at the others, and it leaves for the array after the last of them; the whole call runs and
   leaves its arguments unchanged. -/
module

public import proofs.«01_k».proof.Proof.InProjIdeal.Run
public import Idealize.ShloMosaic.Lib.Pipeline.ValueKit

@[expose] public section

set_option maxRecDepth 16384

noncomputable section

namespace Cert.InProjIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.InProjIdeal Cert.InProjIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a buffer of core `c` holds when the call begins, after the host's operations. -/
abbrev V (c : Dev nD) (b : Ref sig .tc) : Buf (Elt F) ((c : Thread nD τ).loc b) :=
  StableHlo.after hostOps0 (fun b => m (c, b)) b

theorem host_fresh : (hostOps0 : List (HloOp τ sig (Elt F))).Forall fun op => op.fresh = ∅ := by
  simp only [List.Forall]; repeat' constructor

set_option maxHeartbeats 800000 in
/-- The program is the host's operations and then the call. -/
theorem host_then_call (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub host_fresh main_chain

set_option maxHeartbeats 1600000 in
/-- The host's operations write none of the arguments. -/
theorem V_arg (c : Dev nD) (b : Ref sig .tc) (hb : b ∈ [main_arg0, main_arg1, main_arg2]) :
    V m c b = m ((c : Thread nD τ).loc b) :=
  StableHlo.after_of_forall_not_mem (b := Proc.devRef .tc b) _ _ (List.forall_iff_forall_mem.mp (by
    simp only [List.mem_cons, List.not_mem_nil, or_false] at hb
    rcases hb with rfl | rfl | rfl
    all_goals
      simp only [hostOps0, List.Forall, StableHlo.nullary_writes, StableHlo.unary_writes, StableHlo.binary_writes,
        StableHlo.ternary_writes, StableHlo.nary_writes, StableHlo.reshape_writes, Finset.mem_singleton]
      repeat' apply And.intro
      all_goals exact StableHlo.devRef_ne_of_ne (by decide)))

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem lt_points (t : Fin cfg0.N) : t.val < 256 := lt_of_lt_of_eq t.isLt N_0

/-- The point `j` of the four of `t`'s block of rows. -/
def pt (t : Fin cfg0.N) (j : Fin 4) : Fin cfg0.N :=
  ⟨4 * (t.val / 4) + j.val, by have := lt_points t; exact lt_of_lt_of_eq (show _ < 256 by omega) N_0.symm⟩

theorem pt_congr {t t' : Fin cfg0.N} (h : t.val / 4 = t'.val / 4) (j : Fin 4) : pt t j = pt t' j := Fin.ext (by show 4 * _ + _ = 4 * _ + _; rw [h])
theorem pt_self (t : Fin cfg0.N) (j : Fin 4) (h : t.val % 4 = j.val) : pt t j = t := Fin.ext (by show 4 * _ + _ = _; omega)
theorem pt_pt (t : Fin cfg0.N) (j j' : Fin 4) : pt (pt t j) j' = pt t j' := pt_congr (by show (4 * _ + _) / 4 = _; omega) j'

/-- The rows of `t`'s block, normalized and rounded. -/
def normedAt (c : Dev nD) (t : Fin cfg0.N) : Vec F S512x2048 .bf16 := k0_pay1 (iblk m c 0 (pt t 0)) (iblk m c 1 (pt t 0))

/-- What the body stores at point `t`, if it is the output's own: the queries, the keys, the plain product, and the
    rounded keys and values. -/
def qAt (c : Dev nD) (t : Fin cfg0.N) : Vec F S512x1024 .bf16 :=
  k0_pay3 (normedAt m c t) (iblk m c 2 t) (iblk m c 3 t) (iblk m c 4 t) (iblk m c 5 t)
def kAt (c : Dev nD) (t : Fin cfg0.N) : Vec F S512x1024 .f32 :=
  k0_pay4 (normedAt m c t) (iblk m c 2 t) (iblk m c 3 t) (iblk m c 4 t) (iblk m c 5 t)
def vAt (c : Dev nD) (t : Fin cfg0.N) : Vec F S512x1024 .f32 := k0_pay2 (normedAt m c t) (iblk m c 2 t)
def kbAt (c : Dev nD) (t : Fin cfg0.N) : Vec F S512x1024 .bf16 :=
  k0_pay5 (normedAt m c t) (iblk m c 2 t) (iblk m c 3 t) (iblk m c 4 t) (iblk m c 5 t)
def vbAt (c : Dev nD) (t : Fin cfg0.N) : Vec F S512x1024 .bf16 := k0_pay6 (normedAt m c t) (iblk m c 2 t)

/-- What is known of the scratch buffer before point `n`, past a block of rows' first point. -/
def Ready (c : Dev nD) (n : ℕ) (s : Vec F S512x2048 .bf16) : Prop :=
  n % 4 ≠ 0 → ∀ h : n < cfg0.N, s = normedAt m c ⟨n, h⟩

theorem coord1 (t : Fin cfg0.N) : (grid0.coords t 1).val = t.val % 4 :=
  (Pipeline.Grid.coords_val t 1 (S := 1) (B := 4) (by decide) rfl).trans (by rw [Nat.div_one])

theorem normedAt_congr (c : Dev nD) {t t' : Fin cfg0.N} (h : t.val / 4 = t'.val / 4) : normedAt m c t = normedAt m c t' := by
  unfold normedAt; rw [pt_congr h]

theorem scratchNext_eq (c : Dev nD) (t : Fin cfg0.N) (s : Vec F S512x2048 .bf16) (hs : Ready m c t.val s) :
    scratchNext (grid0.coords t) (iblk m c 0 t) (iblk m c 1 t) s = normedAt m c t := by
  unfold scratchNext onlyAt
  rw [coord1]
  by_cases hj : t.val % 4 = 0
  · rw [if_pos hj]; unfold normedAt; rw [pt_self t 0 hj]
  · rw [if_neg hj]; exact hs hj t.isLt

theorem ready_next (c : Dev nD) (t : Fin cfg0.N) : Ready m c (t.val + 1) (normedAt m c t) := fun hn h =>
  normedAt_congr m c (show t.val / 4 = (t.val + 1) / 4 by omega)

/-- The scratch buffer as a memref. -/
abbrev scratch : Memref sig .tc .vmem S512x2048 .bf16 := Memref.whole cc0_scratch0

theorem held_eq (c : Dev nD) :
    (Pipeline.ΦA spec0 c : sProp 𝕄) = iprop(iprop(∃ d, owns (c : Thread nD τ) scratch fullShare d) ∗ (∃ r, prngReg c r)) := by
  unfold Pipeline.ΦA; rw [scopedRest0_eq]; simp only [scratch, owns_whole]; try rfl

/-- What is held before point `n`, beside the windows. -/
def inv (c : Dev nD) (n : ℕ) : sProp 𝕄 :=
  iprop(iprop(∃ s, ⌜Ready m c n s⌝ ∗ owns (c : Thread nD τ) scratch fullShare s) ∗ (∃ r, prngReg c r))

/-- The arrays at the start, the blocks after each point, and what is held in between. An output's block is, at every
    point of its rows, what its own point of them stores. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => qAt m c (pt t 0)
    | ⟨7, _⟩ => kAt m c (pt t 1)
    | ⟨8, _⟩ => vAt m c (pt t 2)
    | ⟨9, _⟩ => vAt m c (pt t 3)
    | ⟨10, _⟩ => kbAt m c (pt t 1)
    | ⟨11, _⟩ => vbAt m c (pt t 2)
  Φ t := inv m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]; try rfl
theorem after_1 (c : Dev nD) (t : Fin cfg0.N) : (dats m 0 c).after 1 t = iblk m c 1 t := by dsimp only [dats]; try rfl
theorem after_2 (c : Dev nD) (t : Fin cfg0.N) : (dats m 0 c).after 2 t = iblk m c 2 t := by dsimp only [dats]; try rfl
theorem after_3 (c : Dev nD) (t : Fin cfg0.N) : (dats m 0 c).after 3 t = iblk m c 3 t := by dsimp only [dats]; try rfl
theorem after_4 (c : Dev nD) (t : Fin cfg0.N) : (dats m 0 c).after 4 t = iblk m c 4 t := by dsimp only [dats]; try rfl
theorem after_5 (c : Dev nD) (t : Fin cfg0.N) : (dats m 0 c).after 5 t = iblk m c 5 t := by dsimp only [dats]; try rfl
theorem after_6 (c : Dev nD) (t : Fin cfg0.N) : (dats m 0 c).after 6 t = qAt m c (pt t 0) := by dsimp only [dats]; try rfl
theorem after_7 (c : Dev nD) (t : Fin cfg0.N) : (dats m 0 c).after 7 t = kAt m c (pt t 1) := by dsimp only [dats]; try rfl
theorem after_8 (c : Dev nD) (t : Fin cfg0.N) : (dats m 0 c).after 8 t = vAt m c (pt t 2) := by dsimp only [dats]; try rfl
theorem after_9 (c : Dev nD) (t : Fin cfg0.N) : (dats m 0 c).after 9 t = vAt m c (pt t 3) := by dsimp only [dats]; try rfl
theorem after_10 (c : Dev nD) (t : Fin cfg0.N) : (dats m 0 c).after 10 t = kbAt m c (pt t 1) := by dsimp only [dats]; try rfl
theorem after_11 (c : Dev nD) (t : Fin cfg0.N) : (dats m 0 c).after 11 t = vbAt m c (pt t 2) := by dsimp only [dats]; try rfl

/-- Each input's staging buffer holds its block at every point. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)

/-- An output whose own point of each four is `j`: it is written there and idle at the others, and leaves after the last. -/
structure OwnPoint {c : Dev nD} (D : Dat τ (Elt F) Unit ℕ (UR sig nD τ) ℕ cfg0 c) (w : Fin cfg0.W) (j : ℕ) : Prop where
  fetch : ∀ t, (cfg0.win w).fetch t = false
  flush : ∀ t : Fin cfg0.N, t.val % 4 ≠ 3 → (cfg0.win w).flush t = false
  live : ∀ t : Fin cfg0.N, t.val % 4 = j → cfg0.idle w (cfg0.grid.coords t) = false
  idle : ∀ t : Fin cfg0.N, t.val % 4 ≠ j → cfg0.idle w (cfg0.grid.coords t) = true
  kept : ∀ t d, D.kept w t d = D.after w t
  same : ∀ t t' : Fin cfg0.N, t.val / 4 = t'.val / 4 → D.after w t = D.after w t'

/-- Past its own point such an output's buffer holds what that point stored. -/
theorem OwnPoint.found {c : Dev nD} {D : Dat τ (Elt F) Unit ℕ (UR sig nD τ) ℕ cfg0 c} {w : Fin cfg0.W} {j : ℕ} (h : OwnPoint D w j) :
    ∀ (n : ℕ) (hn : n < cfg0.N) (d), j < n % 4 → D.before w ⟨n, hn⟩ d = D.after w ⟨n, hn⟩ := by
  intro n
  induction n with
  | zero => intro hn d hj; exact absurd hj (by omega)
  | succ n ih =>
    intro hn d hj
    have hn' : n < cfg0.N := by omega
    rw [D.before_of_pos w ⟨n + 1, hn⟩ (Nat.succ_ne_zero n) (h.fetch _),
      show (⟨(⟨n + 1, hn⟩ : Fin cfg0.N).val - 1, Nat.lt_of_le_of_lt (Nat.sub_le _ _) (⟨n + 1, hn⟩ : Fin cfg0.N).isLt⟩ : Fin cfg0.N) = ⟨n, hn'⟩ from rfl,
      h.flush ⟨n, hn'⟩ (by show n % 4 ≠ 3; omega), if_neg Bool.false_ne_true, h.same ⟨n + 1, hn⟩ ⟨n, hn'⟩ (by show (n + 1) / 4 = n / 4; omega)]
    unfold Dat.left
    by_cases hp : n % 4 = j
    · rw [h.live ⟨n, hn'⟩ hp]; exact h.kept _ d
    · rw [h.idle ⟨n, hn'⟩ hp]; exact ih hn' d (by omega)

/-- What the body leaves in such an output's buffer is what is asked of it. -/
theorem OwnPoint.leaves {c : Dev nD} {D : Dat τ (Elt F) Unit ℕ (UR sig nD τ) ℕ cfg0 c} {w : Fin cfg0.W} {j : ℕ} (h : OwnPoint D w j)
    (hj : j < 4) (t : Fin cfg0.N) (d) :
    owns (c : Thread nD τ) ((cfg0.win w).stage (cfg0.slots t w)) fullShare (onlyAt j (grid0.coords t) (D.after w t) (D.before w t d))
      ⊢ (D.leavesExact w t : sProp 𝕄) := by
  unfold onlyAt
  rw [coord1]
  by_cases hp : t.val % 4 = j
  · rw [if_pos hp]; unfold Dat.leavesExact; rw [h.live t hp]
  · rw [if_neg hp]
    unfold Dat.leavesExact
    rw [h.idle t hp]
    cases hf : (cfg0.win w).flush t with
    | false => dsimp only; iintro H; iexists d; iexact H
    | true =>
      dsimp only
      have h3 : t.val % 4 = 3 := by
        by_contra hne
        rw [h.flush t hne] at hf
        exact Bool.noConfusion hf
      rw [h.found t.val t.isLt d (by omega)]

theorem flush_6 : ∀ t : Fin cfg0.N, t.val % 4 ≠ 3 → (cfg0.win 6).flush t = false := (by decide +kernel : ∀ t : Fin grid0.N, t.val % 4 ≠ 3 → win0_6.flush t = false)
theorem own_6 (c : Dev nD) : OwnPoint (dats m 0 c) 6 0 where
  fetch t := Pipeline.Window.fetch_out _ rfl t
  flush := flush_6
  live t h := by
    show (!(k0_cond2 (grid0.coords t) == 1#1)) = false
    rw [(cond2_iff (grid0.coords t)).mpr (by rw [coord1]; exact h)]; rfl
  idle t h := by
    show (!(k0_cond2 (grid0.coords t) == 1#1)) = true
    have hc : ¬ k0_cond2 (grid0.coords t) = 1#1 := fun e => h (by rw [← coord1]; exact (cond2_iff (grid0.coords t)).mp e)
    simp [hc]
  kept t d := rfl
  same t t' h := by rw [after_6, after_6, pt_congr h]
theorem flush_7 : ∀ t : Fin cfg0.N, t.val % 4 ≠ 3 → (cfg0.win 7).flush t = false := (by decide +kernel : ∀ t : Fin grid0.N, t.val % 4 ≠ 3 → win0_7.flush t = false)
theorem own_7 (c : Dev nD) : OwnPoint (dats m 0 c) 7 1 where
  fetch t := Pipeline.Window.fetch_out _ rfl t
  flush := flush_7
  live t h := by
    show (!(k0_cond3 (grid0.coords t) == 1#1)) = false
    rw [(cond3_iff (grid0.coords t)).mpr (by rw [coord1]; exact h)]; rfl
  idle t h := by
    show (!(k0_cond3 (grid0.coords t) == 1#1)) = true
    have hc : ¬ k0_cond3 (grid0.coords t) = 1#1 := fun e => h (by rw [← coord1]; exact (cond3_iff (grid0.coords t)).mp e)
    simp [hc]
  kept t d := rfl
  same t t' h := by rw [after_7, after_7, pt_congr h]
theorem flush_8 : ∀ t : Fin cfg0.N, t.val % 4 ≠ 3 → (cfg0.win 8).flush t = false := (by decide +kernel : ∀ t : Fin grid0.N, t.val % 4 ≠ 3 → win0_8.flush t = false)
theorem own_8 (c : Dev nD) : OwnPoint (dats m 0 c) 8 2 where
  fetch t := Pipeline.Window.fetch_out _ rfl t
  flush := flush_8
  live t h := by
    show (!(k0_cond4 (grid0.coords t) == 1#1)) = false
    rw [(cond4_iff (grid0.coords t)).mpr (by rw [coord1]; exact h)]; rfl
  idle t h := by
    show (!(k0_cond4 (grid0.coords t) == 1#1)) = true
    have hc : ¬ k0_cond4 (grid0.coords t) = 1#1 := fun e => h (by rw [← coord1]; exact (cond4_iff (grid0.coords t)).mp e)
    simp [hc]
  kept t d := rfl
  same t t' h := by rw [after_8, after_8, pt_congr h]
theorem flush_9 : ∀ t : Fin cfg0.N, t.val % 4 ≠ 3 → (cfg0.win 9).flush t = false := (by decide +kernel : ∀ t : Fin grid0.N, t.val % 4 ≠ 3 → win0_9.flush t = false)
theorem own_9 (c : Dev nD) : OwnPoint (dats m 0 c) 9 3 where
  fetch t := Pipeline.Window.fetch_out _ rfl t
  flush := flush_9
  live t h := by
    show (!(k0_cond5 (grid0.coords t) == 1#1)) = false
    rw [(cond5_iff (grid0.coords t)).mpr (by rw [coord1]; exact h)]; rfl
  idle t h := by
    show (!(k0_cond5 (grid0.coords t) == 1#1)) = true
    have hc : ¬ k0_cond5 (grid0.coords t) = 1#1 := fun e => h (by rw [← coord1]; exact (cond5_iff (grid0.coords t)).mp e)
    simp [hc]
  kept t d := rfl
  same t t' h := by rw [after_9, after_9, pt_congr h]
theorem flush_10 : ∀ t : Fin cfg0.N, t.val % 4 ≠ 3 → (cfg0.win 10).flush t = false := (by decide +kernel : ∀ t : Fin grid0.N, t.val % 4 ≠ 3 → win0_10.flush t = false)
theorem own_10 (c : Dev nD) : OwnPoint (dats m 0 c) 10 1 where
  fetch t := Pipeline.Window.fetch_out _ rfl t
  flush := flush_10
  live t h := by
    show (!(k0_cond3 (grid0.coords t) == 1#1)) = false
    rw [(cond3_iff (grid0.coords t)).mpr (by rw [coord1]; exact h)]; rfl
  idle t h := by
    show (!(k0_cond3 (grid0.coords t) == 1#1)) = true
    have hc : ¬ k0_cond3 (grid0.coords t) = 1#1 := fun e => h (by rw [← coord1]; exact (cond3_iff (grid0.coords t)).mp e)
    simp [hc]
  kept t d := rfl
  same t t' h := by rw [after_10, after_10, pt_congr h]
theorem flush_11 : ∀ t : Fin cfg0.N, t.val % 4 ≠ 3 → (cfg0.win 11).flush t = false := (by decide +kernel : ∀ t : Fin grid0.N, t.val % 4 ≠ 3 → win0_11.flush t = false)
theorem own_11 (c : Dev nD) : OwnPoint (dats m 0 c) 11 2 where
  fetch t := Pipeline.Window.fetch_out _ rfl t
  flush := flush_11
  live t h := by
    show (!(k0_cond4 (grid0.coords t) == 1#1)) = false
    rw [(cond4_iff (grid0.coords t)).mpr (by rw [coord1]; exact h)]; rfl
  idle t h := by
    show (!(k0_cond4 (grid0.coords t) == 1#1)) = true
    have hc : ¬ k0_cond4 (grid0.coords t) = 1#1 := fun e => h (by rw [← coord1]; exact (cond4_iff (grid0.coords t)).mp e)
    simp [hc]
  kept t d := rfl
  same t t' h := by rw [after_11, after_11, pt_congr h]

/-- The body as the pipeline calls it at point `t`. -/
abbrev bodyAt (t : Fin cfg0.N) : Prog (TpuEff nD τ sig (Elt F) Λ₀ .tc) PUnit :=
  cc0_inproj (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (win0_5.stage (cfg0.slots t 5)) (hstage0_5 ((cfg0.slots t 5).cast nbuf0_5))
    (win0_6.stage (cfg0.slots t 6)) (hstage0_6 ((cfg0.slots t 6).cast nbuf0_6))
    (win0_7.stage (cfg0.slots t 7)) (hstage0_7 ((cfg0.slots t 7).cast nbuf0_7))
    (win0_8.stage (cfg0.slots t 8)) (hstage0_8 ((cfg0.slots t 8).cast nbuf0_8))
    (win0_9.stage (cfg0.slots t 9)) (hstage0_9 ((cfg0.slots t 9).cast nbuf0_9))
    (win0_10.stage (cfg0.slots t 10)) (hstage0_10 ((cfg0.slots t 10).cast nbuf0_10))
    (win0_11.stage (cfg0.slots t 11)) (hstage0_11 ((cfg0.slots t 11).cast nbuf0_11))
    scratch (Memref.isWhole_whole _)

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d)))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

theorem inv_before (c : Dev nD) (t : Fin cfg0.N) : (dats m 0 c).Φ t.castSucc = inv m c t.val := by
  dsimp only [dats]; rw [Fin.val_castSucc]
theorem inv_after (c : Dev nD) (t : Fin cfg0.N) : (dats m 0 c).Φ t.succ = inv m c (t.val + 1) := by
  dsimp only [dats]; rw [Fin.val_succ]

theorem stored_6 (c : Dev nD) (t : Fin cfg0.N) (d : Vec F S512x1024 .bf16) :
    onlyAt 0 (grid0.coords t) (k0_pay3 (normedAt m c t) (iblk m c 2 t) (iblk m c 3 t) (iblk m c 4 t) (iblk m c 5 t)) d = onlyAt 0 (grid0.coords t) ((dats m 0 c).after 6 t) d := by
  rw [after_6]
  unfold onlyAt
  rw [coord1]
  by_cases h : t.val % 4 = 0
  · rw [if_pos h, if_pos h, pt_self t 0 h]; rfl
  · rw [if_neg h, if_neg h]
theorem stored_7 (c : Dev nD) (t : Fin cfg0.N) (d : Vec F S512x1024 .f32) :
    onlyAt 1 (grid0.coords t) (k0_pay4 (normedAt m c t) (iblk m c 2 t) (iblk m c 3 t) (iblk m c 4 t) (iblk m c 5 t)) d = onlyAt 1 (grid0.coords t) ((dats m 0 c).after 7 t) d := by
  rw [after_7]
  unfold onlyAt
  rw [coord1]
  by_cases h : t.val % 4 = 1
  · rw [if_pos h, if_pos h, pt_self t 1 h]; rfl
  · rw [if_neg h, if_neg h]
theorem stored_8 (c : Dev nD) (t : Fin cfg0.N) (d : Vec F S512x1024 .f32) :
    onlyAt 2 (grid0.coords t) (k0_pay2 (normedAt m c t) (iblk m c 2 t)) d = onlyAt 2 (grid0.coords t) ((dats m 0 c).after 8 t) d := by
  rw [after_8]
  unfold onlyAt
  rw [coord1]
  by_cases h : t.val % 4 = 2
  · rw [if_pos h, if_pos h, pt_self t 2 h]; rfl
  · rw [if_neg h, if_neg h]
theorem stored_9 (c : Dev nD) (t : Fin cfg0.N) (d : Vec F S512x1024 .f32) :
    onlyAt 3 (grid0.coords t) (k0_pay2 (normedAt m c t) (iblk m c 2 t)) d = onlyAt 3 (grid0.coords t) ((dats m 0 c).after 9 t) d := by
  rw [after_9]
  unfold onlyAt
  rw [coord1]
  by_cases h : t.val % 4 = 3
  · rw [if_pos h, if_pos h, pt_self t 3 h]; rfl
  · rw [if_neg h, if_neg h]
theorem stored_10 (c : Dev nD) (t : Fin cfg0.N) (d : Vec F S512x1024 .bf16) :
    onlyAt 1 (grid0.coords t) (k0_pay5 (normedAt m c t) (iblk m c 2 t) (iblk m c 3 t) (iblk m c 4 t) (iblk m c 5 t)) d = onlyAt 1 (grid0.coords t) ((dats m 0 c).after 10 t) d := by
  rw [after_10]
  unfold onlyAt
  rw [coord1]
  by_cases h : t.val % 4 = 1
  · rw [if_pos h, if_pos h, pt_self t 1 h]; rfl
  · rw [if_neg h, if_neg h]
theorem stored_11 (c : Dev nD) (t : Fin cfg0.N) (d : Vec F S512x1024 .bf16) :
    onlyAt 2 (grid0.coords t) (k0_pay6 (normedAt m c t) (iblk m c 2 t)) d = onlyAt 2 (grid0.coords t) ((dats m 0 c).after 11 t) d := by
  rw [after_11]
  unfold onlyAt
  rw [coord1]
  by_cases h : t.val % 4 = 2
  · rw [if_pos h, if_pos h, pt_self t 2 h]; rfl
  · rw [if_neg h, if_neg h]

set_option maxHeartbeats 2000000 in
/-- The body at any point. -/
theorem sound_body (c : Dev nD) (t : Fin cfg0.N) :
    bodyPre m c t ⊢ wp frame (wpE (defs₀ (F := F)) Variants.none c none) Set.univ (bodyAt t) (fun _ => bodyPost m c t) := by
  unfold bodyPre bodyPost bodyAt
  simp only [before_0, before_1, before_2, before_3, before_4, before_5]
  rw [show (dats m 0 c).owesAt () t.succ = (dats m 0 c).owesAt () t.castSucc from rfl,
    after_0, after_1, after_2, after_3, after_4, after_5, inv_before, inv_after]
  unfold inv
  iintro ⟨⟨⟨%s, %hs, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run_body c (grid0.coords t) _ _ _ _ _ _ _ _ _ _ _ _ _ _ _ _ _ _ _ _ _ _ _ _ scratch (Memref.isWhole_whole _) (iblk m c 0 t) (iblk m c 1 t) (iblk m c 2 t) (iblk m c 3 t) (iblk m c 4 t) (iblk m c 5 t)
    ((dats m 0 c).before 6 t d6) ((dats m 0 c).before 7 t d7) ((dats m 0 c).before 8 t d8) ((dats m 0 c).before 9 t d9) ((dats m 0 c).before 10 t d10) ((dats m 0 c).before 11 t d11) s Set.univ _)
  rw [scratchNext_eq m c t s hs]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS]; · iexact HS
  iintro ⟨H0, H1, H2, H3, H4, H5, H6, H7, H8, H9, H10, H11, HS⟩
  isplitl [HS Hg]
  · isplitl [HS]
    · iexists _; isplitr
      swap; · iexact HS
      ipureintro; exact ready_next m c t
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · rw [stored_6]
    iapply ((own_6 m c).leaves (by decide) t d6)
    iexact H6
  isplitl [H7]
  · rw [stored_7]
    iapply ((own_7 m c).leaves (by decide) t d7)
    iexact H7
  isplitl [H8]
  · rw [stored_8]
    iapply ((own_8 m c).leaves (by decide) t d8)
    iexact H8
  isplitl [H9]
  · rw [stored_9]
    iapply ((own_9 m c).leaves (by decide) t d9)
    iexact H9
  isplitl [H10]
  · rw [stored_10]
    iapply ((own_10 m c).leaves (by decide) t d10)
    iexact H10
  rw [stored_11]
  iapply ((own_11 m c).leaves (by decide) t d11)
  iexact H11

theorem row_eq (t : Fin cfg0.N) : defs₀ (F := F) .tc cfg0.body (cfg0.bodyArgs t (cfg0.slots t)) = bodyAt t := by
  unfold defs₀; rw [Defs.onTc_tc]

/-- The library's obligation for the body. -/
theorem body_obligation (c : Dev nD) : BodyObligation (dats (F := F) m 0 c) (defs₀ (F := F)) Variants.none () Set.univ := fun t => by
  rw [bigSep_W0, bigSep_W0, row_eq]
  exact triple_restated (sound_body m c t) rfl .rfl fun _ => .rfl

/-- The call begins with the scratch buffer at anything, and gives it back at anything. -/
theorem inv_first (c : Dev nD) : Pipeline.ΦA spec0 c ⊢ (dats m 0 c).Φ 0 := by
  rw [show (dats m 0 c).Φ 0 = inv m c 0 from rfl, held_eq]
  unfold inv
  iintro ⟨⟨%d, HS⟩, Hg⟩
  isplitl [HS]
  · iexists d; isplitr
    · ipureintro; exact fun h => absurd rfl h
    iexact HS
  iexact Hg

theorem inv_last (c : Dev nD) : (dats m 0 c).Φ (Fin.last cfg0.N) ⊢ Pipeline.ΦA spec0 c := by
  rw [show (dats m 0 c).Φ (Fin.last cfg0.N) = inv m c (Fin.last cfg0.N).val from rfl, held_eq]
  unfold inv
  iintro ⟨⟨%s, %hs, HS⟩, Hg⟩
  isplitl [HS]
  · iexists _; iexact HS
  iexact Hg

set_option backward.isDefEq.respectTransparency.types false in
/-- The program runs, and ends with the call's arrays as the blocks say and every semaphore at zero. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := host_then_call m Variants.none) (hA := A_eq m)
    (hin := inv_first m) (hout := inv_last m)

/-- The program runs, leaves its arguments unchanged, and its results are what the blocks say. -/
theorem run_result : θ_run defs (onTc (τ := τ) (main (F := F))) ⟨m, fun _ => 0, ρ⟩ (fun r => (∀ c : Dev nD,
      r.2.mem ((c.tc : Thread nD τ).loc main_v35_0) = (dats m 0 c).arrAt 6 cfg0.N
      ∧ r.2.mem ((c.tc : Thread nD τ).loc main_v35_1) = (dats m 0 c).arrAt 7 cfg0.N
      ∧ r.2.mem ((c.tc : Thread nD τ).loc main_v35_2) = (dats m 0 c).arrAt 8 cfg0.N
      ∧ r.2.mem ((c.tc : Thread nD τ).loc main_v35_3) = (dats m 0 c).arrAt 9 cfg0.N
      ∧ r.2.mem ((c.tc : Thread nD τ).loc main_v35_4) = (dats m 0 c).arrAt 10 cfg0.N
      ∧ r.2.mem ((c.tc : Thread nD τ).loc main_v35_5) = (dats m 0 c).arrAt 11 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ ⟨h, hz⟩ => ⟨fun c => ⟨(h c).1 6, (h c).1 7, (h c).1 8, (h c).1 9, (h c).1 10, (h c).1 11,
      ((h c).2 main_arg0 (by decide : main_arg0 ∈ Pipeline.restRefs sig spec0)).trans (V_arg m c main_arg0 (by simp)),
      ((h c).2 main_arg1 (by decide : main_arg1 ∈ Pipeline.restRefs sig spec0)).trans (V_arg m c main_arg1 (by simp)),
      ((h c).2 main_arg2 (by decide : main_arg2 ∈ Pipeline.restRefs sig spec0)).trans (V_arg m c main_arg2 (by simp))⟩, hz⟩)
    (run_main m ρ)

end Cert.InProjIdeal.Hand

end
-- ==== Proof.Ple.Rows.lean ====
/- One row of the gated per-layer embedding and of the last norm, over the extended reals. -/
module

public import Idealize.ShloMosaic.Lib.Pointwise

@[expose] public section

noncomputable section

namespace Cert.PleRows

open Idealize.ShloMosaic

/-- One over the root of a row's mean square plus 1e-6. -/
def invRms (h : Fin 2048 → EReal) : EReal :=
  Ideal.rsqrt (Ideal.div (∑ k, h k * h k) (Ideal.ofBits .f32 0x45000000#32) + Ideal.ofBits .f32 0x358637BD#32)

/-- The row normed: over its root mean square, times the gain. -/
def normed (h g : Fin 2048 → EReal) (k : Fin 2048) : EReal := h k * invRms h * g k

/-- The row plus the embedding's projection times the gate. -/
def mixed (h g : Fin 2048 → EReal) (w : Fin 2048 → Fin 2048 → EReal) (b : Fin 2048 → EReal) (p : Fin 256 → EReal)
    (wp : Fin 256 → Fin 2048 → EReal) (q : Fin 2048) : EReal :=
  h q + Ideal.logistic ((∑ k, normed h g k * w k q) + b q) * ∑ k, p k * wp k q

theorem bits_2048 : Ideal.ofBits .f32 0x45000000#32 = ((2048 : ℝ) : EReal) := by
  simp [Ideal.ofBits, Ideal.ieee, -EReal.coe_mul]
  norm_num

theorem bits_inv_2048 : Ideal.ofBits .f32 0x3A000000#32 = ((1 / 2048 : ℝ) : EReal) := by
  simp [Ideal.ofBits, Ideal.ieee, -EReal.coe_mul]
  norm_num

/-- Over 2048 is times its reciprocal. -/
theorem over_2048 (s : EReal) : s * Ideal.ofBits .f32 0x3A000000#32 = Ideal.div s (Ideal.ofBits .f32 0x45000000#32) := by
  rw [bits_2048, bits_inv_2048, Ideal.div_coe (by norm_num)]

theorem sum_runs (f : Fin (512 + 512 + 512 + 512) → EReal) :
    ∑ k, f k = (∑ d : Fin 512, f ⟨0 + d.val, by omega⟩) + (∑ d : Fin 512, f ⟨512 + d.val, by omega⟩)
      + (∑ d : Fin 512, f ⟨1024 + d.val, by omega⟩) + ∑ d : Fin 512, f ⟨1536 + d.val, by omega⟩ := by
  rw [Fin.sum_univ_add, Fin.sum_univ_add, Fin.sum_univ_add]
  refine congrArg (· + _ + _ + _) (Finset.sum_congr rfl fun d _ => congrArg f (Fin.ext ?_))
  simp

/-- A sum over 2048 columns in four runs of 512. -/
theorem sum_four (f : Fin 2048 → EReal) :
    ∑ k, f k = (∑ d : Fin 512, f ⟨0 + d.val, by omega⟩) + (∑ d : Fin 512, f ⟨512 + d.val, by omega⟩)
      + (∑ d : Fin 512, f ⟨1024 + d.val, by omega⟩) + ∑ d : Fin 512, f ⟨1536 + d.val, by omega⟩ :=
  sum_runs f

end Cert.PleRows

end
-- ==== Proof.InProj.Rope.lean ====
/- One row of the in-projection over the extended reals: the rotary embedding of its heads of 64 columns. -/
module

public import proofs.«01_k».proof.Proof.Ple.Rows

@[expose] public section

noncomputable section

namespace Cert.RopeRows

open Idealize.ShloMosaic Cert.PleRows

/-- In each head of 64 columns the first 8 turn with the next 8 by the row's angles, and the rest stay. -/
def rope (y : Fin 1024 → EReal) (C S : Fin 8 → EReal) (q : Fin 1024) : EReal :=
  if h : q.val % 64 < 8 then y q * C ⟨q.val % 64, h⟩ - y ⟨(q.val + 8) % 1024, by omega⟩ * S ⟨q.val % 64, h⟩
  else if h' : q.val % 64 < 16 then
    y q * C ⟨q.val % 64 - 8, by omega⟩ + y ⟨(q.val + 1016) % 1024, by omega⟩ * S ⟨q.val % 64 - 8, by omega⟩
  else y q

/-- The tables the kernel multiplies by: of a row itself, of the row turned back by 8 columns, of the row turned on by 8. -/
def tabC (C : Fin 8 → EReal) (d : ℕ) : EReal :=
  if h : d % 64 < 8 then C ⟨d % 64, h⟩ else if h' : d % 64 < 16 then C ⟨d % 64 - 8, by omega⟩ else 1
def tabA (S : Fin 8 → EReal) (d : ℕ) : EReal := if h : d % 64 < 8 then -S ⟨d % 64, h⟩ else 0
def tabB (S : Fin 8 → EReal) (d : ℕ) : EReal :=
  if h : d % 64 < 8 then 0 else if h' : d % 64 < 16 then S ⟨d % 64 - 8, by omega⟩ else 0

/-- The three products add up to the rotary embedding. -/
theorem three_products (y : Fin 1024 → EReal) (C S : Fin 8 → EReal) (q : Fin 1024) :
    y q * tabC C q.val + y ⟨(q.val + 8) % 1024, by omega⟩ * tabA S q.val + y ⟨(q.val + 1016) % 1024, by omega⟩ * tabB S q.val
      = rope y C S q := by
  unfold tabC tabA tabB rope
  by_cases h : q.val % 64 < 8
  · simp only [dif_pos h, mul_zero, add_zero]
    rw [mul_neg, ← sub_eq_add_neg]
  · by_cases h' : q.val % 64 < 16
    · simp only [dif_neg h, dif_pos h', mul_zero, add_zero]
    · simp only [dif_neg h, dif_neg h', mul_zero, add_zero, mul_one]

/-- A row's product with a matrix's columns, the row normed first. -/
def product (x g : Fin 2048 → EReal) (w : Fin 2048 → Fin 4096 → EReal) (q : Fin 4096) : EReal := ∑ k, normed x g k * w k q

end Cert.RopeRows

end
-- ==== Proof.InProj.Ref.lean ====
/- The in-projection's reference, entry by entry. -/
module

public import proofs.«01_k».proof.Proof.Gen.InProjRefIdeal.Run
public import proofs.«01_k».proof.Proof.InProj.Rope
public import Idealize.ShloMosaic.Lib.Pointwise
public import Idealize.ShloMosaic.Lib.Tactic.CleanTypes

@[expose] public section

noncomputable section

namespace Cert.InProjRefIdeal.Hand

open Cert.InProjRefIdeal Cert.InProjRefIdeal.Gen Idealize.ShloMosaic Idealize.ShloMosaic.TcCoe Idealize.SL.Sem Cert.PleRows Cert.RopeRows

/-- Each position's eight angles, and their cosines and sines. -/
def angles : FVec Ideal S2048x8 .f32 :=
  mulf (broadcastInDim S2048x8 ![0, 1] bcast_S2048x1_S2048x8_0_1 (broadcastInDim S2048x1 ![0] bcast_S2048_S2048x1_0 (sitofp .f32 (iotaInDim S2048 32 0)))) (broadcastInDim S2048x8 ![0, 1] bcast_S1x8_S2048x8_0_1 (broadcastInDim S1x8 ![1] bcast_S8_S1x8_1 (Host.powf (broadcastInDim S8 ![] bcast_S_S8 (constant S_ .f32 0x48F42400#32)) (Host.negf (Host.divf (addf (broadcastInDim S8 ![] bcast_S_S8 (constant S_ .f32 0x00000000#32)) (mulf (broadcastInDim S8 ![] bcast_S_S8 (constant S_ .f32 0x40000000#32)) (sitofp .f32 (iotaInDim S8 32 0)))) (broadcastInDim S8 ![] bcast_S_S8 (constant S_ .f32 0x41800000#32)))))))
def cosT : FVec Ideal S2048x8 .f32 := Host.cos angles
def sinT : FVec Ideal S2048x8 .f32 := Host.sin angles

/-- A position's table under every sequence and head. -/
def spread (T : FVec Ideal S2048x8 .f32) : FVec Ideal S16x2048x16x8 .f32 :=
  broadcastInDim S16x2048x16x8 ![0, 1, 2, 3] bcast_S1x2048x1x8_S16x2048x16x8_0_1_2_3 (broadcastInDim S1x2048x1x8 ![1, 2, 3] bcast_S2048x1x8_S1x2048x1x8_1_2_3 (broadcastInDim S2048x1x8 ![0, 2] bcast_S2048x8_S2048x1x8_0_2 T))

/-- The rows normed. -/
def rowsNormed (X : FVec Ideal S16x2048x2048 .f32) (g : FVec Ideal S1x2048 .f32) : FVec Ideal S16x2048x2048 .f32 :=
  mulf (mulf X (broadcastInDim S16x2048x2048 ![0, 1, 2] bcast_S16x2048x1_S16x2048x2048_0_1_2 (Host.rsqrt (addf (Host.divf (broadcastInDim S16x2048x1 ![0, 1] bcast_S16x2048_S16x2048x1_0_1 (Host.reduceAdd (mulf X X) (constant S_ .f32 0x00000000#32) reducesTo_S16x2048x2048_S16x2048_d2 h_S_)) (broadcastInDim S16x2048x1 ![] bcast_S_S16x2048x1 (constant S_ .f32 0x45000000#32))) (broadcastInDim S16x2048x1 ![] bcast_S_S16x2048x1 (constant S_ .f32 0x358637BD#32)))))) (broadcastInDim S16x2048x2048 ![0, 1, 2] bcast_S1x1x2048_S16x2048x2048_0_1_2 (broadcastInDim S1x1x2048 ![2] bcast_S2048_S1x1x2048_2 (shapeCast _ g shapeCasts_S1x2048_S2048)))

/-- Their product with the matrix. -/
def proj (X : FVec Ideal S16x2048x2048 .f32) (g : FVec Ideal S1x2048 .f32) (W : FVec Ideal S1x2048x4096 .f32) : FVec Ideal S16x2048x4096 .f32 :=
  Host.dotGeneral dot_S16x2048x2048_S2048x4096_S16x2048x4096_2_0_01_1_n_n none (rowsNormed X g) (shapeCast _ W shapeCasts_S1x2048x4096_S2048x4096)

/-- The first and the second quarter of its columns by heads. -/
def heads0 (Y : FVec Ideal S16x2048x4096 .f32) : FVec Ideal S16x2048x16x64 .f32 :=
  shapeCast _ (extractStridedSlice S16x2048x1024 ![0, 0, 0] Y slices_S16x2048x4096_S16x2048x1024_0_0_0) shapeCasts_S16x2048x1024_S16x2048x16x64
def heads1 (Y : FVec Ideal S16x2048x4096 .f32) : FVec Ideal S16x2048x16x64 .f32 :=
  shapeCast _ (extractStridedSlice S16x2048x1024 ![0, 0, 1024] Y slices_S16x2048x4096_S16x2048x1024_0_0_1024) shapeCasts_S16x2048x1024_S16x2048x16x64

/-- A head's first 16 columns, and the first and second 8 of them. -/
def front (Z : FVec Ideal S16x2048x16x64 .f32) : FVec Ideal S16x2048x16x16 .f32 := extractStridedSlice S16x2048x16x16 ![0, 0, 0, 0] Z slices_S16x2048x16x64_S16x2048x16x16_0_0_0_0
def half0 (Z : FVec Ideal S16x2048x16x64 .f32) : FVec Ideal S16x2048x16x8 .f32 := extractStridedSlice S16x2048x16x8 ![0, 0, 0, 0] (front Z) slices_S16x2048x16x16_S16x2048x16x8_0_0_0_0
def half1 (Z : FVec Ideal S16x2048x16x64 .f32) : FVec Ideal S16x2048x16x8 .f32 := extractStridedSlice S16x2048x16x8 ![0, 0, 0, 8] (front Z) slices_S16x2048x16x16_S16x2048x16x8_0_0_0_8

/-- The rotary embedding of heads. -/
def turned (Z : FVec Ideal S16x2048x16x64 .f32) (C S : FVec Ideal S16x2048x16x8 .f32) : FVec Ideal S16x2048x16x16 .f32 :=
  concatenate S16x2048x16x16 3 [⟨S16x2048x16x8, (subf (mulf (half0 Z) C) (mulf (half1 Z) S))⟩, ⟨S16x2048x16x8, (addf (mulf (half1 Z) C) (mulf (half0 Z) S))⟩] concatenates_S16x2048x16x8_S16x2048x16x8_S16x2048x16x16_d3
def roped (Z : FVec Ideal S16x2048x16x64 .f32) : FVec Ideal S16x2048x16x64 .f32 :=
  concatenate S16x2048x16x64 3 [⟨S16x2048x16x16, turned Z (spread cosT) (spread sinT)⟩, ⟨S16x2048x16x48, (extractStridedSlice S16x2048x16x48 ![0, 0, 0, 16] Z slices_S16x2048x16x64_S16x2048x16x48_0_0_0_16)⟩] concatenates_S16x2048x16x16_S16x2048x16x48_S16x2048x16x64_d3

/-- The reference's results: queries, keys, values, the last quarter, and the rounded keys and values. -/
def resQ (Y : FVec Ideal S16x2048x4096 .f32) : FVec Ideal S32768x1024 .bf16 :=
  truncf .bf16 (shapeCast S32768x1024 (mulf (roped (heads0 Y)) (broadcastInDim S16x2048x16x64 ![] bcast_S_S16x2048x16x64 (constant S_ .f32 0x3E000000#32))) shapeCasts_S16x2048x16x64_S32768x1024) bitsLt_bf16_f32
def resK (Y : FVec Ideal S16x2048x4096 .f32) : FVec Ideal S32768x1024 .f32 := shapeCast _ (roped (heads1 Y)) shapeCasts_S16x2048x16x64_S32768x1024
def resV (Y : FVec Ideal S16x2048x4096 .f32) : FVec Ideal S32768x1024 .f32 :=
  shapeCast _ (extractStridedSlice S16x2048x1024 ![0, 0, 2048] Y slices_S16x2048x4096_S16x2048x1024_0_0_2048) shapeCasts_S16x2048x1024_S32768x1024
def resU (Y : FVec Ideal S16x2048x4096 .f32) : FVec Ideal S32768x1024 .f32 :=
  shapeCast _ (extractStridedSlice S16x2048x1024 ![0, 0, 3072] Y slices_S16x2048x4096_S16x2048x1024_0_0_3072) shapeCasts_S16x2048x1024_S32768x1024
def resKb (Y : FVec Ideal S16x2048x4096 .f32) : FVec Ideal S32768x1024 .bf16 := truncf .bf16 (resK Y) bitsLt_bf16_f32
def resVb (Y : FVec Ideal S16x2048x4096 .f32) : FVec Ideal S32768x1024 .bf16 := truncf .bf16 (resV Y) bitsLt_bf16_f32

theorem spread_apply (T : FVec Ideal S2048x8 .f32) (b : Fin 16) (s : Fin 2048) (h : Fin 16) (d : Fin 8) : spread T (ix4 b s h d) = T (ix2 s d) := by
  unfold spread
  pointwise

theorem rowsNormed_apply (X : FVec Ideal S16x2048x2048 .f32) (g : FVec Ideal S1x2048 .f32) (b : Fin 16) (s k : Fin 2048) :
    rowsNormed X g (ix3 b s k) = normed (fun k => X (ix3 b s k)) (fun k => g (ix2 0 k)) k := by
  unfold rowsNormed normed invRms
  pointwise

theorem proj_apply (X : FVec Ideal S16x2048x2048 .f32) (g : FVec Ideal S1x2048 .f32) (W : FVec Ideal S1x2048x4096 .f32)
    (b : Fin 16) (s : Fin 2048) (q : Fin 4096) :
    proj X g W (ix3 b s q) = product (fun k => X (ix3 b s k)) (fun k => g (ix2 0 k)) (fun k q => W (ix3 0 k q)) q := by
  have e : proj X g W (ix3 b s q) = ∑ k : Fin 2048, rowsNormed X g (ix3 b s k) * W (ix3 0 k q) := by
    unfold proj
    pointwise
  rw [e]
  unfold product
  exact Finset.sum_congr rfl fun k _ => congrArg (· * _) (rowsNormed_apply X g b s k)

theorem heads0_apply (Y : FVec Ideal S16x2048x4096 .f32) (b : Fin 16) (s : Fin 2048) (h : Fin 16) (d : Fin 64) :
    heads0 Y (ix4 b s h d) = Y (ix3 b s ⟨h.val * 64 + d.val, by omega⟩) := by
  unfold heads0
  pointwise

theorem heads1_apply (Y : FVec Ideal S16x2048x4096 .f32) (b : Fin 16) (s : Fin 2048) (h : Fin 16) (d : Fin 64) :
    heads1 Y (ix4 b s h d) = Y (ix3 b s ⟨1024 + (h.val * 64 + d.val), by omega⟩) := by
  unfold heads1
  pointwise

theorem half0_apply (Z : FVec Ideal S16x2048x16x64 .f32) (b : Fin 16) (s : Fin 2048) (h : Fin 16) (d : Fin 8) :
    half0 Z (ix4 b s h d) = Z (ix4 b s h ⟨d.val, by omega⟩) := by
  unfold half0 front
  pointwise

theorem half1_apply (Z : FVec Ideal S16x2048x16x64 .f32) (b : Fin 16) (s : Fin 2048) (h : Fin 16) (d : Fin 8) :
    half1 Z (ix4 b s h d) = Z (ix4 b s h ⟨8 + d.val, by omega⟩) := by
  unfold half1 front
  pointwise

theorem turned_apply (Z : FVec Ideal S16x2048x16x64 .f32) (C S : FVec Ideal S16x2048x16x8 .f32) (b : Fin 16) (s : Fin 2048) (h d : Fin 16) :
    turned Z C S (ix4 b s h d)
      = if hd : d.val < 8 then half0 Z (ix4 b s h ⟨d.val, hd⟩) * C (ix4 b s h ⟨d.val, hd⟩) - half1 Z (ix4 b s h ⟨d.val, hd⟩) * S (ix4 b s h ⟨d.val, hd⟩)
        else half1 Z (ix4 b s h ⟨d.val - 8, by omega⟩) * C (ix4 b s h ⟨d.val - 8, by omega⟩)
          + half0 Z (ix4 b s h ⟨d.val - 8, by omega⟩) * S (ix4 b s h ⟨d.val - 8, by omega⟩) := by
  unfold turned
  pointwise

theorem roped_apply (Z : FVec Ideal S16x2048x16x64 .f32) (b : Fin 16) (s : Fin 2048) (h : Fin 16) (d : Fin 64) :
    roped Z (ix4 b s h d)
      = if hd : d.val < 16 then turned Z (spread cosT) (spread sinT) (ix4 b s h ⟨d.val, hd⟩) else Z (ix4 b s h d) := by
  unfold roped
  pointwise
  by_cases hd : d.val < 16
  · rw [dif_pos hd, dif_pos hd]
  · rw [dif_neg hd, dif_neg hd]
    exact congrArg (fun d => Z (ix4 b s h d)) (Fin.ext (by show 16 + (d.val - 16) = d.val; omega))

/-- The rotary embedding at a row's column. -/
theorem roped_at (Z : FVec Ideal S16x2048x16x64 .f32) (y : Fin 1024 → EReal) (b : Fin 16) (s : Fin 2048)
    (hZ : ∀ h d, Z (ix4 b s h d) = y ⟨h.val * 64 + d.val, by omega⟩) (q : Fin 1024) :
    roped Z (ix4 b s ⟨q.val / 64, by omega⟩ ⟨q.val % 64, by omega⟩) = rope y (fun n => cosT (ix2 s n)) (fun n => sinT (ix2 s n)) q := by
  have hq : ∀ n : ℕ, ∀ hn : n < 1024, n = q.val → y ⟨n, hn⟩ = y q := fun n hn e => congrArg y (Fin.ext e)
  rw [roped_apply]
  unfold rope
  by_cases h : q.val % 64 < 8
  · rw [dif_pos (show q.val % 64 < 16 by omega), dif_pos h, turned_apply, dif_pos h]
    simp only [half0_apply, half1_apply, spread_apply, hZ]
    rw [hq _ _ (by show q.val / 64 * 64 + q.val % 64 = _; omega)]
    exact congrArg (fun i => _ - y i * _) (Fin.ext (by show q.val / 64 * 64 + (8 + q.val % 64) = (q.val + 8) % 1024; omega))
  · by_cases h' : q.val % 64 < 16
    · rw [dif_pos h', dif_neg h, dif_pos h', turned_apply, dif_neg h]
      simp only [half0_apply, half1_apply, spread_apply, hZ]
      rw [hq _ _ (by show q.val / 64 * 64 + (8 + (q.val % 64 - 8)) = _; omega)]
      exact congrArg (fun i => _ + y i * _) (Fin.ext (by show q.val / 64 * 64 + (q.val % 64 - 8) = (q.val + 1016) % 1024; omega))
    · rw [dif_neg h', dif_neg h, dif_neg h', hZ]
      exact hq _ _ (by show q.val / 64 * 64 + q.val % 64 = _; omega)

section results

variable (X : FVec Ideal S16x2048x2048 .f32) (g : FVec Ideal S1x2048 .f32) (W : FVec Ideal S1x2048x4096 .f32)

/-- Row `r` of the product. -/
def row (r : Fin 32768) (q : Fin 4096) : EReal :=
  product (fun k => X (ix3 ⟨r.val / 2048, by omega⟩ ⟨r.val % 2048, by omega⟩ k)) (fun k => g (ix2 0 k)) (fun k q => W (ix3 0 k q)) q

/-- The cosines and sines of row `r`'s position. -/
def cosR (r : Fin 32768) (n : Fin 8) : EReal := cosT (ix2 ⟨r.val % 2048, by omega⟩ n)
def sinR (r : Fin 32768) (n : Fin 8) : EReal := sinT (ix2 ⟨r.val % 2048, by omega⟩ n)

theorem flat_apply (Z : FVec Ideal S16x2048x16x64 .f32) (r : Fin 32768) (q : Fin 1024) :
    (shapeCast S32768x1024 Z shapeCasts_S16x2048x16x64_S32768x1024 : FVec Ideal S32768x1024 .f32) (ix2 r q)
      = Z (ix4 ⟨r.val / 2048, by omega⟩ ⟨r.val % 2048, by omega⟩ ⟨q.val / 64, by omega⟩ ⟨q.val % 64, by omega⟩) := by
  pointwise

theorem resQ_apply (r : Fin 32768) (q : Fin 1024) :
    resQ (proj X g W) (ix2 r q)
      = rope (fun q => row X g W r ⟨0 + q.val, by omega⟩) (cosR r) (sinR r) q * Ideal.ofBits .f32 0x3E000000#32 := by
  have e : resQ (proj X g W) (ix2 r q) = roped (heads0 (proj X g W)) (ix4 ⟨r.val / 2048, by omega⟩ ⟨r.val % 2048, by omega⟩ ⟨q.val / 64, by omega⟩ ⟨q.val % 64, by omega⟩) * Ideal.ofBits .f32 0x3E000000#32 := by
    unfold resQ
    pointwise
  rw [e, roped_at (heads0 (proj X g W)) (fun q => row X g W r ⟨0 + q.val, by omega⟩) _ _ fun h d => ?_]
  · rfl
  · rw [heads0_apply, proj_apply]
    unfold row
    exact congrArg _ (Fin.ext (Nat.zero_add _).symm)

theorem resK_apply (r : Fin 32768) (q : Fin 1024) :
    resK (proj X g W) (ix2 r q) = rope (fun q => row X g W r ⟨1024 + q.val, by omega⟩) (cosR r) (sinR r) q := by
  unfold resK
  rw [flat_apply, roped_at (heads1 (proj X g W)) (fun q => row X g W r ⟨1024 + q.val, by omega⟩) _ _ fun h d => ?_]
  · rfl
  · rw [heads1_apply, proj_apply]
    rfl

theorem resV_apply (r : Fin 32768) (q : Fin 1024) : resV (proj X g W) (ix2 r q) = row X g W r ⟨2048 + q.val, by omega⟩ := by
  have e : resV (proj X g W) (ix2 r q) = proj X g W (ix3 ⟨r.val / 2048, by omega⟩ ⟨r.val % 2048, by omega⟩ ⟨2048 + q.val, by omega⟩) := by
    unfold resV
    pointwise
  rw [e, proj_apply]
  rfl

theorem resU_apply (r : Fin 32768) (q : Fin 1024) : resU (proj X g W) (ix2 r q) = row X g W r ⟨3072 + q.val, by omega⟩ := by
  have e : resU (proj X g W) (ix2 r q) = proj X g W (ix3 ⟨r.val / 2048, by omega⟩ ⟨r.val % 2048, by omega⟩ ⟨3072 + q.val, by omega⟩) := by
    unfold resU
    pointwise
  rw [e, proj_apply]
  rfl

theorem resKb_apply (r : Fin 32768) (q : Fin 1024) :
    resKb (proj X g W) (ix2 r q) = rope (fun q => row X g W r ⟨1024 + q.val, by omega⟩) (cosR r) (sinR r) q := resK_apply X g W r q

theorem resVb_apply (r : Fin 32768) (q : Fin 1024) : resVb (proj X g W) (ix2 r q) = row X g W r ⟨2048 + q.val, by omega⟩ := resV_apply X g W r q

end results

section stated

variable (m : (ℓ : Loc nD τ sig) → Buf (Elt Ideal) ℓ) (c : Dev nD)

/-- The reference's product, of its arguments. -/
abbrev projOf : FVec Ideal S16x2048x4096 .f32 := proj (m (c, main_arg0)) (m (c, main_arg1)) (m (c, main_arg2))

theorem is_q : Cert.InProjRefIdeal.Value.res_main_v106 m c = resQ (projOf m c) := by unfold Cert.InProjRefIdeal.Value.res_main_v106; rfl
theorem is_k : Cert.InProjRefIdeal.Value.res_main_v107 m c = resK (projOf m c) := by unfold Cert.InProjRefIdeal.Value.res_main_v107; rfl
theorem is_kb : Cert.InProjRefIdeal.Value.res_main_v111 m c = resKb (projOf m c) := by unfold Cert.InProjRefIdeal.Value.res_main_v111; rfl

end stated

end Cert.InProjRefIdeal.Hand

end
-- ==== Proof.InProjIdeal.Out.lean ====
/- What one grid point of the in-projection stores, and the tables it multiplies by, entry by entry. -/
module

public import proofs.«01_k».proof.Proof.InProjIdeal.Frame
public import proofs.«01_k».proof.Proof.InProj.Ref
public import Idealize.ShloMosaic.Lib.Pipeline.ValueKit
public import Idealize.ShloMosaic.Lib.Pointwise
public import Idealize.ShloMosaic.Lib.StableHlo.ReadAt

@[expose] public section

set_option maxRecDepth 16384

noncomputable section

namespace Cert.InProjIdeal.Hand

open Cert.InProjIdeal Cert.InProjIdeal.Gen Idealize.ShloMosaic Idealize.ShloMosaic.TcCoe Idealize.SL.Sem Cert.PleRows Cert.RopeRows

theorem pay1_at (x : Vec Ideal S512x2048 .f32) (g : Vec Ideal S1x2048 .f32) (r : Fin 512) (k : Fin 2048) :
    k0_pay1 (F := Ideal) x g (ix2 r k) = normed (fun k => x (ix2 r k)) (fun k => g (ix2 0 k)) k := by
  unfold k0_pay1 normed invRms
  pointwise

theorem pay2_at (n : Vec Ideal S512x2048 .bf16) (w : Vec Ideal S2048x1024 .bf16) (r : Fin 512) (q : Fin 1024) :
    k0_pay2 (F := Ideal) n w (ix2 r q) = ∑ k : Fin 2048, n (ix2 r k) * w (ix2 k q) := by
  unfold k0_pay2
  pointwise

/-- A table of 128 columns, eight times over. -/
def eight (T : Vec Ideal S512x128 .f32) : FVec Ideal S512x1024 .f32 :=
  concatenate S512x1024 1 [⟨S512x128, shapeCast S512x128 T shapeCasts_S512x128_S512x128⟩, ⟨S512x128, shapeCast S512x128 T shapeCasts_S512x128_S512x128⟩, ⟨S512x128, shapeCast S512x128 T shapeCasts_S512x128_S512x128⟩, ⟨S512x128, shapeCast S512x128 T shapeCasts_S512x128_S512x128⟩, ⟨S512x128, shapeCast S512x128 T shapeCasts_S512x128_S512x128⟩, ⟨S512x128, shapeCast S512x128 T shapeCasts_S512x128_S512x128⟩, ⟨S512x128, shapeCast S512x128 T shapeCasts_S512x128_S512x128⟩, ⟨S512x128, shapeCast S512x128 T shapeCasts_S512x128_S512x128⟩] concatenates_S512x128_S512x128_S512x128_S512x128_S512x128_S512x128_S512x128_S512x128_S512x1024_d1

theorem eight_at (T : Vec Ideal S512x128 .f32) (r : Fin 512) (q : Fin 1024) : eight T (ix2 r q) = T (ix2 r ⟨q.val % 128, by omega⟩) := by
  unfold eight
  refine (concatenate_replicate_apply (t := S512x1024) (s₁ := S512x128) 1 8 (shapeCast S512x128 T shapeCasts_S512x128_S512x128) _ rfl (ix2 r q)
    (ix2 r ⟨q.val % 128, by omega⟩) rfl fun b hb => ?_).trans ?_
  · match b with
    | ⟨0, _⟩ => rfl
    | ⟨1, _⟩ => exact absurd rfl hb
  · pointwise

/-- Columns turned back by 8, and on by 8. -/
def back (Y : FVec Ideal S512x1024 .f32) : FVec Ideal S512x1024 .f32 := dynamicRotate 1 1016#32 none Y rotates_S512x1024_d1
def onward (Y : FVec Ideal S512x1024 .f32) : FVec Ideal S512x1024 .f32 := dynamicRotate 1 8#32 none Y rotates_S512x1024_d1

theorem back_at (Y : FVec Ideal S512x1024 .f32) (r : Fin 512) (q : Fin 1024) : back Y (ix2 r q) = Y (ix2 r ⟨(q.val + 8) % 1024, by omega⟩) := by
  unfold back
  pointwise
  try exact congrArg (fun q => Y (ix2 r q)) (Fin.ext (by show (q.val + 1024 - 1016) % 1024 = (q.val + 8) % 1024; omega))

theorem onward_at (Y : FVec Ideal S512x1024 .f32) (r : Fin 512) (q : Fin 1024) : onward Y (ix2 r q) = Y (ix2 r ⟨(q.val + 1016) % 1024, by omega⟩) := by
  unfold onward
  pointwise
  try exact congrArg (fun q => Y (ix2 r q)) (Fin.ext (by show (q.val + 1024 - 8) % 1024 = (q.val + 1016) % 1024; omega))

theorem pay4_at (n : Vec Ideal S512x2048 .bf16) (w : Vec Ideal S2048x1024 .bf16) (c a b : Vec Ideal S512x128 .f32) (r : Fin 512) (q : Fin 1024) :
    k0_pay4 (F := Ideal) n w c a b (ix2 r q)
      = k0_pay2 (F := Ideal) n w (ix2 r q) * c (ix2 r ⟨q.val % 128, by omega⟩)
        + k0_pay2 (F := Ideal) n w (ix2 r ⟨(q.val + 8) % 1024, by omega⟩) * a (ix2 r ⟨q.val % 128, by omega⟩)
        + k0_pay2 (F := Ideal) n w (ix2 r ⟨(q.val + 1016) % 1024, by omega⟩) * b (ix2 r ⟨q.val % 128, by omega⟩) := by
  show k0_pay2 n w (ix2 r q) * eight c (ix2 r q) + back (k0_pay2 n w) (ix2 r q) * eight a (ix2 r q)
    + onward (k0_pay2 n w) (ix2 r q) * eight b (ix2 r q) = _
  rw [eight_at, eight_at, eight_at, back_at, onward_at]

theorem pay3_at (n : Vec Ideal S512x2048 .bf16) (w : Vec Ideal S2048x1024 .bf16) (c a b : Vec Ideal S512x128 .f32) (r : Fin 512) (q : Fin 1024) :
    k0_pay3 (F := Ideal) n w c a b (ix2 r q) = k0_pay4 (F := Ideal) n w c a b (ix2 r q) * Ideal.ofBits .f32 0x3E000000#32 := rfl

theorem pay5_at (n : Vec Ideal S512x2048 .bf16) (w : Vec Ideal S2048x1024 .bf16) (c a b : Vec Ideal S512x128 .f32) (r : Fin 512) (q : Fin 1024) :
    k0_pay5 (F := Ideal) n w c a b (ix2 r q) = k0_pay4 (F := Ideal) n w c a b (ix2 r q) := rfl

theorem pay6_at (n : Vec Ideal S512x2048 .bf16) (w : Vec Ideal S2048x1024 .bf16) (r : Fin 512) (q : Fin 1024) :
    k0_pay6 (F := Ideal) n w (ix2 r q) = k0_pay2 (F := Ideal) n w (ix2 r q) := rfl

/-- The tables by position, of a table of cosines and one of sines. -/
def twice (T : FVec Ideal S2048x64 .f32) : FVec Ideal S2048x128 .f32 :=
  concatenate S2048x128 1 [⟨S2048x64, T⟩, ⟨S2048x64, T⟩] concatenates_S2048x64_S2048x64_S2048x128_d1
def headC (C : FVec Ideal S2048x8 .f32) : FVec Ideal S2048x64 .f32 :=
  concatenate S2048x64 1 [⟨S2048x8, C⟩, ⟨S2048x8, C⟩, ⟨S2048x48, (broadcastInDim S2048x48 ![] bcast_S_S2048x48 (constant S_ .f32 0x3F800000#32) : FVec Ideal S2048x48 .f32)⟩] concatenates_S2048x8_S2048x8_S2048x48_S2048x64_d1
def headA (S : FVec Ideal S2048x8 .f32) : FVec Ideal S2048x64 .f32 :=
  concatenate S2048x64 1 [⟨S2048x8, Host.negf S⟩, ⟨S2048x56, (broadcastInDim S2048x56 ![] bcast_S_S2048x56 (constant S_ .f32 0x00000000#32) : FVec Ideal S2048x56 .f32)⟩] concatenates_S2048x8_S2048x56_S2048x64_d1
def headB (S : FVec Ideal S2048x8 .f32) : FVec Ideal S2048x64 .f32 :=
  concatenate S2048x64 1 [⟨S2048x8, (broadcastInDim S2048x8 ![] bcast_S_S2048x8 (constant S_ .f32 0x00000000#32) : FVec Ideal S2048x8 .f32)⟩, ⟨S2048x8, S⟩, ⟨S2048x48, (broadcastInDim S2048x48 ![] bcast_S_S2048x48 (constant S_ .f32 0x00000000#32) : FVec Ideal S2048x48 .f32)⟩] concatenates_S2048x8_S2048x8_S2048x48_S2048x64_d1

theorem twice_at (T : FVec Ideal S2048x64 .f32) (s : Fin 2048) (d : Fin 128) : twice T (ix2 s d) = T (ix2 s ⟨d.val % 64, by omega⟩) := by
  unfold twice
  refine (concatenate_replicate_apply (t := S2048x128) (s₁ := S2048x64) 1 2 T _ rfl (ix2 s d)
    (ix2 s ⟨d.val % 64, by omega⟩) rfl fun b hb => ?_)
  match b with
  | ⟨0, _⟩ => rfl
  | ⟨1, _⟩ => exact absurd rfl hb

theorem headC_at (C : FVec Ideal S2048x8 .f32) (s : Fin 2048) (d : Fin 64) :
    headC C (ix2 s d) = tabC (fun n => C (ix2 s n)) d.val := by
  unfold headC tabC
  pointwise
  have e : d.val % 64 = d.val := Nat.mod_eq_of_lt d.isLt
  by_cases h : d.val < 8
  · rw [dif_pos h, dif_pos (show d.val % 64 < 8 by omega)]
    exact congrArg (fun n => C (ix2 s n)) (Fin.ext e.symm)
  · rw [dif_neg h, dif_neg (show ¬ d.val % 64 < 8 by omega)]
    by_cases h' : d.val - 8 < 8
    · rw [dif_pos h', dif_pos (show d.val % 64 < 16 by omega)]
      exact congrArg (fun n => C (ix2 s n)) (Fin.ext (congrArg (· - 8) e.symm))
    · rw [dif_neg h', dif_neg (show ¬ d.val % 64 < 16 by omega)]

theorem headA_at (S : FVec Ideal S2048x8 .f32) (s : Fin 2048) (d : Fin 64) :
    headA S (ix2 s d) = tabA (fun n => S (ix2 s n)) d.val := by
  unfold headA tabA
  pointwise
  have e : d.val % 64 = d.val := Nat.mod_eq_of_lt d.isLt
  by_cases h : d.val < 8
  · rw [dif_pos h, dif_pos (show d.val % 64 < 8 by omega)]
    exact congrArg (fun n => -S (ix2 s n)) (Fin.ext e.symm)
  · rw [dif_neg h, dif_neg (show ¬ d.val % 64 < 8 by omega)]

theorem headB_at (S : FVec Ideal S2048x8 .f32) (s : Fin 2048) (d : Fin 64) :
    headB S (ix2 s d) = tabB (fun n => S (ix2 s n)) d.val := by
  unfold headB tabB
  pointwise
  have e : d.val % 64 = d.val := Nat.mod_eq_of_lt d.isLt
  by_cases h : d.val < 8
  · rw [dif_pos h, dif_pos (show d.val % 64 < 8 by omega)]
  · rw [dif_neg h, dif_neg (show ¬ d.val % 64 < 8 by omega)]
    by_cases h' : d.val - 8 < 8
    · rw [dif_pos h', dif_pos (show d.val % 64 < 16 by omega)]
      exact congrArg (fun n => S (ix2 s n)) (Fin.ext (congrArg (· - 8) e.symm))
    · rw [dif_neg h', dif_neg (show ¬ d.val % 64 < 16 by omega)]

end Cert.InProjIdeal.Hand

end
-- ==== Proof.InProjIdeal.Value.lean ====
/- The in-projection's result arrays are the reference's. -/
module

public import proofs.«01_k».proof.Proof.InProjIdeal.Out
public import Idealize.ShloMosaic.Lib.Claim

@[expose] public section

set_option maxRecDepth 16384

noncomputable section

namespace Cert.InProjIdeal.Hand

open Cert.InProjIdeal Cert.InProjIdeal.Gen Idealize.ShloMosaic Idealize.ShloMosaic.TcCoe Idealize.SL.Sem Cert.PleRows Cert.RopeRows
open Idealize.ShloMosaic.Pipeline (Dat)
open Cert.InProjRefIdeal.Hand (cosT sinT cosR sinR row proj)

variable (m : (ℓ : Loc nD τ sig) → Buf (Elt Ideal) ℓ) (c : Dev nD)

theorem at_w0 : ∀ t : Fin cfg0.N, win0_0.index t = ![t.val / 4, 0] := (by decide +kernel : ∀ t : Fin grid0.N, _)
theorem at_w1 : ∀ t : Fin cfg0.N, win0_1.index t = ![0, 0] := (by decide +kernel : ∀ t : Fin grid0.N, _)
theorem at_w2 : ∀ t : Fin cfg0.N, win0_2.index t = ![0, t.val % 4] := (by decide +kernel : ∀ t : Fin grid0.N, _)
theorem at_w3 : ∀ t : Fin cfg0.N, win0_3.index t = ![t.val / 4 % 4, 0] := (by decide +kernel : ∀ t : Fin grid0.N, _)
theorem at_w4 : ∀ t : Fin cfg0.N, win0_4.index t = ![t.val / 4 % 4, 0] := (by decide +kernel : ∀ t : Fin grid0.N, _)
theorem at_w5 : ∀ t : Fin cfg0.N, win0_5.index t = ![t.val / 4 % 4, 0] := (by decide +kernel : ∀ t : Fin grid0.N, _)
theorem at_w6 : ∀ t : Fin cfg0.N, win0_6.index t = ![t.val / 4, 0] := (by decide +kernel : ∀ t : Fin grid0.N, _)
theorem at_w7 : ∀ t : Fin cfg0.N, win0_7.index t = ![t.val / 4, 0] := (by decide +kernel : ∀ t : Fin grid0.N, _)
theorem at_w8 : ∀ t : Fin cfg0.N, win0_8.index t = ![t.val / 4, 0] := (by decide +kernel : ∀ t : Fin grid0.N, _)
theorem at_w9 : ∀ t : Fin cfg0.N, win0_9.index t = ![t.val / 4, 0] := (by decide +kernel : ∀ t : Fin grid0.N, _)
theorem at_w10 : ∀ t : Fin cfg0.N, win0_10.index t = ![t.val / 4, 0] := (by decide +kernel : ∀ t : Fin grid0.N, _)
theorem at_w11 : ∀ t : Fin cfg0.N, win0_11.index t = ![t.val / 4, 0] := (by decide +kernel : ∀ t : Fin grid0.N, _)

/-- Row `r` of point `t`'s block. -/
def rowOf (t : Fin cfg0.N) (r : Fin 512) : Fin 32768 :=
  ⟨t.val / 4 * 512 + r.val, by have := lt_points t; omega⟩

/-- Its position in its sequence. -/
def posOf (t : Fin cfg0.N) (r : Fin 512) : Fin 2048 := ⟨t.val / 4 % 4 * 512 + r.val, by omega⟩

theorem posOf_eq (t : Fin cfg0.N) (r : Fin 512) (h) : posOf t r = ⟨(rowOf t r).val % 2048, h⟩ :=
  Fin.ext (by show t.val / 4 % 4 * 512 + r.val = (t.val / 4 * 512 + r.val) % 2048; omega)

theorem rowOf_pt (t : Fin cfg0.N) (j : Fin 4) (r : Fin 512) : rowOf (pt t j) r = rowOf t r :=
  Fin.ext (by show (4 * (t.val / 4) + j.val) / 4 * 512 + r.val = t.val / 4 * 512 + r.val; omega)

theorem blk_x (t : Fin cfg0.N) (r : Fin 512) (k : Fin 2048) :
    (iblk m c 0 t : Vec Ideal S512x2048 .f32) (ix2 r k) = V m c main_v0 (ix2 (rowOf t r) k) := by
  blk_simp [iblk]
  exact congrArg (V m c main_v0) (by blk_ext [at_w0, rowOf])

theorem blk_g (t : Fin cfg0.N) (k : Fin 2048) : (iblk m c 1 t : Vec Ideal S1x2048 .f32) (ix2 0 k) = V m c main_v2 (ix2 0 k) := by
  blk_simp [iblk]
  exact congrArg (V m c main_v2) (by blk_ext [at_w1])

theorem blk_w (t : Fin cfg0.N) (k : Fin 2048) (q : Fin 1024) :
    (iblk m c 2 t : Vec Ideal S2048x1024 .bf16) (ix2 k q) = V m c main_v4 (ix2 k ⟨t.val % 4 * 1024 + q.val, by omega⟩) := by
  blk_simp [iblk]
  exact congrArg (V m c main_v4) (by blk_ext [at_w2])

theorem blk_c (t : Fin cfg0.N) (r : Fin 512) (d : Fin 128) :
    (iblk m c 3 t : Vec Ideal S512x128 .f32) (ix2 r d) = V m c main_v32 (ix2 (posOf t r) d) := by
  blk_simp [iblk]
  exact congrArg (V m c main_v32) (by blk_ext [at_w3, posOf])

theorem blk_a (t : Fin cfg0.N) (r : Fin 512) (d : Fin 128) :
    (iblk m c 4 t : Vec Ideal S512x128 .f32) (ix2 r d) = V m c main_v33 (ix2 (posOf t r) d) := by
  blk_simp [iblk]
  exact congrArg (V m c main_v33) (by blk_ext [at_w4, posOf])

theorem blk_b (t : Fin cfg0.N) (r : Fin 512) (d : Fin 128) :
    (iblk m c 5 t : Vec Ideal S512x128 .f32) (ix2 r d) = V m c main_v34 (ix2 (posOf t r) d) := by
  blk_simp [iblk]
  exact congrArg (V m c main_v34) (by blk_ext [at_w5, posOf])

/-- The tables of the call are the three of the reference's cosines and sines. -/
theorem table_c : V m c main_v32 = twice (headC cosT) := by
  unfold V
  after_results_simp
  rfl

theorem table_a : V m c main_v33 = twice (headA sinT) := by
  unfold V
  after_results_simp
  rfl

theorem table_b : V m c main_v34 = twice (headB sinT) := by
  unfold V
  after_results_simp
  rfl

theorem tabC_mod (f : Fin 8 → EReal) (d : ℕ) : tabC f (d % 128 % 64) = tabC f d := by
  have e : d % 128 % 64 % 64 = d % 64 := by omega
  unfold tabC
  simp only [e]

theorem entry_c (t : Fin cfg0.N) (r : Fin 512) (q : Fin 1024) :
    (iblk m c 3 t : Vec Ideal S512x128 .f32) (ix2 r ⟨q.val % 128, by omega⟩) = tabC (fun n => cosT (ix2 (posOf t r) n)) q.val := by
  rw [blk_c, table_c, twice_at, headC_at]
  exact tabC_mod _ q.val

theorem tabA_mod (f : Fin 8 → EReal) (d : ℕ) : tabA f (d % 128 % 64) = tabA f d := by
  have e : d % 128 % 64 % 64 = d % 64 := by omega
  unfold tabA
  simp only [e]

theorem entry_a (t : Fin cfg0.N) (r : Fin 512) (q : Fin 1024) :
    (iblk m c 4 t : Vec Ideal S512x128 .f32) (ix2 r ⟨q.val % 128, by omega⟩) = tabA (fun n => sinT (ix2 (posOf t r) n)) q.val := by
  rw [blk_a, table_a, twice_at, headA_at]
  exact tabA_mod _ q.val

theorem tabB_mod (f : Fin 8 → EReal) (d : ℕ) : tabB f (d % 128 % 64) = tabB f d := by
  have e : d % 128 % 64 % 64 = d % 64 := by omega
  unfold tabB
  simp only [e]

theorem entry_b (t : Fin cfg0.N) (r : Fin 512) (q : Fin 1024) :
    (iblk m c 5 t : Vec Ideal S512x128 .f32) (ix2 r ⟨q.val % 128, by omega⟩) = tabB (fun n => sinT (ix2 (posOf t r) n)) q.val := by
  rw [blk_b, table_b, twice_at, headB_at]
  exact tabB_mod _ q.val

section entries

variable (X : FVec Ideal S16x2048x2048 .f32) (g : FVec Ideal S1x2048 .f32) (W : FVec Ideal S1x2048x4096 .f32)

theorem entry_x (hA : m (c, main_arg0) = X) (r : Fin 32768) (k : Fin 2048) :
    (V m c main_v0 : Vec Ideal S32768x2048 .f32) (ix2 r k) = X (ix3 ⟨r.val / 2048, by omega⟩ ⟨r.val % 2048, by omega⟩ k) := by
  subst hA
  unfold V
  after_reads_at

theorem entry_g (hA : m (c, main_arg1) = g) (k : Fin 2048) : (V m c main_v2 : Vec Ideal S1x2048 .f32) (ix2 0 k) = g (ix2 0 k) := by
  subst hA
  unfold V
  after_reads_at

theorem entry_w (hA : m (c, main_arg2) = W) (k : Fin 2048) (q : Fin 4096) :
    (V m c main_v4 : Vec Ideal S2048x4096 .bf16) (ix2 k q) = W (ix3 0 k q) := by
  subst hA
  unfold V
  after_reads_at

/-- The plain product of a point is its rows' and its quarter of the columns. -/
theorem product_at (h0 : m (c, main_arg0) = X) (h1 : m (c, main_arg1) = g) (h2 : m (c, main_arg2) = W) (t : Fin cfg0.N)
    (r : Fin 512) (q : Fin 1024) :
    k0_pay2 (F := Ideal) (normedAt m c t) (iblk m c 2 t) (ix2 r q) = row X g W (rowOf t r) ⟨t.val % 4 * 1024 + q.val, by omega⟩ := by
  rw [pay2_at]
  unfold row product normedAt
  simp only [pay1_at, blk_x, blk_g, blk_w, rowOf_pt, entry_x m c X h0, entry_g m c g h1, entry_w m c W h2]

/-- The rotary embedding of a point. -/
theorem rope_at (h0 : m (c, main_arg0) = X) (h1 : m (c, main_arg1) = g) (h2 : m (c, main_arg2) = W) (t : Fin cfg0.N)
    (r : Fin 512) (q : Fin 1024) :
    k0_pay4 (F := Ideal) (normedAt m c t) (iblk m c 2 t) (iblk m c 3 t) (iblk m c 4 t) (iblk m c 5 t) (ix2 r q)
      = rope (fun q => row X g W (rowOf t r) ⟨t.val % 4 * 1024 + q.val, by omega⟩) (cosR (rowOf t r)) (sinR (rowOf t r)) q := by
  rw [pay4_at, entry_c, entry_a, entry_b, product_at m c X g W h0 h1 h2, product_at m c X g W h0 h1 h2, product_at m c X g W h0 h1 h2]
  refine (three_products (fun q => row X g W (rowOf t r) ⟨t.val % 4 * 1024 + q.val, by omega⟩) _ _ q).trans ?_
  unfold cosR sinR
  rw [posOf_eq t r]

theorem rope_congr {y y' : Fin 1024 → EReal} (h : ∀ q, y q = y' q) (C S : Fin 8 → EReal) (q : Fin 1024) : rope y C S q = rope y' C S q := by
  rw [funext h]

theorem row_congr {n n' : ℕ} (e : n = n') (r : Fin 32768) (q : Fin 1024) (h : n + q.val < 4096) (h' : n' + q.val < 4096) :
    row X g W r ⟨n + q.val, h⟩ = row X g W r ⟨n' + q.val, h'⟩ := by subst e; rfl

theorem arr_6 (h0 : m (c, main_arg0) = X) (h1 : m (c, main_arg1) = g) (h2 : m (c, main_arg2) = W) :
    (dats m 0 c).arrAt 6 cfg0.N = Cert.InProjRefIdeal.Hand.resQ (proj X g W) := by
  refine (dats m 0 c).arrAt_eq_of_covers 6 _ (by decide +kernel) fun t hf y => ?_
  blk_simp
  rw [after_6]
  idx_vars y
  have e : ((View.whole main_v35_0).slice (win0_6.rect t)).emb (ix2 y0 y1) = ix2 (rowOf t y0) y1 := by
    blk_ext [at_w6, rowOf]
  refine Eq.trans ?_ (congrArg (Cert.InProjRefIdeal.Hand.resQ (proj X g W)) e).symm
  rw [Cert.InProjRefIdeal.Hand.resQ_apply]
  have hj : (pt t 0).val % 4 * 1024 = 0 := by
    have : (pt t 0).val % 4 = 0 := by show (4 * (t.val / 4) + 0) % 4 = 0; omega
    rw [this]
  refine (show _ = _ * Ideal.ofBits .f32 0x3E000000#32 from pay3_at _ _ _ _ _ y0 y1).trans ?_
  rw [rope_at m c X g W h0 h1 h2 (pt t 0), rowOf_pt]
  refine congrArg (· * _) ?_
  exact rope_congr (fun q => row_congr X g W hj _ q _ _) _ _ y1

theorem arr_7 (h0 : m (c, main_arg0) = X) (h1 : m (c, main_arg1) = g) (h2 : m (c, main_arg2) = W) :
    (dats m 0 c).arrAt 7 cfg0.N = Cert.InProjRefIdeal.Hand.resK (proj X g W) := by
  refine (dats m 0 c).arrAt_eq_of_covers 7 _ (by decide +kernel) fun t hf y => ?_
  blk_simp
  rw [after_7]
  idx_vars y
  have e : ((View.whole main_v35_1).slice (win0_7.rect t)).emb (ix2 y0 y1) = ix2 (rowOf t y0) y1 := by
    blk_ext [at_w7, rowOf]
  refine Eq.trans ?_ (congrArg (Cert.InProjRefIdeal.Hand.resK (proj X g W)) e).symm
  rw [Cert.InProjRefIdeal.Hand.resK_apply]
  have hj : (pt t 1).val % 4 * 1024 = 1024 := by
    have : (pt t 1).val % 4 = 1 := by show (4 * (t.val / 4) + 1) % 4 = 1; omega
    rw [this]
  unfold kAt
  rw [rope_at m c X g W h0 h1 h2 (pt t 1), rowOf_pt]
  exact rope_congr (fun q => row_congr X g W hj _ q _ _) _ _ y1

theorem arr_8 (h0 : m (c, main_arg0) = X) (h1 : m (c, main_arg1) = g) (h2 : m (c, main_arg2) = W) :
    (dats m 0 c).arrAt 8 cfg0.N = Cert.InProjRefIdeal.Hand.resV (proj X g W) := by
  refine (dats m 0 c).arrAt_eq_of_covers 8 _ (by decide +kernel) fun t hf y => ?_
  blk_simp
  rw [after_8]
  idx_vars y
  have e : ((View.whole main_v35_2).slice (win0_8.rect t)).emb (ix2 y0 y1) = ix2 (rowOf t y0) y1 := by
    blk_ext [at_w8, rowOf]
  refine Eq.trans ?_ (congrArg (Cert.InProjRefIdeal.Hand.resV (proj X g W)) e).symm
  rw [Cert.InProjRefIdeal.Hand.resV_apply]
  have hj : (pt t 2).val % 4 * 1024 = 2048 := by
    have : (pt t 2).val % 4 = 2 := by show (4 * (t.val / 4) + 2) % 4 = 2; omega
    rw [this]
  unfold vAt
  rw [product_at m c X g W h0 h1 h2 (pt t 2), rowOf_pt]
  exact row_congr X g W hj _ y1 _ _

theorem arr_9 (h0 : m (c, main_arg0) = X) (h1 : m (c, main_arg1) = g) (h2 : m (c, main_arg2) = W) :
    (dats m 0 c).arrAt 9 cfg0.N = Cert.InProjRefIdeal.Hand.resU (proj X g W) := by
  refine (dats m 0 c).arrAt_eq_of_covers 9 _ (by decide +kernel) fun t hf y => ?_
  blk_simp
  rw [after_9]
  idx_vars y
  have e : ((View.whole main_v35_3).slice (win0_9.rect t)).emb (ix2 y0 y1) = ix2 (rowOf t y0) y1 := by
    blk_ext [at_w9, rowOf]
  refine Eq.trans ?_ (congrArg (Cert.InProjRefIdeal.Hand.resU (proj X g W)) e).symm
  rw [Cert.InProjRefIdeal.Hand.resU_apply]
  have hj : (pt t 3).val % 4 * 1024 = 3072 := by
    have : (pt t 3).val % 4 = 3 := by show (4 * (t.val / 4) + 3) % 4 = 3; omega
    rw [this]
  unfold vAt
  rw [product_at m c X g W h0 h1 h2 (pt t 3), rowOf_pt]
  exact row_congr X g W hj _ y1 _ _

theorem arr_10 (h0 : m (c, main_arg0) = X) (h1 : m (c, main_arg1) = g) (h2 : m (c, main_arg2) = W) :
    (dats m 0 c).arrAt 10 cfg0.N = Cert.InProjRefIdeal.Hand.resKb (proj X g W) := by
  refine (dats m 0 c).arrAt_eq_of_covers 10 _ (by decide +kernel) fun t hf y => ?_
  blk_simp
  rw [after_10]
  idx_vars y
  have e : ((View.whole main_v35_4).slice (win0_10.rect t)).emb (ix2 y0 y1) = ix2 (rowOf t y0) y1 := by
    blk_ext [at_w10, rowOf]
  refine Eq.trans ?_ (congrArg (Cert.InProjRefIdeal.Hand.resKb (proj X g W)) e).symm
  rw [Cert.InProjRefIdeal.Hand.resKb_apply]
  have hj : (pt t 1).val % 4 * 1024 = 1024 := by
    have : (pt t 1).val % 4 = 1 := by show (4 * (t.val / 4) + 1) % 4 = 1; omega
    rw [this]
  refine (show _ = _ from pay5_at _ _ _ _ _ y0 y1).trans ?_
  rw [rope_at m c X g W h0 h1 h2 (pt t 1), rowOf_pt]
  exact rope_congr (fun q => row_congr X g W hj _ q _ _) _ _ y1

theorem arr_11 (h0 : m (c, main_arg0) = X) (h1 : m (c, main_arg1) = g) (h2 : m (c, main_arg2) = W) :
    (dats m 0 c).arrAt 11 cfg0.N = Cert.InProjRefIdeal.Hand.resVb (proj X g W) := by
  refine (dats m 0 c).arrAt_eq_of_covers 11 _ (by decide +kernel) fun t hf y => ?_
  blk_simp
  rw [after_11]
  idx_vars y
  have e : ((View.whole main_v35_5).slice (win0_11.rect t)).emb (ix2 y0 y1) = ix2 (rowOf t y0) y1 := by
    blk_ext [at_w11, rowOf]
  refine Eq.trans ?_ (congrArg (Cert.InProjRefIdeal.Hand.resVb (proj X g W)) e).symm
  rw [Cert.InProjRefIdeal.Hand.resVb_apply]
  have hj : (pt t 2).val % 4 * 1024 = 2048 := by
    have : (pt t 2).val % 4 = 2 := by show (4 * (t.val / 4) + 2) % 4 = 2; omega
    rw [this]
  refine (show _ = _ from pay6_at _ _ y0 y1).trans ?_
  rw [product_at m c X g W h0 h1 h2 (pt t 2), rowOf_pt]
  exact row_congr X g W hj _ y1 _ _

end entries

end Cert.InProjIdeal.Hand

end
-- ==== Proof.InProj.Claims.lean ====
/- The claims about the in-projection. -/
module

public import proofs.«01_k».proof.Defs
public import proofs.«01_k».proof.Proof.InProj.Frame
public import proofs.«01_k».proof.Proof.InProjIdeal.Value
public import Idealize.ShloMosaic.Adequacy
public import Idealize.ShloMosaic.Init

@[expose] public section

noncomputable section

namespace Cert.InProj.Claims

open Idealize.ShloMosaic Idealize.SL.Sem

/-- The kernel runs, its arguments end as they were and its semaphores at zero. -/
theorem frame : Cert.quiescent_InProj := fun m ρ _ =>
  (θ_run Cert.InProj.defs _ _).mono (fun r h => ⟨fun c => (h.1 c).2.2.2.2.2.2, h.2⟩) (Cert.InProj.Hand.run_result m ρ)

theorem frameIdeal : Cert.quiescent_InProjIdeal := fun m ρ _ =>
  (θ_run Cert.InProjIdeal.defs _ _).mono (fun r h => ⟨fun c => (h.1 c).2.2.2.2.2.2, h.2⟩) (Cert.InProjIdeal.Hand.run_result m ρ)

/-- The reference runs, and its arguments end as they were. -/
theorem frameRef : Cert.quiescent_InProjRefIdeal := fun m ρ _ =>
  (θ_run Cert.InProjRefIdeal.defs _ _).mono (fun r h => ⟨fun c => (h c).2.2.2.2.2.2, sem_eq_zero_of_no_sems (by decide) r.2⟩)
    (Cert.InProjRefIdeal.Value.run (F := Ideal) m ρ)

/-- The kernel and the reference agree. -/
theorem algebraic : Cert.algebraic_InProjIdeal_InProjRefIdeal := by
  intro m ρ m' ρ' hpre hagree
  refine ⟨fun c => (Cert.InProjIdeal.Hand.dats m 0 c).arrAt 6 Cert.InProjIdeal.cfg0.N, fun c => (Cert.InProjIdeal.Hand.dats m 0 c).arrAt 7 Cert.InProjIdeal.cfg0.N,
    fun c => (Cert.InProjIdeal.Hand.dats m 0 c).arrAt 8 Cert.InProjIdeal.cfg0.N, fun c => (Cert.InProjIdeal.Hand.dats m 0 c).arrAt 9 Cert.InProjIdeal.cfg0.N,
    fun c => (Cert.InProjIdeal.Hand.dats m 0 c).arrAt 10 Cert.InProjIdeal.cfg0.N, fun c => (Cert.InProjIdeal.Hand.dats m 0 c).arrAt 11 Cert.InProjIdeal.cfg0.N,
    (θ_run Cert.InProjIdeal.defs _ _).mono (fun r h => h.1) (Cert.InProjIdeal.Hand.run_result m ρ), ?_⟩
  refine (θ_run Cert.InProjRefIdeal.defs _ _).mono (fun _ h c => ?_) (Cert.InProjRefIdeal.Value.run (F := Ideal) m' ρ')
  obtain ⟨g0, g1, g2⟩ := hagree c
  obtain ⟨hq, hk, hv, hu, hkb, hvb, hargs⟩ := h c
  exact ⟨hq.trans ((Cert.InProjRefIdeal.Hand.is_q m' c).trans (Cert.InProjIdeal.Hand.arr_6 m c _ _ _ g0.symm g1.symm g2.symm).symm),
    hk.trans ((Cert.InProjRefIdeal.Hand.is_k m' c).trans (Cert.InProjIdeal.Hand.arr_7 m c _ _ _ g0.symm g1.symm g2.symm).symm),
    hv.trans ((show _ = Cert.InProjRefIdeal.Hand.resV (Cert.InProjRefIdeal.Hand.projOf m' c) from rfl).trans (Cert.InProjIdeal.Hand.arr_8 m c _ _ _ g0.symm g1.symm g2.symm).symm),
    hu.trans ((show _ = Cert.InProjRefIdeal.Hand.resU (Cert.InProjRefIdeal.Hand.projOf m' c) from rfl).trans (Cert.InProjIdeal.Hand.arr_9 m c _ _ _ g0.symm g1.symm g2.symm).symm),
    hkb.trans ((Cert.InProjRefIdeal.Hand.is_kb m' c).trans (Cert.InProjIdeal.Hand.arr_10 m c _ _ _ g0.symm g1.symm g2.symm).symm),
    hvb.trans ((show _ = Cert.InProjRefIdeal.Hand.resVb (Cert.InProjRefIdeal.Hand.projOf m' c) from rfl).trans (Cert.InProjIdeal.Hand.arr_11 m c _ _ _ g0.symm g1.symm g2.symm).symm), hargs⟩

end Cert.InProj.Claims

end
-- ==== Proof.Ple.Run.lean ====
module
public import proofs.«01_k».proof.Proof.Gen.Ple.Frame
public import proofs.«01_k».proof.Proof.Gen.Ple.Value
-- ==== Proof.PleIdeal.Run.lean ====
module
public import proofs.«01_k».proof.Proof.Gen.PleIdeal.Frame
public import proofs.«01_k».proof.Proof.Gen.PleIdeal.Value
-- ==== Proof.PleIdeal.Out.lean ====
/- What one grid point of the gated per-layer embedding stores, entry by entry. -/
module

public import proofs.«01_k».proof.Proof.Ple.Rows
public import proofs.«01_k».proof.Proof.Gen.PleIdeal.Value
public import Idealize.ShloMosaic.Lib.Pipeline.ValueKit
public import Idealize.ShloMosaic.Lib.Pointwise
public import Idealize.ShloMosaic.Lib.WritesUnit

@[expose] public section

set_option maxRecDepth 16384

noncomputable section

namespace Cert.PleIdeal.Hand

open Cert.PleIdeal Cert.PleIdeal.Gen Idealize.ShloMosaic Idealize.ShloMosaic.TcCoe Idealize.SL.Sem Cert.PleRows

/-- One entry of a chunk of columns: from the normed rows, the embedding's rows, and the chunks of the matrices. -/
def chunk (hn : FVec Ideal S512x2048 .bf16) (pb : FVec Ideal S512x256 .bf16) (w : Vec Ideal S2048x512 .bf16) (b : Vec Ideal S1x512 .f32)
    (wp : Vec Ideal S256x512 .bf16) (h : Vec Ideal S512x512 .f32) (r d : Fin 512) : EReal :=
  h (ix2 r d) + Ideal.logistic ((∑ k : Fin 2048, hn (ix2 r k) * w (ix2 k d)) + b (ix2 0 d)) * ∑ k : Fin 256, pb (ix2 r k) * wp (ix2 k d)

theorem pay2_at (v0 : Vec Ideal S512x2048 .f32) (v11 : Vec Ideal S1x2048 .f32) (r : Fin 512) (k : Fin 2048) :
    k0_pay2 (F := Ideal) v0 v11 (ix2 r k) = normed (fun k => v0 (ix2 r k)) (fun k => v11 (ix2 0 k)) k := by
  unfold k0_pay2 normed invRms
  pointwise

theorem pay3_at (v16 : Vec Ideal S512x256 .f32) (r : Fin 512) (k : Fin 256) :
    k0_pay3 (F := Ideal) v16 (ix2 r k) = v16 (ix2 r k) := by
  unfold k0_pay3
  pointwise

theorem pay7_at (v15 v18 v39 v42 v47 v50) (r d : Fin 512) :
    k0_pay7 (F := Ideal) v15 v18 v39 v42 v47 v50 (ix2 r d) = chunk v15 v18 v39 v42 v47 v50 r d := by
  unfold k0_pay7 chunk
  pointwise

theorem pay5_at (v0 v11 v16 v20 v23 v28 v31) (r d : Fin 512) :
    k0_pay5 (F := Ideal) v0 v11 v16 v20 v23 v28 v31 (ix2 r d) = chunk (k0_pay2 v0 v11) (k0_pay3 v16) v20 v23 v28 v31 r d :=
  pay7_at _ _ _ _ _ _ r d

theorem pay10_at (v15 v18 v58 v61 v66 v69) (r d : Fin 512) :
    k0_pay10 (F := Ideal) v69 (k0_pay9 v15 v18 v58 v61 v66) (ix2 r d) = chunk v15 v18 v58 v61 v66 v69 r d :=
  pay7_at _ _ _ _ _ _ r d

theorem pay11_at (v15 v18 v77 v80 v85 v88) (r d : Fin 512) :
    k0_pay11 (F := Ideal) v15 v18 v77 v80 v85 v88 (ix2 r d) = chunk v15 v18 v77 v80 v85 v88 r d :=
  pay7_at _ _ _ _ _ _ r d

/-- The sum of a row's squares over a chunk's columns. -/
def squares (f : Fin 512 → Fin 512 → EReal) (r : Fin 512) : EReal := ∑ d, f r d * f r d

theorem squares_at (X : FVec Ideal S512x512 .f32) (r : Fin 512) (z : Fin 1) :
    shapeCast S512x1 (multiReduction .add [1] S512 (mulf X X) 0x00000000#32 reduces_S512x512_S512 (.inl rfl) rfl) shapeCasts_S512_S512x1 (ix2 r z)
      = squares (fun r d => X (ix2 r d)) r := by
  unfold squares
  pointwise

/-- One entry of the rows plus the gated projection, from the normed rows and the whole matrices. -/
def entry (hn : FVec Ideal S512x2048 .bf16) (pb : FVec Ideal S512x256 .bf16) (w : Vec Ideal S2048x2048 .bf16) (b : Vec Ideal S1x2048 .f32)
    (wp : Vec Ideal S256x2048 .bf16) (h : Vec Ideal S512x2048 .f32) (r : Fin 512) (q : Fin 2048) : EReal :=
  h (ix2 r q) + Ideal.logistic ((∑ k : Fin 2048, hn (ix2 r k) * w (ix2 k q)) + b (ix2 0 q)) * ∑ k : Fin 256, pb (ix2 r k) * wp (ix2 k q)

theorem chunk_ld {n : ℕ} (hn' : n + 512 ≤ 2048) (hn : FVec Ideal S512x2048 .bf16) (pb : FVec Ideal S512x256 .bf16)
    (w : Vec Ideal S2048x2048 .bf16) (b : Vec Ideal S1x2048 .f32) (wp : Vec Ideal S256x2048 .bf16) (h : Vec Ideal S512x2048 .f32)
    (i1 i2 i3 i4) (r d : Fin 512) :
    chunk hn pb (View.ld w (Rect.unit (s := S2048x2048) ![0, n] ![2048, 512] i1)) (View.ld b (Rect.unit (s := S1x2048) ![0, n] ![1, 512] i2))
        (View.ld wp (Rect.unit (s := S256x2048) ![0, n] ![256, 512] i3)) (View.ld h (Rect.unit (s := S512x2048) ![0, n] ![512, 512] i4)) r d
      = entry hn pb w b wp h r ⟨n + d.val, by omega⟩ := by
  have e1 : ∀ k : Fin 2048, View.ld w (Rect.unit (s := S2048x2048) ![0, n] ![2048, 512] i1) (ix2 k d) = w (ix2 k ⟨n + d.val, by omega⟩) :=
    fun k => View.ld_unit_apply_of _ _ _ _ _ _ fun a => by fin_cases a <;> simp [ix2]
  have e2 : View.ld b (Rect.unit (s := S1x2048) ![0, n] ![1, 512] i2) (ix2 0 d) = b (ix2 0 ⟨n + d.val, by omega⟩) :=
    View.ld_unit_apply_of _ _ _ _ _ _ fun a => by fin_cases a <;> simp [ix2]
  have e3 : ∀ k : Fin 256, View.ld wp (Rect.unit (s := S256x2048) ![0, n] ![256, 512] i3) (ix2 k d) = wp (ix2 k ⟨n + d.val, by omega⟩) :=
    fun k => View.ld_unit_apply_of _ _ _ _ _ _ fun a => by fin_cases a <;> simp [ix2]
  have e4 : View.ld h (Rect.unit (s := S512x2048) ![0, n] ![512, 512] i4) (ix2 r d) = h (ix2 r ⟨n + d.val, by omega⟩) :=
    View.ld_unit_apply_of _ _ _ _ _ _ fun a => by fin_cases a <;> simp [ix2]
  unfold chunk entry
  rw [e2, e4]
  simp only [e1, e3]

/-- The last step of one entry: the entry found in the buffer over the root of the row's mean square, times the gain. -/
theorem last_at (hn : FVec Ideal S512x2048 .bf16) (pb : FVec Ideal S512x256 .bf16) (c0 : FVec Ideal S512x512 .f32)
    (w1 w2 w3 : Vec Ideal S2048x512 .bf16) (b1 b2 b3 : Vec Ideal S1x512 .f32) (p1 p2 p3 : Vec Ideal S256x512 .bf16)
    (h1 h2 h3 : Vec Ideal S512x512 .f32) (X : Vec Ideal S512x2048 .f32) (g : Vec Ideal S1x2048 .f32) (r : Fin 512) (q : Fin 2048) :
    k0_pay1 (k0_pay12 hn pb (k0_pay8 hn pb k0_pay4 (mulf c0 c0) w1 b1 p1 h1) h2 (k0_pay9 hn pb w2 b2 p2) w3 b3 p3 h3 X) (k0_pay13 g) (ix2 r q)
      = X (ix2 r q) * Ideal.rsqrt (Ideal.div (squares (fun r d => c0 (ix2 r d)) r + squares (chunk hn pb w1 b1 p1 h1) r
          + squares (chunk hn pb w2 b2 p2 h2) r + squares (chunk hn pb w3 b3 p3 h3) r) (Ideal.ofBits .f32 0x45000000#32)
          + Ideal.ofBits .f32 0x358637BD#32) * g (ix2 0 q) := by
  rw [← over_2048]
  simp only [squares, ← pay7_at]
  unfold k0_pay1 k0_pay12 k0_pay13 k0_pay8 k0_pay4
  pointwise
  rfl

/-- What four stores of 512 columns leave. -/
theorem canon_runs (w0 w1 w2 w3 : Vec Ideal S512x512 .f32) (G : Fin 512 → Fin 2048 → EReal)
    (h0 : ∀ r d : Fin 512, w0 (ix2 r d) = G r ⟨0 + d.val, by omega⟩) (h1 : ∀ r d : Fin 512, w1 (ix2 r d) = G r ⟨512 + d.val, by omega⟩)
    (h2 : ∀ r d : Fin 512, w2 (ix2 r d) = G r ⟨1024 + d.val, by omega⟩) (h3 : ∀ r d : Fin 512, w3 (ix2 r d) = G r ⟨1536 + d.val, by omega⟩)
    (i0 i1 i2 i3) (r : Fin 512) (q : Fin 2048) :
    View.canon (Val := Elt Ideal) (s := S512x2048) (e := .f32)
      [⟨Rect.unit ![0, 1536] ![512, 512] i3, w3⟩, ⟨Rect.unit ![0, 1024] ![512, 512] i2, w2⟩, ⟨Rect.unit ![0, 512] ![512, 512] i1, w1⟩,
        ⟨Rect.unit ![0, 0] ![512, 512] i0, w0⟩] (ix2 r q) = G r q := by
  have key : ∀ (n : ℕ) (hn : n + 512 ≤ 2048) (w : Vec Ideal S512x512 .f32)
      (_ : ∀ r d : Fin 512, w (ix2 r d) = G r ⟨n + d.val, by omega⟩) (x : S512x512.Idx)
      (_ : ∀ a : Fin 2, ((ix2 r q : S512x2048.Idx) a : ℕ) = (![0, n] : Fin 2 → ℕ) a + x a), w x = G r q := by
    intro n hn w h x hx
    idx_vars x
    rw [h]
    have e0 := hx 0
    have e1 := hx 1
    simp [ix2] at e0 e1
    exact congr (congrArg G (Fin.ext e0.symm)) (Fin.ext e1.symm)
  refine View.canon_eq_of_allAt _ _ _ (View.cover_of_tiledBy _ ![512, 512] (by sl_kernel_rfl) _) ?_
  refine View.allAt_cons_unit _ _ _ _ _ (fun x hx => key 1536 (by omega) w3 h3 x hx) ?_
  refine View.allAt_cons_unit _ _ _ _ _ (fun x hx => key 1024 (by omega) w2 h2 x hx) ?_
  refine View.allAt_cons_unit _ _ _ _ _ (fun x hx => key 512 (by omega) w1 h1 x hx) ?_
  exact View.allAt_cons_unit _ _ _ _ _ (fun x hx => key 0 (by omega) w0 h0 x hx) (View.allAt_nil _ _)

/-- A load of a whole array. -/
theorem ld_all {e : EltTy} {m n : ℕ} (x : Vec Ideal (⟨2, ![m, n]⟩ : Shape) e) (i) :
    View.ld x (Rect.unit (s := ⟨2, ![m, n]⟩) ![0, 0] ![m, n] i) = x := by
  funext y
  exact View.ld_unit_apply_of _ _ _ _ _ _ fun a => by fin_cases a <;> simp

theorem entry_eq (x0 : Vec Ideal S512x2048 .f32) (x1 : Vec Ideal S512x256 .f32) (x2 : Vec Ideal S1x2048 .f32)
    (x3 : Vec Ideal S2048x2048 .bf16) (x4 : Vec Ideal S1x2048 .f32) (x5 : Vec Ideal S256x2048 .bf16) (r : Fin 512) :
    entry (k0_pay2 x0 x2) (k0_pay3 x1) x3 x4 x5 x0 r = mixed (fun k => x0 (ix2 r k)) (fun k => x2 (ix2 0 k)) (fun k q => x3 (ix2 k q)) (fun q => x4 (ix2 0 q))
          (fun k => x1 (ix2 r k)) fun k q => x5 (ix2 k q) := by
  funext q
  unfold entry mixed
  simp only [pay2_at, pay3_at]

/-- The buffer's stores read back through a load of the whole buffer. -/
theorem cov_at {sig : RefSig} {κ : Kind} {sp : Space} (v : View sig κ sp S512x2048 .f32) (L : List (View.Piece (Elt Ideal) S512x2048 .f32))
    (i) (r : Fin 512) (q : Fin 2048) :
    v.readCov L (Rect.unit (s := S512x2048) ![0, 0] ![512, 2048] i).toLoadRect (ix2 r q) = View.canon L (ix2 r q) := by
  rw [View.readCov_eq_canon']
  exact congrArg (View.canon L) (funext fun a => Fin.ext (by fin_cases a <;> simp [LoadRect.idx, ix2]))

/-- A row's entry over the root of the mean square found in four runs, times the gain. -/
theorem finish (E g : Fin 2048 → EReal) (q : Fin 2048) (A G s0 s1 s2 s3 : EReal) (hA : A = E q) (hG : G = g q)
    (h0 : s0 = ∑ d : Fin 512, E ⟨0 + d.val, by omega⟩ * E ⟨0 + d.val, by omega⟩)
    (h1 : s1 = ∑ d : Fin 512, E ⟨512 + d.val, by omega⟩ * E ⟨512 + d.val, by omega⟩)
    (h2 : s2 = ∑ d : Fin 512, E ⟨1024 + d.val, by omega⟩ * E ⟨1024 + d.val, by omega⟩)
    (h3 : s3 = ∑ d : Fin 512, E ⟨1536 + d.val, by omega⟩ * E ⟨1536 + d.val, by omega⟩) :
    A * Ideal.rsqrt (Ideal.div (s0 + s1 + s2 + s3) (Ideal.ofBits .f32 0x45000000#32) + Ideal.ofBits .f32 0x358637BD#32) * G
      = normed E g q := by
  unfold normed invRms
  rw [sum_four, hA, hG, h0, h1, h2, h3]

theorem out_at (c : Dev nD) (t : Fin cfg0.N) (x0 : Vec Ideal S512x2048 .f32) (x1 : Vec Ideal S512x256 .f32) (x2 : Vec Ideal S1x2048 .f32)
    (x3 : Vec Ideal S2048x2048 .bf16) (x4 : Vec Ideal S1x2048 .f32) (x5 : Vec Ideal S256x2048 .bf16) (x6 : Vec Ideal S1x2048 .f32)
    (r : Fin 512) (q : Fin 2048) :
    out0_A_7 (F := Ideal) c (grid0.coords t) (ms0_0 t) (hs0_0 t) (ms0_1 t) (hs0_1 t) (ms0_2 t) (hs0_2 t) (ms0_3 t) (hs0_3 t)
        (ms0_4 t) (hs0_4 t) (ms0_5 t) (hs0_5 t) (ms0_6 t) (hs0_6 t) (ms0_7 t) (hs0_7 t) x0 x1 x2 x3 x4 x5 x6 (ix2 r q)
      = normed (mixed (fun k => x0 (ix2 r k)) (fun k => x2 (ix2 0 k)) (fun k q => x3 (ix2 k q)) (fun q => x4 (ix2 0 q))
          (fun k => x1 (ix2 r k)) fun k q => x5 (ix2 k q)) (fun k => x6 (ix2 0 k)) q := by
  unfold out0_A_7
  unfold kernelRun0_A; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  refine (View.read_writes_cons_unit_of_mem _ _ _ _ _ _ (ix2 r q) rfl (fun a => by fin_cases a <;> simp [ix2])).trans ?_
  refine (last_at _ _ _ _ _ _ _ _ _ _ _ _ _ _ _ _ _ r q).trans ?_
  have hc : ∀ (n : ℕ) (hn : n + 512 ≤ 2048) (i0 i1 i2 i3 i4 i5 i6) (r d : Fin 512),
      chunk (k0_pay2 (View.ld x0 (Rect.unit (s := S512x2048) ![0, 0] ![512, 2048] i0)) (View.ld x2 (Rect.unit (s := S1x2048) ![0, 0] ![1, 2048] i5)))
        (k0_pay3 (View.ld x1 (Rect.unit (s := S512x256) ![0, 0] ![512, 256] i6)))
        (View.ld x3 (Rect.unit (s := S2048x2048) ![0, n] ![2048, 512] i1))
        (View.ld x4 (Rect.unit (s := S1x2048) ![0, n] ![1, 512] i2)) (View.ld x5 (Rect.unit (s := S256x2048) ![0, n] ![256, 512] i3))
        (View.ld x0 (Rect.unit (s := S512x2048) ![0, n] ![512, 512] i4)) r d
      = mixed (fun k => x0 (ix2 r k)) (fun k => x2 (ix2 0 k)) (fun k q => x3 (ix2 k q)) (fun q => x4 (ix2 0 q))
          (fun k => x1 (ix2 r k)) (fun k q => x5 (ix2 k q)) ⟨n + d.val, by omega⟩ := by
    intro n hn i0 i1 i2 i3 i4 i5 i6 r d
    rw [chunk_ld hn, ld_all, ld_all, ld_all, entry_eq]
  refine finish _ _ q _ _ _ _ _ _ ?_ ?_ ?_ ?_ ?_ ?_
  · refine (cov_at _ _ _ r q).trans ?_
    exact canon_runs _ _ _ _ (fun r q => mixed (fun k => x0 (ix2 r k)) (fun k => x2 (ix2 0 k)) (fun k q => x3 (ix2 k q)) (fun q => x4 (ix2 0 q))
          (fun k => x1 (ix2 r k)) (fun k q => x5 (ix2 k q)) q)
      (fun r d => (pay5_at _ _ _ _ _ _ _ r d).trans (hc 0 (by omega) _ _ _ _ _ _ _ r d))
      (fun r d => (pay7_at _ _ _ _ _ _ r d).trans (hc 512 (by omega) _ _ _ _ _ _ _ r d))
      (fun r d => (pay10_at _ _ _ _ _ _ r d).trans (hc 1024 (by omega) _ _ _ _ _ _ _ r d))
      (fun r d => (pay11_at _ _ _ _ _ _ r d).trans (hc 1536 (by omega) _ _ _ _ _ _ _ r d)) _ _ _ _ r q
  · exact View.ld_unit_apply_of _ _ _ _ _ _ fun a => by fin_cases a <;> simp [ix2]
  · exact Finset.sum_congr rfl fun d _ => congr (congrArg HMul.hMul ((pay5_at _ _ _ _ _ _ _ r d).trans (hc 0 (by omega) _ _ _ _ _ _ _ r d))) ((pay5_at _ _ _ _ _ _ _ r d).trans (hc 0 (by omega) _ _ _ _ _ _ _ r d))
  · exact Finset.sum_congr rfl fun d _ => congr (congrArg HMul.hMul (hc 512 (by omega) _ _ _ _ _ _ _ r d)) (hc 512 (by omega) _ _ _ _ _ _ _ r d)
  · exact Finset.sum_congr rfl fun d _ => congr (congrArg HMul.hMul (hc 1024 (by omega) _ _ _ _ _ _ _ r d)) (hc 1024 (by omega) _ _ _ _ _ _ _ r d)
  · exact Finset.sum_congr rfl fun d _ => congr (congrArg HMul.hMul (hc 1536 (by omega) _ _ _ _ _ _ _ r d)) (hc 1536 (by omega) _ _ _ _ _ _ _ r d)

end Cert.PleIdeal.Hand

end
-- ==== Proof.Ple.Ref.lean ====
/- The reference of the gated per-layer embedding, entry by entry. -/
module

public import proofs.«01_k».proof.Proof.Gen.PleRefIdeal.Run
public import proofs.«01_k».proof.Proof.Ple.Rows
public import Idealize.ShloMosaic.Lib.Pointwise
public import Idealize.ShloMosaic.Lib.Tactic.CleanTypes

@[expose] public section

noncomputable section

namespace Cert.PleRefIdeal.Hand

open Cert.PleRefIdeal Cert.PleRefIdeal.Gen Idealize.ShloMosaic Idealize.ShloMosaic.TcCoe Idealize.SL.Sem Cert.PleRows

/-- Each row over its root mean square. -/
def overRms (X : FVec Ideal S32768x2048 .f32) : FVec Ideal S32768x2048 .f32 :=
  mulf X (broadcastInDim S32768x2048 ![0, 1] bcast_S32768x1_S32768x2048_0_1 (Host.rsqrt (addf (Host.divf (broadcastInDim S32768x1 ![0] bcast_S32768_S32768x1_0 (Host.reduceAdd (mulf X X) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32)))))

/-- A row of gains under each row. -/
def under (g : FVec Ideal S2048 .f32) : FVec Ideal S32768x2048 .f32 :=
  broadcastInDim S32768x2048 ![0, 1] bcast_S1x2048_S32768x2048_0_1 (broadcastInDim S1x2048 ![1] bcast_S2048_S1x2048_1 g)

/-- The gate's argument. -/
def gateArg (X : FVec Ideal S32768x2048 .f32) (W : FVec Ideal S1x2048x2048 .f32) (b : FVec Ideal S1x2048 .f32) : FVec Ideal S32768x2048 .f32 :=
  addf (Host.dotGeneral dot_S32768x2048_S2048x2048_S32768x2048_1_0_0_1_n_n none X (shapeCast _ W shapeCasts_S1x2048x2048_S2048x2048)) (under (shapeCast _ b shapeCasts_S1x2048_S2048))

/-- The sigmoid of each entry. -/
def sigm (X : FVec Ideal S32768x2048 .f32) : FVec Ideal S32768x2048 .f32 :=
  Host.divf (broadcastInDim S32768x2048 ![] bcast_S_S32768x2048 (constant S_ .f32 0x3F800000#32)) (addf (broadcastInDim S32768x2048 ![] bcast_S_S32768x2048 (constant S_ .f32 0x3F800000#32)) (Host.exp (Host.negf X)))

/-- The embedding's projection. -/
def proj (P : FVec Ideal S1x16x2048x256 .f32) (W : FVec Ideal S1x256x2048 .f32) : FVec Ideal S32768x2048 .f32 :=
  Host.dotGeneral dot_S32768x256_S256x2048_S32768x2048_1_0_0_1_n_n none (shapeCast _ (shapeCast _ P shapeCasts_S1x16x2048x256_S16x2048x256) shapeCasts_S16x2048x256_S32768x256) (shapeCast _ W shapeCasts_S1x256x2048_S256x2048)

/-- The rows plus the gated projection. -/
def rowsOut (H : FVec Ideal S32768x2048 .f32) (P : FVec Ideal S1x16x2048x256 .f32) (g : FVec Ideal S1x2048 .f32)
    (W : FVec Ideal S1x2048x2048 .f32) (b : FVec Ideal S1x2048 .f32) (Wp : FVec Ideal S1x256x2048 .f32) : FVec Ideal S32768x2048 .f32 :=
  addf H (mulf (sigm (gateArg (mulf (overRms H) (under (shapeCast _ g shapeCasts_S1x2048_S2048))) W b)) (proj P Wp))

/-- The reference's result. -/
def res (H : FVec Ideal S32768x2048 .f32) (P : FVec Ideal S1x16x2048x256 .f32) (g : FVec Ideal S1x2048 .f32)
    (W : FVec Ideal S1x2048x2048 .f32) (b : FVec Ideal S1x2048 .f32) (Wp : FVec Ideal S1x256x2048 .f32) (gf : FVec Ideal S2048 .f32) :
    FVec Ideal S32768x2048 .f32 :=
  mulf (overRms (rowsOut H P g W b Wp)) (under gf)

theorem overRms_apply (X : FVec Ideal S32768x2048 .f32) (r : Fin 32768) (q : Fin 2048) :
    overRms X (ix2 r q) = X (ix2 r q) * invRms fun k => X (ix2 r k) := by
  unfold overRms invRms
  pointwise

theorem under_apply (g : FVec Ideal S2048 .f32) (r : Fin 32768) (q : Fin 2048) : under g (ix2 r q) = g (ix1 q) := by
  unfold under
  pointwise

theorem gateArg_apply (X : FVec Ideal S32768x2048 .f32) (W : FVec Ideal S1x2048x2048 .f32) (b : FVec Ideal S1x2048 .f32)
    (r : Fin 32768) (q : Fin 2048) :
    gateArg X W b (ix2 r q) = (∑ k : Fin 2048, X (ix2 r k) * W (ix3 0 k q)) + b (ix2 0 q) := by
  unfold gateArg under
  pointwise

theorem sigm_apply (X : FVec Ideal S32768x2048 .f32) (r : Fin 32768) (q : Fin 2048) : sigm X (ix2 r q) = Ideal.logistic (X (ix2 r q)) := by
  unfold sigm Ideal.logistic
  pointwise

theorem proj_apply (P : FVec Ideal S1x16x2048x256 .f32) (W : FVec Ideal S1x256x2048 .f32) (r : Fin 32768) (q : Fin 2048) :
    proj P W (ix2 r q) = ∑ k : Fin 256, P (ix4 0 ⟨r.val / 2048, by omega⟩ ⟨r.val % 2048, by omega⟩ k) * W (ix3 0 k q) := by
  unfold proj
  pointwise

/-- A row of the rows plus the gated projection. -/
def row (H : FVec Ideal S32768x2048 .f32) (P : FVec Ideal S1x16x2048x256 .f32) (g : FVec Ideal S1x2048 .f32)
    (W : FVec Ideal S1x2048x2048 .f32) (b : FVec Ideal S1x2048 .f32) (Wp : FVec Ideal S1x256x2048 .f32) (r : Fin 32768) :
    Fin 2048 → EReal :=
  mixed (fun k => H (ix2 r k)) (fun k => g (ix2 0 k)) (fun k q => W (ix3 0 k q)) (fun q => b (ix2 0 q))
    (fun k => P (ix4 0 ⟨r.val / 2048, by omega⟩ ⟨r.val % 2048, by omega⟩ k)) fun k q => Wp (ix3 0 k q)

theorem rowsOut_apply (H : FVec Ideal S32768x2048 .f32) (P : FVec Ideal S1x16x2048x256 .f32) (g : FVec Ideal S1x2048 .f32)
    (W : FVec Ideal S1x2048x2048 .f32) (b : FVec Ideal S1x2048 .f32) (Wp : FVec Ideal S1x256x2048 .f32) (r : Fin 32768) (q : Fin 2048) :
    rowsOut H P g W b Wp (ix2 r q) = row H P g W b Wp r q := by
  show H (ix2 r q) + sigm _ (ix2 r q) * proj P Wp (ix2 r q) = _
  rw [sigm_apply, gateArg_apply, proj_apply]
  unfold row mixed
  refine congrArg (fun s => H (ix2 r q) + Ideal.logistic (s + b (ix2 0 q)) * _) (Finset.sum_congr rfl fun k _ => congrArg (· * _) ?_)
  show overRms H (ix2 r k) * under (shapeCast S2048 g shapeCasts_S1x2048_S2048) (ix2 r k) = _
  rw [overRms_apply, under_apply]
  unfold normed
  pointwise

theorem res_apply (H : FVec Ideal S32768x2048 .f32) (P : FVec Ideal S1x16x2048x256 .f32) (g : FVec Ideal S1x2048 .f32)
    (W : FVec Ideal S1x2048x2048 .f32) (b : FVec Ideal S1x2048 .f32) (Wp : FVec Ideal S1x256x2048 .f32) (gf : FVec Ideal S2048 .f32)
    (r : Fin 32768) (q : Fin 2048) :
    res H P g W b Wp gf (ix2 r q) = normed (row H P g W b Wp r) (fun k => gf (ix1 k)) q := by
  show overRms (rowsOut H P g W b Wp) (ix2 r q) * under gf (ix2 r q) = _
  rw [overRms_apply, under_apply, funext fun k => rowsOut_apply H P g W b Wp r k, rowsOut_apply]
  rfl

end Cert.PleRefIdeal.Hand

end
-- ==== Proof.PleIdeal.Value.lean ====
/- The gated per-layer embedding's result array is the reference's. -/
module

public import proofs.«01_k».proof.Proof.PleIdeal.Out
public import proofs.«01_k».proof.Proof.Ple.Ref
public import Idealize.ShloMosaic.Lib.Claim
public import Idealize.ShloMosaic.Lib.StableHlo.ReadAt

@[expose] public section

set_option maxRecDepth 16384

noncomputable section

namespace Cert.PleIdeal.Hand

open Cert.PleIdeal Cert.PleIdeal.Gen Idealize.ShloMosaic Idealize.ShloMosaic.TcCoe Idealize.SL.Sem Cert.PleRows
open Idealize.ShloMosaic.Pipeline (Dat)

variable (m : (ℓ : Loc nD τ sig) → Buf (Elt Ideal) ℓ) (c : Dev nD)

theorem at_w0 : ∀ t : Fin cfg0.N, win0_0.index t = ![t.val, 0] := (by decide +kernel : ∀ t : Fin grid0.N, _)
theorem at_w1 : ∀ t : Fin cfg0.N, win0_1.index t = ![t.val, 0] := (by decide +kernel : ∀ t : Fin grid0.N, _)
theorem at_w2 : ∀ t : Fin cfg0.N, win0_2.index t = ![0, 0] := (by decide +kernel : ∀ t : Fin grid0.N, _)
theorem at_w3 : ∀ t : Fin cfg0.N, win0_3.index t = ![0, 0] := (by decide +kernel : ∀ t : Fin grid0.N, _)
theorem at_w4 : ∀ t : Fin cfg0.N, win0_4.index t = ![0, 0] := (by decide +kernel : ∀ t : Fin grid0.N, _)
theorem at_w5 : ∀ t : Fin cfg0.N, win0_5.index t = ![0, 0] := (by decide +kernel : ∀ t : Fin grid0.N, _)
theorem at_w6 : ∀ t : Fin cfg0.N, win0_6.index t = ![0, 0] := (by decide +kernel : ∀ t : Fin grid0.N, _)
theorem at_w7 : ∀ t : Fin cfg0.N, win0_7.index t = ![t.val, 0] := (by decide +kernel : ∀ t : Fin grid0.N, _)

/-- Row `r` of block `t`. -/
def rowOf (t : Fin cfg0.N) (r : Fin 512) : Fin 32768 :=
  ⟨t.val * 512 + r.val, by have := (show t.val < 64 from t.isLt); omega⟩

section entries

variable (H : FVec Ideal S32768x2048 .f32) (P : FVec Ideal S1x16x2048x256 .f32) (g : FVec Ideal S1x2048 .f32)
  (W : FVec Ideal S1x2048x2048 .f32) (b : FVec Ideal S1x2048 .f32) (Wp : FVec Ideal S1x256x2048 .f32) (gf : FVec Ideal S2048 .f32)

theorem blk_h (hA : m (c, main_arg0) = H) (t : Fin cfg0.N) (r : Fin 512) (k : Fin 2048) :
    (iblk m c 0 t : Vec Ideal S512x2048 .f32) (ix2 r k) = H (ix2 (rowOf t r) k) := by
  subst hA
  blk_simp [iblk]
  exact congrArg (V m c main_arg0) (by blk_ext [at_w0, rowOf])

theorem entry_p (hA : m (c, main_arg1) = P) (r : Fin 32768) (k : Fin 256) :
    (V m c main_v1 : Vec Ideal S32768x256 .f32) (ix2 r k) = P (ix4 0 ⟨r.val / 2048, by omega⟩ ⟨r.val % 2048, by omega⟩ k) := by
  subst hA
  unfold V
  after_reads_at

theorem entry_g (hA : m (c, main_arg2) = g) (k : Fin 2048) : (V m c main_v3 : Vec Ideal S1x2048 .f32) (ix2 0 k) = g (ix2 0 k) := by
  subst hA
  unfold V
  after_reads_at

theorem entry_w (hA : m (c, main_arg3) = W) (k q : Fin 2048) : (V m c main_v5 : Vec Ideal S2048x2048 .bf16) (ix2 k q) = W (ix3 0 k q) := by
  subst hA
  unfold V
  after_reads_at

theorem entry_b (hA : m (c, main_arg4) = b) (k : Fin 2048) : (V m c main_v7 : Vec Ideal S1x2048 .f32) (ix2 0 k) = b (ix2 0 k) := by
  subst hA
  unfold V
  after_reads_at

theorem entry_wp (hA : m (c, main_arg5) = Wp) (k : Fin 256) (q : Fin 2048) :
    (V m c main_v9 : Vec Ideal S256x2048 .bf16) (ix2 k q) = Wp (ix3 0 k q) := by
  subst hA
  unfold V
  after_reads_at

theorem entry_gf (hA : m (c, main_arg6) = gf) (k : Fin 2048) : (V m c main_v10 : Vec Ideal S1x2048 .f32) (ix2 0 k) = gf (ix1 k) := by
  subst hA
  unfold V
  after_reads_at

theorem blk_p (t : Fin cfg0.N) (r : Fin 512) (k : Fin 256) :
    (iblk m c 1 t : Vec Ideal S512x256 .f32) (ix2 r k) = V m c main_v1 (ix2 (rowOf t r) k) := by
  blk_simp [iblk]
  exact congrArg (V m c main_v1) (by blk_ext [at_w1, rowOf])

theorem blk_g (t : Fin cfg0.N) (k : Fin 2048) : (iblk m c 2 t : Vec Ideal S1x2048 .f32) (ix2 0 k) = V m c main_v3 (ix2 0 k) := by
  blk_simp [iblk]
  exact congrArg (V m c main_v3) (by blk_ext [at_w2])

theorem blk_w (t : Fin cfg0.N) (k q : Fin 2048) : (iblk m c 3 t : Vec Ideal S2048x2048 .bf16) (ix2 k q) = V m c main_v5 (ix2 k q) := by
  blk_simp [iblk]
  exact congrArg (V m c main_v5) (by blk_ext [at_w3])

theorem blk_b (t : Fin cfg0.N) (k : Fin 2048) : (iblk m c 4 t : Vec Ideal S1x2048 .f32) (ix2 0 k) = V m c main_v7 (ix2 0 k) := by
  blk_simp [iblk]
  exact congrArg (V m c main_v7) (by blk_ext [at_w4])

theorem blk_wp (t : Fin cfg0.N) (k : Fin 256) (q : Fin 2048) :
    (iblk m c 5 t : Vec Ideal S256x2048 .bf16) (ix2 k q) = V m c main_v9 (ix2 k q) := by
  blk_simp [iblk]
  exact congrArg (V m c main_v9) (by blk_ext [at_w5])

theorem blk_gf (t : Fin cfg0.N) (k : Fin 2048) : (iblk m c 6 t : Vec Ideal S1x2048 .f32) (ix2 0 k) = V m c main_v10 (ix2 0 k) := by
  blk_simp [iblk]
  exact congrArg (V m c main_v10) (by blk_ext [at_w6])

/-- The result array is the reference's, of the arguments. -/
theorem arr_eq (h0 : m (c, main_arg0) = H) (h1 : m (c, main_arg1) = P) (h2 : m (c, main_arg2) = g) (h3 : m (c, main_arg3) = W)
    (h4 : m (c, main_arg4) = b) (h5 : m (c, main_arg5) = Wp) (h6 : m (c, main_arg6) = gf) :
    (dats m 0 c).arrAt 7 cfg0.N = Cert.PleRefIdeal.Hand.res H P g W b Wp gf := by
  refine (dats m 0 c).arrAt_eq_of_covers 7 _ (by decide +kernel) fun t hf y => ?_
  blk_simp
  rw [after0_7]
  unfold outsAt0
  idx_vars y
  have e : ((View.whole main_v11).slice (win0_7.rect t)).emb (ix2 y0 y1) = ix2 (rowOf t y0) y1 := by
    blk_ext [at_w7, rowOf]
  refine (out_at c t _ _ _ _ _ _ _ y0 y1).trans ?_
  refine Eq.trans ?_ (congrArg (Cert.PleRefIdeal.Hand.res H P g W b Wp gf) e).symm
  rw [Cert.PleRefIdeal.Hand.res_apply]
  unfold Cert.PleRefIdeal.Hand.row
  simp only [blk_h m c H h0, blk_p, blk_g, blk_w, blk_b, blk_wp, blk_gf, entry_p m c P h1, entry_g m c g h2, entry_w m c W h3,
    entry_b m c b h4, entry_wp m c Wp h5, entry_gf m c gf h6]

end entries

end Cert.PleIdeal.Hand

end
-- ==== Proof.Ple.Claims.lean ====
/- The claims about the gated per-layer embedding. -/
module

public import proofs.«01_k».proof.Defs
public import proofs.«01_k».proof.Proof.Ple.Run
public import proofs.«01_k».proof.Proof.PleIdeal.Run
public import proofs.«01_k».proof.Proof.PleIdeal.Value
public import Idealize.ShloMosaic.Adequacy
public import Idealize.ShloMosaic.Init

@[expose] public section

noncomputable section

namespace Cert.Ple.Claims

open Idealize.ShloMosaic Idealize.SL.Sem

/-- The kernel runs, its arguments end as they were and its semaphores at zero. -/
theorem frame : Cert.quiescent_Ple := fun m ρ _ => Cert.Ple.Gen.frame m ρ

theorem frameIdeal : Cert.quiescent_PleIdeal := fun m ρ _ => Cert.PleIdeal.Gen.frame m ρ

/-- The reference runs, and its arguments end as they were. -/
theorem frameRef : Cert.quiescent_PleRefIdeal := fun m ρ _ =>
  (θ_run Cert.PleRefIdeal.defs _ _).mono (fun r h => ⟨fun c => (h c).2, sem_eq_zero_of_no_sems (by decide) r.2⟩)
    (Cert.PleRefIdeal.Value.run (F := Ideal) m ρ)

/-- The kernel and the reference agree. -/
theorem algebraic : Cert.algebraic_PleIdeal_PleRefIdeal := by
  intro m ρ m' ρ' hpre hagree
  refine ⟨fun c => (Cert.PleIdeal.Gen.dats m 0 c).arrAt 7 Cert.PleIdeal.cfg0.N, Cert.PleIdeal.Value.run_blocks m ρ, ?_⟩
  refine (θ_run Cert.PleRefIdeal.defs _ _).mono (fun _ h c => ⟨(h c).1.trans ?_, (h c).2⟩)
    (Cert.PleRefIdeal.Value.run (F := Ideal) m' ρ')
  obtain ⟨g0, g1, g2, g3, g4, g5, g6⟩ := hagree c
  exact (show _ = Cert.PleRefIdeal.Hand.res _ _ _ _ _ _ _ from rfl).trans
    (Cert.PleIdeal.Hand.arr_eq m c _ _ _ _ _ _ _ g0.symm g1.symm g2.symm g3.symm g4.symm g5.symm g6.symm).symm

end Cert.Ple.Claims

end
-- ==== Proof.Step.Run.lean ====
module
public import proofs.«01_k».proof.Proof.Gen.Step.Frame
public import proofs.«01_k».proof.Proof.Gen.Step.Value
-- ==== Proof.StepIdeal.Run.lean ====
module
public import proofs.«01_k».proof.Proof.Gen.StepIdeal.Frame
public import proofs.«01_k».proof.Proof.Gen.StepIdeal.Value
-- ==== Proof.StepIdeal.Out.lean ====
/- What the step's kernel stores, entry by entry. -/
module

public import proofs.«01_k».proof.Proof.Gen.StepIdeal.Value
public import Idealize.ShloMosaic.Lib.Pipeline.ValueKit
public import Idealize.ShloMosaic.Lib.Pointwise
public import Idealize.ShloMosaic.Lib.WritesUnit

@[expose] public section

set_option maxRecDepth 16384

noncomputable section

namespace Cert.StepIdeal.Hand

open Cert.StepIdeal Cert.StepIdeal.Gen Idealize.ShloMosaic Idealize.ShloMosaic.TcCoe Idealize.SL.Sem

theorem pay2_eq (u : Vec Ideal S64x32x16 .f32) : k0_pay2 (F := Ideal) u = u := by
  funext y
  idx_vars y
  unfold k0_pay2
  pointwise

theorem pay7_at (u : Vec Ideal S64x32x16 .f32) (B : Vec Ideal S64x16x64 .f32) (ar ai : Vec Ideal S64x1x64 .f32) (Hr Hi : Vec Ideal S64x32x64 .f32)
    (g : Fin 64) (b : Fin 32) (p : Fin 64) :
    k0_pay7 (F := Ideal) u B ar ai Hr Hi (ix3 g b p)
      = (∑ h : Fin 16, u (ix3 g b h) * B (ix3 g h p)) + ar (ix3 g 0 p) * Hr (ix3 g b p) - ai (ix3 g 0 p) * Hi (ix3 g b p) := by
  unfold k0_pay7 k0_pay2 k0_pay3 k0_pay4 k0_pay5 k0_pay6
  pointwise

theorem pay8_at (u : Vec Ideal S64x32x16 .f32) (B : Vec Ideal S64x16x64 .f32) (ar ai : Vec Ideal S64x1x64 .f32) (Hr Hi : Vec Ideal S64x32x64 .f32)
    (g : Fin 64) (b : Fin 32) (p : Fin 64) :
    k0_pay8 (F := Ideal) u B ar ai Hr Hi (ix3 g b p)
      = (∑ h : Fin 16, u (ix3 g b h) * B (ix3 g h p)) + ar (ix3 g 0 p) * Hi (ix3 g b p) + ai (ix3 g 0 p) * Hr (ix3 g b p) := by
  unfold k0_pay8 k0_pay2 k0_pay3 k0_pay4 k0_pay5 k0_pay6
  pointwise

theorem pay9_at (u : Vec Ideal S64x32x16 .f32) (B : Vec Ideal S64x16x64 .f32) (ar ai : Vec Ideal S64x1x64 .f32) (Hr Hi : Vec Ideal S64x32x64 .f32)
    (b : Fin 32) (g p : Fin 64) :
    k0_pay9 (F := Ideal) u B ar ai Hr Hi (ix3 b g p) = k0_pay7 u B ar ai Hr Hi (ix3 g b p) := by
  unfold k0_pay9
  generalize k0_pay7 u B ar ai Hr Hi = X
  pointwise

theorem pay10_at (u : Vec Ideal S64x32x16 .f32) (B : Vec Ideal S64x16x64 .f32) (ar ai : Vec Ideal S64x1x64 .f32) (Hr Hi : Vec Ideal S64x32x64 .f32)
    (b : Fin 32) (g p : Fin 64) :
    k0_pay10 (F := Ideal) u B ar ai Hr Hi (ix3 b g p) = k0_pay8 u B ar ai Hr Hi (ix3 g b p) := by
  unfold k0_pay10
  generalize k0_pay8 u B ar ai Hr Hi = X
  pointwise

theorem pay1_at (u : Vec Ideal S64x32x16 .f32) (Xr Xi : Vec Ideal S64x32x64 .f32) (Cr Ci : Vec Ideal S64x64x16 .f32) (d : Vec Ideal S64x1x16 .f32)
    (b : Fin 32) (g : Fin 64) (h : Fin 16) :
    k0_pay1 (F := Ideal) u Xr Xi Cr Ci d (ix3 b g h)
      = (∑ p : Fin 64, Xr (ix3 g b p) * Cr (ix3 g p h)) - (∑ p : Fin 64, Xi (ix3 g b p) * Ci (ix3 g p h)) + d (ix3 g 0 h) * u (ix3 g b h) := by
  unfold k0_pay1
  pointwise

/-- A load of a whole array. -/
theorem ld_all {l m n : ℕ} (x : Vec Ideal (⟨3, ![l, m, n]⟩ : Shape) .f32) (i) :
    View.ld x (Rect.unit (s := ⟨3, ![l, m, n]⟩) ![0, 0, 0] ![l, m, n] i) = x := by
  funext y
  exact View.ld_unit_apply_of _ _ _ _ _ _ fun a => by fin_cases a <;> simp

/-- What one store of a whole array leaves. -/
theorem canon_all {l m n : ℕ} (w : Vec Ideal (⟨3, ![l, m, n]⟩ : Shape) .f32) (i)
    (hc : ∀ y, ∃ pc ∈ ([⟨Rect.unit ![0, 0, 0] ![l, m, n] i, w⟩] : List (View.Piece (Elt Ideal) ⟨3, ![l, m, n]⟩ .f32)), y ∈ pc.1.set) :
    View.canon (Val := Elt Ideal) (s := ⟨3, ![l, m, n]⟩) (e := .f32) [⟨Rect.unit ![0, 0, 0] ![l, m, n] i, w⟩] = w := by
  funext y
  refine View.canon_eq_of_allAt _ _ _ (hc y) ?_
  refine View.allAt_cons_unit _ _ _ _ _ (fun x hx => congrArg w (funext fun a => Fin.ext ?_)) (View.allAt_nil _ _)
  have := hx a
  fin_cases a <;> simpa using this.symm

end Cert.StepIdeal.Hand

end
-- ==== Proof.Step.Ref.lean ====
/- The reference of one step of the state-space layer, entry by entry. -/
module

public import proofs.«01_k».proof.Proof.Gen.StepRefIdeal.Run
public import Idealize.ShloMosaic.Lib.Pointwise
public import Idealize.ShloMosaic.Lib.Tactic.CleanTypes

@[expose] public section

set_option maxRecDepth 16384

noncomputable section

namespace Cert.StepRefIdeal.Hand

open Cert.StepRefIdeal Cert.StepRefIdeal.Gen Idealize.ShloMosaic Idealize.ShloMosaic.TcCoe Idealize.SL.Sem

/-- The step size of each group, next to each state. -/
def dts (D : FVec Ideal S1x64 .f32) : FVec Ideal S64x64 .f32 :=
  broadcastInDim S64x64 ![0, 1] bcast_S64x1_S64x64_0_1 (broadcastInDim S64x1 ![0] bcast_S64_S64x1_0 (Host.exp (shapeCast _ D shapeCasts_S1x64_S64)))

/-- A parameter of each state. -/
def par (L : FVec Ideal S1x64x64 .f32) : FVec Ideal S64x64 .f32 := shapeCast _ L shapeCasts_S1x64x64_S64x64

/-- The real part of a state's factor. -/
def abRe (Lr Li : FVec Ideal S1x64x64 .f32) (D : FVec Ideal S1x64 .f32) : FVec Ideal S64x64 .f32 :=
  mulf (Host.exp (mulf (par Lr) (dts D))) (Host.cos (mulf (par Li) (dts D)))

/-- The imaginary part of a state's factor. -/
def abIm (Lr Li : FVec Ideal S1x64x64 .f32) (D : FVec Ideal S1x64 .f32) : FVec Ideal S64x64 .f32 :=
  mulf (Host.exp (mulf (par Lr) (dts D))) (Host.sin (mulf (par Li) (dts D)))

/-- The factor less one. -/
def less1 (Lr Li : FVec Ideal S1x64x64 .f32) (D : FVec Ideal S1x64 .f32) : FVec Ideal S64x64 .f32 :=
  subf (abRe Lr Li D) (broadcastInDim S64x64 ![] bcast_S_S64x64 (constant S_ .f32 0x3F800000#32))

/-- The square of a parameter's size. -/
def size2 (Lr Li : FVec Ideal S1x64x64 .f32) : FVec Ideal S64x64 .f32 :=
  addf (mulf (par Lr) (par Lr)) (mulf (par Li) (par Li))

/-- The real part of the input's factor. -/
def inRe (Lr Li : FVec Ideal S1x64x64 .f32) (D : FVec Ideal S1x64 .f32) : FVec Ideal S64x64 .f32 :=
  Host.divf (addf (mulf (less1 Lr Li D) (par Lr)) (mulf (abIm Lr Li D) (par Li))) (size2 Lr Li)

/-- The imaginary part of the input's factor. -/
def inIm (Lr Li : FVec Ideal S1x64x64 .f32) (D : FVec Ideal S1x64 .f32) : FVec Ideal S64x64 .f32 :=
  Host.divf (subf (mulf (abIm Lr Li D) (par Lr)) (mulf (less1 Lr Li D) (par Li))) (size2 Lr Li)

/-- A factor of each state next to each input. -/
def wide (X : FVec Ideal S64x64 .f32) : FVec Ideal S64x64x16 .f32 :=
  broadcastInDim S64x64x16 ![0, 1, 2] bcast_S64x64x1_S64x64x16_0_1_2 (broadcastInDim S64x64x1 ![0, 1] bcast_S64x64_S64x64x1_0_1 X)

/-- A matrix of each group. -/
def mat (B : FVec Ideal S1x64x64x16 .f32) : FVec Ideal S64x64x16 .f32 := shapeCast _ B shapeCasts_S1x64x64x16_S64x64x16

/-- The real part of the input's matrix. -/
def bbRe (Lr Li : FVec Ideal S1x64x64 .f32) (D : FVec Ideal S1x64 .f32) (Br Bi : FVec Ideal S1x64x64x16 .f32) : FVec Ideal S64x64x16 .f32 :=
  subf (mulf (wide (inRe Lr Li D)) (mat Br)) (mulf (wide (inIm Lr Li D)) (mat Bi))

/-- The imaginary part of the input's matrix. -/
def bbIm (Lr Li : FVec Ideal S1x64x64 .f32) (D : FVec Ideal S1x64 .f32) (Br Bi : FVec Ideal S1x64x64x16 .f32) : FVec Ideal S64x64x16 .f32 :=
  addf (mulf (wide (inRe Lr Li D)) (mat Bi)) (mulf (wide (inIm Lr Li D)) (mat Br))

/-- The input's rows by group. -/
def rows (U : FVec Ideal S32x1024 .f32) : FVec Ideal S32x1x64x16 .f32 :=
  shapeCast _ (shapeCast _ U shapeCasts_S32x1024_S32x1x1024) shapeCasts_S32x1x1024_S32x1x64x16

/-- What the input adds to each state. -/
def added (b : FVec Ideal S64x64x16 .f32) (U : FVec Ideal S32x1024 .f32) : FVec Ideal S32x1x64x64 .f32 :=
  transpose S32x1x64x64 [2, 3, 0, 1] (Host.dotGeneral dot_S64x64x16_S32x1x64x16_S64x64x32x1_2_3_1_01_0_2 none b (rows U)) transposes_S64x64x32x1_S32x1x64x64_2_3_0_1

/-- A factor of each state next to each row. -/
def fac (a : FVec Ideal S64x64 .f32) : FVec Ideal S32x1x64x64 .f32 :=
  broadcastInDim S32x1x64x64 ![0, 1, 2, 3] bcast_S1x1x64x64_S32x1x64x64_0_1_2_3 (broadcastInDim S1x1x64x64 ![2, 3] bcast_S64x64_S1x1x64x64_2_3 a)

/-- The states before the step. -/
def before (H : FVec Ideal S1x32x64x64 .f32) : FVec Ideal S32x1x64x64 .f32 :=
  broadcastInDim S32x1x64x64 ![0, 2, 3] bcast_S32x64x64_S32x1x64x64_0_2_3 (shapeCast _ H shapeCasts_S1x32x64x64_S32x64x64)

/-- The real parts of the states after the step. -/
def nextRe (ar ai : FVec Ideal S64x64 .f32) (b : FVec Ideal S64x64x16 .f32) (U : FVec Ideal S32x1024 .f32)
    (Hr Hi : FVec Ideal S1x32x64x64 .f32) : FVec Ideal S32x1x64x64 .f32 :=
  subf (addf (added b U) (mulf (fac ar) (before Hr))) (mulf (fac ai) (before Hi))

/-- The imaginary parts of the states after the step. -/
def nextIm (ar ai : FVec Ideal S64x64 .f32) (b : FVec Ideal S64x64x16 .f32) (U : FVec Ideal S32x1024 .f32)
    (Hr Hi : FVec Ideal S1x32x64x64 .f32) : FVec Ideal S32x1x64x64 .f32 :=
  addf (addf (added b U) (mulf (fac ar) (before Hi))) (mulf (fac ai) (before Hr))

/-- The states as a result. -/
def states (X : FVec Ideal S32x1x64x64 .f32) : FVec Ideal S32x64x64 .f32 := shapeCast _ X shapeCasts_S32x1x64x64_S32x64x64

/-- A matrix times the states. -/
def read (C : FVec Ideal S1x64x16x64 .f32) (X : FVec Ideal S32x1x64x64 .f32) : FVec Ideal S32x1x64x16 .f32 :=
  transpose S32x1x64x16 [2, 3, 0, 1] (Host.dotGeneral dot_S64x16x64_S32x1x64x64_S64x16x32x1_2_3_1_01_0_2 none (shapeCast _ C shapeCasts_S1x64x16x64_S64x16x64) X) transposes_S64x16x32x1_S32x1x64x16_2_3_0_1

/-- The input passed on. -/
def passed (S : FVec Ideal S1x64x16 .f32) (U : FVec Ideal S32x1024 .f32) : FVec Ideal S32x1x64x16 .f32 :=
  mulf (broadcastInDim S32x1x64x16 ![0, 1, 2, 3] bcast_S1x1x64x16_S32x1x64x16_0_1_2_3 (broadcastInDim S1x1x64x16 ![2, 3] bcast_S64x16_S1x1x64x16_2_3 (shapeCast _ S shapeCasts_S1x64x16_S64x16))) (rows U)

/-- The outputs. -/
def outs (Cr Ci : FVec Ideal S1x64x16x64 .f32) (S : FVec Ideal S1x64x16 .f32) (U : FVec Ideal S32x1024 .f32)
    (Xr Xi : FVec Ideal S32x1x64x64 .f32) : FVec Ideal S32x64x16 .f32 :=
  shapeCast _ (shapeCast _ (addf (subf (read Cr Xr) (read Ci Xi)) (passed S U)) shapeCasts_S32x1x64x16_S32x1x1024) shapeCasts_S32x1x1024_S32x64x16

theorem rows_apply (U : FVec Ideal S32x1024 .f32) (b : Fin 32) (g : Fin 64) (h : Fin 16) :
    rows U (ix4 b 0 g h) = U (ix2 b ⟨g.val * 16 + h.val, by omega⟩) := by
  unfold rows
  pointwise

theorem added_apply (B : FVec Ideal S64x64x16 .f32) (U : FVec Ideal S32x1024 .f32) (b : Fin 32) (g p : Fin 64) :
    added B U (ix4 b 0 g p) = ∑ h : Fin 16, B (ix3 g p h) * rows U (ix4 b 0 g h) := by
  unfold added
  generalize rows U = X
  pointwise

theorem fac_apply (a : FVec Ideal S64x64 .f32) (b : Fin 32) (g p : Fin 64) : fac a (ix4 b 0 g p) = a (ix2 g p) := by
  unfold fac
  pointwise

theorem before_apply (H : FVec Ideal S1x32x64x64 .f32) (b : Fin 32) (g p : Fin 64) : before H (ix4 b 0 g p) = H (ix4 0 b g p) := by
  unfold before
  pointwise

theorem states_apply (X : FVec Ideal S32x1x64x64 .f32) (b : Fin 32) (g p : Fin 64) : states X (ix3 b g p) = X (ix4 b 0 g p) := by
  unfold states
  pointwise

theorem read_apply (C : FVec Ideal S1x64x16x64 .f32) (X : FVec Ideal S32x1x64x64 .f32) (b : Fin 32) (g : Fin 64) (h : Fin 16) :
    read C X (ix4 b 0 g h) = ∑ p : Fin 64, C (ix4 0 g h p) * X (ix4 b 0 g p) := by
  unfold read
  pointwise

theorem passed_apply (S : FVec Ideal S1x64x16 .f32) (U : FVec Ideal S32x1024 .f32) (b : Fin 32) (g : Fin 64) (h : Fin 16) :
    passed S U (ix4 b 0 g h) = S (ix3 0 g h) * rows U (ix4 b 0 g h) := by
  unfold passed
  generalize rows U = X
  pointwise

theorem flat_apply (X : FVec Ideal S32x1x64x16 .f32) (b : Fin 32) (g : Fin 64) (h : Fin 16) :
    shapeCast S32x64x16 (shapeCast S32x1x1024 X shapeCasts_S32x1x64x16_S32x1x1024) shapeCasts_S32x1x1024_S32x64x16 (ix3 b g h) = X (ix4 b 0 g h) := by
  pointwise

theorem nextRe_apply (ar ai : FVec Ideal S64x64 .f32) (B : FVec Ideal S64x64x16 .f32) (U : FVec Ideal S32x1024 .f32)
    (Hr Hi : FVec Ideal S1x32x64x64 .f32) (b : Fin 32) (g p : Fin 64) :
    nextRe ar ai B U Hr Hi (ix4 b 0 g p)
      = (∑ h : Fin 16, B (ix3 g p h) * rows U (ix4 b 0 g h)) + ar (ix2 g p) * Hr (ix4 0 b g p) - ai (ix2 g p) * Hi (ix4 0 b g p) := by
  rw [← added_apply, ← before_apply Hr b g p, ← before_apply Hi b g p, ← fac_apply ar b, ← fac_apply ai b]
  rfl

theorem nextIm_apply (ar ai : FVec Ideal S64x64 .f32) (B : FVec Ideal S64x64x16 .f32) (U : FVec Ideal S32x1024 .f32)
    (Hr Hi : FVec Ideal S1x32x64x64 .f32) (b : Fin 32) (g p : Fin 64) :
    nextIm ar ai B U Hr Hi (ix4 b 0 g p)
      = (∑ h : Fin 16, B (ix3 g p h) * rows U (ix4 b 0 g h)) + ar (ix2 g p) * Hi (ix4 0 b g p) + ai (ix2 g p) * Hr (ix4 0 b g p) := by
  rw [← added_apply, ← before_apply Hr b g p, ← before_apply Hi b g p, ← fac_apply ar b, ← fac_apply ai b]
  rfl

theorem outs_apply (Cr Ci : FVec Ideal S1x64x16x64 .f32) (S : FVec Ideal S1x64x16 .f32) (U : FVec Ideal S32x1024 .f32)
    (Xr Xi : FVec Ideal S32x1x64x64 .f32) (b : Fin 32) (g : Fin 64) (h : Fin 16) :
    outs Cr Ci S U Xr Xi (ix3 b g h)
      = (∑ p : Fin 64, Cr (ix4 0 g h p) * Xr (ix4 b 0 g p)) - (∑ p : Fin 64, Ci (ix4 0 g h p) * Xi (ix4 b 0 g p))
        + S (ix3 0 g h) * rows U (ix4 b 0 g h) := by
  refine (flat_apply _ b g h).trans ?_
  rw [← read_apply, ← read_apply, ← passed_apply]
  rfl

/-- A program's arguments, in order. -/
@[ext] structure Args where
  U : FVec Ideal S32x1024 .f32
  Hr : FVec Ideal S1x32x64x64 .f32
  Hi : FVec Ideal S1x32x64x64 .f32
  Lr : FVec Ideal S1x64x64 .f32
  Li : FVec Ideal S1x64x64 .f32
  D : FVec Ideal S1x64 .f32
  Br : FVec Ideal S1x64x64x16 .f32
  Bi : FVec Ideal S1x64x64x16 .f32
  Cr : FVec Ideal S1x64x16x64 .f32
  Ci : FVec Ideal S1x64x16x64 .f32
  S : FVec Ideal S1x64x16 .f32

/-- The real parts of the states after the step, from the arguments. -/
def xRe (a : Args) : FVec Ideal S32x1x64x64 .f32 :=
  nextRe (abRe a.Lr a.Li a.D) (abIm a.Lr a.Li a.D) (bbRe a.Lr a.Li a.D a.Br a.Bi) a.U a.Hr a.Hi

/-- The imaginary parts of the states after the step, from the arguments. -/
def xIm (a : Args) : FVec Ideal S32x1x64x64 .f32 :=
  nextIm (abRe a.Lr a.Li a.D) (abIm a.Lr a.Li a.D) (bbIm a.Lr a.Li a.D a.Br a.Bi) a.U a.Hr a.Hi

/-- The arguments found in memory. -/
def argsOf (m : (ℓ : Loc nD τ sig) → Buf (Elt Ideal) ℓ) (c : Dev nD) : Args :=
  ⟨m (c, main_arg0), m (c, main_arg1), m (c, main_arg2), m (c, main_arg3), m (c, main_arg4), m (c, main_arg5), m (c, main_arg6),
    m (c, main_arg7), m (c, main_arg8), m (c, main_arg9), m (c, main_arg10)⟩

variable (m : (ℓ : Loc nD τ sig) → Buf (Elt Ideal) ℓ) (c : Dev nD)

theorem is_re : Cert.StepRefIdeal.Value.res_out1 m c = states (xRe (argsOf m c)) := by
  unfold Cert.StepRefIdeal.Value.res_out1 Cert.StepRefIdeal.Value.res_main_v82
  rfl

theorem is_im : Cert.StepRefIdeal.Value.res_out2 m c = states (xIm (argsOf m c)) := by
  unfold Cert.StepRefIdeal.Value.res_out2 Cert.StepRefIdeal.Value.res_main_v83
  rfl

theorem is_y : Cert.StepRefIdeal.Value.res_out0 m c
    = outs (argsOf m c).Cr (argsOf m c).Ci (argsOf m c).S (argsOf m c).U (xRe (argsOf m c)) (xIm (argsOf m c)) := by
  unfold Cert.StepRefIdeal.Value.res_out0 Cert.StepRefIdeal.Value.res_main_v84
  rfl

end Cert.StepRefIdeal.Hand

end
-- ==== Proof.StepIdeal.Value.lean ====
/- The step's result arrays are the reference's. -/
module

public import proofs.«01_k».proof.Proof.StepIdeal.Out
public import proofs.«01_k».proof.Proof.Step.Ref
public import Idealize.ShloMosaic.Lib.Claim
public import Idealize.ShloMosaic.Lib.StableHlo.ReadAt

@[expose] public section

set_option maxRecDepth 16384

noncomputable section

namespace Cert.StepIdeal.Hand

open Cert.StepIdeal Cert.StepIdeal.Gen Idealize.ShloMosaic Idealize.ShloMosaic.TcCoe Idealize.SL.Sem
open Idealize.ShloMosaic.Pipeline (Dat)
open Cert.StepRefIdeal.Hand (Args abRe abIm bbRe bbIm rows xRe xIm states outs)

variable (m : (ℓ : Loc nD τ sig) → Buf (Elt Ideal) ℓ) (c : Dev nD)

theorem at_w0 : ∀ t : Fin cfg0.N, win0_0.index t = ![0, 0, 0] := (by decide +kernel : ∀ t : Fin grid0.N, _)
theorem at_w1 : ∀ t : Fin cfg0.N, win0_1.index t = ![0, 0, 0] := (by decide +kernel : ∀ t : Fin grid0.N, _)
theorem at_w2 : ∀ t : Fin cfg0.N, win0_2.index t = ![0, 0, 0] := (by decide +kernel : ∀ t : Fin grid0.N, _)
theorem at_w3 : ∀ t : Fin cfg0.N, win0_3.index t = ![0, 0, 0] := (by decide +kernel : ∀ t : Fin grid0.N, _)
theorem at_w4 : ∀ t : Fin cfg0.N, win0_4.index t = ![0, 0, 0] := (by decide +kernel : ∀ t : Fin grid0.N, _)
theorem at_w5 : ∀ t : Fin cfg0.N, win0_5.index t = ![0, 0, 0] := (by decide +kernel : ∀ t : Fin grid0.N, _)
theorem at_w6 : ∀ t : Fin cfg0.N, win0_6.index t = ![0, 0, 0] := (by decide +kernel : ∀ t : Fin grid0.N, _)
theorem at_w7 : ∀ t : Fin cfg0.N, win0_7.index t = ![0, 0, 0] := (by decide +kernel : ∀ t : Fin grid0.N, _)
theorem at_w8 : ∀ t : Fin cfg0.N, win0_8.index t = ![0, 0, 0] := (by decide +kernel : ∀ t : Fin grid0.N, _)
theorem at_w9 : ∀ t : Fin cfg0.N, win0_9.index t = ![0, 0, 0] := (by decide +kernel : ∀ t : Fin grid0.N, _)
theorem at_w10 : ∀ t : Fin cfg0.N, win0_10.index t = ![0, 0, 0] := (by decide +kernel : ∀ t : Fin grid0.N, _)
theorem at_w11 : ∀ t : Fin cfg0.N, win0_11.index t = ![0, 0, 0] := (by decide +kernel : ∀ t : Fin grid0.N, _)
theorem at_w12 : ∀ t : Fin cfg0.N, win0_12.index t = ![0, 0, 0] := (by decide +kernel : ∀ t : Fin grid0.N, _)

/-- The arguments found in memory. -/
def argsOf : Args :=
  ⟨m (c, main_arg0), m (c, main_arg1), m (c, main_arg2), m (c, main_arg3), m (c, main_arg4), m (c, main_arg5), m (c, main_arg6),
    m (c, main_arg7), m (c, main_arg8), m (c, main_arg9), m (c, main_arg10)⟩

theorem entry_u (g : Fin 64) (b : Fin 32) (h : Fin 16) :
    (V m c main_v49 : Vec Ideal S64x32x16 .f32) (ix3 g b h) = rows (argsOf m c).U (ix4 b 0 g h) := by
  rw [Cert.StepRefIdeal.Hand.rows_apply]
  unfold V argsOf
  after_reads_at

theorem entry_hr (g : Fin 64) (b : Fin 32) (p : Fin 64) :
    (V m c main_v50 : Vec Ideal S64x32x64 .f32) (ix3 g b p) = (argsOf m c).Hr (ix4 0 b g p) := by
  unfold V argsOf
  after_reads_at

theorem entry_hi (g : Fin 64) (b : Fin 32) (p : Fin 64) :
    (V m c main_v51 : Vec Ideal S64x32x64 .f32) (ix3 g b p) = (argsOf m c).Hi (ix4 0 b g p) := by
  unfold V argsOf
  after_reads_at

theorem entry_cr (g p : Fin 64) (h : Fin 16) :
    (V m c main_v56 : Vec Ideal S64x64x16 .f32) (ix3 g p h) = (argsOf m c).Cr (ix4 0 g h p) := by
  unfold V argsOf
  after_reads_at

theorem entry_ci (g p : Fin 64) (h : Fin 16) :
    (V m c main_v57 : Vec Ideal S64x64x16 .f32) (ix3 g p h) = (argsOf m c).Ci (ix4 0 g h p) := by
  unfold V argsOf
  after_reads_at

theorem entry_s (g : Fin 64) (h : Fin 16) :
    (V m c main_v58 : Vec Ideal S64x1x16 .f32) (ix3 g 0 h) = (argsOf m c).S (ix3 0 g h) := by
  unfold V argsOf
  after_reads_at

theorem is_ar : (V m c main_v52 : Vec Ideal S64x1x64 .f32)
    = broadcastInDim S64x1x64 ![0, 2] bcast_S64x64_S64x1x64_0_2 (abRe (argsOf m c).Lr (argsOf m c).Li (argsOf m c).D) := by
  unfold V
  after_results_simp
  rfl

theorem is_ai : (V m c main_v53 : Vec Ideal S64x1x64 .f32)
    = broadcastInDim S64x1x64 ![0, 2] bcast_S64x64_S64x1x64_0_2 (abIm (argsOf m c).Lr (argsOf m c).Li (argsOf m c).D) := by
  unfold V
  after_results_simp
  rfl

theorem is_br : (V m c main_v54 : Vec Ideal S64x16x64 .f32)
    = transpose S64x16x64 [0, 2, 1] (bbRe (argsOf m c).Lr (argsOf m c).Li (argsOf m c).D (argsOf m c).Br (argsOf m c).Bi) transposes_S64x64x16_S64x16x64_0_2_1 := by
  unfold V
  after_results_simp
  rfl

theorem is_bi : (V m c main_v55 : Vec Ideal S64x16x64 .f32)
    = transpose S64x16x64 [0, 2, 1] (bbIm (argsOf m c).Lr (argsOf m c).Li (argsOf m c).D (argsOf m c).Br (argsOf m c).Bi) transposes_S64x64x16_S64x16x64_0_2_1 := by
  unfold V
  after_results_simp
  rfl

theorem spread_at (X : FVec Ideal S64x64 .f32) (g p : Fin 64) :
    broadcastInDim S64x1x64 ![0, 2] bcast_S64x64_S64x1x64_0_2 X (ix3 g 0 p) = X (ix2 g p) := by
  pointwise

theorem turned_at (X : FVec Ideal S64x64x16 .f32) (g p : Fin 64) (h : Fin 16) :
    transpose S64x16x64 [0, 2, 1] X transposes_S64x64x16_S64x16x64_0_2_1 (ix3 g h p) = X (ix3 g p h) := by
  pointwise

theorem blk_0 (t : Fin cfg0.N) : (iblk m c 0 t : Vec Ideal S64x32x16 .f32) = V m c main_v49 := by
  funext y
  idx_vars y
  blk_simp [iblk]
  exact congrArg (V m c main_v49) (by blk_ext [at_w0])

theorem blk_1 (t : Fin cfg0.N) : (iblk m c 1 t : Vec Ideal S64x32x64 .f32) = V m c main_v50 := by
  funext y
  idx_vars y
  blk_simp [iblk]
  exact congrArg (V m c main_v50) (by blk_ext [at_w1])

theorem blk_2 (t : Fin cfg0.N) : (iblk m c 2 t : Vec Ideal S64x32x64 .f32) = V m c main_v51 := by
  funext y
  idx_vars y
  blk_simp [iblk]
  exact congrArg (V m c main_v51) (by blk_ext [at_w2])

theorem blk_3 (t : Fin cfg0.N) : (iblk m c 3 t : Vec Ideal S64x1x64 .f32) = V m c main_v52 := by
  funext y
  idx_vars y
  blk_simp [iblk]
  exact congrArg (V m c main_v52) (by blk_ext [at_w3])

theorem blk_4 (t : Fin cfg0.N) : (iblk m c 4 t : Vec Ideal S64x1x64 .f32) = V m c main_v53 := by
  funext y
  idx_vars y
  blk_simp [iblk]
  exact congrArg (V m c main_v53) (by blk_ext [at_w4])

theorem blk_5 (t : Fin cfg0.N) : (iblk m c 5 t : Vec Ideal S64x16x64 .f32) = V m c main_v54 := by
  funext y
  idx_vars y
  blk_simp [iblk]
  exact congrArg (V m c main_v54) (by blk_ext [at_w5])

theorem blk_6 (t : Fin cfg0.N) : (iblk m c 6 t : Vec Ideal S64x16x64 .f32) = V m c main_v55 := by
  funext y
  idx_vars y
  blk_simp [iblk]
  exact congrArg (V m c main_v55) (by blk_ext [at_w6])

theorem blk_7 (t : Fin cfg0.N) : (iblk m c 7 t : Vec Ideal S64x64x16 .f32) = V m c main_v56 := by
  funext y
  idx_vars y
  blk_simp [iblk]
  exact congrArg (V m c main_v56) (by blk_ext [at_w7])

theorem blk_8 (t : Fin cfg0.N) : (iblk m c 8 t : Vec Ideal S64x64x16 .f32) = V m c main_v57 := by
  funext y
  idx_vars y
  blk_simp [iblk]
  exact congrArg (V m c main_v57) (by blk_ext [at_w8])

theorem blk_9 (t : Fin cfg0.N) : (iblk m c 9 t : Vec Ideal S64x1x16 .f32) = V m c main_v58 := by
  funext y
  idx_vars y
  blk_simp [iblk]
  exact congrArg (V m c main_v58) (by blk_ext [at_w9])

/-- The kernel's states after the step, real parts. -/
theorem re_at (g : Fin 64) (b : Fin 32) (p : Fin 64) :
    k0_pay7 (F := Ideal) (V m c main_v49) (V m c main_v54) (V m c main_v52) (V m c main_v53) (V m c main_v50) (V m c main_v51) (ix3 g b p)
      = xRe (argsOf m c) (ix4 b 0 g p) := by
  refine (pay7_at _ _ _ _ _ _ g b p).trans ?_
  unfold xRe
  rw [Cert.StepRefIdeal.Hand.nextRe_apply, entry_hr, entry_hi, is_ar, is_ai, is_br, spread_at, spread_at]
  refine congrArg (fun s => s + _ - _) (Finset.sum_congr rfl fun h _ => ?_)
  rw [entry_u, turned_at, mul_comm]

/-- The kernel's states after the step, imaginary parts. -/
theorem im_at (g : Fin 64) (b : Fin 32) (p : Fin 64) :
    k0_pay8 (F := Ideal) (V m c main_v49) (V m c main_v55) (V m c main_v52) (V m c main_v53) (V m c main_v50) (V m c main_v51) (ix3 g b p)
      = xIm (argsOf m c) (ix4 b 0 g p) := by
  refine (pay8_at _ _ _ _ _ _ g b p).trans ?_
  unfold xIm
  rw [Cert.StepRefIdeal.Hand.nextIm_apply, entry_hr, entry_hi, is_ar, is_ai, is_bi, spread_at, spread_at]
  refine congrArg (fun s => s + _ + _) (Finset.sum_congr rfl fun h _ => ?_)
  rw [entry_u, turned_at, mul_comm]

/-- The states' real parts are the reference's. -/
theorem arr_11 : (dats m 0 c).arrAt 11 cfg0.N = states (xRe (argsOf m c)) := by
  refine (dats m 0 c).arrAt_eq_of_covers 11 _ (by decide +kernel) fun t hf y => ?_
  blk_simp
  rw [after0_11]
  unfold out0_11
  idx_vars y
  have e : ((View.whole main_v59_1).slice (win0_11.rect t)).emb (ix3 y0 y1 y2) = ix3 y0 y1 y2 := by
    blk_ext [at_w11]
  refine Eq.trans ?_ (congrArg (states (xRe (argsOf m c))) e).symm
  refine (congrFun (canon_all _ _ (cover0_11 _)) _).trans ?_
  refine (pay9_at _ _ _ _ _ _ y0 y1 y2).trans ?_
  rw [Cert.StepRefIdeal.Hand.states_apply, blk_0, blk_1, blk_2, blk_3, blk_4, blk_5, ← re_at]
  exact congrFun (congr (congr (congr (congr (congr (congrArg k0_pay7 (ld_all _ _)) (ld_all _ _)) (ld_all _ _)) (ld_all _ _)) (ld_all _ _)) (ld_all _ _)) _

/-- The states' imaginary parts are the reference's. -/
theorem arr_12 : (dats m 0 c).arrAt 12 cfg0.N = states (xIm (argsOf m c)) := by
  refine (dats m 0 c).arrAt_eq_of_covers 12 _ (by decide +kernel) fun t hf y => ?_
  blk_simp
  rw [after0_12]
  unfold out0_12
  idx_vars y
  have e : ((View.whole main_v59_2).slice (win0_12.rect t)).emb (ix3 y0 y1 y2) = ix3 y0 y1 y2 := by
    blk_ext [at_w12]
  refine Eq.trans ?_ (congrArg (states (xIm (argsOf m c))) e).symm
  refine (congrFun (canon_all _ _ (cover0_12 _)) _).trans ?_
  refine (pay10_at _ _ _ _ _ _ y0 y1 y2).trans ?_
  rw [Cert.StepRefIdeal.Hand.states_apply, blk_0, blk_1, blk_2, blk_3, blk_4, blk_6, ← im_at]
  exact congrFun (congr (congr (congr (congr (congr (congrArg k0_pay8 (ld_all _ _)) (ld_all _ _)) (ld_all _ _)) (ld_all _ _)) (ld_all _ _)) (ld_all _ _)) _

theorem pay1_congr {u u' : Vec Ideal S64x32x16 .f32} {hr hr' hi hi' : Vec Ideal S64x32x64 .f32} {ar ar' ai ai' : Vec Ideal S64x1x64 .f32}
    {br br' bi bi' : Vec Ideal S64x16x64 .f32} {cr cr' ci ci' : Vec Ideal S64x64x16 .f32} {d d' : Vec Ideal S64x1x16 .f32}
    (e0 : u = u') (e1 : hr = hr') (e2 : hi = hi') (e3 : ar = ar') (e4 : ai = ai') (e5 : br = br') (e6 : bi = bi')
    (e7 : cr = cr') (e8 : ci = ci') (e9 : d = d') :
    k0_pay1 (F := Ideal) (k0_pay2 u) (k0_pay7 u br ar ai hr hi) (k0_pay8 u bi ar ai hr hi) cr ci d
      = k0_pay1 (k0_pay2 u') (k0_pay7 u' br' ar' ai' hr' hi') (k0_pay8 u' bi' ar' ai' hr' hi') cr' ci' d' := by
  subst e0 e1 e2 e3 e4 e5 e6 e7 e8 e9
  rfl

set_option maxHeartbeats 4000000 in
/-- The outputs are the reference's. -/
theorem arr_10 : (dats m 0 c).arrAt 10 cfg0.N
    = outs (argsOf m c).Cr (argsOf m c).Ci (argsOf m c).S (argsOf m c).U (xRe (argsOf m c)) (xIm (argsOf m c)) := by
  refine (dats m 0 c).arrAt_eq_of_covers 10 _ (by decide +kernel) fun t hf y => ?_
  blk_simp
  rw [after0_10]
  unfold out0_10
  idx_vars y
  have e : ((View.whole main_v59_0).slice (win0_10.rect t)).emb (ix3 y0 y1 y2) = ix3 y0 y1 y2 := by
    blk_ext [at_w10]
  refine Eq.trans ?_ (congrArg (outs (argsOf m c).Cr (argsOf m c).Ci (argsOf m c).S (argsOf m c).U (xRe (argsOf m c)) (xIm (argsOf m c))) e).symm
  refine (congrFun (canon_all _ _ (cover0_10 _)) _).trans ?_
  have l0 : View.ld (iblk m c 0 t : Vec Ideal S64x32x16 .f32) r0_0 = V m c main_v49 := (ld_all _ _).trans (blk_0 m c t)
  have l1 : View.ld (iblk m c 1 t : Vec Ideal S64x32x64 .f32) r0_3 = V m c main_v50 := (ld_all _ _).trans (blk_1 m c t)
  have l2 : View.ld (iblk m c 2 t : Vec Ideal S64x32x64 .f32) r0_3 = V m c main_v51 := (ld_all _ _).trans (blk_2 m c t)
  have l3 : View.ld (iblk m c 3 t : Vec Ideal S64x1x64 .f32) r0_2 = V m c main_v52 := (ld_all _ _).trans (blk_3 m c t)
  have l4 : View.ld (iblk m c 4 t : Vec Ideal S64x1x64 .f32) r0_2 = V m c main_v53 := (ld_all _ _).trans (blk_4 m c t)
  have l5 : View.ld (iblk m c 5 t : Vec Ideal S64x16x64 .f32) r0_1 = V m c main_v54 := (ld_all _ _).trans (blk_5 m c t)
  have l6 : View.ld (iblk m c 6 t : Vec Ideal S64x16x64 .f32) r0_1 = V m c main_v55 := (ld_all _ _).trans (blk_6 m c t)
  have l7 : View.ld (iblk m c 7 t : Vec Ideal S64x64x16 .f32) r0_5 = V m c main_v56 := (ld_all _ _).trans (blk_7 m c t)
  have l8 : View.ld (iblk m c 8 t : Vec Ideal S64x64x16 .f32) r0_5 = V m c main_v57 := (ld_all _ _).trans (blk_8 m c t)
  have l9 : View.ld (iblk m c 9 t : Vec Ideal S64x1x16 .f32) r0_6 = V m c main_v58 := (ld_all _ _).trans (blk_9 m c t)
  refine (congrFun (pay1_congr l0 l1 l2 l3 l4 l5 l6 l7 l8 l9) _).trans ?_
  refine (pay1_at _ _ _ _ _ _ y0 y1 y2).trans ?_
  rw [Cert.StepRefIdeal.Hand.outs_apply, pay2_eq, entry_u, entry_s]
  refine congrArg₂ (fun s s' => s - s' + _) (Finset.sum_congr rfl fun p _ => ?_) (Finset.sum_congr rfl fun p _ => ?_)
  · rw [re_at, entry_cr, mul_comm]
  · rw [im_at, entry_ci, mul_comm]

end Cert.StepIdeal.Hand

end
-- ==== Proof.Step.Claims.lean ====
/- The claims about one step of the state-space layer. -/
module

public import proofs.«01_k».proof.Defs
public import proofs.«01_k».proof.Proof.Step.Run
public import proofs.«01_k».proof.Proof.StepIdeal.Run
public import proofs.«01_k».proof.Proof.StepIdeal.Value
public import Idealize.ShloMosaic.Adequacy
public import Idealize.ShloMosaic.Init

@[expose] public section

noncomputable section

namespace Cert.Step.Claims

open Idealize.ShloMosaic Idealize.SL.Sem

/-- The kernel runs, its arguments end as they were and its semaphores at zero. -/
theorem frame : Cert.quiescent_Step := fun m ρ _ => Cert.Step.Gen.frame m ρ

theorem frameIdeal : Cert.quiescent_StepIdeal := fun m ρ _ => Cert.StepIdeal.Gen.frame m ρ

/-- The reference runs, and its arguments end as they were. -/
theorem frameRef : Cert.quiescent_StepRefIdeal := fun m ρ _ =>
  (θ_run Cert.StepRefIdeal.defs _ _).mono (fun r h => ⟨fun c => (h c).2.2.2, sem_eq_zero_of_no_sems (by decide) r.2⟩)
    (Cert.StepRefIdeal.Value.run (F := Ideal) m ρ)

/-- The kernel and the reference agree. -/
theorem algebraic : Cert.algebraic_StepIdeal_StepRefIdeal := by
  intro m ρ m' ρ' hpre hagree
  refine ⟨fun c => (Cert.StepIdeal.Gen.dats m 0 c).arrAt 10 Cert.StepIdeal.cfg0.N, fun c => (Cert.StepIdeal.Gen.dats m 0 c).arrAt 11 Cert.StepIdeal.cfg0.N,
    fun c => (Cert.StepIdeal.Gen.dats m 0 c).arrAt 12 Cert.StepIdeal.cfg0.N, Cert.StepIdeal.Value.run_blocks m ρ, ?_⟩
  refine (θ_run Cert.StepRefIdeal.defs _ _).mono (fun _ h c => ?_) (Cert.StepRefIdeal.Value.run (F := Ideal) m' ρ')
  obtain ⟨g0, g1, g2, g3, g4, g5, g6, g7, g8, g9, g10⟩ := hagree c
  obtain ⟨hy, hr, hi, hargs⟩ := h c
  have e : Cert.StepRefIdeal.Hand.argsOf m' c = Cert.StepIdeal.Hand.argsOf m c := by
    unfold Cert.StepRefIdeal.Hand.argsOf Cert.StepIdeal.Hand.argsOf
    exact Cert.StepRefIdeal.Hand.Args.ext g0 g1 g2 g3 g4 g5 g6 g7 g8 g9 g10
  have ey := Cert.StepRefIdeal.Hand.is_y m' c
  have er := Cert.StepRefIdeal.Hand.is_re m' c
  have ei := Cert.StepRefIdeal.Hand.is_im m' c
  rw [e] at ey er ei
  exact ⟨hy.trans (ey.trans (Cert.StepIdeal.Hand.arr_10 m c).symm), hr.trans (er.trans (Cert.StepIdeal.Hand.arr_11 m c).symm),
    hi.trans (ei.trans (Cert.StepIdeal.Hand.arr_12 m c).symm), hargs⟩

end Cert.Step.Claims

end
-- ==== Proof.InProjSampleIdeal.Run.lean ====
/- What the body of the in-projection does at one grid point. At the first of a block of rows' four points it
   normalizes the rows, rounds them and keeps them in the scratch buffer; at each point it multiplies what the
   scratch holds by a quarter of the weights and stores the product, turned by the rotary tables or as it is,
   in the outputs of that quarter; the other outputs' blocks stay as they were. -/
module

public import proofs.«01_k».proof.Proof.Gen.InProjSampleIdeal.Launch
public import proofs.«01_k».proof.Proof.Gen.InProjSampleIdeal.Skeleton
public import Idealize.ShloMosaic.Lib.Pipeline.FrameBody
public import Idealize.ShloMosaic.Lib.Pipeline.Kit
public import Idealize.ShloMosaic.Lib.Ring
public import Idealize.ShloMosaic.Lib.Tactic
public import Idealize.ShloMosaic.Lib.VecWindow

@[expose] public section

set_option maxRecDepth 16384

noncomputable section

namespace Cert.InProjSampleIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.InProjSampleIdeal Cert.InProjSampleIdeal.Gen

variable {F : FTy → Type} [FloatOps F]

local notation "𝕄" => MT nD τ sig Unit (Elt F) ℕ (UR sig nD τ) ℕ

/-- `new` at a block of rows' point `n`, `old` at its other points. -/
def onlyAt {α : Type} (n : ℕ) (i : grid0.Coords) (new old : α) : α := if (i 1).val = n then new else old

theorem word_iff (i : grid0.Coords) (n : Fin 4) :
    Iff (Scalar.cmpi .ne (Scalar.extui (Scalar.cmpi .eq (BitVec.ofNat 32 (i 1).val) (BitVec.ofNat 32 n.val))) 0#32 = 1#1) ((i 1).val = n.val) := by
  have h : (i 1).val < 4 := (i 1).isLt
  generalize (i 1).val = k at h ⊢
  revert h
  revert k
  revert n
  decide

theorem first_iff (i : grid0.Coords) :
    Iff (Scalar.cmpi .ne (Scalar.extui (Scalar.cmpi .eq (BitVec.ofNat 32 (i 1).val) 0#32)) 0#32 = 1#1) ((i 1).val = 0) := word_iff i 0
theorem cond2_iff (i : grid0.Coords) : Iff (k0_cond2 i = 1#1) ((i 1).val = 0) := word_iff i 0
theorem cond3_iff (i : grid0.Coords) : Iff (k0_cond3 i = 1#1) ((i 1).val = 1) := word_iff i 1
theorem cond4_iff (i : grid0.Coords) : Iff (k0_cond4 i = 1#1) ((i 1).val = 2) := word_iff i 2
theorem cond5_iff (i : grid0.Coords) : Iff (k0_cond5 i = 1#1) ((i 1).val = 3) := word_iff i 3

/-- What the body leaves in the scratch buffer, which held `s`. -/
def scratchNext (i : grid0.Coords) (x : Vec F S32x2048 .f32) (g : Vec F S1x2048 .f32) (s : Vec F S32x2048 .bf16) : Vec F S32x2048 .bf16 :=
  onlyAt 0 i (k0_pay1 x g) s

set_option maxHeartbeats 4000000 in
/-- The body at any point. -/
theorem run_body (c : Dev nD) (i : grid0.Coords) (a2 : Memref sig .tc .vmem S32x2048 .f32) (h2 : a2.IsWhole) (a3 : Memref sig .tc .vmem S1x2048 .f32) (h3 : a3.IsWhole) (a4 : Memref sig .tc .vmem S2048x1024 .bf16) (h4 : a4.IsWhole) (a5 : Memref sig .tc .vmem S32x128 .f32) (h5 : a5.IsWhole) (a6 : Memref sig .tc .vmem S32x128 .f32) (h6 : a6.IsWhole) (a7 : Memref sig .tc .vmem S32x128 .f32) (h7 : a7.IsWhole) (a8 : Memref sig .tc .vmem S32x1024 .bf16) (h8 : a8.IsWhole) (a9 : Memref sig .tc .vmem S32x1024 .f32) (h9 : a9.IsWhole) (a10 : Memref sig .tc .vmem S32x1024 .f32) (h10 : a10.IsWhole) (a11 : Memref sig .tc .vmem S32x1024 .f32) (h11 : a11.IsWhole) (a12 : Memref sig .tc .vmem S32x1024 .bf16) (h12 : a12.IsWhole) (a13 : Memref sig .tc .vmem S32x1024 .bf16) (h13 : a13.IsWhole) (a14 : Memref sig .tc .vmem S32x2048 .bf16) (h14 : a14.IsWhole)
    (x : Vec F S32x2048 .f32) (g : Vec F S1x2048 .f32) (w : Vec F S2048x1024 .bf16) (ca : Vec F S32x128 .f32) (aa : Vec F S32x128 .f32) (ba : Vec F S32x128 .f32) (q : Vec F S32x1024 .bf16) (k : Vec F S32x1024 .f32) (v : Vec F S32x1024 .f32) (u : Vec F S32x1024 .f32) (kb : Vec F S32x1024 .bf16) (vb : Vec F S32x1024 .bf16) (s : Vec F S32x2048 .bf16)
    (E : Set ℕ) (K : PUnit → sProp 𝕄) :
    iprop(owns (c : Thread nD τ) a2 fullShare x ∗ owns (c : Thread nD τ) a3 fullShare g ∗ owns (c : Thread nD τ) a4 fullShare w ∗ owns (c : Thread nD τ) a5 fullShare ca ∗ owns (c : Thread nD τ) a6 fullShare aa ∗ owns (c : Thread nD τ) a7 fullShare ba ∗ owns (c : Thread nD τ) a8 fullShare q ∗ owns (c : Thread nD τ) a9 fullShare k ∗ owns (c : Thread nD τ) a10 fullShare v ∗ owns (c : Thread nD τ) a11 fullShare u ∗ owns (c : Thread nD τ) a12 fullShare kb ∗ owns (c : Thread nD τ) a13 fullShare vb ∗ owns (c : Thread nD τ) a14 fullShare s
        ∗ (iprop(owns (c : Thread nD τ) a2 fullShare x ∗ owns (c : Thread nD τ) a3 fullShare g ∗ owns (c : Thread nD τ) a4 fullShare w ∗ owns (c : Thread nD τ) a5 fullShare ca ∗ owns (c : Thread nD τ) a6 fullShare aa ∗ owns (c : Thread nD τ) a7 fullShare ba ∗ owns (c : Thread nD τ) a8 fullShare (onlyAt 0 i (k0_pay3 (scratchNext i x g s) w ca aa ba) q) ∗ owns (c : Thread nD τ) a9 fullShare (onlyAt 1 i (k0_pay4 (scratchNext i x g s) w ca aa ba) k) ∗ owns (c : Thread nD τ) a10 fullShare (onlyAt 2 i (k0_pay2 (scratchNext i x g s) w) v) ∗ owns (c : Thread nD τ) a11 fullShare (onlyAt 3 i (k0_pay2 (scratchNext i x g s) w) u) ∗ owns (c : Thread nD τ) a12 fullShare (onlyAt 1 i (k0_pay5 (scratchNext i x g s) w ca aa ba) kb) ∗ owns (c : Thread nD τ) a13 fullShare (onlyAt 2 i (k0_pay6 (scratchNext i x g s) w) vb) ∗ owns (c : Thread nD τ) a14 fullShare (scratchNext i x g s)) -∗ K ⟨⟩))
      ⊢ wp frame (wpE (defs₀ (F := F)) Variants.none c none) E (cc0_inproj i a2 h2 a3 h3 a4 h4 a5 h5 a6 h6 a7 h7 a8 h8 a9 h9 a10 h10 a11 h11 a12 h12 a13 h13 a14 h14) K := by
  simp only [cc0_inproj_eq_skeleton]; unfold cc0_inproj_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12; obtain rfl := h13.eq_unread hf13; obtain rfl := h14.eq_unread hf14
  sl_exec
  sl_step
  have h2i : Iff (run_body.sl.v2 i = 1#1) ((i 1).val = 0) := first_iff i
  have hs : run_body.sl.v3 c i a2 h2 a3 h3 a14 h14 x g s = scratchNext i x g s := by
    unfold run_body.sl.v3 scratchNext onlyAt
    by_cases hj : (i 1).val = 0
    · rw [dif_pos (h2i.mpr hj), if_pos hj, View.readAt_full, View.read_writes_full, View.readAt_full, View.readAt_full, hf2, hf3]
    · rw [dif_neg (fun h => hj (h2i.mp h)), if_neg hj, View.readAt_full, hf14]
  iapply Hk
  isplitl [H2]
  · iexists _; isplitr
    · ipureintro; exact hf2
    iexact H2
  isplitl [H3]
  · iexists _; isplitr
    · ipureintro; exact hf3
    iexact H3
  isplitl [H4]
  · iexists _; isplitr
    · ipureintro; exact hf4
    iexact H4
  isplitl [H5]
  · iexists _; isplitr
    · ipureintro; exact hf5
    iexact H5
  isplitl [H6]
  · iexists _; isplitr
    · ipureintro; exact hf6
    iexact H6
  isplitl [H7]
  · iexists _; isplitr
    · ipureintro; exact hf7
    iexact H7
  isplitl [H8]
  · iexists _; isplitr
    swap
    · iexact H8
    ipureintro
    unfold onlyAt
    by_cases hj : (i 1).val = 0
    · rw [dif_pos ((cond2_iff i).mpr hj), if_pos hj, View.read_writes_full, hs, View.readAt_full, hf4, View.readAt_full, View.readAt_full, View.readAt_full, hf5, hf6, hf7]
    · rw [dif_neg (fun h => hj ((cond2_iff i).mp h)), if_neg hj, hf8]
  isplitl [H9]
  · iexists _; isplitr
    swap
    · iexact H9
    ipureintro
    unfold onlyAt
    by_cases hj : (i 1).val = 1
    · rw [dif_pos ((cond3_iff i).mpr hj), if_pos hj, View.read_writes_full, hs, View.readAt_full, hf4, View.readAt_full, View.readAt_full, View.readAt_full, hf5, hf6, hf7]
    · rw [dif_neg (fun h => hj ((cond3_iff i).mp h)), if_neg hj, hf9]
  isplitl [H10]
  · iexists _; isplitr
    swap
    · iexact H10
    ipureintro
    unfold onlyAt
    by_cases hj : (i 1).val = 2
    · rw [dif_pos ((cond4_iff i).mpr hj), if_pos hj, View.read_writes_full, hs, View.readAt_full, hf4]
    · rw [dif_neg (fun h => hj ((cond4_iff i).mp h)), if_neg hj, hf10]
  isplitl [H11]
  · iexists _; isplitr
    swap
    · iexact H11
    ipureintro
    unfold onlyAt
    by_cases hj : (i 1).val = 3
    · rw [dif_pos ((cond5_iff i).mpr hj), if_pos hj, View.read_writes_full, hs, View.readAt_full, hf4]
    · rw [dif_neg (fun h => hj ((cond5_iff i).mp h)), if_neg hj, hf11]
  isplitl [H12]
  · iexists _; isplitr
    swap
    · iexact H12
    ipureintro
    unfold onlyAt
    by_cases hj : (i 1).val = 1
    · rw [dif_pos ((cond3_iff i).mpr hj), if_pos hj, View.read_writes_full, hs, View.readAt_full, hf4, View.readAt_full, View.readAt_full, View.readAt_full, hf5, hf6, hf7]
    · rw [dif_neg (fun h => hj ((cond3_iff i).mp h)), if_neg hj, hf12]
  isplitl [H13]
  · iexists _; isplitr
    swap
    · iexact H13
    ipureintro
    unfold onlyAt
    by_cases hj : (i 1).val = 2
    · rw [dif_pos ((cond4_iff i).mpr hj), if_pos hj, View.read_writes_full, hs, View.readAt_full, hf4]
    · rw [dif_neg (fun h => hj ((cond4_iff i).mp h)), if_neg hj, hf13]
  iexists _; isplitr
  swap
  · iexact H14
  ipureintro
  unfold scratchNext onlyAt
  by_cases hj : (i 1).val = 0
  · rw [dif_pos ((cond2_iff i).mpr hj), if_pos hj, View.read_writes_full, View.readAt_full, View.readAt_full, hf2, hf3]
  · rw [dif_neg (fun h => hj ((cond2_iff i).mp h)), if_neg hj, hf14]

end Cert.InProjSampleIdeal.Hand

end
-- ==== Proof.InProjSampleIdeal.Frame.lean ====
/- The in-projection's frame. A block of rows' four points follow one another, so from the first on the scratch
   buffer holds those rows normalized and rounded. Each output's block is written at one of the four points and
   handed on untouched at the others, and it leaves for the array after the last of them; the whole call runs and
   leaves its arguments unchanged. -/
module

public import proofs.«01_k».proof.Proof.InProjSampleIdeal.Run
public import Idealize.ShloMosaic.Lib.Pipeline.ValueKit

@[expose] public section

set_option maxRecDepth 16384

noncomputable section

namespace Cert.InProjSampleIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.InProjSampleIdeal Cert.InProjSampleIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a buffer of core `c` holds when the call begins, after the host's operations. -/
abbrev V (c : Dev nD) (b : Ref sig .tc) : Buf (Elt F) ((c : Thread nD τ).loc b) :=
  StableHlo.after hostOps0 (fun b => m (c, b)) b

theorem host_fresh : (hostOps0 : List (HloOp τ sig (Elt F))).Forall fun op => op.fresh = ∅ := by
  simp only [List.Forall]; repeat' constructor

set_option maxHeartbeats 800000 in
/-- The program is the host's operations and then the call. -/
theorem host_then_call (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub host_fresh main_chain

set_option maxHeartbeats 1600000 in
/-- The host's operations write none of the arguments. -/
theorem V_arg (c : Dev nD) (b : Ref sig .tc) (hb : b ∈ [main_arg0, main_arg1, main_arg2]) :
    V m c b = m ((c : Thread nD τ).loc b) :=
  StableHlo.after_of_forall_not_mem (b := Proc.devRef .tc b) _ _ (List.forall_iff_forall_mem.mp (by
    simp only [List.mem_cons, List.not_mem_nil, or_false] at hb
    rcases hb with rfl | rfl | rfl
    all_goals
      simp only [hostOps0, List.Forall, StableHlo.nullary_writes, StableHlo.unary_writes, StableHlo.binary_writes,
        StableHlo.ternary_writes, StableHlo.nary_writes, StableHlo.reshape_writes, Finset.mem_singleton]
      repeat' apply And.intro
      all_goals exact StableHlo.devRef_ne_of_ne (by decide)))

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem lt_points (t : Fin cfg0.N) : t.val < 4 := lt_of_lt_of_eq t.isLt N_0

/-- The point `j` of the four of `t`'s block of rows. -/
def pt (t : Fin cfg0.N) (j : Fin 4) : Fin cfg0.N :=
  ⟨4 * (t.val / 4) + j.val, by have := lt_points t; exact lt_of_lt_of_eq (show _ < 4 by omega) N_0.symm⟩

theorem pt_congr {t t' : Fin cfg0.N} (h : t.val / 4 = t'.val / 4) (j : Fin 4) : pt t j = pt t' j := Fin.ext (by show 4 * _ + _ = 4 * _ + _; rw [h])
theorem pt_self (t : Fin cfg0.N) (j : Fin 4) (h : t.val % 4 = j.val) : pt t j = t := Fin.ext (by show 4 * _ + _ = _; omega)
theorem pt_pt (t : Fin cfg0.N) (j j' : Fin 4) : pt (pt t j) j' = pt t j' := pt_congr (by show (4 * _ + _) / 4 = _; omega) j'

/-- The rows of `t`'s block, normalized and rounded. -/
def normedAt (c : Dev nD) (t : Fin cfg0.N) : Vec F S32x2048 .bf16 := k0_pay1 (iblk m c 0 (pt t 0)) (iblk m c 1 (pt t 0))

/-- What the body stores at point `t`, if it is the output's own: the queries, the keys, the plain product, and the
    rounded keys and values. -/
def qAt (c : Dev nD) (t : Fin cfg0.N) : Vec F S32x1024 .bf16 :=
  k0_pay3 (normedAt m c t) (iblk m c 2 t) (iblk m c 3 t) (iblk m c 4 t) (iblk m c 5 t)
def kAt (c : Dev nD) (t : Fin cfg0.N) : Vec F S32x1024 .f32 :=
  k0_pay4 (normedAt m c t) (iblk m c 2 t) (iblk m c 3 t) (iblk m c 4 t) (iblk m c 5 t)
def vAt (c : Dev nD) (t : Fin cfg0.N) : Vec F S32x1024 .f32 := k0_pay2 (normedAt m c t) (iblk m c 2 t)
def kbAt (c : Dev nD) (t : Fin cfg0.N) : Vec F S32x1024 .bf16 :=
  k0_pay5 (normedAt m c t) (iblk m c 2 t) (iblk m c 3 t) (iblk m c 4 t) (iblk m c 5 t)
def vbAt (c : Dev nD) (t : Fin cfg0.N) : Vec F S32x1024 .bf16 := k0_pay6 (normedAt m c t) (iblk m c 2 t)

/-- What is known of the scratch buffer before point `n`, past a block of rows' first point. -/
def Ready (c : Dev nD) (n : ℕ) (s : Vec F S32x2048 .bf16) : Prop :=
  n % 4 ≠ 0 → ∀ h : n < cfg0.N, s = normedAt m c ⟨n, h⟩

theorem coord1 (t : Fin cfg0.N) : (grid0.coords t 1).val = t.val % 4 :=
  (Pipeline.Grid.coords_val t 1 (S := 1) (B := 4) (by decide) rfl).trans (by rw [Nat.div_one])

theorem normedAt_congr (c : Dev nD) {t t' : Fin cfg0.N} (h : t.val / 4 = t'.val / 4) : normedAt m c t = normedAt m c t' := by
  unfold normedAt; rw [pt_congr h]

theorem scratchNext_eq (c : Dev nD) (t : Fin cfg0.N) (s : Vec F S32x2048 .bf16) (hs : Ready m c t.val s) :
    scratchNext (grid0.coords t) (iblk m c 0 t) (iblk m c 1 t) s = normedAt m c t := by
  unfold scratchNext onlyAt
  rw [coord1]
  by_cases hj : t.val % 4 = 0
  · rw [if_pos hj]; unfold normedAt; rw [pt_self t 0 hj]
  · rw [if_neg hj]; exact hs hj t.isLt

theorem ready_next (c : Dev nD) (t : Fin cfg0.N) : Ready m c (t.val + 1) (normedAt m c t) := fun hn h =>
  normedAt_congr m c (show t.val / 4 = (t.val + 1) / 4 by omega)

/-- The scratch buffer as a memref. -/
abbrev scratch : Memref sig .tc .vmem S32x2048 .bf16 := Memref.whole cc0_scratch0

theorem held_eq (c : Dev nD) :
    (Pipeline.ΦA spec0 c : sProp 𝕄) = iprop(iprop(∃ d, owns (c : Thread nD τ) scratch fullShare d) ∗ (∃ r, prngReg c r)) := by
  unfold Pipeline.ΦA; rw [scopedRest0_eq]; simp only [scratch, owns_whole]; try rfl

/-- What is held before point `n`, beside the windows. -/
def inv (c : Dev nD) (n : ℕ) : sProp 𝕄 :=
  iprop(iprop(∃ s, ⌜Ready m c n s⌝ ∗ owns (c : Thread nD τ) scratch fullShare s) ∗ (∃ r, prngReg c r))

/-- The arrays at the start, the blocks after each point, and what is held in between. An output's block is, at every
    point of its rows, what its own point of them stores. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => qAt m c (pt t 0)
    | ⟨7, _⟩ => kAt m c (pt t 1)
    | ⟨8, _⟩ => vAt m c (pt t 2)
    | ⟨9, _⟩ => vAt m c (pt t 3)
    | ⟨10, _⟩ => kbAt m c (pt t 1)
    | ⟨11, _⟩ => vbAt m c (pt t 2)
  Φ t := inv m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]; try rfl
theorem after_1 (c : Dev nD) (t : Fin cfg0.N) : (dats m 0 c).after 1 t = iblk m c 1 t := by dsimp only [dats]; try rfl
theorem after_2 (c : Dev nD) (t : Fin cfg0.N) : (dats m 0 c).after 2 t = iblk m c 2 t := by dsimp only [dats]; try rfl
theorem after_3 (c : Dev nD) (t : Fin cfg0.N) : (dats m 0 c).after 3 t = iblk m c 3 t := by dsimp only [dats]; try rfl
theorem after_4 (c : Dev nD) (t : Fin cfg0.N) : (dats m 0 c).after 4 t = iblk m c 4 t := by dsimp only [dats]; try rfl
theorem after_5 (c : Dev nD) (t : Fin cfg0.N) : (dats m 0 c).after 5 t = iblk m c 5 t := by dsimp only [dats]; try rfl
theorem after_6 (c : Dev nD) (t : Fin cfg0.N) : (dats m 0 c).after 6 t = qAt m c (pt t 0) := by dsimp only [dats]; try rfl
theorem after_7 (c : Dev nD) (t : Fin cfg0.N) : (dats m 0 c).after 7 t = kAt m c (pt t 1) := by dsimp only [dats]; try rfl
theorem after_8 (c : Dev nD) (t : Fin cfg0.N) : (dats m 0 c).after 8 t = vAt m c (pt t 2) := by dsimp only [dats]; try rfl
theorem after_9 (c : Dev nD) (t : Fin cfg0.N) : (dats m 0 c).after 9 t = vAt m c (pt t 3) := by dsimp only [dats]; try rfl
theorem after_10 (c : Dev nD) (t : Fin cfg0.N) : (dats m 0 c).after 10 t = kbAt m c (pt t 1) := by dsimp only [dats]; try rfl
theorem after_11 (c : Dev nD) (t : Fin cfg0.N) : (dats m 0 c).after 11 t = vbAt m c (pt t 2) := by dsimp only [dats]; try rfl

/-- Each input's staging buffer holds its block at every point. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)

/-- An output whose own point of each four is `j`: it is written there and idle at the others, and leaves after the last. -/
structure OwnPoint {c : Dev nD} (D : Dat τ (Elt F) Unit ℕ (UR sig nD τ) ℕ cfg0 c) (w : Fin cfg0.W) (j : ℕ) : Prop where
  fetch : ∀ t, (cfg0.win w).fetch t = false
  flush : ∀ t : Fin cfg0.N, t.val % 4 ≠ 3 → (cfg0.win w).flush t = false
  live : ∀ t : Fin cfg0.N, t.val % 4 = j → cfg0.idle w (cfg0.grid.coords t) = false
  idle : ∀ t : Fin cfg0.N, t.val % 4 ≠ j → cfg0.idle w (cfg0.grid.coords t) = true
  kept : ∀ t d, D.kept w t d = D.after w t
  same : ∀ t t' : Fin cfg0.N, t.val / 4 = t'.val / 4 → D.after w t = D.after w t'

/-- Past its own point such an output's buffer holds what that point stored. -/
theorem OwnPoint.found {c : Dev nD} {D : Dat τ (Elt F) Unit ℕ (UR sig nD τ) ℕ cfg0 c} {w : Fin cfg0.W} {j : ℕ} (h : OwnPoint D w j) :
    ∀ (n : ℕ) (hn : n < cfg0.N) (d), j < n % 4 → D.before w ⟨n, hn⟩ d = D.after w ⟨n, hn⟩ := by
  intro n
  induction n with
  | zero => intro hn d hj; exact absurd hj (by omega)
  | succ n ih =>
    intro hn d hj
    have hn' : n < cfg0.N := by omega
    rw [D.before_of_pos w ⟨n + 1, hn⟩ (Nat.succ_ne_zero n) (h.fetch _),
      show (⟨(⟨n + 1, hn⟩ : Fin cfg0.N).val - 1, Nat.lt_of_le_of_lt (Nat.sub_le _ _) (⟨n + 1, hn⟩ : Fin cfg0.N).isLt⟩ : Fin cfg0.N) = ⟨n, hn'⟩ from rfl,
      h.flush ⟨n, hn'⟩ (by show n % 4 ≠ 3; omega), if_neg Bool.false_ne_true, h.same ⟨n + 1, hn⟩ ⟨n, hn'⟩ (by show (n + 1) / 4 = n / 4; omega)]
    unfold Dat.left
    by_cases hp : n % 4 = j
    · rw [h.live ⟨n, hn'⟩ hp]; exact h.kept _ d
    · rw [h.idle ⟨n, hn'⟩ hp]; exact ih hn' d (by omega)

/-- What the body leaves in such an output's buffer is what is asked of it. -/
theorem OwnPoint.leaves {c : Dev nD} {D : Dat τ (Elt F) Unit ℕ (UR sig nD τ) ℕ cfg0 c} {w : Fin cfg0.W} {j : ℕ} (h : OwnPoint D w j)
    (hj : j < 4) (t : Fin cfg0.N) (d) :
    owns (c : Thread nD τ) ((cfg0.win w).stage (cfg0.slots t w)) fullShare (onlyAt j (grid0.coords t) (D.after w t) (D.before w t d))
      ⊢ (D.leavesExact w t : sProp 𝕄) := by
  unfold onlyAt
  rw [coord1]
  by_cases hp : t.val % 4 = j
  · rw [if_pos hp]; unfold Dat.leavesExact; rw [h.live t hp]
  · rw [if_neg hp]
    unfold Dat.leavesExact
    rw [h.idle t hp]
    cases hf : (cfg0.win w).flush t with
    | false => dsimp only; iintro H; iexists d; iexact H
    | true =>
      dsimp only
      have h3 : t.val % 4 = 3 := by
        by_contra hne
        rw [h.flush t hne] at hf
        exact Bool.noConfusion hf
      rw [h.found t.val t.isLt d (by omega)]

theorem flush_6 : ∀ t : Fin cfg0.N, t.val % 4 ≠ 3 → (cfg0.win 6).flush t = false := (by decide +kernel : ∀ t : Fin grid0.N, t.val % 4 ≠ 3 → win0_6.flush t = false)
theorem own_6 (c : Dev nD) : OwnPoint (dats m 0 c) 6 0 where
  fetch t := Pipeline.Window.fetch_out _ rfl t
  flush := flush_6
  live t h := by
    show (!(k0_cond2 (grid0.coords t) == 1#1)) = false
    rw [(cond2_iff (grid0.coords t)).mpr (by rw [coord1]; exact h)]; rfl
  idle t h := by
    show (!(k0_cond2 (grid0.coords t) == 1#1)) = true
    have hc : ¬ k0_cond2 (grid0.coords t) = 1#1 := fun e => h (by rw [← coord1]; exact (cond2_iff (grid0.coords t)).mp e)
    simp [hc]
  kept t d := rfl
  same t t' h := by rw [after_6, after_6, pt_congr h]
theorem flush_7 : ∀ t : Fin cfg0.N, t.val % 4 ≠ 3 → (cfg0.win 7).flush t = false := (by decide +kernel : ∀ t : Fin grid0.N, t.val % 4 ≠ 3 → win0_7.flush t = false)
theorem own_7 (c : Dev nD) : OwnPoint (dats m 0 c) 7 1 where
  fetch t := Pipeline.Window.fetch_out _ rfl t
  flush := flush_7
  live t h := by
    show (!(k0_cond3 (grid0.coords t) == 1#1)) = false
    rw [(cond3_iff (grid0.coords t)).mpr (by rw [coord1]; exact h)]; rfl
  idle t h := by
    show (!(k0_cond3 (grid0.coords t) == 1#1)) = true
    have hc : ¬ k0_cond3 (grid0.coords t) = 1#1 := fun e => h (by rw [← coord1]; exact (cond3_iff (grid0.coords t)).mp e)
    simp [hc]
  kept t d := rfl
  same t t' h := by rw [after_7, after_7, pt_congr h]
theorem flush_8 : ∀ t : Fin cfg0.N, t.val % 4 ≠ 3 → (cfg0.win 8).flush t = false := (by decide +kernel : ∀ t : Fin grid0.N, t.val % 4 ≠ 3 → win0_8.flush t = false)
theorem own_8 (c : Dev nD) : OwnPoint (dats m 0 c) 8 2 where
  fetch t := Pipeline.Window.fetch_out _ rfl t
  flush := flush_8
  live t h := by
    show (!(k0_cond4 (grid0.coords t) == 1#1)) = false
    rw [(cond4_iff (grid0.coords t)).mpr (by rw [coord1]; exact h)]; rfl
  idle t h := by
    show (!(k0_cond4 (grid0.coords t) == 1#1)) = true
    have hc : ¬ k0_cond4 (grid0.coords t) = 1#1 := fun e => h (by rw [← coord1]; exact (cond4_iff (grid0.coords t)).mp e)
    simp [hc]
  kept t d := rfl
  same t t' h := by rw [after_8, after_8, pt_congr h]
theorem flush_9 : ∀ t : Fin cfg0.N, t.val % 4 ≠ 3 → (cfg0.win 9).flush t = false := (by decide +kernel : ∀ t : Fin grid0.N, t.val % 4 ≠ 3 → win0_9.flush t = false)
theorem own_9 (c : Dev nD) : OwnPoint (dats m 0 c) 9 3 where
  fetch t := Pipeline.Window.fetch_out _ rfl t
  flush := flush_9
  live t h := by
    show (!(k0_cond5 (grid0.coords t) == 1#1)) = false
    rw [(cond5_iff (grid0.coords t)).mpr (by rw [coord1]; exact h)]; rfl
  idle t h := by
    show (!(k0_cond5 (grid0.coords t) == 1#1)) = true
    have hc : ¬ k0_cond5 (grid0.coords t) = 1#1 := fun e => h (by rw [← coord1]; exact (cond5_iff (grid0.coords t)).mp e)
    simp [hc]
  kept t d := rfl
  same t t' h := by rw [after_9, after_9, pt_congr h]
theorem flush_10 : ∀ t : Fin cfg0.N, t.val % 4 ≠ 3 → (cfg0.win 10).flush t = false := (by decide +kernel : ∀ t : Fin grid0.N, t.val % 4 ≠ 3 → win0_10.flush t = false)
theorem own_10 (c : Dev nD) : OwnPoint (dats m 0 c) 10 1 where
  fetch t := Pipeline.Window.fetch_out _ rfl t
  flush := flush_10
  live t h := by
    show (!(k0_cond3 (grid0.coords t) == 1#1)) = false
    rw [(cond3_iff (grid0.coords t)).mpr (by rw [coord1]; exact h)]; rfl
  idle t h := by
    show (!(k0_cond3 (grid0.coords t) == 1#1)) = true
    have hc : ¬ k0_cond3 (grid0.coords t) = 1#1 := fun e => h (by rw [← coord1]; exact (cond3_iff (grid0.coords t)).mp e)
    simp [hc]
  kept t d := rfl
  same t t' h := by rw [after_10, after_10, pt_congr h]
theorem flush_11 : ∀ t : Fin cfg0.N, t.val % 4 ≠ 3 → (cfg0.win 11).flush t = false := (by decide +kernel : ∀ t : Fin grid0.N, t.val % 4 ≠ 3 → win0_11.flush t = false)
theorem own_11 (c : Dev nD) : OwnPoint (dats m 0 c) 11 2 where
  fetch t := Pipeline.Window.fetch_out _ rfl t
  flush := flush_11
  live t h := by
    show (!(k0_cond4 (grid0.coords t) == 1#1)) = false
    rw [(cond4_iff (grid0.coords t)).mpr (by rw [coord1]; exact h)]; rfl
  idle t h := by
    show (!(k0_cond4 (grid0.coords t) == 1#1)) = true
    have hc : ¬ k0_cond4 (grid0.coords t) = 1#1 := fun e => h (by rw [← coord1]; exact (cond4_iff (grid0.coords t)).mp e)
    simp [hc]
  kept t d := rfl
  same t t' h := by rw [after_11, after_11, pt_congr h]

/-- The body as the pipeline calls it at point `t`. -/
abbrev bodyAt (t : Fin cfg0.N) : Prog (TpuEff nD τ sig (Elt F) Λ₀ .tc) PUnit :=
  cc0_inproj (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (win0_5.stage (cfg0.slots t 5)) (hstage0_5 ((cfg0.slots t 5).cast nbuf0_5))
    (win0_6.stage (cfg0.slots t 6)) (hstage0_6 ((cfg0.slots t 6).cast nbuf0_6))
    (win0_7.stage (cfg0.slots t 7)) (hstage0_7 ((cfg0.slots t 7).cast nbuf0_7))
    (win0_8.stage (cfg0.slots t 8)) (hstage0_8 ((cfg0.slots t 8).cast nbuf0_8))
    (win0_9.stage (cfg0.slots t 9)) (hstage0_9 ((cfg0.slots t 9).cast nbuf0_9))
    (win0_10.stage (cfg0.slots t 10)) (hstage0_10 ((cfg0.slots t 10).cast nbuf0_10))
    (win0_11.stage (cfg0.slots t 11)) (hstage0_11 ((cfg0.slots t 11).cast nbuf0_11))
    scratch (Memref.isWhole_whole _)

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d)))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

theorem inv_before (c : Dev nD) (t : Fin cfg0.N) : (dats m 0 c).Φ t.castSucc = inv m c t.val := by
  dsimp only [dats]; rw [Fin.val_castSucc]
theorem inv_after (c : Dev nD) (t : Fin cfg0.N) : (dats m 0 c).Φ t.succ = inv m c (t.val + 1) := by
  dsimp only [dats]; rw [Fin.val_succ]

theorem stored_6 (c : Dev nD) (t : Fin cfg0.N) (d : Vec F S32x1024 .bf16) :
    onlyAt 0 (grid0.coords t) (k0_pay3 (normedAt m c t) (iblk m c 2 t) (iblk m c 3 t) (iblk m c 4 t) (iblk m c 5 t)) d = onlyAt 0 (grid0.coords t) ((dats m 0 c).after 6 t) d := by
  rw [after_6]
  unfold onlyAt
  rw [coord1]
  by_cases h : t.val % 4 = 0
  · rw [if_pos h, if_pos h, pt_self t 0 h]; rfl
  · rw [if_neg h, if_neg h]
theorem stored_7 (c : Dev nD) (t : Fin cfg0.N) (d : Vec F S32x1024 .f32) :
    onlyAt 1 (grid0.coords t) (k0_pay4 (normedAt m c t) (iblk m c 2 t) (iblk m c 3 t) (iblk m c 4 t) (iblk m c 5 t)) d = onlyAt 1 (grid0.coords t) ((dats m 0 c).after 7 t) d := by
  rw [after_7]
  unfold onlyAt
  rw [coord1]
  by_cases h : t.val % 4 = 1
  · rw [if_pos h, if_pos h, pt_self t 1 h]; rfl
  · rw [if_neg h, if_neg h]
theorem stored_8 (c : Dev nD) (t : Fin cfg0.N) (d : Vec F S32x1024 .f32) :
    onlyAt 2 (grid0.coords t) (k0_pay2 (normedAt m c t) (iblk m c 2 t)) d = onlyAt 2 (grid0.coords t) ((dats m 0 c).after 8 t) d := by
  rw [after_8]
  unfold onlyAt
  rw [coord1]
  by_cases h : t.val % 4 = 2
  · rw [if_pos h, if_pos h, pt_self t 2 h]; rfl
  · rw [if_neg h, if_neg h]
theorem stored_9 (c : Dev nD) (t : Fin cfg0.N) (d : Vec F S32x1024 .f32) :
    onlyAt 3 (grid0.coords t) (k0_pay2 (normedAt m c t) (iblk m c 2 t)) d = onlyAt 3 (grid0.coords t) ((dats m 0 c).after 9 t) d := by
  rw [after_9]
  unfold onlyAt
  rw [coord1]
  by_cases h : t.val % 4 = 3
  · rw [if_pos h, if_pos h, pt_self t 3 h]; rfl
  · rw [if_neg h, if_neg h]
theorem stored_10 (c : Dev nD) (t : Fin cfg0.N) (d : Vec F S32x1024 .bf16) :
    onlyAt 1 (grid0.coords t) (k0_pay5 (normedAt m c t) (iblk m c 2 t) (iblk m c 3 t) (iblk m c 4 t) (iblk m c 5 t)) d = onlyAt 1 (grid0.coords t) ((dats m 0 c).after 10 t) d := by
  rw [after_10]
  unfold onlyAt
  rw [coord1]
  by_cases h : t.val % 4 = 1
  · rw [if_pos h, if_pos h, pt_self t 1 h]; rfl
  · rw [if_neg h, if_neg h]
theorem stored_11 (c : Dev nD) (t : Fin cfg0.N) (d : Vec F S32x1024 .bf16) :
    onlyAt 2 (grid0.coords t) (k0_pay6 (normedAt m c t) (iblk m c 2 t)) d = onlyAt 2 (grid0.coords t) ((dats m 0 c).after 11 t) d := by
  rw [after_11]
  unfold onlyAt
  rw [coord1]
  by_cases h : t.val % 4 = 2
  · rw [if_pos h, if_pos h, pt_self t 2 h]; rfl
  · rw [if_neg h, if_neg h]

set_option maxHeartbeats 2000000 in
/-- The body at any point. -/
theorem sound_body (c : Dev nD) (t : Fin cfg0.N) :
    bodyPre m c t ⊢ wp frame (wpE (defs₀ (F := F)) Variants.none c none) Set.univ (bodyAt t) (fun _ => bodyPost m c t) := by
  unfold bodyPre bodyPost bodyAt
  simp only [before_0, before_1, before_2, before_3, before_4, before_5]
  rw [show (dats m 0 c).owesAt () t.succ = (dats m 0 c).owesAt () t.castSucc from rfl,
    after_0, after_1, after_2, after_3, after_4, after_5, inv_before, inv_after]
  unfold inv
  iintro ⟨⟨⟨%s, %hs, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run_body c (grid0.coords t) _ _ _ _ _ _ _ _ _ _ _ _ _ _ _ _ _ _ _ _ _ _ _ _ scratch (Memref.isWhole_whole _) (iblk m c 0 t) (iblk m c 1 t) (iblk m c 2 t) (iblk m c 3 t) (iblk m c 4 t) (iblk m c 5 t)
    ((dats m 0 c).before 6 t d6) ((dats m 0 c).before 7 t d7) ((dats m 0 c).before 8 t d8) ((dats m 0 c).before 9 t d9) ((dats m 0 c).before 10 t d10) ((dats m 0 c).before 11 t d11) s Set.univ _)
  rw [scratchNext_eq m c t s hs]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS]; · iexact HS
  iintro ⟨H0, H1, H2, H3, H4, H5, H6, H7, H8, H9, H10, H11, HS⟩
  isplitl [HS Hg]
  · isplitl [HS]
    · iexists _; isplitr
      swap; · iexact HS
      ipureintro; exact ready_next m c t
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · rw [stored_6]
    iapply ((own_6 m c).leaves (by decide) t d6)
    iexact H6
  isplitl [H7]
  · rw [stored_7]
    iapply ((own_7 m c).leaves (by decide) t d7)
    iexact H7
  isplitl [H8]
  · rw [stored_8]
    iapply ((own_8 m c).leaves (by decide) t d8)
    iexact H8
  isplitl [H9]
  · rw [stored_9]
    iapply ((own_9 m c).leaves (by decide) t d9)
    iexact H9
  isplitl [H10]
  · rw [stored_10]
    iapply ((own_10 m c).leaves (by decide) t d10)
    iexact H10
  rw [stored_11]
  iapply ((own_11 m c).leaves (by decide) t d11)
  iexact H11

theorem row_eq (t : Fin cfg0.N) : defs₀ (F := F) .tc cfg0.body (cfg0.bodyArgs t (cfg0.slots t)) = bodyAt t := by
  unfold defs₀; rw [Defs.onTc_tc]

/-- The library's obligation for the body. -/
theorem body_obligation (c : Dev nD) : BodyObligation (dats (F := F) m 0 c) (defs₀ (F := F)) Variants.none () Set.univ := fun t => by
  rw [bigSep_W0, bigSep_W0, row_eq]
  exact triple_restated (sound_body m c t) rfl .rfl fun _ => .rfl

/-- The call begins with the scratch buffer at anything, and gives it back at anything. -/
theorem inv_first (c : Dev nD) : Pipeline.ΦA spec0 c ⊢ (dats m 0 c).Φ 0 := by
  rw [show (dats m 0 c).Φ 0 = inv m c 0 from rfl, held_eq]
  unfold inv
  iintro ⟨⟨%d, HS⟩, Hg⟩
  isplitl [HS]
  · iexists d; isplitr
    · ipureintro; exact fun h => absurd rfl h
    iexact HS
  iexact Hg

theorem inv_last (c : Dev nD) : (dats m 0 c).Φ (Fin.last cfg0.N) ⊢ Pipeline.ΦA spec0 c := by
  rw [show (dats m 0 c).Φ (Fin.last cfg0.N) = inv m c (Fin.last cfg0.N).val from rfl, held_eq]
  unfold inv
  iintro ⟨⟨%s, %hs, HS⟩, Hg⟩
  isplitl [HS]
  · iexists _; iexact HS
  iexact Hg

set_option backward.isDefEq.respectTransparency.types false in
/-- The program runs, and ends with the call's arrays as the blocks say and every semaphore at zero. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := host_then_call m Variants.none) (hA := A_eq m)
    (hin := inv_first m) (hout := inv_last m)

/-- The program runs, leaves its arguments unchanged, and its results are what the blocks say. -/
theorem run_result : θ_run defs (onTc (τ := τ) (main (F := F))) ⟨m, fun _ => 0, ρ⟩ (fun r => (∀ c : Dev nD,
      r.2.mem ((c.tc : Thread nD τ).loc main_v35_0) = (dats m 0 c).arrAt 6 cfg0.N
      ∧ r.2.mem ((c.tc : Thread nD τ).loc main_v35_1) = (dats m 0 c).arrAt 7 cfg0.N
      ∧ r.2.mem ((c.tc : Thread nD τ).loc main_v35_2) = (dats m 0 c).arrAt 8 cfg0.N
      ∧ r.2.mem ((c.tc : Thread nD τ).loc main_v35_3) = (dats m 0 c).arrAt 9 cfg0.N
      ∧ r.2.mem ((c.tc : Thread nD τ).loc main_v35_4) = (dats m 0 c).arrAt 10 cfg0.N
      ∧ r.2.mem ((c.tc : Thread nD τ).loc main_v35_5) = (dats m 0 c).arrAt 11 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ ⟨h, hz⟩ => ⟨fun c => ⟨(h c).1 6, (h c).1 7, (h c).1 8, (h c).1 9, (h c).1 10, (h c).1 11,
      ((h c).2 main_arg0 (by decide : main_arg0 ∈ Pipeline.restRefs sig spec0)).trans (V_arg m c main_arg0 (by simp)),
      ((h c).2 main_arg1 (by decide : main_arg1 ∈ Pipeline.restRefs sig spec0)).trans (V_arg m c main_arg1 (by simp)),
      ((h c).2 main_arg2 (by decide : main_arg2 ∈ Pipeline.restRefs sig spec0)).trans (V_arg m c main_arg2 (by simp))⟩, hz⟩)
    (run_main m ρ)

end Cert.InProjSampleIdeal.Hand

end
-- ==== Proof.InProjSample.Ref.lean ====
/- The in-projection's reference for the sample's rows, entry by entry. -/
module

public import proofs.«01_k».proof.Proof.Gen.InProjSampleRefIdeal.Run
public import proofs.«01_k».proof.Proof.InProj.Rope
public import Idealize.ShloMosaic.Lib.Pointwise
public import Idealize.ShloMosaic.Lib.Tactic.CleanTypes

@[expose] public section

noncomputable section

namespace Cert.InProjSampleRefIdeal.Hand

open Cert.InProjSampleRefIdeal Cert.InProjSampleRefIdeal.Gen Idealize.ShloMosaic Idealize.ShloMosaic.TcCoe Idealize.SL.Sem Cert.PleRows Cert.RopeRows

/-- The position's eight angles, and their cosines and sines. -/
def angles : FVec Ideal S1x8 .f32 :=
  mulf (broadcastInDim S1x8 ![0, 1] bcast_S1x1_S1x8_0_1 (broadcastInDim S1x1 ![0] bcast_S1_S1x1_0 (sitofp .f32 (addi (broadcastInDim S1 ![] bcast_S_S1 (constantI S_ 32 16384#32)) (iotaInDim S1 32 0))))) (broadcastInDim S1x8 ![1] bcast_S8_S1x8_1 (Host.powf (broadcastInDim S8 ![] bcast_S_S8 (constant S_ .f32 0x48F42400#32)) (Host.negf (Host.divf (addf (broadcastInDim S8 ![] bcast_S_S8 (constant S_ .f32 0x00000000#32)) (mulf (broadcastInDim S8 ![] bcast_S_S8 (constant S_ .f32 0x40000000#32)) (sitofp .f32 (iotaInDim S8 32 0)))) (broadcastInDim S8 ![] bcast_S_S8 (constant S_ .f32 0x41800000#32))))))
def cosT : FVec Ideal S1x8 .f32 := Host.cos angles
def sinT : FVec Ideal S1x8 .f32 := Host.sin angles

/-- The position's table under every row and head. -/
def spread (T : FVec Ideal S1x8 .f32) : FVec Ideal S32x1x16x8 .f32 :=
  broadcastInDim S32x1x16x8 ![0, 1, 2, 3] bcast_S1x1x1x8_S32x1x16x8_0_1_2_3 (broadcastInDim S1x1x1x8 ![1, 2, 3] bcast_S1x1x8_S1x1x1x8_1_2_3 (broadcastInDim S1x1x8 ![0, 2] bcast_S1x8_S1x1x8_0_2 T))

/-- The rows normed. -/
def rowsNormed (X : FVec Ideal S32x1x2048 .f32) (g : FVec Ideal S1x2048 .f32) : FVec Ideal S32x1x2048 .f32 :=
  mulf (mulf X (broadcastInDim S32x1x2048 ![0, 1, 2] bcast_S32x1x1_S32x1x2048_0_1_2 (Host.rsqrt (addf (Host.divf (broadcastInDim S32x1x1 ![0, 1] bcast_S32x1_S32x1x1_0_1 (Host.reduceAdd (mulf X X) (constant S_ .f32 0x00000000#32) reducesTo_S32x1x2048_S32x1_d2 h_S_)) (broadcastInDim S32x1x1 ![] bcast_S_S32x1x1 (constant S_ .f32 0x45000000#32))) (broadcastInDim S32x1x1 ![] bcast_S_S32x1x1 (constant S_ .f32 0x358637BD#32)))))) (broadcastInDim S32x1x2048 ![0, 1, 2] bcast_S1x1x2048_S32x1x2048_0_1_2 (broadcastInDim S1x1x2048 ![2] bcast_S2048_S1x1x2048_2 (shapeCast _ g shapeCasts_S1x2048_S2048)))

/-- Their product with the matrix. -/
def proj (X : FVec Ideal S32x1x2048 .f32) (g : FVec Ideal S1x2048 .f32) (W : FVec Ideal S1x2048x4096 .f32) : FVec Ideal S32x1x4096 .f32 :=
  Host.dotGeneral dot_S32x1x2048_S2048x4096_S32x1x4096_2_0_01_1_n_n none (rowsNormed X g) (shapeCast _ W shapeCasts_S1x2048x4096_S2048x4096)

/-- The first and the second quarter of its columns by heads. -/
def heads0 (Y : FVec Ideal S32x1x4096 .f32) : FVec Ideal S32x1x16x64 .f32 :=
  shapeCast _ (extractStridedSlice S32x1x1024 ![0, 0, 0] Y slices_S32x1x4096_S32x1x1024_0_0_0) shapeCasts_S32x1x1024_S32x1x16x64
def heads1 (Y : FVec Ideal S32x1x4096 .f32) : FVec Ideal S32x1x16x64 .f32 :=
  shapeCast _ (extractStridedSlice S32x1x1024 ![0, 0, 1024] Y slices_S32x1x4096_S32x1x1024_0_0_1024) shapeCasts_S32x1x1024_S32x1x16x64

/-- A head's first 16 columns, and the first and second 8 of them. -/
def front (Z : FVec Ideal S32x1x16x64 .f32) : FVec Ideal S32x1x16x16 .f32 := extractStridedSlice S32x1x16x16 ![0, 0, 0, 0] Z slices_S32x1x16x64_S32x1x16x16_0_0_0_0
def half0 (Z : FVec Ideal S32x1x16x64 .f32) : FVec Ideal S32x1x16x8 .f32 := extractStridedSlice S32x1x16x8 ![0, 0, 0, 0] (front Z) slices_S32x1x16x16_S32x1x16x8_0_0_0_0
def half1 (Z : FVec Ideal S32x1x16x64 .f32) : FVec Ideal S32x1x16x8 .f32 := extractStridedSlice S32x1x16x8 ![0, 0, 0, 8] (front Z) slices_S32x1x16x16_S32x1x16x8_0_0_0_8

/-- The rotary embedding of heads. -/
def turned (Z : FVec Ideal S32x1x16x64 .f32) (C S : FVec Ideal S32x1x16x8 .f32) : FVec Ideal S32x1x16x16 .f32 :=
  concatenate S32x1x16x16 3 [⟨S32x1x16x8, (subf (mulf (half0 Z) C) (mulf (half1 Z) S))⟩, ⟨S32x1x16x8, (addf (mulf (half1 Z) C) (mulf (half0 Z) S))⟩] concatenates_S32x1x16x8_S32x1x16x8_S32x1x16x16_d3
def roped (Z : FVec Ideal S32x1x16x64 .f32) : FVec Ideal S32x1x16x64 .f32 :=
  concatenate S32x1x16x64 3 [⟨S32x1x16x16, turned Z (spread cosT) (spread sinT)⟩, ⟨S32x1x16x48, (extractStridedSlice S32x1x16x48 ![0, 0, 0, 16] Z slices_S32x1x16x64_S32x1x16x48_0_0_0_16)⟩] concatenates_S32x1x16x16_S32x1x16x48_S32x1x16x64_d3

/-- The reference's results: queries, keys, values, the last quarter, and the rounded keys and values. -/
def resQ (Y : FVec Ideal S32x1x4096 .f32) : FVec Ideal S32x1024 .bf16 :=
  truncf .bf16 (shapeCast S32x1024 (mulf (roped (heads0 Y)) (broadcastInDim S32x1x16x64 ![] bcast_S_S32x1x16x64 (constant S_ .f32 0x3E000000#32))) shapeCasts_S32x1x16x64_S32x1024) bitsLt_bf16_f32
def resK (Y : FVec Ideal S32x1x4096 .f32) : FVec Ideal S32x1024 .f32 := shapeCast _ (roped (heads1 Y)) shapeCasts_S32x1x16x64_S32x1024
def resV (Y : FVec Ideal S32x1x4096 .f32) : FVec Ideal S32x1024 .f32 :=
  shapeCast _ (extractStridedSlice S32x1x1024 ![0, 0, 2048] Y slices_S32x1x4096_S32x1x1024_0_0_2048) shapeCasts_S32x1x1024_S32x1024
def resU (Y : FVec Ideal S32x1x4096 .f32) : FVec Ideal S32x1024 .f32 :=
  shapeCast _ (extractStridedSlice S32x1x1024 ![0, 0, 3072] Y slices_S32x1x4096_S32x1x1024_0_0_3072) shapeCasts_S32x1x1024_S32x1024
def resKb (Y : FVec Ideal S32x1x4096 .f32) : FVec Ideal S32x1024 .bf16 := truncf .bf16 (resK Y) bitsLt_bf16_f32
def resVb (Y : FVec Ideal S32x1x4096 .f32) : FVec Ideal S32x1024 .bf16 := truncf .bf16 (resV Y) bitsLt_bf16_f32

theorem spread_apply (T : FVec Ideal S1x8 .f32) (b : Fin 32) (h : Fin 16) (d : Fin 8) : spread T (ix4 b 0 h d) = T (ix2 0 d) := by
  unfold spread
  pointwise

theorem rowsNormed_apply (X : FVec Ideal S32x1x2048 .f32) (g : FVec Ideal S1x2048 .f32) (b : Fin 32) (k : Fin 2048) :
    rowsNormed X g (ix3 b 0 k) = normed (fun k => X (ix3 b 0 k)) (fun k => g (ix2 0 k)) k := by
  unfold rowsNormed normed invRms
  pointwise

theorem proj_apply (X : FVec Ideal S32x1x2048 .f32) (g : FVec Ideal S1x2048 .f32) (W : FVec Ideal S1x2048x4096 .f32)
    (b : Fin 32) (q : Fin 4096) :
    proj X g W (ix3 b 0 q) = product (fun k => X (ix3 b 0 k)) (fun k => g (ix2 0 k)) (fun k q => W (ix3 0 k q)) q := by
  have e : proj X g W (ix3 b 0 q) = ∑ k : Fin 2048, rowsNormed X g (ix3 b 0 k) * W (ix3 0 k q) := by
    unfold proj
    pointwise
  rw [e]
  unfold product
  exact Finset.sum_congr rfl fun k _ => congrArg (· * _) (rowsNormed_apply X g b k)

theorem heads0_apply (Y : FVec Ideal S32x1x4096 .f32) (b : Fin 32) (h : Fin 16) (d : Fin 64) :
    heads0 Y (ix4 b 0 h d) = Y (ix3 b 0 ⟨h.val * 64 + d.val, by omega⟩) := by
  unfold heads0
  pointwise

theorem heads1_apply (Y : FVec Ideal S32x1x4096 .f32) (b : Fin 32) (h : Fin 16) (d : Fin 64) :
    heads1 Y (ix4 b 0 h d) = Y (ix3 b 0 ⟨1024 + (h.val * 64 + d.val), by omega⟩) := by
  unfold heads1
  pointwise

theorem half0_apply (Z : FVec Ideal S32x1x16x64 .f32) (b : Fin 32) (h : Fin 16) (d : Fin 8) :
    half0 Z (ix4 b 0 h d) = Z (ix4 b 0 h ⟨d.val, by omega⟩) := by
  unfold half0 front
  pointwise

theorem half1_apply (Z : FVec Ideal S32x1x16x64 .f32) (b : Fin 32) (h : Fin 16) (d : Fin 8) :
    half1 Z (ix4 b 0 h d) = Z (ix4 b 0 h ⟨8 + d.val, by omega⟩) := by
  unfold half1 front
  pointwise

theorem turned_apply (Z : FVec Ideal S32x1x16x64 .f32) (C S : FVec Ideal S32x1x16x8 .f32) (b : Fin 32) (h d : Fin 16) :
    turned Z C S (ix4 b 0 h d)
      = if hd : d.val < 8 then half0 Z (ix4 b 0 h ⟨d.val, hd⟩) * C (ix4 b 0 h ⟨d.val, hd⟩) - half1 Z (ix4 b 0 h ⟨d.val, hd⟩) * S (ix4 b 0 h ⟨d.val, hd⟩)
        else half1 Z (ix4 b 0 h ⟨d.val - 8, by omega⟩) * C (ix4 b 0 h ⟨d.val - 8, by omega⟩)
          + half0 Z (ix4 b 0 h ⟨d.val - 8, by omega⟩) * S (ix4 b 0 h ⟨d.val - 8, by omega⟩) := by
  unfold turned
  pointwise

theorem roped_apply (Z : FVec Ideal S32x1x16x64 .f32) (b : Fin 32) (h : Fin 16) (d : Fin 64) :
    roped Z (ix4 b 0 h d)
      = if hd : d.val < 16 then turned Z (spread cosT) (spread sinT) (ix4 b 0 h ⟨d.val, hd⟩) else Z (ix4 b 0 h d) := by
  unfold roped
  pointwise
  by_cases hd : d.val < 16
  · rw [dif_pos hd, dif_pos hd]
  · rw [dif_neg hd, dif_neg hd]
    exact congrArg (fun d => Z (ix4 b 0 h d)) (Fin.ext (by show 16 + (d.val - 16) = d.val; omega))

/-- The rotary embedding at a row's column. -/
theorem roped_at (Z : FVec Ideal S32x1x16x64 .f32) (y : Fin 1024 → EReal) (b : Fin 32)
    (hZ : ∀ h d, Z (ix4 b 0 h d) = y ⟨h.val * 64 + d.val, by omega⟩) (q : Fin 1024) :
    roped Z (ix4 b 0 ⟨q.val / 64, by omega⟩ ⟨q.val % 64, by omega⟩) = rope y (fun n => cosT (ix2 0 n)) (fun n => sinT (ix2 0 n)) q := by
  have hq : ∀ n : ℕ, ∀ hn : n < 1024, n = q.val → y ⟨n, hn⟩ = y q := fun n hn e => congrArg y (Fin.ext e)
  rw [roped_apply]
  unfold rope
  by_cases h : q.val % 64 < 8
  · rw [dif_pos (show q.val % 64 < 16 by omega), dif_pos h, turned_apply, dif_pos h]
    simp only [half0_apply, half1_apply, spread_apply, hZ]
    rw [hq _ _ (by show q.val / 64 * 64 + q.val % 64 = _; omega)]
    exact congrArg (fun i => _ - y i * _) (Fin.ext (by show q.val / 64 * 64 + (8 + q.val % 64) = (q.val + 8) % 1024; omega))
  · by_cases h' : q.val % 64 < 16
    · rw [dif_pos h', dif_neg h, dif_pos h', turned_apply, dif_neg h]
      simp only [half0_apply, half1_apply, spread_apply, hZ]
      rw [hq _ _ (by show q.val / 64 * 64 + (8 + (q.val % 64 - 8)) = _; omega)]
      exact congrArg (fun i => _ + y i * _) (Fin.ext (by show q.val / 64 * 64 + (q.val % 64 - 8) = (q.val + 1016) % 1024; omega))
    · rw [dif_neg h', dif_neg h, dif_neg h', hZ]
      exact hq _ _ (by show q.val / 64 * 64 + q.val % 64 = _; omega)

section results

variable (X : FVec Ideal S32x1x2048 .f32) (g : FVec Ideal S1x2048 .f32) (W : FVec Ideal S1x2048x4096 .f32)

/-- Row `r` of the product. -/
def row (r : Fin 32) (q : Fin 4096) : EReal :=
  product (fun k => X (ix3 r 0 k)) (fun k => g (ix2 0 k)) (fun k q => W (ix3 0 k q)) q

/-- The cosines and sines of row `r`'s position, which is every row's. -/
def cosR (r : Fin 32) (n : Fin 8) : EReal := cosT (ix2 0 n)
def sinR (r : Fin 32) (n : Fin 8) : EReal := sinT (ix2 0 n)

theorem flat_apply (Z : FVec Ideal S32x1x16x64 .f32) (r : Fin 32) (q : Fin 1024) :
    (shapeCast S32x1024 Z shapeCasts_S32x1x16x64_S32x1024 : FVec Ideal S32x1024 .f32) (ix2 r q)
      = Z (ix4 r 0 ⟨q.val / 64, by omega⟩ ⟨q.val % 64, by omega⟩) := by
  pointwise

theorem resQ_apply (r : Fin 32) (q : Fin 1024) :
    resQ (proj X g W) (ix2 r q)
      = rope (fun q => row X g W r ⟨0 + q.val, by omega⟩) (cosR r) (sinR r) q * Ideal.ofBits .f32 0x3E000000#32 := by
  have e : resQ (proj X g W) (ix2 r q) = roped (heads0 (proj X g W)) (ix4 r 0 ⟨q.val / 64, by omega⟩ ⟨q.val % 64, by omega⟩) * Ideal.ofBits .f32 0x3E000000#32 := by
    unfold resQ
    pointwise
  rw [e, roped_at (heads0 (proj X g W)) (fun q => row X g W r ⟨0 + q.val, by omega⟩) _ fun h d => ?_]
  · rfl
  · rw [heads0_apply, proj_apply]
    unfold row
    exact congrArg _ (Fin.ext (Nat.zero_add _).symm)

theorem resK_apply (r : Fin 32) (q : Fin 1024) :
    resK (proj X g W) (ix2 r q) = rope (fun q => row X g W r ⟨1024 + q.val, by omega⟩) (cosR r) (sinR r) q := by
  unfold resK
  rw [flat_apply, roped_at (heads1 (proj X g W)) (fun q => row X g W r ⟨1024 + q.val, by omega⟩) _ fun h d => ?_]
  · rfl
  · rw [heads1_apply, proj_apply]
    rfl

theorem resV_apply (r : Fin 32) (q : Fin 1024) : resV (proj X g W) (ix2 r q) = row X g W r ⟨2048 + q.val, by omega⟩ := by
  have e : resV (proj X g W) (ix2 r q) = proj X g W (ix3 r 0 ⟨2048 + q.val, by omega⟩) := by
    unfold resV
    pointwise
  rw [e, proj_apply]
  rfl

theorem resU_apply (r : Fin 32) (q : Fin 1024) : resU (proj X g W) (ix2 r q) = row X g W r ⟨3072 + q.val, by omega⟩ := by
  have e : resU (proj X g W) (ix2 r q) = proj X g W (ix3 r 0 ⟨3072 + q.val, by omega⟩) := by
    unfold resU
    pointwise
  rw [e, proj_apply]
  rfl

theorem resKb_apply (r : Fin 32) (q : Fin 1024) :
    resKb (proj X g W) (ix2 r q) = rope (fun q => row X g W r ⟨1024 + q.val, by omega⟩) (cosR r) (sinR r) q := resK_apply X g W r q

theorem resVb_apply (r : Fin 32) (q : Fin 1024) : resVb (proj X g W) (ix2 r q) = row X g W r ⟨2048 + q.val, by omega⟩ := resV_apply X g W r q

end results

section stated

variable (m : (ℓ : Loc nD τ sig) → Buf (Elt Ideal) ℓ) (c : Dev nD)

/-- The reference's product, of its arguments. -/
abbrev projOf : FVec Ideal S32x1x4096 .f32 := proj (m (c, main_arg0)) (m (c, main_arg1)) (m (c, main_arg2))

theorem is_q : Cert.InProjSampleRefIdeal.Value.res_main_v106 m c = resQ (projOf m c) := by unfold Cert.InProjSampleRefIdeal.Value.res_main_v106; rfl
theorem is_k : Cert.InProjSampleRefIdeal.Value.res_main_v107 m c = resK (projOf m c) := by unfold Cert.InProjSampleRefIdeal.Value.res_main_v107; rfl
theorem is_kb : Cert.InProjSampleRefIdeal.Value.res_main_v111 m c = resKb (projOf m c) := by unfold Cert.InProjSampleRefIdeal.Value.res_main_v111; rfl

end stated

end Cert.InProjSampleRefIdeal.Hand

end
-- ==== Proof.InProjSampleIdeal.Out.lean ====
/- What one grid point of the sample's in-projection stores, and the tables it multiplies by, entry by entry. -/
module

public import proofs.«01_k».proof.Proof.InProjSampleIdeal.Frame
public import proofs.«01_k».proof.Proof.InProjSample.Ref
public import Idealize.ShloMosaic.Lib.Pipeline.ValueKit
public import Idealize.ShloMosaic.Lib.Pointwise
public import Idealize.ShloMosaic.Lib.StableHlo.ReadAt

@[expose] public section

set_option maxRecDepth 16384

noncomputable section

namespace Cert.InProjSampleIdeal.Hand

open Cert.InProjSampleIdeal Cert.InProjSampleIdeal.Gen Idealize.ShloMosaic Idealize.ShloMosaic.TcCoe Idealize.SL.Sem Cert.PleRows Cert.RopeRows

theorem pay1_at (x : Vec Ideal S32x2048 .f32) (g : Vec Ideal S1x2048 .f32) (r : Fin 32) (k : Fin 2048) :
    k0_pay1 (F := Ideal) x g (ix2 r k) = normed (fun k => x (ix2 r k)) (fun k => g (ix2 0 k)) k := by
  unfold k0_pay1 normed invRms
  pointwise

theorem pay2_at (n : Vec Ideal S32x2048 .bf16) (w : Vec Ideal S2048x1024 .bf16) (r : Fin 32) (q : Fin 1024) :
    k0_pay2 (F := Ideal) n w (ix2 r q) = ∑ k : Fin 2048, n (ix2 r k) * w (ix2 k q) := by
  unfold k0_pay2
  pointwise

/-- A table of 128 columns, eight times over. -/
def eight (T : Vec Ideal S32x128 .f32) : FVec Ideal S32x1024 .f32 :=
  concatenate S32x1024 1 [⟨S32x128, shapeCast S32x128 T shapeCasts_S32x128_S32x128⟩, ⟨S32x128, shapeCast S32x128 T shapeCasts_S32x128_S32x128⟩, ⟨S32x128, shapeCast S32x128 T shapeCasts_S32x128_S32x128⟩, ⟨S32x128, shapeCast S32x128 T shapeCasts_S32x128_S32x128⟩, ⟨S32x128, shapeCast S32x128 T shapeCasts_S32x128_S32x128⟩, ⟨S32x128, shapeCast S32x128 T shapeCasts_S32x128_S32x128⟩, ⟨S32x128, shapeCast S32x128 T shapeCasts_S32x128_S32x128⟩, ⟨S32x128, shapeCast S32x128 T shapeCasts_S32x128_S32x128⟩] concatenates_S32x128_S32x128_S32x128_S32x128_S32x128_S32x128_S32x128_S32x128_S32x1024_d1

theorem eight_at (T : Vec Ideal S32x128 .f32) (r : Fin 32) (q : Fin 1024) : eight T (ix2 r q) = T (ix2 r ⟨q.val % 128, by omega⟩) := by
  unfold eight
  refine (concatenate_replicate_apply (t := S32x1024) (s₁ := S32x128) 1 8 (shapeCast S32x128 T shapeCasts_S32x128_S32x128) _ rfl (ix2 r q)
    (ix2 r ⟨q.val % 128, by omega⟩) rfl fun b hb => ?_).trans ?_
  · match b with
    | ⟨0, _⟩ => rfl
    | ⟨1, _⟩ => exact absurd rfl hb
  · pointwise

/-- Columns turned back by 8, and on by 8. -/
def back (Y : FVec Ideal S32x1024 .f32) : FVec Ideal S32x1024 .f32 := dynamicRotate 1 1016#32 none Y rotates_S32x1024_d1
def onward (Y : FVec Ideal S32x1024 .f32) : FVec Ideal S32x1024 .f32 := dynamicRotate 1 8#32 none Y rotates_S32x1024_d1

theorem back_at (Y : FVec Ideal S32x1024 .f32) (r : Fin 32) (q : Fin 1024) : back Y (ix2 r q) = Y (ix2 r ⟨(q.val + 8) % 1024, by omega⟩) := by
  unfold back
  pointwise
  try exact congrArg (fun q => Y (ix2 r q)) (Fin.ext (by show (q.val + 1024 - 1016) % 1024 = (q.val + 8) % 1024; omega))

theorem onward_at (Y : FVec Ideal S32x1024 .f32) (r : Fin 32) (q : Fin 1024) : onward Y (ix2 r q) = Y (ix2 r ⟨(q.val + 1016) % 1024, by omega⟩) := by
  unfold onward
  pointwise
  try exact congrArg (fun q => Y (ix2 r q)) (Fin.ext (by show (q.val + 1024 - 8) % 1024 = (q.val + 1016) % 1024; omega))

theorem pay4_at (n : Vec Ideal S32x2048 .bf16) (w : Vec Ideal S2048x1024 .bf16) (c a b : Vec Ideal S32x128 .f32) (r : Fin 32) (q : Fin 1024) :
    k0_pay4 (F := Ideal) n w c a b (ix2 r q)
      = k0_pay2 (F := Ideal) n w (ix2 r q) * c (ix2 r ⟨q.val % 128, by omega⟩)
        + k0_pay2 (F := Ideal) n w (ix2 r ⟨(q.val + 8) % 1024, by omega⟩) * a (ix2 r ⟨q.val % 128, by omega⟩)
        + k0_pay2 (F := Ideal) n w (ix2 r ⟨(q.val + 1016) % 1024, by omega⟩) * b (ix2 r ⟨q.val % 128, by omega⟩) := by
  show k0_pay2 n w (ix2 r q) * eight c (ix2 r q) + back (k0_pay2 n w) (ix2 r q) * eight a (ix2 r q)
    + onward (k0_pay2 n w) (ix2 r q) * eight b (ix2 r q) = _
  rw [eight_at, eight_at, eight_at, back_at, onward_at]

theorem pay3_at (n : Vec Ideal S32x2048 .bf16) (w : Vec Ideal S2048x1024 .bf16) (c a b : Vec Ideal S32x128 .f32) (r : Fin 32) (q : Fin 1024) :
    k0_pay3 (F := Ideal) n w c a b (ix2 r q) = k0_pay4 (F := Ideal) n w c a b (ix2 r q) * Ideal.ofBits .f32 0x3E000000#32 := rfl

theorem pay5_at (n : Vec Ideal S32x2048 .bf16) (w : Vec Ideal S2048x1024 .bf16) (c a b : Vec Ideal S32x128 .f32) (r : Fin 32) (q : Fin 1024) :
    k0_pay5 (F := Ideal) n w c a b (ix2 r q) = k0_pay4 (F := Ideal) n w c a b (ix2 r q) := rfl

theorem pay6_at (n : Vec Ideal S32x2048 .bf16) (w : Vec Ideal S2048x1024 .bf16) (r : Fin 32) (q : Fin 1024) :
    k0_pay6 (F := Ideal) n w (ix2 r q) = k0_pay2 (F := Ideal) n w (ix2 r q) := rfl

/-- The tables by row, of a table of cosines and one of sines. -/
def twice (T : FVec Ideal S32x64 .f32) : FVec Ideal S32x128 .f32 :=
  concatenate S32x128 1 [⟨S32x64, T⟩, ⟨S32x64, T⟩] concatenates_S32x64_S32x64_S32x128_d1
def headC (C : FVec Ideal S32x8 .f32) : FVec Ideal S32x64 .f32 :=
  concatenate S32x64 1 [⟨S32x8, C⟩, ⟨S32x8, C⟩, ⟨S32x48, (broadcastInDim S32x48 ![] bcast_S_S32x48 (constant S_ .f32 0x3F800000#32) : FVec Ideal S32x48 .f32)⟩] concatenates_S32x8_S32x8_S32x48_S32x64_d1
def headA (S : FVec Ideal S32x8 .f32) : FVec Ideal S32x64 .f32 :=
  concatenate S32x64 1 [⟨S32x8, Host.negf S⟩, ⟨S32x56, (broadcastInDim S32x56 ![] bcast_S_S32x56 (constant S_ .f32 0x00000000#32) : FVec Ideal S32x56 .f32)⟩] concatenates_S32x8_S32x56_S32x64_d1
def headB (S : FVec Ideal S32x8 .f32) : FVec Ideal S32x64 .f32 :=
  concatenate S32x64 1 [⟨S32x8, (broadcastInDim S32x8 ![] bcast_S_S32x8 (constant S_ .f32 0x00000000#32) : FVec Ideal S32x8 .f32)⟩, ⟨S32x8, S⟩, ⟨S32x48, (broadcastInDim S32x48 ![] bcast_S_S32x48 (constant S_ .f32 0x00000000#32) : FVec Ideal S32x48 .f32)⟩] concatenates_S32x8_S32x8_S32x48_S32x64_d1

theorem twice_at (T : FVec Ideal S32x64 .f32) (s : Fin 32) (d : Fin 128) : twice T (ix2 s d) = T (ix2 s ⟨d.val % 64, by omega⟩) := by
  unfold twice
  refine (concatenate_replicate_apply (t := S32x128) (s₁ := S32x64) 1 2 T _ rfl (ix2 s d)
    (ix2 s ⟨d.val % 64, by omega⟩) rfl fun b hb => ?_)
  match b with
  | ⟨0, _⟩ => rfl
  | ⟨1, _⟩ => exact absurd rfl hb

theorem headC_at (C : FVec Ideal S32x8 .f32) (s : Fin 32) (d : Fin 64) :
    headC C (ix2 s d) = tabC (fun n => C (ix2 s n)) d.val := by
  unfold headC tabC
  pointwise
  have e : d.val % 64 = d.val := Nat.mod_eq_of_lt d.isLt
  by_cases h : d.val < 8
  · rw [dif_pos h, dif_pos (show d.val % 64 < 8 by omega)]
    exact congrArg (fun n => C (ix2 s n)) (Fin.ext e.symm)
  · rw [dif_neg h, dif_neg (show ¬ d.val % 64 < 8 by omega)]
    by_cases h' : d.val - 8 < 8
    · rw [dif_pos h', dif_pos (show d.val % 64 < 16 by omega)]
      exact congrArg (fun n => C (ix2 s n)) (Fin.ext (congrArg (· - 8) e.symm))
    · rw [dif_neg h', dif_neg (show ¬ d.val % 64 < 16 by omega)]

theorem headA_at (S : FVec Ideal S32x8 .f32) (s : Fin 32) (d : Fin 64) :
    headA S (ix2 s d) = tabA (fun n => S (ix2 s n)) d.val := by
  unfold headA tabA
  pointwise
  have e : d.val % 64 = d.val := Nat.mod_eq_of_lt d.isLt
  by_cases h : d.val < 8
  · rw [dif_pos h, dif_pos (show d.val % 64 < 8 by omega)]
    exact congrArg (fun n => -S (ix2 s n)) (Fin.ext e.symm)
  · rw [dif_neg h, dif_neg (show ¬ d.val % 64 < 8 by omega)]

theorem headB_at (S : FVec Ideal S32x8 .f32) (s : Fin 32) (d : Fin 64) :
    headB S (ix2 s d) = tabB (fun n => S (ix2 s n)) d.val := by
  unfold headB tabB
  pointwise
  have e : d.val % 64 = d.val := Nat.mod_eq_of_lt d.isLt
  by_cases h : d.val < 8
  · rw [dif_pos h, dif_pos (show d.val % 64 < 8 by omega)]
  · rw [dif_neg h, dif_neg (show ¬ d.val % 64 < 8 by omega)]
    by_cases h' : d.val - 8 < 8
    · rw [dif_pos h', dif_pos (show d.val % 64 < 16 by omega)]
      exact congrArg (fun n => S (ix2 s n)) (Fin.ext (congrArg (· - 8) e.symm))
    · rw [dif_neg h', dif_neg (show ¬ d.val % 64 < 16 by omega)]

/-- The kernel's cosines and sines: every row has the same position. -/
def angles : FVec Ideal S32x8 .f32 :=
  mulf (broadcastInDim S32x8 ![0, 1] bcast_S32x1_S32x8_0_1 (broadcastInDim S32x1 ![0] bcast_S32_S32x1_0 (sitofp .f32 (broadcastInDim S32 ![] bcast_S_S32 (constantI S_ 32 16384#32))))) (broadcastInDim S32x8 ![0, 1] bcast_S1x8_S32x8_0_1 (broadcastInDim S1x8 ![1] bcast_S8_S1x8_1 (Host.powf (broadcastInDim S8 ![] bcast_S_S8 (constant S_ .f32 0x48F42400#32)) (Host.negf (Host.divf (addf (broadcastInDim S8 ![] bcast_S_S8 (constant S_ .f32 0x00000000#32)) (mulf (broadcastInDim S8 ![] bcast_S_S8 (constant S_ .f32 0x40000000#32)) (sitofp .f32 (iotaInDim S8 32 0)))) (broadcastInDim S8 ![] bcast_S_S8 (constant S_ .f32 0x41800000#32)))))))
def cosK : FVec Ideal S32x8 .f32 := Host.cos angles
def sinK : FVec Ideal S32x8 .f32 := Host.sin angles

theorem angles_at (r : Fin 32) (n : Fin 8) : angles (ix2 r n) = Cert.InProjSampleRefIdeal.Hand.angles (ix2 0 n) := by
  unfold angles Cert.InProjSampleRefIdeal.Hand.angles
  pointwise
  rw [show IntOp.addi 16384#32 0#32 = 16384#32 from by decide]

theorem cosK_at (r : Fin 32) (n : Fin 8) : cosK (ix2 r n) = Cert.InProjSampleRefIdeal.Hand.cosT (ix2 0 n) :=
  congrArg Ideal.cos (angles_at r n)

theorem sinK_at (r : Fin 32) (n : Fin 8) : sinK (ix2 r n) = Cert.InProjSampleRefIdeal.Hand.sinT (ix2 0 n) :=
  congrArg Ideal.sin (angles_at r n)

end Cert.InProjSampleIdeal.Hand

end
-- ==== Proof.InProjSampleIdeal.Value.lean ====
/- The sample's in-projection's result arrays are the reference's. -/
module

public import proofs.«01_k».proof.Proof.InProjSampleIdeal.Out
public import Idealize.ShloMosaic.Lib.Claim

@[expose] public section

set_option maxRecDepth 16384

noncomputable section

namespace Cert.InProjSampleIdeal.Hand

open Cert.InProjSampleIdeal Cert.InProjSampleIdeal.Gen Idealize.ShloMosaic Idealize.ShloMosaic.TcCoe Idealize.SL.Sem Cert.PleRows Cert.RopeRows
open Idealize.ShloMosaic.Pipeline (Dat)
open Cert.InProjSampleRefIdeal.Hand (cosT sinT cosR sinR row proj)

variable (m : (ℓ : Loc nD τ sig) → Buf (Elt Ideal) ℓ) (c : Dev nD)

theorem at_w0 : ∀ t : Fin cfg0.N, win0_0.index t = ![0, 0] := (by decide +kernel : ∀ t : Fin grid0.N, _)
theorem at_w1 : ∀ t : Fin cfg0.N, win0_1.index t = ![0, 0] := (by decide +kernel : ∀ t : Fin grid0.N, _)
theorem at_w2 : ∀ t : Fin cfg0.N, win0_2.index t = ![0, t.val % 4] := (by decide +kernel : ∀ t : Fin grid0.N, _)
theorem at_w3 : ∀ t : Fin cfg0.N, win0_3.index t = ![0, 0] := (by decide +kernel : ∀ t : Fin grid0.N, _)
theorem at_w4 : ∀ t : Fin cfg0.N, win0_4.index t = ![0, 0] := (by decide +kernel : ∀ t : Fin grid0.N, _)
theorem at_w5 : ∀ t : Fin cfg0.N, win0_5.index t = ![0, 0] := (by decide +kernel : ∀ t : Fin grid0.N, _)
theorem at_w6 : ∀ t : Fin cfg0.N, win0_6.index t = ![0, 0] := (by decide +kernel : ∀ t : Fin grid0.N, _)
theorem at_w7 : ∀ t : Fin cfg0.N, win0_7.index t = ![0, 0] := (by decide +kernel : ∀ t : Fin grid0.N, _)
theorem at_w8 : ∀ t : Fin cfg0.N, win0_8.index t = ![0, 0] := (by decide +kernel : ∀ t : Fin grid0.N, _)
theorem at_w9 : ∀ t : Fin cfg0.N, win0_9.index t = ![0, 0] := (by decide +kernel : ∀ t : Fin grid0.N, _)
theorem at_w10 : ∀ t : Fin cfg0.N, win0_10.index t = ![0, 0] := (by decide +kernel : ∀ t : Fin grid0.N, _)
theorem at_w11 : ∀ t : Fin cfg0.N, win0_11.index t = ![0, 0] := (by decide +kernel : ∀ t : Fin grid0.N, _)

theorem blk_x (t : Fin cfg0.N) (r : Fin 32) (k : Fin 2048) :
    (iblk m c 0 t : Vec Ideal S32x2048 .f32) (ix2 r k) = V m c main_v1 (ix2 r k) := by
  blk_simp [iblk]
  exact congrArg (V m c main_v1) (by blk_ext [at_w0])

theorem blk_g (t : Fin cfg0.N) (k : Fin 2048) : (iblk m c 1 t : Vec Ideal S1x2048 .f32) (ix2 0 k) = V m c main_v3 (ix2 0 k) := by
  blk_simp [iblk]
  exact congrArg (V m c main_v3) (by blk_ext [at_w1])

theorem blk_w (t : Fin cfg0.N) (k : Fin 2048) (q : Fin 1024) :
    (iblk m c 2 t : Vec Ideal S2048x1024 .bf16) (ix2 k q) = V m c main_v5 (ix2 k ⟨t.val % 4 * 1024 + q.val, by omega⟩) := by
  blk_simp [iblk]
  exact congrArg (V m c main_v5) (by blk_ext [at_w2])

theorem blk_c (t : Fin cfg0.N) (r : Fin 32) (d : Fin 128) :
    (iblk m c 3 t : Vec Ideal S32x128 .f32) (ix2 r d) = V m c main_v32 (ix2 r d) := by
  blk_simp [iblk]
  exact congrArg (V m c main_v32) (by blk_ext [at_w3])

theorem blk_a (t : Fin cfg0.N) (r : Fin 32) (d : Fin 128) :
    (iblk m c 4 t : Vec Ideal S32x128 .f32) (ix2 r d) = V m c main_v33 (ix2 r d) := by
  blk_simp [iblk]
  exact congrArg (V m c main_v33) (by blk_ext [at_w4])

theorem blk_b (t : Fin cfg0.N) (r : Fin 32) (d : Fin 128) :
    (iblk m c 5 t : Vec Ideal S32x128 .f32) (ix2 r d) = V m c main_v34 (ix2 r d) := by
  blk_simp [iblk]
  exact congrArg (V m c main_v34) (by blk_ext [at_w5])

/-- The tables of the call are the three of the cosines and sines. -/
theorem table_c : V m c main_v32 = twice (headC cosK) := by
  unfold V
  after_results_simp
  rfl

theorem table_a : V m c main_v33 = twice (headA sinK) := by
  unfold V
  after_results_simp
  rfl

theorem table_b : V m c main_v34 = twice (headB sinK) := by
  unfold V
  after_results_simp
  rfl

theorem tabC_mod (f : Fin 8 → EReal) (d : ℕ) : tabC f (d % 128 % 64) = tabC f d := by
  have e : d % 128 % 64 % 64 = d % 64 := by omega
  unfold tabC
  simp only [e]

theorem entry_c (t : Fin cfg0.N) (r : Fin 32) (q : Fin 1024) :
    (iblk m c 3 t : Vec Ideal S32x128 .f32) (ix2 r ⟨q.val % 128, by omega⟩) = tabC (fun n => cosT (ix2 0 n)) q.val := by
  rw [blk_c, table_c, twice_at, headC_at, funext fun n => cosK_at r n]
  exact tabC_mod _ q.val

theorem tabA_mod (f : Fin 8 → EReal) (d : ℕ) : tabA f (d % 128 % 64) = tabA f d := by
  have e : d % 128 % 64 % 64 = d % 64 := by omega
  unfold tabA
  simp only [e]

theorem entry_a (t : Fin cfg0.N) (r : Fin 32) (q : Fin 1024) :
    (iblk m c 4 t : Vec Ideal S32x128 .f32) (ix2 r ⟨q.val % 128, by omega⟩) = tabA (fun n => sinT (ix2 0 n)) q.val := by
  rw [blk_a, table_a, twice_at, headA_at, funext fun n => sinK_at r n]
  exact tabA_mod _ q.val

theorem tabB_mod (f : Fin 8 → EReal) (d : ℕ) : tabB f (d % 128 % 64) = tabB f d := by
  have e : d % 128 % 64 % 64 = d % 64 := by omega
  unfold tabB
  simp only [e]

theorem entry_b (t : Fin cfg0.N) (r : Fin 32) (q : Fin 1024) :
    (iblk m c 5 t : Vec Ideal S32x128 .f32) (ix2 r ⟨q.val % 128, by omega⟩) = tabB (fun n => sinT (ix2 0 n)) q.val := by
  rw [blk_b, table_b, twice_at, headB_at, funext fun n => sinK_at r n]
  exact tabB_mod _ q.val

section entries

variable (X : FVec Ideal S32x1x2048 .f32) (g : FVec Ideal S1x2048 .f32) (W : FVec Ideal S1x2048x4096 .f32)

theorem entry_x (hA : m (c, main_arg0) = X) (r : Fin 32) (k : Fin 2048) :
    (V m c main_v1 : Vec Ideal S32x2048 .f32) (ix2 r k) = X (ix3 r 0 k) := by
  subst hA
  unfold V
  after_reads_at

theorem entry_g (hA : m (c, main_arg1) = g) (k : Fin 2048) : (V m c main_v3 : Vec Ideal S1x2048 .f32) (ix2 0 k) = g (ix2 0 k) := by
  subst hA
  unfold V
  after_reads_at

theorem entry_w (hA : m (c, main_arg2) = W) (k : Fin 2048) (q : Fin 4096) :
    (V m c main_v5 : Vec Ideal S2048x4096 .bf16) (ix2 k q) = W (ix3 0 k q) := by
  subst hA
  unfold V
  after_reads_at

/-- The plain product of a point is its rows' and its quarter of the columns. -/
theorem product_at (h0 : m (c, main_arg0) = X) (h1 : m (c, main_arg1) = g) (h2 : m (c, main_arg2) = W) (t : Fin cfg0.N)
    (r : Fin 32) (q : Fin 1024) :
    k0_pay2 (F := Ideal) (normedAt m c t) (iblk m c 2 t) (ix2 r q) = row X g W r ⟨t.val % 4 * 1024 + q.val, by omega⟩ := by
  rw [pay2_at]
  unfold row product normedAt
  simp only [pay1_at, blk_x, blk_g, blk_w, entry_x m c X h0, entry_g m c g h1, entry_w m c W h2]

/-- The rotary embedding of a point. -/
theorem rope_at (h0 : m (c, main_arg0) = X) (h1 : m (c, main_arg1) = g) (h2 : m (c, main_arg2) = W) (t : Fin cfg0.N)
    (r : Fin 32) (q : Fin 1024) :
    k0_pay4 (F := Ideal) (normedAt m c t) (iblk m c 2 t) (iblk m c 3 t) (iblk m c 4 t) (iblk m c 5 t) (ix2 r q)
      = rope (fun q => row X g W r ⟨t.val % 4 * 1024 + q.val, by omega⟩) (cosR r) (sinR r) q := by
  rw [pay4_at, entry_c, entry_a, entry_b, product_at m c X g W h0 h1 h2, product_at m c X g W h0 h1 h2, product_at m c X g W h0 h1 h2]
  exact three_products (fun q => row X g W r ⟨t.val % 4 * 1024 + q.val, by omega⟩) _ _ q

theorem rope_congr {y y' : Fin 1024 → EReal} (h : ∀ q, y q = y' q) (C S : Fin 8 → EReal) (q : Fin 1024) : rope y C S q = rope y' C S q := by
  rw [funext h]

theorem row_congr {n n' : ℕ} (e : n = n') (r : Fin 32) (q : Fin 1024) (h : n + q.val < 4096) (h' : n' + q.val < 4096) :
    row X g W r ⟨n + q.val, h⟩ = row X g W r ⟨n' + q.val, h'⟩ := by subst e; rfl

theorem arr_6 (h0 : m (c, main_arg0) = X) (h1 : m (c, main_arg1) = g) (h2 : m (c, main_arg2) = W) :
    (dats m 0 c).arrAt 6 cfg0.N = Cert.InProjSampleRefIdeal.Hand.resQ (proj X g W) := by
  refine (dats m 0 c).arrAt_eq_of_covers 6 _ (by decide +kernel) fun t hf y => ?_
  blk_simp
  rw [after_6]
  idx_vars y
  have e : ((View.whole main_v35_0).slice (win0_6.rect t)).emb (ix2 y0 y1) = ix2 y0 y1 := by
    blk_ext [at_w6]
  refine Eq.trans ?_ (congrArg (Cert.InProjSampleRefIdeal.Hand.resQ (proj X g W)) e).symm
  rw [Cert.InProjSampleRefIdeal.Hand.resQ_apply]
  have hj : (pt t 0).val % 4 * 1024 = 0 := by
    have : (pt t 0).val % 4 = 0 := by show (4 * (t.val / 4) + 0) % 4 = 0; omega
    rw [this]
  refine (show _ = _ * Ideal.ofBits .f32 0x3E000000#32 from pay3_at _ _ _ _ _ y0 y1).trans ?_
  rw [rope_at m c X g W h0 h1 h2 (pt t 0)]
  refine congrArg (· * _) ?_
  exact rope_congr (fun q => row_congr X g W hj _ q _ _) _ _ y1

theorem arr_7 (h0 : m (c, main_arg0) = X) (h1 : m (c, main_arg1) = g) (h2 : m (c, main_arg2) = W) :
    (dats m 0 c).arrAt 7 cfg0.N = Cert.InProjSampleRefIdeal.Hand.resK (proj X g W) := by
  refine (dats m 0 c).arrAt_eq_of_covers 7 _ (by decide +kernel) fun t hf y => ?_
  blk_simp
  rw [after_7]
  idx_vars y
  have e : ((View.whole main_v35_1).slice (win0_7.rect t)).emb (ix2 y0 y1) = ix2 y0 y1 := by
    blk_ext [at_w7]
  refine Eq.trans ?_ (congrArg (Cert.InProjSampleRefIdeal.Hand.resK (proj X g W)) e).symm
  rw [Cert.InProjSampleRefIdeal.Hand.resK_apply]
  have hj : (pt t 1).val % 4 * 1024 = 1024 := by
    have : (pt t 1).val % 4 = 1 := by show (4 * (t.val / 4) + 1) % 4 = 1; omega
    rw [this]
  unfold kAt
  rw [rope_at m c X g W h0 h1 h2 (pt t 1)]
  exact rope_congr (fun q => row_congr X g W hj _ q _ _) _ _ y1

theorem arr_8 (h0 : m (c, main_arg0) = X) (h1 : m (c, main_arg1) = g) (h2 : m (c, main_arg2) = W) :
    (dats m 0 c).arrAt 8 cfg0.N = Cert.InProjSampleRefIdeal.Hand.resV (proj X g W) := by
  refine (dats m 0 c).arrAt_eq_of_covers 8 _ (by decide +kernel) fun t hf y => ?_
  blk_simp
  rw [after_8]
  idx_vars y
  have e : ((View.whole main_v35_2).slice (win0_8.rect t)).emb (ix2 y0 y1) = ix2 y0 y1 := by
    blk_ext [at_w8]
  refine Eq.trans ?_ (congrArg (Cert.InProjSampleRefIdeal.Hand.resV (proj X g W)) e).symm
  rw [Cert.InProjSampleRefIdeal.Hand.resV_apply]
  have hj : (pt t 2).val % 4 * 1024 = 2048 := by
    have : (pt t 2).val % 4 = 2 := by show (4 * (t.val / 4) + 2) % 4 = 2; omega
    rw [this]
  unfold vAt
  rw [product_at m c X g W h0 h1 h2 (pt t 2)]
  exact row_congr X g W hj _ y1 _ _

theorem arr_9 (h0 : m (c, main_arg0) = X) (h1 : m (c, main_arg1) = g) (h2 : m (c, main_arg2) = W) :
    (dats m 0 c).arrAt 9 cfg0.N = Cert.InProjSampleRefIdeal.Hand.resU (proj X g W) := by
  refine (dats m 0 c).arrAt_eq_of_covers 9 _ (by decide +kernel) fun t hf y => ?_
  blk_simp
  rw [after_9]
  idx_vars y
  have e : ((View.whole main_v35_3).slice (win0_9.rect t)).emb (ix2 y0 y1) = ix2 y0 y1 := by
    blk_ext [at_w9]
  refine Eq.trans ?_ (congrArg (Cert.InProjSampleRefIdeal.Hand.resU (proj X g W)) e).symm
  rw [Cert.InProjSampleRefIdeal.Hand.resU_apply]
  have hj : (pt t 3).val % 4 * 1024 = 3072 := by
    have : (pt t 3).val % 4 = 3 := by show (4 * (t.val / 4) + 3) % 4 = 3; omega
    rw [this]
  unfold vAt
  rw [product_at m c X g W h0 h1 h2 (pt t 3)]
  exact row_congr X g W hj _ y1 _ _

theorem arr_10 (h0 : m (c, main_arg0) = X) (h1 : m (c, main_arg1) = g) (h2 : m (c, main_arg2) = W) :
    (dats m 0 c).arrAt 10 cfg0.N = Cert.InProjSampleRefIdeal.Hand.resKb (proj X g W) := by
  refine (dats m 0 c).arrAt_eq_of_covers 10 _ (by decide +kernel) fun t hf y => ?_
  blk_simp
  rw [after_10]
  idx_vars y
  have e : ((View.whole main_v35_4).slice (win0_10.rect t)).emb (ix2 y0 y1) = ix2 y0 y1 := by
    blk_ext [at_w10]
  refine Eq.trans ?_ (congrArg (Cert.InProjSampleRefIdeal.Hand.resKb (proj X g W)) e).symm
  rw [Cert.InProjSampleRefIdeal.Hand.resKb_apply]
  have hj : (pt t 1).val % 4 * 1024 = 1024 := by
    have : (pt t 1).val % 4 = 1 := by show (4 * (t.val / 4) + 1) % 4 = 1; omega
    rw [this]
  refine (show _ = _ from pay5_at _ _ _ _ _ y0 y1).trans ?_
  rw [rope_at m c X g W h0 h1 h2 (pt t 1)]
  exact rope_congr (fun q => row_congr X g W hj _ q _ _) _ _ y1

theorem arr_11 (h0 : m (c, main_arg0) = X) (h1 : m (c, main_arg1) = g) (h2 : m (c, main_arg2) = W) :
    (dats m 0 c).arrAt 11 cfg0.N = Cert.InProjSampleRefIdeal.Hand.resVb (proj X g W) := by
  refine (dats m 0 c).arrAt_eq_of_covers 11 _ (by decide +kernel) fun t hf y => ?_
  blk_simp
  rw [after_11]
  idx_vars y
  have e : ((View.whole main_v35_5).slice (win0_11.rect t)).emb (ix2 y0 y1) = ix2 y0 y1 := by
    blk_ext [at_w11]
  refine Eq.trans ?_ (congrArg (Cert.InProjSampleRefIdeal.Hand.resVb (proj X g W)) e).symm
  rw [Cert.InProjSampleRefIdeal.Hand.resVb_apply]
  have hj : (pt t 2).val % 4 * 1024 = 2048 := by
    have : (pt t 2).val % 4 = 2 := by show (4 * (t.val / 4) + 2) % 4 = 2; omega
    rw [this]
  refine (show _ = _ from pay6_at _ _ y0 y1).trans ?_
  rw [product_at m c X g W h0 h1 h2 (pt t 2)]
  exact row_congr X g W hj _ y1 _ _

end entries

end Cert.InProjSampleIdeal.Hand

end
-- ==== Proof.InProjSample.Claims.lean ====
/- The claims about the in-projection of the sample's rows. -/
module

public import proofs.«01_k».proof.Defs
public import proofs.«01_k».proof.Proof.InProjSample.Frame
public import proofs.«01_k».proof.Proof.InProjSampleIdeal.Value
public import Idealize.ShloMosaic.Adequacy
public import Idealize.ShloMosaic.Init

@[expose] public section

noncomputable section

namespace Cert.InProjSample.Claims

open Idealize.ShloMosaic Idealize.SL.Sem

/-- The kernel runs, its arguments end as they were and its semaphores at zero. -/
theorem frame : Cert.quiescent_InProjSample := fun m ρ _ =>
  (θ_run Cert.InProjSample.defs _ _).mono (fun r h => ⟨fun c => (h.1 c).2.2.2.2.2.2, h.2⟩) (Cert.InProjSample.Hand.run_result m ρ)

theorem frameIdeal : Cert.quiescent_InProjSampleIdeal := fun m ρ _ =>
  (θ_run Cert.InProjSampleIdeal.defs _ _).mono (fun r h => ⟨fun c => (h.1 c).2.2.2.2.2.2, h.2⟩) (Cert.InProjSampleIdeal.Hand.run_result m ρ)

/-- The reference runs, and its arguments end as they were. -/
theorem frameRef : Cert.quiescent_InProjSampleRefIdeal := fun m ρ _ =>
  (θ_run Cert.InProjSampleRefIdeal.defs _ _).mono (fun r h => ⟨fun c => (h c).2.2.2.2.2.2, sem_eq_zero_of_no_sems (by decide) r.2⟩)
    (Cert.InProjSampleRefIdeal.Value.run (F := Ideal) m ρ)

/-- The kernel and the reference agree. -/
theorem algebraic : Cert.algebraic_InProjSampleIdeal_InProjSampleRefIdeal := by
  intro m ρ m' ρ' hpre hagree
  refine ⟨fun c => (Cert.InProjSampleIdeal.Hand.dats m 0 c).arrAt 6 Cert.InProjSampleIdeal.cfg0.N, fun c => (Cert.InProjSampleIdeal.Hand.dats m 0 c).arrAt 7 Cert.InProjSampleIdeal.cfg0.N,
    fun c => (Cert.InProjSampleIdeal.Hand.dats m 0 c).arrAt 8 Cert.InProjSampleIdeal.cfg0.N, fun c => (Cert.InProjSampleIdeal.Hand.dats m 0 c).arrAt 9 Cert.InProjSampleIdeal.cfg0.N,
    fun c => (Cert.InProjSampleIdeal.Hand.dats m 0 c).arrAt 10 Cert.InProjSampleIdeal.cfg0.N, fun c => (Cert.InProjSampleIdeal.Hand.dats m 0 c).arrAt 11 Cert.InProjSampleIdeal.cfg0.N,
    (θ_run Cert.InProjSampleIdeal.defs _ _).mono (fun r h => h.1) (Cert.InProjSampleIdeal.Hand.run_result m ρ), ?_⟩
  refine (θ_run Cert.InProjSampleRefIdeal.defs _ _).mono (fun _ h c => ?_) (Cert.InProjSampleRefIdeal.Value.run (F := Ideal) m' ρ')
  obtain ⟨g0, g1, g2⟩ := hagree c
  obtain ⟨hq, hk, hv, hu, hkb, hvb, hargs⟩ := h c
  exact ⟨hq.trans ((Cert.InProjSampleRefIdeal.Hand.is_q m' c).trans (Cert.InProjSampleIdeal.Hand.arr_6 m c _ _ _ g0.symm g1.symm g2.symm).symm),
    hk.trans ((Cert.InProjSampleRefIdeal.Hand.is_k m' c).trans (Cert.InProjSampleIdeal.Hand.arr_7 m c _ _ _ g0.symm g1.symm g2.symm).symm),
    hv.trans ((show _ = Cert.InProjSampleRefIdeal.Hand.resV (Cert.InProjSampleRefIdeal.Hand.projOf m' c) from rfl).trans (Cert.InProjSampleIdeal.Hand.arr_8 m c _ _ _ g0.symm g1.symm g2.symm).symm),
    hu.trans ((show _ = Cert.InProjSampleRefIdeal.Hand.resU (Cert.InProjSampleRefIdeal.Hand.projOf m' c) from rfl).trans (Cert.InProjSampleIdeal.Hand.arr_9 m c _ _ _ g0.symm g1.symm g2.symm).symm),
    hkb.trans ((Cert.InProjSampleRefIdeal.Hand.is_kb m' c).trans (Cert.InProjSampleIdeal.Hand.arr_10 m c _ _ _ g0.symm g1.symm g2.symm).symm),
    hvb.trans ((show _ = Cert.InProjSampleRefIdeal.Hand.resVb (Cert.InProjSampleRefIdeal.Hand.projOf m' c) from rfl).trans (Cert.InProjSampleIdeal.Hand.arr_11 m c _ _ _ g0.symm g1.symm g2.symm).symm), hargs⟩

end Cert.InProjSample.Claims

end
-- ==== Proof.PleSample.Run.lean ====
module
public import proofs.«01_k».proof.Proof.Gen.PleSample.Frame
public import proofs.«01_k».proof.Proof.Gen.PleSample.Value
-- ==== Proof.PleSampleIdeal.Run.lean ====
module
public import proofs.«01_k».proof.Proof.Gen.PleSampleIdeal.Frame
public import proofs.«01_k».proof.Proof.Gen.PleSampleIdeal.Value
-- ==== Proof.PleSampleIdeal.Out.lean ====
/- What one grid point of the gated per-layer embedding for the sample stores, entry by entry. -/
module

public import proofs.«01_k».proof.Proof.Ple.Rows
public import proofs.«01_k».proof.Proof.Gen.PleSampleIdeal.Value
public import Idealize.ShloMosaic.Lib.Pipeline.ValueKit
public import Idealize.ShloMosaic.Lib.Pointwise
public import Idealize.ShloMosaic.Lib.WritesUnit

@[expose] public section

set_option maxRecDepth 16384

noncomputable section

namespace Cert.PleSampleIdeal.Hand

open Cert.PleSampleIdeal Cert.PleSampleIdeal.Gen Idealize.ShloMosaic Idealize.ShloMosaic.TcCoe Idealize.SL.Sem Cert.PleRows

/-- One entry of a chunk of columns: from the normed rows, the embedding's rows, and the chunks of the matrices. -/
def chunk (hn : FVec Ideal S32x2048 .bf16) (pb : FVec Ideal S32x256 .bf16) (w : Vec Ideal S2048x512 .bf16) (b : Vec Ideal S1x512 .f32)
    (wp : Vec Ideal S256x512 .bf16) (h : Vec Ideal S32x512 .f32) (r : Fin 32) (d : Fin 512) : EReal :=
  h (ix2 r d) + Ideal.logistic ((∑ k : Fin 2048, hn (ix2 r k) * w (ix2 k d)) + b (ix2 0 d)) * ∑ k : Fin 256, pb (ix2 r k) * wp (ix2 k d)

theorem pay2_at (v0 : Vec Ideal S32x2048 .f32) (v11 : Vec Ideal S1x2048 .f32) (r : Fin 32) (k : Fin 2048) :
    k0_pay2 (F := Ideal) v0 v11 (ix2 r k) = normed (fun k => v0 (ix2 r k)) (fun k => v11 (ix2 0 k)) k := by
  unfold k0_pay2 normed invRms
  pointwise

theorem pay3_at (v16 : Vec Ideal S32x256 .f32) (r : Fin 32) (k : Fin 256) :
    k0_pay3 (F := Ideal) v16 (ix2 r k) = v16 (ix2 r k) := by
  unfold k0_pay3
  pointwise

theorem pay7_at (v15 v18 v39 v42 v47 v50) (r : Fin 32) (d : Fin 512) :
    k0_pay7 (F := Ideal) v15 v18 v39 v42 v47 v50 (ix2 r d) = chunk v15 v18 v39 v42 v47 v50 r d := by
  unfold k0_pay7 chunk
  pointwise

theorem pay5_at (v0 v11 v16 v20 v23 v28 v31) (r : Fin 32) (d : Fin 512) :
    k0_pay5 (F := Ideal) v0 v11 v16 v20 v23 v28 v31 (ix2 r d) = chunk (k0_pay2 v0 v11) (k0_pay3 v16) v20 v23 v28 v31 r d :=
  pay7_at _ _ _ _ _ _ r d

theorem pay10_at (v15 v18 v58 v61 v66 v69) (r : Fin 32) (d : Fin 512) :
    k0_pay10 (F := Ideal) v69 (k0_pay9 v15 v18 v58 v61 v66) (ix2 r d) = chunk v15 v18 v58 v61 v66 v69 r d :=
  pay7_at _ _ _ _ _ _ r d

theorem pay11_at (v15 v18 v77 v80 v85 v88) (r : Fin 32) (d : Fin 512) :
    k0_pay11 (F := Ideal) v15 v18 v77 v80 v85 v88 (ix2 r d) = chunk v15 v18 v77 v80 v85 v88 r d :=
  pay7_at _ _ _ _ _ _ r d

/-- The sum of a row's squares over a chunk's columns. -/
def squares (f : Fin 32 → Fin 512 → EReal) (r : Fin 32) : EReal := ∑ d, f r d * f r d

theorem squares_at (X : FVec Ideal S32x512 .f32) (r : Fin 32) (z : Fin 1) :
    shapeCast S32x1 (multiReduction .add [1] S32 (mulf X X) 0x00000000#32 reduces_S32x512_S32 (.inl rfl) rfl) shapeCasts_S32_S32x1 (ix2 r z)
      = squares (fun r d => X (ix2 r d)) r := by
  unfold squares
  pointwise

/-- One entry of the rows plus the gated projection, from the normed rows and the whole matrices. -/
def entry (hn : FVec Ideal S32x2048 .bf16) (pb : FVec Ideal S32x256 .bf16) (w : Vec Ideal S2048x2048 .bf16) (b : Vec Ideal S1x2048 .f32)
    (wp : Vec Ideal S256x2048 .bf16) (h : Vec Ideal S32x2048 .f32) (r : Fin 32) (q : Fin 2048) : EReal :=
  h (ix2 r q) + Ideal.logistic ((∑ k : Fin 2048, hn (ix2 r k) * w (ix2 k q)) + b (ix2 0 q)) * ∑ k : Fin 256, pb (ix2 r k) * wp (ix2 k q)

theorem chunk_ld {n : ℕ} (hn' : n + 512 ≤ 2048) (hn : FVec Ideal S32x2048 .bf16) (pb : FVec Ideal S32x256 .bf16)
    (w : Vec Ideal S2048x2048 .bf16) (b : Vec Ideal S1x2048 .f32) (wp : Vec Ideal S256x2048 .bf16) (h : Vec Ideal S32x2048 .f32)
    (i1 i2 i3 i4) (r : Fin 32) (d : Fin 512) :
    chunk hn pb (View.ld w (Rect.unit (s := S2048x2048) ![0, n] ![2048, 512] i1)) (View.ld b (Rect.unit (s := S1x2048) ![0, n] ![1, 512] i2))
        (View.ld wp (Rect.unit (s := S256x2048) ![0, n] ![256, 512] i3)) (View.ld h (Rect.unit (s := S32x2048) ![0, n] ![32, 512] i4)) r d
      = entry hn pb w b wp h r ⟨n + d.val, by omega⟩ := by
  have e1 : ∀ k : Fin 2048, View.ld w (Rect.unit (s := S2048x2048) ![0, n] ![2048, 512] i1) (ix2 k d) = w (ix2 k ⟨n + d.val, by omega⟩) :=
    fun k => View.ld_unit_apply_of _ _ _ _ _ _ fun a => by fin_cases a <;> simp [ix2]
  have e2 : View.ld b (Rect.unit (s := S1x2048) ![0, n] ![1, 512] i2) (ix2 0 d) = b (ix2 0 ⟨n + d.val, by omega⟩) :=
    View.ld_unit_apply_of _ _ _ _ _ _ fun a => by fin_cases a <;> simp [ix2]
  have e3 : ∀ k : Fin 256, View.ld wp (Rect.unit (s := S256x2048) ![0, n] ![256, 512] i3) (ix2 k d) = wp (ix2 k ⟨n + d.val, by omega⟩) :=
    fun k => View.ld_unit_apply_of _ _ _ _ _ _ fun a => by fin_cases a <;> simp [ix2]
  have e4 : View.ld h (Rect.unit (s := S32x2048) ![0, n] ![32, 512] i4) (ix2 r d) = h (ix2 r ⟨n + d.val, by omega⟩) :=
    View.ld_unit_apply_of _ _ _ _ _ _ fun a => by fin_cases a <;> simp [ix2]
  unfold chunk entry
  rw [e2, e4]
  simp only [e1, e3]

/-- The last step of one entry: the entry found in the buffer over the root of the row's mean square, times the gain. -/
theorem last_at (hn : FVec Ideal S32x2048 .bf16) (pb : FVec Ideal S32x256 .bf16) (c0 : FVec Ideal S32x512 .f32)
    (w1 w2 w3 : Vec Ideal S2048x512 .bf16) (b1 b2 b3 : Vec Ideal S1x512 .f32) (p1 p2 p3 : Vec Ideal S256x512 .bf16)
    (h1 h2 h3 : Vec Ideal S32x512 .f32) (X : Vec Ideal S32x2048 .f32) (g : Vec Ideal S1x2048 .f32) (r : Fin 32) (q : Fin 2048) :
    k0_pay1 (k0_pay12 hn pb (k0_pay8 hn pb k0_pay4 (mulf c0 c0) w1 b1 p1 h1) h2 (k0_pay9 hn pb w2 b2 p2) w3 b3 p3 h3 X) (k0_pay13 g) (ix2 r q)
      = X (ix2 r q) * Ideal.rsqrt (Ideal.div (squares (fun r d => c0 (ix2 r d)) r + squares (chunk hn pb w1 b1 p1 h1) r
          + squares (chunk hn pb w2 b2 p2 h2) r + squares (chunk hn pb w3 b3 p3 h3) r) (Ideal.ofBits .f32 0x45000000#32)
          + Ideal.ofBits .f32 0x358637BD#32) * g (ix2 0 q) := by
  rw [← over_2048]
  simp only [squares, ← pay7_at]
  unfold k0_pay1 k0_pay12 k0_pay13 k0_pay8 k0_pay4
  pointwise
  rfl

/-- What four stores of 512 columns leave. -/
theorem canon_runs (w0 w1 w2 w3 : Vec Ideal S32x512 .f32) (G : Fin 32 → Fin 2048 → EReal)
    (h0 : ∀ (r : Fin 32) (d : Fin 512), w0 (ix2 r d) = G r ⟨0 + d.val, by omega⟩) (h1 : ∀ (r : Fin 32) (d : Fin 512), w1 (ix2 r d) = G r ⟨512 + d.val, by omega⟩)
    (h2 : ∀ (r : Fin 32) (d : Fin 512), w2 (ix2 r d) = G r ⟨1024 + d.val, by omega⟩) (h3 : ∀ (r : Fin 32) (d : Fin 512), w3 (ix2 r d) = G r ⟨1536 + d.val, by omega⟩)
    (i0 i1 i2 i3) (r : Fin 32) (q : Fin 2048) :
    View.canon (Val := Elt Ideal) (s := S32x2048) (e := .f32)
      [⟨Rect.unit ![0, 1536] ![32, 512] i3, w3⟩, ⟨Rect.unit ![0, 1024] ![32, 512] i2, w2⟩, ⟨Rect.unit ![0, 512] ![32, 512] i1, w1⟩,
        ⟨Rect.unit ![0, 0] ![32, 512] i0, w0⟩] (ix2 r q) = G r q := by
  have key : ∀ (n : ℕ) (hn : n + 512 ≤ 2048) (w : Vec Ideal S32x512 .f32)
      (_ : ∀ (r : Fin 32) (d : Fin 512), w (ix2 r d) = G r ⟨n + d.val, by omega⟩) (x : S32x512.Idx)
      (_ : ∀ a : Fin 2, ((ix2 r q : S32x2048.Idx) a : ℕ) = (![0, n] : Fin 2 → ℕ) a + x a), w x = G r q := by
    intro n hn w h x hx
    idx_vars x
    rw [h]
    have e0 := hx 0
    have e1 := hx 1
    simp [ix2] at e0 e1
    exact congr (congrArg G (Fin.ext e0.symm)) (Fin.ext e1.symm)
  refine View.canon_eq_of_allAt _ _ _ (View.cover_of_tiledBy _ ![32, 512] (by sl_kernel_rfl) _) ?_
  refine View.allAt_cons_unit _ _ _ _ _ (fun x hx => key 1536 (by omega) w3 h3 x hx) ?_
  refine View.allAt_cons_unit _ _ _ _ _ (fun x hx => key 1024 (by omega) w2 h2 x hx) ?_
  refine View.allAt_cons_unit _ _ _ _ _ (fun x hx => key 512 (by omega) w1 h1 x hx) ?_
  exact View.allAt_cons_unit _ _ _ _ _ (fun x hx => key 0 (by omega) w0 h0 x hx) (View.allAt_nil _ _)

/-- A load of a whole array. -/
theorem ld_all {e : EltTy} {m n : ℕ} (x : Vec Ideal (⟨2, ![m, n]⟩ : Shape) e) (i) :
    View.ld x (Rect.unit (s := ⟨2, ![m, n]⟩) ![0, 0] ![m, n] i) = x := by
  funext y
  exact View.ld_unit_apply_of _ _ _ _ _ _ fun a => by fin_cases a <;> simp

theorem entry_eq (x0 : Vec Ideal S32x2048 .f32) (x1 : Vec Ideal S32x256 .f32) (x2 : Vec Ideal S1x2048 .f32)
    (x3 : Vec Ideal S2048x2048 .bf16) (x4 : Vec Ideal S1x2048 .f32) (x5 : Vec Ideal S256x2048 .bf16) (r : Fin 32) :
    entry (k0_pay2 x0 x2) (k0_pay3 x1) x3 x4 x5 x0 r = mixed (fun k => x0 (ix2 r k)) (fun k => x2 (ix2 0 k)) (fun k q => x3 (ix2 k q)) (fun q => x4 (ix2 0 q))
          (fun k => x1 (ix2 r k)) fun k q => x5 (ix2 k q) := by
  funext q
  unfold entry mixed
  simp only [pay2_at, pay3_at]

/-- The buffer's stores read back through a load of the whole buffer. -/
theorem cov_at {sig : RefSig} {κ : Kind} {sp : Space} (v : View sig κ sp S32x2048 .f32) (L : List (View.Piece (Elt Ideal) S32x2048 .f32))
    (i) (r : Fin 32) (q : Fin 2048) :
    v.readCov L (Rect.unit (s := S32x2048) ![0, 0] ![32, 2048] i).toLoadRect (ix2 r q) = View.canon L (ix2 r q) := by
  rw [View.readCov_eq_canon']
  exact congrArg (View.canon L) (funext fun a => Fin.ext (by fin_cases a <;> simp [LoadRect.idx, ix2]))

/-- A row's entry over the root of the mean square found in four runs, times the gain. -/
theorem finish (E g : Fin 2048 → EReal) (q : Fin 2048) (A G s0 s1 s2 s3 : EReal) (hA : A = E q) (hG : G = g q)
    (h0 : s0 = ∑ d : Fin 512, E ⟨0 + d.val, by omega⟩ * E ⟨0 + d.val, by omega⟩)
    (h1 : s1 = ∑ d : Fin 512, E ⟨512 + d.val, by omega⟩ * E ⟨512 + d.val, by omega⟩)
    (h2 : s2 = ∑ d : Fin 512, E ⟨1024 + d.val, by omega⟩ * E ⟨1024 + d.val, by omega⟩)
    (h3 : s3 = ∑ d : Fin 512, E ⟨1536 + d.val, by omega⟩ * E ⟨1536 + d.val, by omega⟩) :
    A * Ideal.rsqrt (Ideal.div (s0 + s1 + s2 + s3) (Ideal.ofBits .f32 0x45000000#32) + Ideal.ofBits .f32 0x358637BD#32) * G
      = normed E g q := by
  unfold normed invRms
  rw [sum_four, hA, hG, h0, h1, h2, h3]

theorem out_at (c : Dev nD) (t : Fin cfg0.N) (x0 : Vec Ideal S32x2048 .f32) (x1 : Vec Ideal S32x256 .f32) (x2 : Vec Ideal S1x2048 .f32)
    (x3 : Vec Ideal S2048x2048 .bf16) (x4 : Vec Ideal S1x2048 .f32) (x5 : Vec Ideal S256x2048 .bf16) (x6 : Vec Ideal S1x2048 .f32)
    (r : Fin 32) (q : Fin 2048) :
    out0_A_7 (F := Ideal) c (grid0.coords t) (ms0_0 t) (hs0_0 t) (ms0_1 t) (hs0_1 t) (ms0_2 t) (hs0_2 t) (ms0_3 t) (hs0_3 t)
        (ms0_4 t) (hs0_4 t) (ms0_5 t) (hs0_5 t) (ms0_6 t) (hs0_6 t) (ms0_7 t) (hs0_7 t) x0 x1 x2 x3 x4 x5 x6 (ix2 r q)
      = normed (mixed (fun k => x0 (ix2 r k)) (fun k => x2 (ix2 0 k)) (fun k q => x3 (ix2 k q)) (fun q => x4 (ix2 0 q))
          (fun k => x1 (ix2 r k)) fun k q => x5 (ix2 k q)) (fun k => x6 (ix2 0 k)) q := by
  unfold out0_A_7
  unfold kernelRun0_A; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  refine (View.read_writes_cons_unit_of_mem _ _ _ _ _ _ (ix2 r q) rfl (fun a => by fin_cases a <;> simp [ix2])).trans ?_
  refine (last_at _ _ _ _ _ _ _ _ _ _ _ _ _ _ _ _ _ r q).trans ?_
  have hc : ∀ (n : ℕ) (hn : n + 512 ≤ 2048) (i0 i1 i2 i3 i4 i5 i6) (r : Fin 32) (d : Fin 512),
      chunk (k0_pay2 (View.ld x0 (Rect.unit (s := S32x2048) ![0, 0] ![32, 2048] i0)) (View.ld x2 (Rect.unit (s := S1x2048) ![0, 0] ![1, 2048] i5)))
        (k0_pay3 (View.ld x1 (Rect.unit (s := S32x256) ![0, 0] ![32, 256] i6)))
        (View.ld x3 (Rect.unit (s := S2048x2048) ![0, n] ![2048, 512] i1))
        (View.ld x4 (Rect.unit (s := S1x2048) ![0, n] ![1, 512] i2)) (View.ld x5 (Rect.unit (s := S256x2048) ![0, n] ![256, 512] i3))
        (View.ld x0 (Rect.unit (s := S32x2048) ![0, n] ![32, 512] i4)) r d
      = mixed (fun k => x0 (ix2 r k)) (fun k => x2 (ix2 0 k)) (fun k q => x3 (ix2 k q)) (fun q => x4 (ix2 0 q))
          (fun k => x1 (ix2 r k)) (fun k q => x5 (ix2 k q)) ⟨n + d.val, by omega⟩ := by
    intro n hn i0 i1 i2 i3 i4 i5 i6 r d
    rw [chunk_ld hn, ld_all, ld_all, ld_all, entry_eq]
  refine finish _ _ q _ _ _ _ _ _ ?_ ?_ ?_ ?_ ?_ ?_
  · refine (cov_at _ _ _ r q).trans ?_
    exact canon_runs _ _ _ _ (fun r q => mixed (fun k => x0 (ix2 r k)) (fun k => x2 (ix2 0 k)) (fun k q => x3 (ix2 k q)) (fun q => x4 (ix2 0 q))
          (fun k => x1 (ix2 r k)) (fun k q => x5 (ix2 k q)) q)
      (fun r d => (pay5_at _ _ _ _ _ _ _ r d).trans (hc 0 (by omega) _ _ _ _ _ _ _ r d))
      (fun r d => (pay7_at _ _ _ _ _ _ r d).trans (hc 512 (by omega) _ _ _ _ _ _ _ r d))
      (fun r d => (pay10_at _ _ _ _ _ _ r d).trans (hc 1024 (by omega) _ _ _ _ _ _ _ r d))
      (fun r d => (pay11_at _ _ _ _ _ _ r d).trans (hc 1536 (by omega) _ _ _ _ _ _ _ r d)) _ _ _ _ r q
  · exact View.ld_unit_apply_of _ _ _ _ _ _ fun a => by fin_cases a <;> simp [ix2]
  · exact Finset.sum_congr rfl fun d _ => congr (congrArg HMul.hMul ((pay5_at _ _ _ _ _ _ _ r d).trans (hc 0 (by omega) _ _ _ _ _ _ _ r d))) ((pay5_at _ _ _ _ _ _ _ r d).trans (hc 0 (by omega) _ _ _ _ _ _ _ r d))
  · exact Finset.sum_congr rfl fun d _ => congr (congrArg HMul.hMul (hc 512 (by omega) _ _ _ _ _ _ _ r d)) (hc 512 (by omega) _ _ _ _ _ _ _ r d)
  · exact Finset.sum_congr rfl fun d _ => congr (congrArg HMul.hMul (hc 1024 (by omega) _ _ _ _ _ _ _ r d)) (hc 1024 (by omega) _ _ _ _ _ _ _ r d)
  · exact Finset.sum_congr rfl fun d _ => congr (congrArg HMul.hMul (hc 1536 (by omega) _ _ _ _ _ _ _ r d)) (hc 1536 (by omega) _ _ _ _ _ _ _ r d)

end Cert.PleSampleIdeal.Hand

end
-- ==== Proof.PleSample.Ref.lean ====
/- The reference of the gated per-layer embedding for the sample, entry by entry. -/
module

public import proofs.«01_k».proof.Proof.Gen.PleSampleRefIdeal.Run
public import proofs.«01_k».proof.Proof.Ple.Rows
public import Idealize.ShloMosaic.Lib.Pointwise
public import Idealize.ShloMosaic.Lib.Tactic.CleanTypes

@[expose] public section

noncomputable section

namespace Cert.PleSampleRefIdeal.Hand

open Cert.PleSampleRefIdeal Cert.PleSampleRefIdeal.Gen Idealize.ShloMosaic Idealize.ShloMosaic.TcCoe Idealize.SL.Sem Cert.PleRows

/-- Each row over its root mean square. -/
def overRms (X : FVec Ideal S32x2048 .f32) : FVec Ideal S32x2048 .f32 :=
  mulf X (broadcastInDim S32x2048 ![0, 1] bcast_S32x1_S32x2048_0_1 (Host.rsqrt (addf (Host.divf (broadcastInDim S32x1 ![0] bcast_S32_S32x1_0 (Host.reduceAdd (mulf X X) (constant S_ .f32 0x00000000#32) reducesTo_S32x2048_S32_d1 h_S_)) (broadcastInDim S32x1 ![] bcast_S_S32x1 (constant S_ .f32 0x45000000#32))) (broadcastInDim S32x1 ![] bcast_S_S32x1 (constant S_ .f32 0x358637BD#32)))))

/-- A row of gains under each row. -/
def under (g : FVec Ideal S2048 .f32) : FVec Ideal S32x2048 .f32 :=
  broadcastInDim S32x2048 ![0, 1] bcast_S1x2048_S32x2048_0_1 (broadcastInDim S1x2048 ![1] bcast_S2048_S1x2048_1 g)

/-- The gate's argument. -/
def gateArg (X : FVec Ideal S32x2048 .f32) (W : FVec Ideal S1x2048x2048 .f32) (b : FVec Ideal S1x2048 .f32) : FVec Ideal S32x2048 .f32 :=
  addf (Host.dotGeneral dot_S32x2048_S2048x2048_S32x2048_1_0_0_1_n_n none X (shapeCast _ W shapeCasts_S1x2048x2048_S2048x2048)) (under (shapeCast _ b shapeCasts_S1x2048_S2048))

/-- The sigmoid of each entry. -/
def sigm (X : FVec Ideal S32x2048 .f32) : FVec Ideal S32x2048 .f32 :=
  Host.divf (broadcastInDim S32x2048 ![] bcast_S_S32x2048 (constant S_ .f32 0x3F800000#32)) (addf (broadcastInDim S32x2048 ![] bcast_S_S32x2048 (constant S_ .f32 0x3F800000#32)) (Host.exp (Host.negf X)))

/-- The embedding's projection. -/
def proj (P : FVec Ideal S1x32x1x256 .f32) (W : FVec Ideal S1x256x2048 .f32) : FVec Ideal S32x2048 .f32 :=
  Host.dotGeneral dot_S32x256_S256x2048_S32x2048_1_0_0_1_n_n none (shapeCast _ (shapeCast _ P shapeCasts_S1x32x1x256_S32x1x256) shapeCasts_S32x1x256_S32x256) (shapeCast _ W shapeCasts_S1x256x2048_S256x2048)

/-- The rows plus the gated projection. -/
def rowsOut (H : FVec Ideal S32x2048 .f32) (P : FVec Ideal S1x32x1x256 .f32) (g : FVec Ideal S1x2048 .f32)
    (W : FVec Ideal S1x2048x2048 .f32) (b : FVec Ideal S1x2048 .f32) (Wp : FVec Ideal S1x256x2048 .f32) : FVec Ideal S32x2048 .f32 :=
  addf H (mulf (sigm (gateArg (mulf (overRms H) (under (shapeCast _ g shapeCasts_S1x2048_S2048))) W b)) (proj P Wp))

/-- The reference's result. -/
def res (H : FVec Ideal S32x2048 .f32) (P : FVec Ideal S1x32x1x256 .f32) (g : FVec Ideal S1x2048 .f32)
    (W : FVec Ideal S1x2048x2048 .f32) (b : FVec Ideal S1x2048 .f32) (Wp : FVec Ideal S1x256x2048 .f32) (gf : FVec Ideal S2048 .f32) :
    FVec Ideal S32x2048 .f32 :=
  mulf (overRms (rowsOut H P g W b Wp)) (under gf)

theorem overRms_apply (X : FVec Ideal S32x2048 .f32) (r : Fin 32) (q : Fin 2048) :
    overRms X (ix2 r q) = X (ix2 r q) * invRms fun k => X (ix2 r k) := by
  unfold overRms invRms
  pointwise

theorem under_apply (g : FVec Ideal S2048 .f32) (r : Fin 32) (q : Fin 2048) : under g (ix2 r q) = g (ix1 q) := by
  unfold under
  pointwise

theorem gateArg_apply (X : FVec Ideal S32x2048 .f32) (W : FVec Ideal S1x2048x2048 .f32) (b : FVec Ideal S1x2048 .f32)
    (r : Fin 32) (q : Fin 2048) :
    gateArg X W b (ix2 r q) = (∑ k : Fin 2048, X (ix2 r k) * W (ix3 0 k q)) + b (ix2 0 q) := by
  unfold gateArg under
  pointwise

theorem sigm_apply (X : FVec Ideal S32x2048 .f32) (r : Fin 32) (q : Fin 2048) : sigm X (ix2 r q) = Ideal.logistic (X (ix2 r q)) := by
  unfold sigm Ideal.logistic
  pointwise

theorem proj_apply (P : FVec Ideal S1x32x1x256 .f32) (W : FVec Ideal S1x256x2048 .f32) (r : Fin 32) (q : Fin 2048) :
    proj P W (ix2 r q) = ∑ k : Fin 256, P (ix4 0 r 0 k) * W (ix3 0 k q) := by
  unfold proj
  pointwise

/-- A row of the rows plus the gated projection. -/
def row (H : FVec Ideal S32x2048 .f32) (P : FVec Ideal S1x32x1x256 .f32) (g : FVec Ideal S1x2048 .f32)
    (W : FVec Ideal S1x2048x2048 .f32) (b : FVec Ideal S1x2048 .f32) (Wp : FVec Ideal S1x256x2048 .f32) (r : Fin 32) :
    Fin 2048 → EReal :=
  mixed (fun k => H (ix2 r k)) (fun k => g (ix2 0 k)) (fun k q => W (ix3 0 k q)) (fun q => b (ix2 0 q))
    (fun k => P (ix4 0 r 0 k)) fun k q => Wp (ix3 0 k q)

theorem rowsOut_apply (H : FVec Ideal S32x2048 .f32) (P : FVec Ideal S1x32x1x256 .f32) (g : FVec Ideal S1x2048 .f32)
    (W : FVec Ideal S1x2048x2048 .f32) (b : FVec Ideal S1x2048 .f32) (Wp : FVec Ideal S1x256x2048 .f32) (r : Fin 32) (q : Fin 2048) :
    rowsOut H P g W b Wp (ix2 r q) = row H P g W b Wp r q := by
  show H (ix2 r q) + sigm _ (ix2 r q) * proj P Wp (ix2 r q) = _
  rw [sigm_apply, gateArg_apply, proj_apply]
  unfold row mixed
  refine congrArg (fun s => H (ix2 r q) + Ideal.logistic (s + b (ix2 0 q)) * _) (Finset.sum_congr rfl fun k _ => congrArg (· * _) ?_)
  show overRms H (ix2 r k) * under (shapeCast S2048 g shapeCasts_S1x2048_S2048) (ix2 r k) = _
  rw [overRms_apply, under_apply]
  unfold normed
  pointwise

theorem res_apply (H : FVec Ideal S32x2048 .f32) (P : FVec Ideal S1x32x1x256 .f32) (g : FVec Ideal S1x2048 .f32)
    (W : FVec Ideal S1x2048x2048 .f32) (b : FVec Ideal S1x2048 .f32) (Wp : FVec Ideal S1x256x2048 .f32) (gf : FVec Ideal S2048 .f32)
    (r : Fin 32) (q : Fin 2048) :
    res H P g W b Wp gf (ix2 r q) = normed (row H P g W b Wp r) (fun k => gf (ix1 k)) q := by
  show overRms (rowsOut H P g W b Wp) (ix2 r q) * under gf (ix2 r q) = _
  rw [overRms_apply, under_apply, funext fun k => rowsOut_apply H P g W b Wp r k, rowsOut_apply]
  rfl

end Cert.PleSampleRefIdeal.Hand

end
-- ==== Proof.PleSampleIdeal.Value.lean ====
/- The gated per-layer embedding's (the sample's rows) result array is the reference's. -/
module

public import proofs.«01_k».proof.Proof.PleSampleIdeal.Out
public import proofs.«01_k».proof.Proof.PleSample.Ref
public import Idealize.ShloMosaic.Lib.Claim
public import Idealize.ShloMosaic.Lib.StableHlo.ReadAt

@[expose] public section

set_option maxRecDepth 16384

noncomputable section

namespace Cert.PleSampleIdeal.Hand

open Cert.PleSampleIdeal Cert.PleSampleIdeal.Gen Idealize.ShloMosaic Idealize.ShloMosaic.TcCoe Idealize.SL.Sem Cert.PleRows
open Idealize.ShloMosaic.Pipeline (Dat)

variable (m : (ℓ : Loc nD τ sig) → Buf (Elt Ideal) ℓ) (c : Dev nD)

theorem at_w0 : ∀ t : Fin cfg0.N, win0_0.index t = ![0, 0] := (by decide +kernel : ∀ t : Fin grid0.N, _)
theorem at_w1 : ∀ t : Fin cfg0.N, win0_1.index t = ![0, 0] := (by decide +kernel : ∀ t : Fin grid0.N, _)
theorem at_w2 : ∀ t : Fin cfg0.N, win0_2.index t = ![0, 0] := (by decide +kernel : ∀ t : Fin grid0.N, _)
theorem at_w3 : ∀ t : Fin cfg0.N, win0_3.index t = ![0, 0] := (by decide +kernel : ∀ t : Fin grid0.N, _)
theorem at_w4 : ∀ t : Fin cfg0.N, win0_4.index t = ![0, 0] := (by decide +kernel : ∀ t : Fin grid0.N, _)
theorem at_w5 : ∀ t : Fin cfg0.N, win0_5.index t = ![0, 0] := (by decide +kernel : ∀ t : Fin grid0.N, _)
theorem at_w6 : ∀ t : Fin cfg0.N, win0_6.index t = ![0, 0] := (by decide +kernel : ∀ t : Fin grid0.N, _)
theorem at_w7 : ∀ t : Fin cfg0.N, win0_7.index t = ![0, 0] := (by decide +kernel : ∀ t : Fin grid0.N, _)

section entries

variable (H : FVec Ideal S32x2048 .f32) (P : FVec Ideal S1x32x1x256 .f32) (g : FVec Ideal S1x2048 .f32)
  (W : FVec Ideal S1x2048x2048 .f32) (b : FVec Ideal S1x2048 .f32) (Wp : FVec Ideal S1x256x2048 .f32) (gf : FVec Ideal S2048 .f32)

theorem blk_h (hA : m (c, main_arg0) = H) (t : Fin cfg0.N) (r : Fin 32) (k : Fin 2048) :
    (iblk m c 0 t : Vec Ideal S32x2048 .f32) (ix2 r k) = H (ix2 r k) := by
  subst hA
  blk_simp [iblk]
  exact congrArg (V m c main_arg0) (by blk_ext [at_w0])

theorem entry_p (hA : m (c, main_arg1) = P) (r : Fin 32) (k : Fin 256) :
    (V m c main_v1 : Vec Ideal S32x256 .f32) (ix2 r k) = P (ix4 0 r 0 k) := by
  subst hA
  unfold V
  after_reads_at

theorem entry_g (hA : m (c, main_arg2) = g) (k : Fin 2048) : (V m c main_v3 : Vec Ideal S1x2048 .f32) (ix2 0 k) = g (ix2 0 k) := by
  subst hA
  unfold V
  after_reads_at

theorem entry_w (hA : m (c, main_arg3) = W) (k q : Fin 2048) : (V m c main_v5 : Vec Ideal S2048x2048 .bf16) (ix2 k q) = W (ix3 0 k q) := by
  subst hA
  unfold V
  after_reads_at

theorem entry_b (hA : m (c, main_arg4) = b) (k : Fin 2048) : (V m c main_v7 : Vec Ideal S1x2048 .f32) (ix2 0 k) = b (ix2 0 k) := by
  subst hA
  unfold V
  after_reads_at

theorem entry_wp (hA : m (c, main_arg5) = Wp) (k : Fin 256) (q : Fin 2048) :
    (V m c main_v9 : Vec Ideal S256x2048 .bf16) (ix2 k q) = Wp (ix3 0 k q) := by
  subst hA
  unfold V
  after_reads_at

theorem entry_gf (hA : m (c, main_arg6) = gf) (k : Fin 2048) : (V m c main_v10 : Vec Ideal S1x2048 .f32) (ix2 0 k) = gf (ix1 k) := by
  subst hA
  unfold V
  after_reads_at

theorem blk_p (t : Fin cfg0.N) (r : Fin 32) (k : Fin 256) :
    (iblk m c 1 t : Vec Ideal S32x256 .f32) (ix2 r k) = V m c main_v1 (ix2 r k) := by
  blk_simp [iblk]
  exact congrArg (V m c main_v1) (by blk_ext [at_w1])

theorem blk_g (t : Fin cfg0.N) (k : Fin 2048) : (iblk m c 2 t : Vec Ideal S1x2048 .f32) (ix2 0 k) = V m c main_v3 (ix2 0 k) := by
  blk_simp [iblk]
  exact congrArg (V m c main_v3) (by blk_ext [at_w2])

theorem blk_w (t : Fin cfg0.N) (k q : Fin 2048) : (iblk m c 3 t : Vec Ideal S2048x2048 .bf16) (ix2 k q) = V m c main_v5 (ix2 k q) := by
  blk_simp [iblk]
  exact congrArg (V m c main_v5) (by blk_ext [at_w3])

theorem blk_b (t : Fin cfg0.N) (k : Fin 2048) : (iblk m c 4 t : Vec Ideal S1x2048 .f32) (ix2 0 k) = V m c main_v7 (ix2 0 k) := by
  blk_simp [iblk]
  exact congrArg (V m c main_v7) (by blk_ext [at_w4])

theorem blk_wp (t : Fin cfg0.N) (k : Fin 256) (q : Fin 2048) :
    (iblk m c 5 t : Vec Ideal S256x2048 .bf16) (ix2 k q) = V m c main_v9 (ix2 k q) := by
  blk_simp [iblk]
  exact congrArg (V m c main_v9) (by blk_ext [at_w5])

theorem blk_gf (t : Fin cfg0.N) (k : Fin 2048) : (iblk m c 6 t : Vec Ideal S1x2048 .f32) (ix2 0 k) = V m c main_v10 (ix2 0 k) := by
  blk_simp [iblk]
  exact congrArg (V m c main_v10) (by blk_ext [at_w6])

/-- The result array is the reference's, of the arguments. -/
theorem arr_eq (h0 : m (c, main_arg0) = H) (h1 : m (c, main_arg1) = P) (h2 : m (c, main_arg2) = g) (h3 : m (c, main_arg3) = W)
    (h4 : m (c, main_arg4) = b) (h5 : m (c, main_arg5) = Wp) (h6 : m (c, main_arg6) = gf) :
    (dats m 0 c).arrAt 7 cfg0.N = Cert.PleSampleRefIdeal.Hand.res H P g W b Wp gf := by
  refine (dats m 0 c).arrAt_eq_of_covers 7 _ (by decide +kernel) fun t hf y => ?_
  blk_simp
  rw [after0_7]
  unfold outsAt0
  idx_vars y
  have e : ((View.whole main_v11).slice (win0_7.rect t)).emb (ix2 y0 y1) = ix2 y0 y1 := by
    blk_ext [at_w7]
  refine (out_at c t _ _ _ _ _ _ _ y0 y1).trans ?_
  refine Eq.trans ?_ (congrArg (Cert.PleSampleRefIdeal.Hand.res H P g W b Wp gf) e).symm
  rw [Cert.PleSampleRefIdeal.Hand.res_apply]
  unfold Cert.PleSampleRefIdeal.Hand.row
  simp only [blk_h m c H h0, blk_p, blk_g, blk_w, blk_b, blk_wp, blk_gf, entry_p m c P h1, entry_g m c g h2, entry_w m c W h3,
    entry_b m c b h4, entry_wp m c Wp h5, entry_gf m c gf h6]

end entries

end Cert.PleSampleIdeal.Hand

end
-- ==== Proof.PleSample.Claims.lean ====
/- The claims about the gated per-layer embedding for the sample. -/
module

public import proofs.«01_k».proof.Defs
public import proofs.«01_k».proof.Proof.PleSample.Run
public import proofs.«01_k».proof.Proof.PleSampleIdeal.Run
public import proofs.«01_k».proof.Proof.PleSampleIdeal.Value
public import Idealize.ShloMosaic.Adequacy
public import Idealize.ShloMosaic.Init

@[expose] public section

noncomputable section

namespace Cert.PleSample.Claims

open Idealize.ShloMosaic Idealize.SL.Sem

/-- The kernel runs, its arguments end as they were and its semaphores at zero. -/
theorem frame : Cert.quiescent_PleSample := fun m ρ _ => Cert.PleSample.Gen.frame m ρ

theorem frameIdeal : Cert.quiescent_PleSampleIdeal := fun m ρ _ => Cert.PleSampleIdeal.Gen.frame m ρ

/-- The reference runs, and its arguments end as they were. -/
theorem frameRef : Cert.quiescent_PleSampleRefIdeal := fun m ρ _ =>
  (θ_run Cert.PleSampleRefIdeal.defs _ _).mono (fun r h => ⟨fun c => (h c).2, sem_eq_zero_of_no_sems (by decide) r.2⟩)
    (Cert.PleSampleRefIdeal.Value.run (F := Ideal) m ρ)

/-- The kernel and the reference agree. -/
theorem algebraic : Cert.algebraic_PleSampleIdeal_PleSampleRefIdeal := by
  intro m ρ m' ρ' hpre hagree
  refine ⟨fun c => (Cert.PleSampleIdeal.Gen.dats m 0 c).arrAt 7 Cert.PleSampleIdeal.cfg0.N, Cert.PleSampleIdeal.Value.run_blocks m ρ, ?_⟩
  refine (θ_run Cert.PleSampleRefIdeal.defs _ _).mono (fun _ h c => ⟨(h c).1.trans ?_, (h c).2⟩)
    (Cert.PleSampleRefIdeal.Value.run (F := Ideal) m' ρ')
  obtain ⟨g0, g1, g2, g3, g4, g5, g6⟩ := hagree c
  exact (show _ = Cert.PleSampleRefIdeal.Hand.res _ _ _ _ _ _ _ from rfl).trans
    (Cert.PleSampleIdeal.Hand.arr_eq m c _ _ _ _ _ _ _ g0.symm g1.symm g2.symm g3.symm g4.symm g5.symm g6.symm).symm

end Cert.PleSample.Claims

end
-- ==== Proof.lean ====
module

public import proofs.«01_k».proof.Defs
public import proofs.«01_k».proof.Proof.Down.Claims
public import proofs.«01_k».proof.Proof.GateUp.Claims
public import proofs.«01_k».proof.Proof.InProj.Claims
public import proofs.«01_k».proof.Proof.Ple.Claims
public import proofs.«01_k».proof.Proof.Step.Claims
public import proofs.«01_k».proof.Proof.InProjSample.Claims
public import proofs.«01_k».proof.Proof.PleSample.Claims

@[expose] public section

noncomputable section

namespace Cert.Proof

theorem claim : Cert.Claim :=
  ⟨Cert.GateUp.Gen.facts, Cert.GateUpIdeal.Gen.facts, Cert.GateUpRefIdeal.Gen.facts,
    Cert.Down.Gen.facts, Cert.DownIdeal.Gen.facts, Cert.DownRefIdeal.Gen.facts,
    Cert.InProj.Gen.facts, Cert.InProjIdeal.Gen.facts, Cert.InProjRefIdeal.Gen.facts,
    Cert.Ple.Gen.facts, Cert.PleIdeal.Gen.facts, Cert.PleRefIdeal.Gen.facts,
    Cert.Step.Gen.facts, Cert.StepIdeal.Gen.facts, Cert.StepRefIdeal.Gen.facts,
    Cert.InProjSample.Gen.facts, Cert.InProjSampleIdeal.Gen.facts, Cert.InProjSampleRefIdeal.Gen.facts,
    Cert.PleSample.Gen.facts, Cert.PleSampleIdeal.Gen.facts, Cert.PleSampleRefIdeal.Gen.facts, inferInstance, inferInstance,
    Cert.GateUp.Claims.frame, Cert.GateUp.Claims.frameIdeal, Cert.GateUp.Claims.frameRef,
    fun m ρ _ => Cert.GateUp.Claims.frameRef m ρ trivial,
    Cert.Down.Claims.frame, Cert.Down.Claims.frameIdeal, Cert.Down.Claims.frameRef,
    fun m ρ _ => Cert.Down.Claims.frameRef m ρ trivial,
    Cert.InProj.Claims.frame, Cert.InProj.Claims.frameIdeal, Cert.InProj.Claims.frameRef,
    Cert.Ple.Claims.frame, Cert.Ple.Claims.frameIdeal, Cert.Ple.Claims.frameRef,
    Cert.Step.Claims.frame, Cert.Step.Claims.frameIdeal, Cert.Step.Claims.frameRef,
    Cert.InProjSample.Claims.frame, Cert.InProjSample.Claims.frameIdeal, Cert.InProjSample.Claims.frameRef,
    Cert.PleSample.Claims.frame, Cert.PleSample.Claims.frameIdeal, Cert.PleSample.Claims.frameRef,
    trivial, Cert.GateUp.Claims.algebraic, trivial, Cert.Down.Claims.algebraic, trivial, Cert.InProj.Claims.algebraic,
    trivial, Cert.Ple.Claims.algebraic, trivial, Cert.Step.Claims.algebraic, trivial, Cert.InProjSample.Claims.algebraic,
    trivial, Cert.PleSample.Claims.algebraic⟩

end Cert.Proof

end
